-- ==== Defs.lean ====
def Pre_Kernel [hPre_finite_scores : Cert.Pre_finite_scores.Facts] (m : (ℓ : Loc Cert.Kernel.nD Cert.Kernel.τ Cert.Kernel.sig) → Buf (Elt Bits) ℓ) : Prop :=
  ∀ c : Dev Cert.Kernel.nD,
    (Cert.Pre_finite_scores.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_Kernel_none (m : (ℓ : Loc Cert.Kernel.nD Cert.Kernel.τ Cert.Kernel.sig) → Buf (Elt Bits) ℓ) : Prop :=
  True

def Pre_KernelIdeal [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_finite_ctx : Cert.Pre_finite_ctx.Facts] (m : (ℓ : Loc Cert.Kernel9.nD Cert.Kernel9.τ Cert.Kernel9.sig) → Buf (Elt Bits) ℓ) : Prop :=
  ∀ c : Dev Cert.Kernel9.nD,
    (Cert.Pre_finite_ctx.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2))) = (fun _ => 1#1)

def Pre_Kernel9_none (m : (ℓ : Loc Cert.Kernel9.nD Cert.Kernel9.τ Cert.Kernel9.sig) → Buf (Elt Bits) ℓ) : Prop :=
  True

def Pre_Kernel9Ideal [hPre_finite_ctx : Cert.Pre_finite_ctx.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ctx.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Kernel9Ideal_none (m : (ℓ : Loc Cert.Kernel9Ideal.nD Cert.Kernel9Ideal.τ Cert.Kernel9Ideal.sig) → Buf (Elt Ideal) ℓ) : Prop :=
  True

def Pre_Reference9Ideal [hPre_finite_ctx : Cert.Pre_finite_ctx.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ctx.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_finite_scores : Cert.Pre_finite_scores.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_none [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel_none m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] [hPre_finite_ctx : Cert.Pre_finite_ctx.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9_pre_none [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9_none m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] [hPre_finite_ctx : Cert.Pre_finite_ctx.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_none [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_none m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] [hPre_finite_ctx : Cert.Pre_finite_ctx.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v58_0)) (v1 : (c : Dev Cert.Kernel6Ideal.nD) → Buf (Elt Ideal) ((c.tc : Thread Cert.Kernel6Ideal.nD Cert.Kernel6Ideal.τ).loc Cert.Kernel6Ideal.main_v58_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v58_0) = v0 c
          ∧ r.2.mem ((c.tc : Thread Cert.Kernel6Ideal.nD Cert.Kernel6Ideal.τ).loc Cert.Kernel6Ideal.main_v58_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_v97) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v128) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] [hPre_finite_ctx : Cert.Pre_finite_ctx.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v35)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v35) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v58)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v58) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v94) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v128) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts) (hPre_finite_ctx : Cert.Pre_finite_ctx.Facts),
    quiescent_Kernel (hKernel := hKernel) (hPre_finite_scores := hPre_finite_scores)
    ∧ quiescent_Kernel_pre_none (hKernel := hKernel)
    ∧ quiescent_KernelIdeal (hKernelIdeal := hKernelIdeal) (hPre_finite_scores := hPre_finite_scores)
    ∧ quiescent_KernelIdeal_pre_none (hKernelIdeal := hKernelIdeal)
    ∧ quiescent_ReferenceIdeal (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_finite_ctx := hPre_finite_ctx)
    ∧ quiescent_Kernel9_pre_none (hKernel9 := hKernel9)
    ∧ quiescent_Kernel9Ideal (hKernel9Ideal := hKernel9Ideal) (hPre_finite_ctx := hPre_finite_ctx)
    ∧ quiescent_Kernel9Ideal_pre_none (hKernel9Ideal := hKernel9Ideal)
    ∧ quiescent_Reference9Ideal (hReference9Ideal := hReference9Ideal) (hPre_finite_ctx := hPre_finite_ctx)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_finite_ctx := hPre_finite_ctx)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_ctx.lean ====
abbrev S4x256x16x192 : Shape := ⟨4, ![4, 256, 16, 192]⟩
abbrev S4x256x16x128 : Shape := ⟨4, ![4, 256, 16, 128]⟩
abbrev S_ : Shape := ⟨0, ![]⟩

class Facts : Prop where
  bcast_S_S4x256x16x192 : S_.BroadcastsInDim S4x256x16x192 (![] : Fin 0 → Fin S4x256x16x192.rank)
  reducesTo_S4x256x16x192_S_d0_1_2_3 : S4x256x16x192.ReducesTo [0, 1, 2, 3] S_
  h_S_ : 0 < S_.numel

variable [Facts]

def fn {F : FTy → Type} [FloatOps F] (main_arg0 : FVec F S4x256x16x192 .f32) (main_arg1 : FVec F S4x256x16x192 .f32) (main_arg2 : FVec F S4x256x16x128 .f32) : IVec S_ 1 :=
  let main_v0 : FVec F S4x256x16x192 .f32 := Host.absf main_arg0
  let main_cst : FVec F S_ .f32 := constant S_ .f32 0x7F800000#32
  let main_v1 : FVec F S4x256x16x192 .f32 := broadcastInDim S4x256x16x192 ![] bcast_S_S4x256x16x192 main_cst
  let main_v2 : IVec S4x256x16x192 1 := cmpf .olt main_v0 main_v1
  let main_c : IVec S_ 1 := constantI S_ 1 1#1
  let main_v3 : IVec S_ 1 := (fun x v => Host.reduce IntOp.andi x v reducesTo_S4x256x16x192_S_d0_1_2_3 h_S_) main_v2 main_c
  let main_v4 : FVec F S4x256x16x192 .f32 := Host.absf main_arg1
  let main_cst_0 : FVec F S_ .f32 := constant S_ .f32 0x7F800000#32
  let main_v5 : FVec F S4x256x16x192 .f32 := broadcastInDim S4x256x16x192 ![] bcast_S_S4x256x16x192 main_cst_0
  let main_v6 : IVec S4x256x16x192 1 := cmpf .olt main_v4 main_v5
  let main_c_1 : IVec S_ 1 := constantI S_ 1 1#1
  let main_v7 : IVec S_ 1 := (fun x v => Host.reduce IntOp.andi x v reducesTo_S4x256x16x192_S_d0_1_2_3 h_S_) main_v6 main_c_1
  let main_v8 : IVec S_ 1 := andi main_v3 main_v7
  main_v8
-- ==== Pre_finite_scores.lean ====
abbrev S4x4096x16x192 : Shape := ⟨4, ![4, 4096, 16, 192]⟩
abbrev S4x256x16x192 : Shape := ⟨4, ![4, 256, 16, 192]⟩
abbrev S4x4096x16x128 : Shape := ⟨4, ![4, 4096, 16, 128]⟩
abbrev S4x256x16x128 : Shape := ⟨4, ![4, 256, 16, 128]⟩
abbrev S_ : Shape := ⟨0, ![]⟩

class Facts : Prop where
  bcast_S_S4x4096x16x192 : S_.BroadcastsInDim S4x4096x16x192 (![] : Fin 0 → Fin S4x4096x16x192.rank)
  reducesTo_S4x4096x16x192_S_d0_1_2_3 : S4x4096x16x192.ReducesTo [0, 1, 2, 3] S_
  h_S_ : 0 < S_.numel
  bcast_S_S4x256x16x192 : S_.BroadcastsInDim S4x256x16x192 (![] : Fin 0 → Fin S4x256x16x192.rank)
  reducesTo_S4x256x16x192_S_d0_1_2_3 : S4x256x16x192.ReducesTo [0, 1, 2, 3] S_

variable [Facts]

def fn {F : FTy → Type} [FloatOps F] (main_arg0 : FVec F S4x4096x16x192 .f32) (main_arg1 : FVec F S4x4096x16x192 .f32) (main_arg2 : FVec F S4x256x16x192 .f32) (main_arg3 : FVec F S4x4096x16x128 .f32) (main_arg4 : FVec F S4x256x16x128 .f32) : IVec S_ 1 :=
  let main_v0 : FVec F S4x4096x16x192 .f32 := Host.absf main_arg0
  let main_cst : FVec F S_ .f32 := constant S_ .f32 0x7F800000#32
  let main_v1 : FVec F S4x4096x16x192 .f32 := broadcastInDim S4x4096x16x192 ![] bcast_S_S4x4096x16x192 main_cst
  let main_v2 : IVec S4x4096x16x192 1 := cmpf .olt main_v0 main_v1
  let main_c : IVec S_ 1 := constantI S_ 1 1#1
  let main_v3 : IVec S_ 1 := (fun x v => Host.reduce IntOp.andi x v reducesTo_S4x4096x16x192_S_d0_1_2_3 h_S_) main_v2 main_c
  let main_v4 : FVec F S4x4096x16x192 .f32 := Host.absf main_arg1
  let main_cst_0 : FVec F S_ .f32 := constant S_ .f32 0x7F800000#32
  let main_v5 : FVec F S4x4096x16x192 .f32 := broadcastInDim S4x4096x16x192 ![] bcast_S_S4x4096x16x192 main_cst_0
  let main_v6 : IVec S4x4096x16x192 1 := cmpf .olt main_v4 main_v5
  let main_c_1 : IVec S_ 1 := constantI S_ 1 1#1
  let main_v7 : IVec S_ 1 := (fun x v => Host.reduce IntOp.andi x v reducesTo_S4x4096x16x192_S_d0_1_2_3 h_S_) main_v6 main_c_1
  let main_v8 : IVec S_ 1 := andi main_v3 main_v7
  let main_v9 : FVec F S4x256x16x192 .f32 := Host.absf main_arg2
  let main_cst_2 : FVec F S_ .f32 := constant S_ .f32 0x7F800000#32
  let main_v10 : FVec F S4x256x16x192 .f32 := broadcastInDim S4x256x16x192 ![] bcast_S_S4x256x16x192 main_cst_2
  let main_v11 : IVec S4x256x16x192 1 := cmpf .olt main_v9 main_v10
  let main_c_3 : IVec S_ 1 := constantI S_ 1 1#1
  let main_v12 : IVec S_ 1 := (fun x v => Host.reduce IntOp.andi x v reducesTo_S4x256x16x192_S_d0_1_2_3 h_S_) main_v11 main_c_3
  let main_v13 : IVec S_ 1 := andi main_v8 main_v12
  main_v13
-- ==== Kernel.lean ====
abbrev S4x4096x16x192 : Shape := ⟨4, ![4, 4096, 16, 192]⟩
abbrev S4x256x16x192 : Shape := ⟨4, ![4, 256, 16, 192]⟩
abbrev S4x4096x16x128 : Shape := ⟨4, ![4, 4096, 16, 128]⟩
abbrev S4x256x16x128 : Shape := ⟨4, ![4, 256, 16, 128]⟩
abbrev S_ : Shape := ⟨0, ![]⟩
abbrev S16x17408x64 : Shape := ⟨3, ![16, 17408, 64]⟩
abbrev S16x17408x128 : Shape := ⟨3, ![16, 17408, 128]⟩
abbrev S16x4x4096x192 : Shape := ⟨4, ![16, 4, 4096, 192]⟩
abbrev S16x16384x192 : Shape := ⟨3, ![16, 16384, 192]⟩
abbrev S16x4x256x192 : Shape := ⟨4, ![16, 4, 256, 192]⟩
abbrev S16x1024x192 : Shape := ⟨3, ![16, 1024, 192]⟩
abbrev S16x17408x192 : Shape := ⟨3, ![16, 17408, 192]⟩
abbrev S16x17408x256 : Shape := ⟨3, ![16, 17408, 256]⟩
abbrev S16x4x4096x128 : Shape := ⟨4, ![16, 4, 4096, 128]⟩
abbrev S16x16384x128 : Shape := ⟨3, ![16, 16384, 128]⟩
abbrev S16x4x256x128 : Shape := ⟨4, ![16, 4, 256, 128]⟩
abbrev S16x1024x128 : Shape := ⟨3, ![16, 1024, 128]⟩
abbrev S16384x2048 : Shape := ⟨2, ![16384, 2048]⟩
abbrev S1x2048x256 : Shape := ⟨3, ![1, 2048, 256]⟩
abbrev S1x4096x256 : Shape := ⟨3, ![1, 4096, 256]⟩
abbrev S1x256x256 : Shape := ⟨3, ![1, 256, 256]⟩
abbrev S2048x128 : Shape := ⟨2, ![2048, 128]⟩
abbrev S1024x4096 : Shape := ⟨2, ![1024, 4096]⟩
abbrev S256x256 : Shape := ⟨2, ![256, 256]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x512 : Shape := ⟨2, ![256, 512]⟩
abbrev S256x128 : Shape := ⟨2, ![256, 128]⟩

abbrev nBuf : Space → Nat
  | .hbm => 50
  | .vmem => 13
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x192, .f32⟩
  | .hbm, ⟨2, _⟩ => ⟨S4x256x16x192, .f32⟩
  | .hbm, ⟨3, _⟩ => ⟨S4x4096x16x128, .f32⟩
  | .hbm, ⟨4, _⟩ => ⟨S4x256x16x128, .f32⟩
  | .hbm, ⟨5, _⟩ => ⟨S_, .f32⟩
  | .hbm, ⟨6, _⟩ => ⟨S16x17408x64, .f32⟩
  | .hbm, ⟨7, _⟩ => ⟨S16x17408x128, .i32⟩
  | .hbm, ⟨8, _⟩ => ⟨S_, .i32⟩
  | .hbm, ⟨9, _⟩ => ⟨S16x17408x128, .i32⟩
  | .hbm, ⟨10, _⟩ => ⟨S16x17408x128, .i1⟩
  | .hbm, ⟨11, _⟩ => ⟨S_, .f32⟩
  | .hbm, ⟨12, _⟩ => ⟨S_, .f32⟩
  | .hbm, ⟨13, _⟩ => ⟨S16x17408x128, .f32⟩
  | .hbm, ⟨14, _⟩ => ⟨S16x17408x128, .f32⟩
  | .hbm, ⟨15, _⟩ => ⟨S16x17408x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x16x192, .f32⟩
  | .hbm, ⟨24, _⟩ => ⟨S4x4096x16x192, .f32⟩
  | .hbm, ⟨25, _⟩ => ⟨S_, .f32⟩
  | .hbm, ⟨26, _⟩ => ⟨S4x256x16x192, .f32⟩
  | .hbm, ⟨27, _⟩ => ⟨S16x4x4096x192, .f32⟩
  | .hbm, ⟨28, _⟩ => ⟨S16x16384x192, .f32⟩
  | .hbm, ⟨29, _⟩ => ⟨S16x4x256x192, .f32⟩
  | .hbm, ⟨30, _⟩ => ⟨S16x1024x192, .f32⟩
  | .hbm, ⟨31, _⟩ => ⟨S16x17408x192, .f32⟩
  | .hbm, ⟨32, _⟩ => ⟨S16x17408x256, .f32⟩
  | .hbm, ⟨33, _⟩ => ⟨S16x17408x256, .bf16⟩
  | .hbm, ⟨34, _⟩ => ⟨S16x4x4096x192, .f32⟩
  | .hbm, ⟨35, _⟩ => ⟨S16x16384x192, .f32⟩
  | .hbm, ⟨36, _⟩ => ⟨S16x4x256x192, .f32⟩
  | .hbm, ⟨37, _⟩ => ⟨S16x1024x192, .f32⟩
  | .hbm, ⟨38, _⟩ => ⟨S16x17408x192, .f32⟩
  | .hbm, ⟨39, _⟩ => ⟨S16x17408x256, .f32⟩
  | .hbm, ⟨40, _⟩ => ⟨S16x17408x256, .bf16⟩
  | .hbm, ⟨41, _⟩ => ⟨S16x4x4096x128, .f32⟩
  | .hbm, ⟨42, _⟩ => ⟨S16x16384x128, .f32⟩
  | .hbm, ⟨43, _⟩ => ⟨S16x4x256x128, .f32⟩
  | .hbm, ⟨44, _⟩ => ⟨S16x1024x128, .f32⟩
  | .hbm, ⟨45, _⟩ => ⟨S16x17408x128, .f32⟩
  | .hbm, ⟨46, _⟩ => ⟨S16x17408x128, .f32⟩
  | .hbm, ⟨47, _⟩ => ⟨S16x17408x256, .f32⟩
  | .hbm, ⟨48, _⟩ => ⟨S16x17408x256, .bf16⟩
  | .hbm, ⟨49, _⟩ => ⟨S16384x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x256, .bf16⟩
  | .local _ .vmem, ⟨9, _⟩ => ⟨S1x256x256, .bf16⟩
  | .local _ .vmem, ⟨10, _⟩ => ⟨S2048x128, .bf16⟩
  | .local _ .vmem, ⟨11, _⟩ => ⟨S2048x128, .bf16⟩
  | .local _ .vmem, ⟨12, _⟩ => ⟨S1024x4096, .f32⟩
  | _, _ => ⟨S4x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x16x192 : Shape := ⟨4, ![4, 4096, 16, 192]⟩
abbrev S4x256x16x192 : Shape := ⟨4, ![4, 256, 16, 192]⟩
abbrev S4x4096x16x128 : Shape := ⟨4, ![4, 4096, 16, 128]⟩
abbrev S4x256x16x128 : Shape := ⟨4, ![4, 256, 16, 128]⟩
abbrev S4x4352x16x192 : Shape := ⟨4, ![4, 4352, 16, 192]⟩
abbrev S4x4352x16x128 : Shape := ⟨4, ![4, 4352, 16, 128]⟩
abbrev S4x16x4096x4352 : Shape := ⟨4, ![4, 16, 4096, 4352]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x192, .f32⟩
  | .hbm, ⟨2, _⟩ => ⟨S4x256x16x192, .f32⟩
  | .hbm, ⟨3, _⟩ => ⟨S4x4096x16x128, .f32⟩
  | .hbm, ⟨4, _⟩ => ⟨S4x256x16x128, .f32⟩
  | .hbm, ⟨5, _⟩ => ⟨S4x4352x16x192, .f32⟩
  | .hbm, ⟨6, _⟩ => ⟨S4x4352x16x128, .f32⟩
  | .hbm, ⟨7, _⟩ => ⟨S4x16x4096x4352, .f32⟩
  | .hbm, ⟨8, _⟩ => ⟨S_, .f32⟩
  | .hbm, ⟨9, _⟩ => ⟨S_, .f32⟩
  | .hbm, ⟨10, _⟩ => ⟨S4x16x4096x4352, .f32⟩
  | .hbm, ⟨11, _⟩ => ⟨S4x16x4096x4352, .f32⟩
  | .hbm, ⟨12, _⟩ => ⟨S_, .f32⟩
  | .hbm, ⟨13, _⟩ => ⟨S4x16x4096, .f32⟩
  | .hbm, ⟨14, _⟩ => ⟨S_, .f32⟩
  | .hbm, ⟨15, _⟩ => ⟨S4x16x4096, .f32⟩
  | .hbm, ⟨16, _⟩ => ⟨S4x16x4096, .f32⟩
  | .hbm, ⟨17, _⟩ => ⟨S4x16x4096x1, .f32⟩
  | .hbm, ⟨18, _⟩ => ⟨S4x16x4096x4352, .f32⟩
  | .hbm, ⟨19, _⟩ => ⟨S4x16x4096x4352, .f32⟩
  | .hbm, ⟨20, _⟩ => ⟨S4x16x4096x4352, .f32⟩
  | .hbm, ⟨21, _⟩ => ⟨S_, .f32⟩
  | .hbm, ⟨22, _⟩ => ⟨S4x16x4096, .f32⟩
  | .hbm, ⟨23, _⟩ => ⟨S4x16x4096x1, .f32⟩
  | .hbm, ⟨24, _⟩ => ⟨S4x16x4096x4352, .f32⟩
  | .hbm, ⟨25, _⟩ => ⟨S4x16x4096x4352, .f32⟩
  | .hbm, ⟨26, _⟩ => ⟨S4x16x128x4096, .f32⟩
  | .hbm, ⟨27, _⟩ => ⟨S4x4096x16x128, .f32⟩
  | .hbm, ⟨28, _⟩ => ⟨S16384x2048, .f32⟩
  | .hbm, ⟨29, _⟩ => ⟨S16384x2048, .bf16⟩
  | _, _ => ⟨S4x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048 : Shape := ⟨1, ![2048]⟩
abbrev S2x2048x13376 : Shape := ⟨3, ![2, 2048, 13376]⟩
abbrev S16384x2048 : Shape := ⟨2, ![16384, 2048]⟩
abbrev S1024x2048 : Shape := ⟨2, ![1024, 2048]⟩
abbrev S17408x2048 : Shape := ⟨2, ![17408, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S8x6x2048 : Shape := ⟨3, ![8, 6, 2048]⟩
abbrev S2x2048x64 : Shape := ⟨3, ![2, 2048, 64]⟩
abbrev S2x2048x6144 : Shape := ⟨3, ![2, 2048, 6144]⟩
abbrev S2x2048x7168 : Shape := ⟨3, ![2, 2048, 7168]⟩
abbrev S2x2048x16 : Shape := ⟨3, ![2, 2048, 16]⟩
abbrev S2x2048x384 : Shape := ⟨3, ![2, 2048, 384]⟩
abbrev S2x2048x13824 : Shape := ⟨3, ![2, 2048, 13824]⟩
abbrev S1x2048 : Shape := ⟨2, ![1, 2048]⟩
abbrev S17408x13824 : Shape := ⟨2, ![17408, 13824]⟩
abbrev S1x6x2048 : Shape := ⟨3, ![1, 6, 2048]⟩
abbrev S1x2048x1536 : Shape := ⟨3, ![1, 2048, 1536]⟩
abbrev S1024x1536 : Shape := ⟨2, ![1024, 1536]⟩
abbrev S1024 : Shape := ⟨1, ![1024]⟩
abbrev S1024x1 : Shape := ⟨2, ![1024, 1]⟩
abbrev S1x1x2048 : Shape := ⟨3, ![1, 1, 2048]⟩
abbrev S2048x1536 : Shape := ⟨2, ![2048, 1536]⟩

abbrev nBuf : Space → Nat
  | .hbm => 30
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2048, .f32⟩
  | .hbm, ⟨5, _⟩ => ⟨S2x2048x13376, .f32⟩
  | .hbm, ⟨6, _⟩ => ⟨S16384x2048, .f32⟩
  | .hbm, ⟨7, _⟩ => ⟨S1024x2048, .f32⟩
  | .hbm, ⟨8, _⟩ => ⟨S17408x2048, .f32⟩
  | .hbm, ⟨9, _⟩ => ⟨S1x12288, .f32⟩
  | .hbm, ⟨10, _⟩ => ⟨S_, .f32⟩
  | .hbm, ⟨11, _⟩ => ⟨S3x12288, .f32⟩
  | .hbm, ⟨12, _⟩ => ⟨S8x12288, .f32⟩
  | .hbm, ⟨13, _⟩ => ⟨S8x6x2048, .f32⟩
  | .hbm, ⟨14, _⟩ => ⟨S2x2048x13376, .bf16⟩
  | .hbm, ⟨15, _⟩ => ⟨S2x2048x64, .bf16⟩
  | .hbm, ⟨16, _⟩ => ⟨S2x2048x6144, .bf16⟩
  | .hbm, ⟨17, _⟩ => ⟨S2x2048x7168, .bf16⟩
  | .hbm, ⟨18, _⟩ => ⟨S2x2048x16, .bf16⟩
  | .hbm, ⟨19, _⟩ => ⟨S2x2048x16, .bf16⟩
  | .hbm, ⟨20, _⟩ => ⟨S2x2048x16, .bf16⟩
  | .hbm, ⟨21, _⟩ => ⟨S2x2048x16, .bf16⟩
  | .hbm, ⟨22, _⟩ => ⟨S2x2048x16, .bf16⟩
  | .hbm, ⟨23, _⟩ => ⟨S2x2048x16, .bf16⟩
  | .hbm, ⟨24, _⟩ => ⟨S2x2048x64, .bf16⟩
  | .hbm, ⟨25, _⟩ => ⟨S_, .bf16⟩
  | .hbm, ⟨26, _⟩ => ⟨S2x2048x384, .bf16⟩
  | .hbm, ⟨27, _⟩ => ⟨S2x2048x13824, .bf16⟩
  | .hbm, ⟨28, _⟩ => ⟨S1x2048, .f32⟩
  | .hbm, ⟨29, _⟩ => ⟨S17408x13824, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x1536, .bf16⟩
  | .local _ .vmem, ⟨6, _⟩ => ⟨S1x2048x1536, .bf16⟩
  | .local _ .vmem, ⟨7, _⟩ => ⟨S1024x1536, .f32⟩
  | .local _ .vmem, ⟨8, _⟩ => ⟨S1024x1536, .f32⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048 : Shape := ⟨1, ![2048]⟩
abbrev S2x2048x13376 : Shape := ⟨3, ![2, 2048, 13376]⟩
abbrev S1x2048x13376 : Shape := ⟨3, ![1, 2048, 13376]⟩
abbrev S2048x13376 : Shape := ⟨2, ![2048, 13376]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x256 : Shape := ⟨2, ![4, 256]⟩
abbrev S4x256x1 : Shape := ⟨3, ![4, 256, 1]⟩
abbrev S16384x2048 : Shape := ⟨2, ![16384, 2048]⟩
abbrev S1024x2048 : Shape := ⟨2, ![1024, 2048]⟩
abbrev S17408x2048 : Shape := ⟨2, ![17408, 2048]⟩
abbrev S17408x13376 : Shape := ⟨2, ![17408, 13376]⟩
abbrev S2048x64 : Shape := ⟨2, ![2048, 64]⟩
abbrev S2048x2x2x16 : Shape := ⟨4, ![2048, 2, 2, 16]⟩
abbrev S2048x2x1x16 : Shape := ⟨4, ![2048, 2, 1, 16]⟩
abbrev S2048x2x16 : Shape := ⟨3, ![2048, 2, 16]⟩
abbrev S17408x64 : Shape := ⟨2, ![17408, 64]⟩
abbrev S17408x6144 : Shape := ⟨2, ![17408, 6144]⟩
abbrev S17408x7232 : Shape := ⟨2, ![17408, 7232]⟩
abbrev S17408x384 : Shape := ⟨2, ![17408, 384]⟩
abbrev S17408x13824 : Shape := ⟨2, ![17408, 13824]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x12288, .f32⟩
  | .hbm, ⟨3, _⟩ => ⟨S12288, .f32⟩
  | .hbm, ⟨4, _⟩ => ⟨S2048, .f32⟩
  | .hbm, ⟨5, _⟩ => ⟨S2x2048x13376, .f32⟩
  | .hbm, ⟨6, _⟩ => ⟨S1x2048x13376, .f32⟩
  | .hbm, ⟨7, _⟩ => ⟨S2048x13376, .f32⟩
  | .hbm, ⟨8, _⟩ => ⟨S4x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x256x2048, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256x1, .f32⟩
  | .hbm, ⟨46, _⟩ => ⟨S4x256x2048, .f32⟩
  | .hbm, ⟨47, _⟩ => ⟨S4x256x2048, .f32⟩
  | .hbm, ⟨48, _⟩ => ⟨S1x1x2048, .f32⟩
  | .hbm, ⟨49, _⟩ => ⟨S4x256x2048, .f32⟩
  | .hbm, ⟨50, _⟩ => ⟨S4x256x2048, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S1x1x2048, .f32⟩
  | .hbm, ⟨56, _⟩ => ⟨S4x256x2048, .f32⟩
  | .hbm, ⟨57, _⟩ => ⟨S4x256x2048, .f32⟩
  | .hbm, ⟨58, _⟩ => ⟨S2048, .f32⟩
  | .hbm, ⟨59, _⟩ => ⟨S1x1x2048, .f32⟩
  | .hbm, ⟨60, _⟩ => ⟨S4x256x2048, .f32⟩
  | .hbm, ⟨61, _⟩ => ⟨S4x256x2048, .f32⟩
  | .hbm, ⟨62, _⟩ => ⟨S16384x2048, .f32⟩
  | .hbm, ⟨63, _⟩ => ⟨S1024x2048, .f32⟩
  | .hbm, ⟨64, _⟩ => ⟨S17408x2048, .f32⟩
  | .hbm, ⟨65, _⟩ => ⟨S17408x13376, .f32⟩
  | .hbm, ⟨66, _⟩ => ⟨S2048x64, .f32⟩
  | .hbm, ⟨67, _⟩ => ⟨S2048x2x2x16, .f32⟩
  | .hbm, ⟨68, _⟩ => ⟨S2048x2x1x16, .f32⟩
  | .hbm, ⟨69, _⟩ => ⟨S2048x2x16, .f32⟩
  | .hbm, ⟨70, _⟩ => ⟨S2048x2x16, .f32⟩
  | .hbm, ⟨71, _⟩ => ⟨S2048x2x1x16, .f32⟩
  | .hbm, ⟨72, _⟩ => ⟨S2048x2x16, .f32⟩
  | .hbm, ⟨73, _⟩ => ⟨S2048x2x1x16, .f32⟩
  | .hbm, ⟨74, _⟩ => ⟨S2048x2x1x16, .f32⟩
  | .hbm, ⟨75, _⟩ => ⟨S2048x2x2x16, .f32⟩
  | .hbm, ⟨76, _⟩ => ⟨S2048x64, .f32⟩
  | .hbm, ⟨77, _⟩ => ⟨S17408x64, .f32⟩
  | .hbm, ⟨78, _⟩ => ⟨S17408x6144, .f32⟩
  | .hbm, ⟨79, _⟩ => ⟨S17408x7232, .f32⟩
  | .hbm, ⟨80, _⟩ => ⟨S_, .f32⟩
  | .hbm, ⟨81, _⟩ => ⟨S17408x384, .f32⟩
  | .hbm, ⟨82, _⟩ => ⟨S17408x13824, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x1024 : Shape := ⟨3, ![4, 256, 1024]⟩
abbrev S4x4096x2048 : Shape := ⟨3, ![4, 4096, 2048]⟩
abbrev S4x256x2048 : Shape := ⟨3, ![4, 256, 2048]⟩
abbrev S4x4096x6144 : Shape := ⟨3, ![4, 4096, 6144]⟩
abbrev S4x256x6144 : Shape := ⟨3, ![4, 256, 6144]⟩
abbrev S1024x2048 : Shape := ⟨2, ![1024, 2048]⟩
abbrev S2048x2048 : Shape := ⟨2, ![2048, 2048]⟩
abbrev S16384x6144 : Shape := ⟨2, ![16384, 6144]⟩
abbrev S1024x6144 : Shape := ⟨2, ![1024, 6144]⟩
abbrev S17408x6144 : Shape := ⟨2, ![17408, 6144]⟩
abbrev S_ : Shape := ⟨0, ![]⟩
abbrev S17408x7680 : Shape := ⟨2, ![17408, 7680]⟩
abbrev S17408x13824 : Shape := ⟨2, ![17408, 13824]⟩
abbrev S16384x1024 : Shape := ⟨2, ![16384, 1024]⟩
abbrev S1024x1024 : Shape := ⟨2, ![1024, 1024]⟩
abbrev S17408x1024 : Shape := ⟨2, ![17408, 1024]⟩
abbrev S16384x2048 : Shape := ⟨2, ![16384, 2048]⟩
abbrev S17408x2048 : Shape := ⟨2, ![17408, 2048]⟩
abbrev S1024x512 : Shape := ⟨2, ![1024, 512]⟩
abbrev S2048x512 : Shape := ⟨2, ![2048, 512]⟩

abbrev nBuf : Space → Nat
  | .hbm => 33
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x4096x1024, .f32⟩
  | .hbm, ⟨3, _⟩ => ⟨S4x256x1024, .f32⟩
  | .hbm, ⟨4, _⟩ => ⟨S4x4096x2048, .f32⟩
  | .hbm, ⟨5, _⟩ => ⟨S4x256x2048, .f32⟩
  | .hbm, ⟨6, _⟩ => ⟨S4x4096x6144, .f32⟩
  | .hbm, ⟨7, _⟩ => ⟨S4x256x6144, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S16384x6144, .f32⟩
  | .hbm, ⟨12, _⟩ => ⟨S1024x6144, .f32⟩
  | .hbm, ⟨13, _⟩ => ⟨S17408x6144, .f32⟩
  | .hbm, ⟨14, _⟩ => ⟨S_, .f32⟩
  | .hbm, ⟨15, _⟩ => ⟨S17408x7680, .f32⟩
  | .hbm, ⟨16, _⟩ => ⟨S17408x13824, .f32⟩
  | .hbm, ⟨17, _⟩ => ⟨S16384x1024, .f32⟩
  | .hbm, ⟨18, _⟩ => ⟨S1024x1024, .f32⟩
  | .hbm, ⟨19, _⟩ => ⟨S17408x1024, .f32⟩
  | .hbm, ⟨20, _⟩ => ⟨S17408x1024, .bf16⟩
  | .hbm, ⟨21, _⟩ => ⟨S16384x1024, .f32⟩
  | .hbm, ⟨22, _⟩ => ⟨S1024x1024, .f32⟩
  | .hbm, ⟨23, _⟩ => ⟨S17408x1024, .f32⟩
  | .hbm, ⟨24, _⟩ => ⟨S17408x1024, .bf16⟩
  | .hbm, ⟨25, _⟩ => ⟨S16384x2048, .f32⟩
  | .hbm, ⟨26, _⟩ => ⟨S1024x2048, .f32⟩
  | .hbm, ⟨27, _⟩ => ⟨S17408x2048, .f32⟩
  | .hbm, ⟨28, _⟩ => ⟨S17408x2048, .bf16⟩
  | .hbm, ⟨29, _⟩ => ⟨S1024x2048, .bf16⟩
  | .hbm, ⟨30, _⟩ => ⟨S1024x2048, .bf16⟩
  | .hbm, ⟨31, _⟩ => ⟨S2048x2048, .bf16⟩
  | .hbm, ⟨32, _⟩ => ⟨S17408x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S2048x512, .bf16⟩
  | .local _ .vmem, ⟨18, _⟩ => ⟨S1024x512, .bf16⟩
  | .local _ .vmem, ⟨19, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x4096x1024 : Shape := ⟨3, ![4, 4096, 1024]⟩
abbrev S4x256x1024 : Shape := ⟨3, ![4, 256, 1024]⟩
abbrev S4x4096x2048 : Shape := ⟨3, ![4, 4096, 2048]⟩
abbrev S4x256x2048 : Shape := ⟨3, ![4, 256, 2048]⟩
abbrev S4x4096x6144 : Shape := ⟨3, ![4, 4096, 6144]⟩
abbrev S4x256x6144 : Shape := ⟨3, ![4, 256, 6144]⟩
abbrev S1024x2048 : Shape := ⟨2, ![1024, 2048]⟩
abbrev S2048x2048 : Shape := ⟨2, ![2048, 2048]⟩
abbrev S_ : Shape := ⟨0, ![]⟩
abbrev S16384x2048 : Shape := ⟨2, ![16384, 2048]⟩
abbrev S17408x2048 : Shape := ⟨2, ![17408, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x4096x1024, .f32⟩
  | .hbm, ⟨3, _⟩ => ⟨S4x256x1024, .f32⟩
  | .hbm, ⟨4, _⟩ => ⟨S4x4096x2048, .f32⟩
  | .hbm, ⟨5, _⟩ => ⟨S4x256x2048, .f32⟩
  | .hbm, ⟨6, _⟩ => ⟨S4x4096x6144, .f32⟩
  | .hbm, ⟨7, _⟩ => ⟨S4x256x6144, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S4x4096x6144, .f32⟩
  | .hbm, ⟨12, _⟩ => ⟨S4x4096x6144, .f32⟩
  | .hbm, ⟨13, _⟩ => ⟨S_, .f32⟩
  | .hbm, ⟨14, _⟩ => ⟨S4x4096x6144, .f32⟩
  | .hbm, ⟨15, _⟩ => ⟨S4x4096x6144, .f32⟩
  | .hbm, ⟨16, _⟩ => ⟨S_, .f32⟩
  | .hbm, ⟨17, _⟩ => ⟨S4x4096x6144, .f32⟩
  | .hbm, ⟨18, _⟩ => ⟨S4x4096x6144, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S16384x2048, .f32⟩
  | .hbm, ⟨31, _⟩ => ⟨S4x256x6144, .f32⟩
  | .hbm, ⟨32, _⟩ => ⟨S4x256x6144, .f32⟩
  | .hbm, ⟨33, _⟩ => ⟨S_, .f32⟩
  | .hbm, ⟨34, _⟩ => ⟨S4x256x6144, .f32⟩
  | .hbm, ⟨35, _⟩ => ⟨S4x256x6144, .f32⟩
  | .hbm, ⟨36, _⟩ => ⟨S_, .f32⟩
  | .hbm, ⟨37, _⟩ => ⟨S4x256x6144, .f32⟩
  | .hbm, ⟨38, _⟩ => ⟨S4x256x6144, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S4x256x2048, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S4x256x2048, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S1024x2048, .f32⟩
  | .hbm, ⟨51, _⟩ => ⟨S17408x2048, .f32⟩
  | .hbm, ⟨52, _⟩ => ⟨S17408x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048x2048 : Shape := ⟨2, ![2048, 2048]⟩
abbrev S16384x2048 : Shape := ⟨2, ![16384, 2048]⟩
abbrev S1024x2048 : Shape := ⟨2, ![1024, 2048]⟩
abbrev S17408x2048 : Shape := ⟨2, ![17408, 2048]⟩
abbrev S1x12288 : Shape := ⟨2, ![1, 12288]⟩
abbrev S_ : Shape := ⟨0, ![]⟩
abbrev S3x12288 : Shape := ⟨2, ![3, 12288]⟩
abbrev S8x12288 : Shape := ⟨2, ![8, 12288]⟩
abbrev S8x6x2048 : Shape := ⟨3, ![8, 6, 2048]⟩
abbrev S2048x1024 : Shape := ⟨2, ![2048, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x4096x2048, .f32⟩
  | .hbm, ⟨3, _⟩ => ⟨S4x256x2048, .f32⟩
  | .hbm, ⟨4, _⟩ => ⟨S4x12288, .f32⟩
  | .hbm, ⟨5, _⟩ => ⟨S12288, .f32⟩
  | .hbm, ⟨6, _⟩ => ⟨S2048x2048, .f32⟩
  | .hbm, ⟨7, _⟩ => ⟨S16384x2048, .f32⟩
  | .hbm, ⟨8, _⟩ => ⟨S1024x2048, .f32⟩
  | .hbm, ⟨9, _⟩ => ⟨S17408x2048, .f32⟩
  | .hbm, ⟨10, _⟩ => ⟨S17408x2048, .bf16⟩
  | .hbm, ⟨11, _⟩ => ⟨S2048x2048, .bf16⟩
  | .hbm, ⟨12, _⟩ => ⟨S16384x2048, .f32⟩
  | .hbm, ⟨13, _⟩ => ⟨S1024x2048, .f32⟩
  | .hbm, ⟨14, _⟩ => ⟨S17408x2048, .f32⟩
  | .hbm, ⟨15, _⟩ => ⟨S1x12288, .f32⟩
  | .hbm, ⟨16, _⟩ => ⟨S_, .f32⟩
  | .hbm, ⟨17, _⟩ => ⟨S3x12288, .f32⟩
  | .hbm, ⟨18, _⟩ => ⟨S8x12288, .f32⟩
  | .hbm, ⟨19, _⟩ => ⟨S8x6x2048, .f32⟩
  | .hbm, ⟨20, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .f32⟩
  | .local _ .vmem, ⟨9, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.select v0 v17 c4_i32_4
  let c0_i32_5 : BitVec 32 := 0#32
  let c0_i32_6 : BitVec 32 := 0#32
  ![v18.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x2048 : Shape := ⟨3, ![4, 4096, 2048]⟩
abbrev S4x256x2048 : Shape := ⟨3, ![4, 256, 2048]⟩
abbrev S4x12288 : Shape := ⟨2, ![4, 12288]⟩
abbrev S12288 : Shape := ⟨1, ![12288]⟩
abbrev S2048x2048 : Shape := ⟨2, ![2048, 2048]⟩
abbrev S4x2048 : Shape := ⟨2, ![4, 2048]⟩
abbrev S4x1x2048 : Shape := ⟨3, ![4, 1, 2048]⟩
abbrev S2048 : Shape := ⟨1, ![2048]⟩
abbrev S1x1x2048 : Shape := ⟨3, ![1, 1, 2048]⟩
abbrev S16384x2048 : Shape := ⟨2, ![16384, 2048]⟩
abbrev S1024x2048 : Shape := ⟨2, ![1024, 2048]⟩
abbrev S17408x2048 : Shape := ⟨2, ![17408, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S4x4096x2048, .f32⟩
  | .hbm, ⟨3, _⟩ => ⟨S4x256x2048, .f32⟩
  | .hbm, ⟨4, _⟩ => ⟨S4x12288, .f32⟩
  | .hbm, ⟨5, _⟩ => ⟨S12288, .f32⟩
  | .hbm, ⟨6, _⟩ => ⟨S2048x2048, .f32⟩
  | .hbm, ⟨7, _⟩ => ⟨S4x2048, .f32⟩
  | .hbm, ⟨8, _⟩ => ⟨S4x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S2048, .f32⟩
  | .hbm, ⟨14, _⟩ => ⟨S4x256x2048, .f32⟩
  | .hbm, ⟨15, _⟩ => ⟨S1x1x2048, .f32⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S16384x2048, .f32⟩
  | .hbm, ⟨20, _⟩ => ⟨S1024x2048, .f32⟩
  | .hbm, ⟨21, _⟩ => ⟨S17408x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x12288 : Shape := ⟨2, ![4, 12288]⟩
abbrev S8x128x16384 : Shape := ⟨3, ![8, 128, 16384]⟩
abbrev S2x16384x2048 : Shape := ⟨3, ![2, 16384, 2048]⟩
abbrev S2048 : Shape := ⟨1, ![2048]⟩
abbrev S16384x2048 : Shape := ⟨2, ![16384, 2048]⟩
abbrev S2048x16384 : Shape := ⟨2, ![2048, 16384]⟩
abbrev S2x2048x16384 : Shape := ⟨3, ![2, 2048, 16384]⟩
abbrev S_ : Shape := ⟨0, ![]⟩
abbrev S12288 : Shape := ⟨1, ![12288]⟩
abbrev S1x12288 : Shape := ⟨2, ![1, 12288]⟩
abbrev S3x12288 : Shape := ⟨2, ![3, 12288]⟩
abbrev S8x12288 : Shape := ⟨2, ![8, 12288]⟩
abbrev S8x6x2048 : Shape := ⟨3, ![8, 6, 2048]⟩
abbrev S1x2048 : Shape := ⟨2, ![1, 2048]⟩
abbrev S2048x512 : Shape := ⟨2, ![2048, 512]⟩
abbrev S1x1024x2048 : Shape := ⟨3, ![1, 1024, 2048]⟩
abbrev S1x2048x1024 : Shape := ⟨3, ![1, 2048, 1024]⟩
abbrev S8x128x512 : Shape := ⟨3, ![8, 128, 512]⟩
abbrev S8x8x512 : Shape := ⟨3, ![8, 8, 512]⟩
abbrev S512x2048 : Shape := ⟨2, ![512, 2048]⟩
abbrev S1x6x2048 : Shape := ⟨3, ![1, 6, 2048]⟩
abbrev S1024x512 : Shape := ⟨2, ![1024, 512]⟩
abbrev S1x128x2048 : Shape := ⟨3, ![1, 128, 2048]⟩
abbrev S128x2048 : Shape := ⟨2, ![128, 2048]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S2048x1024 : Shape := ⟨2, ![2048, 1024]⟩
abbrev S1x1x2048 : Shape := ⟨3, ![1, 1, 2048]⟩
abbrev S512 : Shape := ⟨1, ![512]⟩
abbrev S512x1 : Shape := ⟨2, ![512, 1]⟩

abbrev nBuf : Space → Nat
  | .hbm => 28
  | .vmem => 23
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S2x16384x2048, .f32⟩
  | .hbm, ⟨8, _⟩ => ⟨S2x16384x2048, .f32⟩
  | .hbm, ⟨9, _⟩ => ⟨S2048, .f32⟩
  | .hbm, ⟨10, _⟩ => ⟨S8x128x16384, .bf16⟩
  | .hbm, ⟨11, _⟩ => ⟨S8x128x16384, .bf16⟩
  | .hbm, ⟨12, _⟩ => ⟨S16384x2048, .f32⟩
  | .hbm, ⟨13, _⟩ => ⟨S2048x16384, .f32⟩
  | .hbm, ⟨14, _⟩ => ⟨S2048x16384, .bf16⟩
  | .hbm, ⟨15, _⟩ => ⟨S2x16384x2048, .bf16⟩
  | .hbm, ⟨16, _⟩ => ⟨S2x16384x2048, .bf16⟩
  | .hbm, ⟨17, _⟩ => ⟨S2x2048x16384, .bf16⟩
  | .hbm, ⟨18, _⟩ => ⟨S16384x2048, .f32⟩
  | .hbm, ⟨19, _⟩ => ⟨S_, .f32⟩
  | .hbm, ⟨20, _⟩ => ⟨S12288, .f32⟩
  | .hbm, ⟨21, _⟩ => ⟨S1x12288, .f32⟩
  | .hbm, ⟨22, _⟩ => ⟨S_, .f32⟩
  | .hbm, ⟨23, _⟩ => ⟨S3x12288, .f32⟩
  | .hbm, ⟨24, _⟩ => ⟨S8x12288, .f32⟩
  | .hbm, ⟨25, _⟩ => ⟨S8x6x2048, .f32⟩
  | .hbm, ⟨26, _⟩ => ⟨S1x2048, .f32⟩
  | .hbm, ⟨27, _⟩ => ⟨S16384x2048, .f32⟩
  | .local _ .vmem, ⟨0, _⟩ => ⟨S2048x512, .bf16⟩
  | .local _ .vmem, ⟨1, _⟩ => ⟨S2048x512, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x8x512, .f32⟩
  | .local _ .vmem, ⟨11, _⟩ => ⟨S8x8x512, .f32⟩
  | .local _ .vmem, ⟨12, _⟩ => ⟨S8x8x512, .f32⟩
  | .local _ .vmem, ⟨13, _⟩ => ⟨S8x8x512, .f32⟩
  | .local _ .vmem, ⟨14, _⟩ => ⟨S512x2048, .f32⟩
  | .local _ .vmem, ⟨15, _⟩ => ⟨S512x2048, .f32⟩
  | .local _ .vmem, ⟨16, _⟩ => ⟨S1x6x2048, .f32⟩
  | .local _ .vmem, ⟨17, _⟩ => ⟨S1x6x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S2048x512, .f32⟩
  | .local _ .vmem, ⟨22, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v1366 : BitVec 1 := Scalar.cmpi .eq arg1 c15_i32
  let v1367 : BitVec 32 := Scalar.extui v1366
  let c0_i32_909 : BitVec 32 := 0#32
  let v1368 : BitVec 1 := Scalar.cmpi .ne v1367 c0_i32_909
  v1368

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x6x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference5Ideal.lean ====
abbrev S4x4096x2048 : Shape := ⟨3, ![4, 4096, 2048]⟩
abbrev S4x12288 : Shape := ⟨2, ![4, 12288]⟩
abbrev S8x128x16384 : Shape := ⟨3, ![8, 128, 16384]⟩
abbrev S2x16384x2048 : Shape := ⟨3, ![2, 16384, 2048]⟩
abbrev S2048 : Shape := ⟨1, ![2048]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S16384x2048 : Shape := ⟨2, ![16384, 2048]⟩
abbrev S1x16384x2048 : Shape := ⟨3, ![1, 16384, 2048]⟩
abbrev S2048x16384 : Shape := ⟨2, ![2048, 16384]⟩
abbrev S4x2048 : Shape := ⟨2, ![4, 2048]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x12288, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S2x16384x2048, .f32⟩
  | .hbm, ⟨8, _⟩ => ⟨S2x16384x2048, .f32⟩
  | .hbm, ⟨9, _⟩ => ⟨S2048, .f32⟩
  | .hbm, ⟨10, _⟩ => ⟨S8x1x128x16384, .f32⟩
  | .hbm, ⟨11, _⟩ => ⟨S8x128x1x16384, .f32⟩
  | .hbm, ⟨12, _⟩ => ⟨S8x128x128x16384, .f32⟩
  | .hbm, ⟨13, _⟩ => ⟨S8x128x128x16384, .f32⟩
  | .hbm, ⟨14, _⟩ => ⟨S8x128x128x16384, .i1⟩
  | .hbm, ⟨15, _⟩ => ⟨S8x1x128x16384, .f32⟩
  | .hbm, ⟨16, _⟩ => ⟨S8x128x1x16384, .f32⟩
  | .hbm, ⟨17, _⟩ => ⟨S8x128x128x16384, .f32⟩
  | .hbm, ⟨18, _⟩ => ⟨S8x128x128x16384, .f32⟩
  | .hbm, ⟨19, _⟩ => ⟨S8x128x128x16384, .f32⟩
  | .hbm, ⟨20, _⟩ => ⟨S_, .f32⟩
  | .hbm, ⟨21, _⟩ => ⟨S_, .f32⟩
  | .hbm, ⟨22, _⟩ => ⟨S8x128x128x16384, .f32⟩
  | .hbm, ⟨23, _⟩ => ⟨S8x128x128x16384, .f32⟩
  | .hbm, ⟨24, _⟩ => ⟨S_, .f32⟩
  | .hbm, ⟨25, _⟩ => ⟨S128x128x16384, .f32⟩
  | .hbm, ⟨26, _⟩ => ⟨S16384x16384, .f32⟩
  | .hbm, ⟨27, _⟩ => ⟨S16384x2048, .f32⟩
  | .hbm, ⟨28, _⟩ => ⟨S1x16384x2048, .f32⟩
  | .hbm, ⟨29, _⟩ => ⟨S16384x2048, .f32⟩
  | .hbm, ⟨30, _⟩ => ⟨S2048x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S_, .f32⟩
  | .hbm, ⟨38, _⟩ => ⟨S16384x16384, .f32⟩
  | .hbm, ⟨39, _⟩ => ⟨S16384x16384, .f32⟩
  | .hbm, ⟨40, _⟩ => ⟨S16384x16384, .f32⟩
  | .hbm, ⟨41, _⟩ => ⟨S16384x16384, .f32⟩
  | .hbm, ⟨42, _⟩ => ⟨S16384x16384, .f32⟩
  | .hbm, ⟨43, _⟩ => ⟨S1x16384x2048, .f32⟩
  | .hbm, ⟨44, _⟩ => ⟨S16384x2048, .f32⟩
  | .hbm, ⟨45, _⟩ => ⟨S16384x2048, .f32⟩
  | .hbm, ⟨46, _⟩ => ⟨S4x2048, .f32⟩
  | .hbm, ⟨47, _⟩ => ⟨S4x1x2048, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x2048, .f32⟩
  | .hbm, ⟨64, _⟩ => ⟨S4x4096x2048, .f32⟩
  | .hbm, ⟨65, _⟩ => ⟨S1x1x2048, .f32⟩
  | .hbm, ⟨66, _⟩ => ⟨S4x4096x2048, .f32⟩
  | .hbm, ⟨67, _⟩ => ⟨S4x4096x2048, .f32⟩
  | .hbm, ⟨68, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel6.lean ====
abbrev S4x4096x512 : Shape := ⟨3, ![4, 4096, 512]⟩
abbrev S4x256x512 : Shape := ⟨3, ![4, 256, 512]⟩
abbrev S4x4096x64 : Shape := ⟨3, ![4, 4096, 64]⟩
abbrev S4x256x64 : Shape := ⟨3, ![4, 256, 64]⟩
abbrev S512 : Shape := ⟨1, ![512]⟩
abbrev S512x4096 : Shape := ⟨2, ![512, 4096]⟩
abbrev S16384x64 : Shape := ⟨2, ![16384, 64]⟩
abbrev S1024x64 : Shape := ⟨2, ![1024, 64]⟩
abbrev S17408x64 : Shape := ⟨2, ![17408, 64]⟩
abbrev S_ : Shape := ⟨0, ![]⟩
abbrev S17408x12800 : Shape := ⟨2, ![17408, 12800]⟩
abbrev S16384x512 : Shape := ⟨2, ![16384, 512]⟩
abbrev S1024x512 : Shape := ⟨2, ![1024, 512]⟩
abbrev S17408x512 : Shape := ⟨2, ![17408, 512]⟩
abbrev S17408x16 : Shape := ⟨2, ![17408, 16]⟩
abbrev S17408x384 : Shape := ⟨2, ![17408, 384]⟩
abbrev S17408x13824 : Shape := ⟨2, ![17408, 13824]⟩
abbrev S512x16x256 : Shape := ⟨3, ![512, 16, 256]⟩
abbrev S16x512x256 : Shape := ⟨3, ![16, 512, 256]⟩
abbrev S64 : Shape := ⟨1, ![64]⟩
abbrev S64x64 : Shape := ⟨2, ![64, 64]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S1x4096x1x128 : Shape := ⟨4, ![1, 4096, 1, 128]⟩
abbrev S4x4096x1x128 : Shape := ⟨4, ![4, 4096, 1, 128]⟩
abbrev S16384x128 : Shape := ⟨2, ![16384, 128]⟩
abbrev S1024x128 : Shape := ⟨2, ![1024, 128]⟩
abbrev S17408x128 : Shape := ⟨2, ![17408, 128]⟩
abbrev S1x512 : Shape := ⟨2, ![1, 512]⟩
abbrev S16x17408x256 : Shape := ⟨3, ![16, 17408, 256]⟩
abbrev S512x512 : Shape := ⟨2, ![512, 512]⟩
abbrev S512x128 : Shape := ⟨2, ![512, 128]⟩
abbrev S512x1 : Shape := ⟨2, ![512, 1]⟩
abbrev S1x512x256 : Shape := ⟨3, ![1, 512, 256]⟩
abbrev S512x256 : Shape := ⟨2, ![512, 256]⟩

abbrev nBuf : Space → Nat
  | .hbm => 72
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S4x4096x64, .f32⟩
  | .hbm, ⟨3, _⟩ => ⟨S4x256x64, .f32⟩
  | .hbm, ⟨4, _⟩ => ⟨S512, .f32⟩
  | .hbm, ⟨5, _⟩ => ⟨S512x4096, .f32⟩
  | .hbm, ⟨6, _⟩ => ⟨S16384x64, .f32⟩
  | .hbm, ⟨7, _⟩ => ⟨S1024x64, .f32⟩
  | .hbm, ⟨8, _⟩ => ⟨S17408x64, .f32⟩
  | .hbm, ⟨9, _⟩ => ⟨S_, .f32⟩
  | .hbm, ⟨10, _⟩ => ⟨S17408x12800, .f32⟩
  | .hbm, ⟨11, _⟩ => ⟨S16384x512, .f32⟩
  | .hbm, ⟨12, _⟩ => ⟨S1024x512, .f32⟩
  | .hbm, ⟨13, _⟩ => ⟨S17408x512, .f32⟩
  | .hbm, ⟨14, _⟩ => ⟨S17408x16, .f32⟩
  | .hbm, ⟨15, _⟩ => ⟨S17408x16, .f32⟩
  | .hbm, ⟨16, _⟩ => ⟨S17408x16, .f32⟩
  | .hbm, ⟨17, _⟩ => ⟨S17408x16, .f32⟩
  | .hbm, ⟨18, _⟩ => ⟨S17408x16, .f32⟩
  | .hbm, ⟨19, _⟩ => ⟨S17408x16, .f32⟩
  | .hbm, ⟨20, _⟩ => ⟨S17408x64, .f32⟩
  | .hbm, ⟨21, _⟩ => ⟨S_, .f32⟩
  | .hbm, ⟨22, _⟩ => ⟨S17408x384, .f32⟩
  | .hbm, ⟨23, _⟩ => ⟨S17408x13824, .f32⟩
  | .hbm, ⟨24, _⟩ => ⟨S512x16x256, .f32⟩
  | .hbm, ⟨25, _⟩ => ⟨S16x512x256, .f32⟩
  | .hbm, ⟨26, _⟩ => ⟨S16x512x256, .bf16⟩
  | .hbm, ⟨27, _⟩ => ⟨S64, .i32⟩
  | .hbm, ⟨28, _⟩ => ⟨S64, .i32⟩
  | .hbm, ⟨29, _⟩ => ⟨S64x64, .i32⟩
  | .hbm, ⟨30, _⟩ => ⟨S64x64, .i32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S4096, .i32⟩
  | .hbm, ⟨40, _⟩ => ⟨S4096x1, .i32⟩
  | .hbm, ⟨41, _⟩ => ⟨S4096x1, .f32⟩
  | .hbm, ⟨42, _⟩ => ⟨S1x16, .f32⟩
  | .hbm, ⟨43, _⟩ => ⟨S4096x16, .f32⟩
  | .hbm, ⟨44, _⟩ => ⟨S4096x16, .f32⟩
  | .hbm, ⟨45, _⟩ => ⟨S4096x16, .f32⟩
  | .hbm, ⟨46, _⟩ => ⟨S4096, .i32⟩
  | .hbm, ⟨47, _⟩ => ⟨S4096x1, .i32⟩
  | .hbm, ⟨48, _⟩ => ⟨S4096x1, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x64, .f32⟩
  | .hbm, ⟨56, _⟩ => ⟨S4096x16, .f32⟩
  | .hbm, ⟨57, _⟩ => ⟨S4096x16, .f32⟩
  | .hbm, ⟨58, _⟩ => ⟨S4096x64, .f32⟩
  | .hbm, ⟨59, _⟩ => ⟨S4096x128, .f32⟩
  | .hbm, ⟨60, _⟩ => ⟨S1x4096x1x128, .f32⟩
  | .hbm, ⟨61, _⟩ => ⟨S4x4096x1x128, .f32⟩
  | .hbm, ⟨62, _⟩ => ⟨S16384x128, .f32⟩
  | .hbm, ⟨63, _⟩ => ⟨S_, .f32⟩
  | .hbm, ⟨64, _⟩ => ⟨S1024x64, .f32⟩
  | .hbm, ⟨65, _⟩ => ⟨S_, .f32⟩
  | .hbm, ⟨66, _⟩ => ⟨S1024x64, .f32⟩
  | .hbm, ⟨67, _⟩ => ⟨S1024x128, .f32⟩
  | .hbm, ⟨68, _⟩ => ⟨S17408x128, .f32⟩
  | .hbm, ⟨69, _⟩ => ⟨S1x512, .f32⟩
  | .hbm, ⟨70, _⟩ => ⟨S16x17408x256, .bf16⟩
  | .hbm, ⟨71, _⟩ => ⟨S16x17408x256, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S16x512x256, .bf16⟩
  | .local _ .vmem, ⟨8, _⟩ => ⟨S16x512x256, .bf16⟩
  | .local _ .vmem, ⟨9, _⟩ => ⟨S16x512x256, .bf16⟩
  | .local _ .vmem, ⟨10, _⟩ => ⟨S16x512x256, .bf16⟩
  | .local _ .vmem, ⟨11, _⟩ => ⟨S16x512x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_3 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58_0 : Ref sig .tc := ⟨.hbm, 70, rfl⟩
abbrev main_v58_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_1 (i : grid0.Coords) : Fin 2 → Nat :=
  let arg0 : BitVec 32 := BitVec.ofNat 32 (i 0).val
  let c104_i32 : BitVec 32 := 104#32
  let c0_i32 : BitVec 32 := 0#32
  ![arg0.toNat, c104_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x4096x512 : Shape := ⟨3, ![4, 4096, 512]⟩
abbrev S4x256x512 : Shape := ⟨3, ![4, 256, 512]⟩
abbrev S4x4096x64 : Shape := ⟨3, ![4, 4096, 64]⟩
abbrev S4x256x64 : Shape := ⟨3, ![4, 256, 64]⟩
abbrev S512 : Shape := ⟨1, ![512]⟩
abbrev S512x4096 : Shape := ⟨2, ![512, 4096]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x4096 : Shape := ⟨3, ![4, 4096, 4096]⟩
abbrev S16384x16x256 : Shape := ⟨3, ![16384, 16, 256]⟩
abbrev S16x16384x256 : Shape := ⟨3, ![16, 16384, 256]⟩
abbrev S4x256 : Shape := ⟨2, ![4, 256]⟩
abbrev S4x256x1 : Shape := ⟨3, ![4, 256, 1]⟩
abbrev S4x256x4096 : Shape := ⟨3, ![4, 256, 4096]⟩
abbrev S1024x16x256 : Shape := ⟨3, ![1024, 16, 256]⟩
abbrev S16x1024x256 : Shape := ⟨3, ![16, 1024, 256]⟩
abbrev S16x17408x256 : Shape := ⟨3, ![16, 17408, 256]⟩
abbrev S64 : Shape := ⟨1, ![64]⟩
abbrev S64x64 : Shape := ⟨2, ![64, 64]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4x4096x2x2x16 : Shape := ⟨5, ![4, 4096, 2, 2, 16]⟩
abbrev S4x4096x2x1x16 : Shape := ⟨5, ![4, 4096, 2, 1, 16]⟩
abbrev S4x4096x2x16 : Shape := ⟨4, ![4, 4096, 2, 16]⟩
abbrev S1x4096x2x16 : Shape := ⟨4, ![1, 4096, 2, 16]⟩
abbrev S16384x64 : Shape := ⟨2, ![16384, 64]⟩
abbrev S1024x64 : Shape := ⟨2, ![1024, 64]⟩
abbrev S17408x64 : Shape := ⟨2, ![17408, 64]⟩
abbrev S16x17408x64 : Shape := ⟨3, ![16, 17408, 64]⟩
abbrev S16x17408x128 : Shape := ⟨3, ![16, 17408, 128]⟩
abbrev S16x17408x1 : Shape := ⟨3, ![16, 17408, 1]⟩
abbrev S16x17408x127 : Shape := ⟨3, ![16, 17408, 127]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S4x4096x64, .f32⟩
  | .hbm, ⟨3, _⟩ => ⟨S4x256x64, .f32⟩
  | .hbm, ⟨4, _⟩ => ⟨S512, .f32⟩
  | .hbm, ⟨5, _⟩ => ⟨S512x4096, .f32⟩
  | .hbm, ⟨6, _⟩ => ⟨S4x4096x512, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x512, .f32⟩
  | .hbm, ⟨18, _⟩ => ⟨S4x4096x512, .f32⟩
  | .hbm, ⟨19, _⟩ => ⟨S1x1x512, .f32⟩
  | .hbm, ⟨20, _⟩ => ⟨S4x4096x512, .f32⟩
  | .hbm, ⟨21, _⟩ => ⟨S4x4096x512, .f32⟩
  | .hbm, ⟨22, _⟩ => ⟨S4x4096x4096, .f32⟩
  | .hbm, ⟨23, _⟩ => ⟨S16384x16x256, .f32⟩
  | .hbm, ⟨24, _⟩ => ⟨S16x16384x256, .f32⟩
  | .hbm, ⟨25, _⟩ => ⟨S4x256x512, .f32⟩
  | .hbm, ⟨26, _⟩ => ⟨S_, .f32⟩
  | .hbm, ⟨27, _⟩ => ⟨S4x256, .f32⟩
  | .hbm, ⟨28, _⟩ => ⟨S4x256x1, .f32⟩
  | .hbm, ⟨29, _⟩ => ⟨S_, .f32⟩
  | .hbm, ⟨30, _⟩ => ⟨S4x256x1, .f32⟩
  | .hbm, ⟨31, _⟩ => ⟨S4x256x1, .f32⟩
  | .hbm, ⟨32, _⟩ => ⟨S_, .f32⟩
  | .hbm, ⟨33, _⟩ => ⟨S4x256x1, .f32⟩
  | .hbm, ⟨34, _⟩ => ⟨S4x256x1, .f32⟩
  | .hbm, ⟨35, _⟩ => ⟨S4x256x1, .f32⟩
  | .hbm, ⟨36, _⟩ => ⟨S4x256x512, .f32⟩
  | .hbm, ⟨37, _⟩ => ⟨S4x256x512, .f32⟩
  | .hbm, ⟨38, _⟩ => ⟨S1x1x512, .f32⟩
  | .hbm, ⟨39, _⟩ => ⟨S4x256x512, .f32⟩
  | .hbm, ⟨40, _⟩ => ⟨S4x256x512, .f32⟩
  | .hbm, ⟨41, _⟩ => ⟨S4x256x4096, .f32⟩
  | .hbm, ⟨42, _⟩ => ⟨S1024x16x256, .f32⟩
  | .hbm, ⟨43, _⟩ => ⟨S16x1024x256, .f32⟩
  | .hbm, ⟨44, _⟩ => ⟨S16x17408x256, .f32⟩
  | .hbm, ⟨45, _⟩ => ⟨S64, .i32⟩
  | .hbm, ⟨46, _⟩ => ⟨S64, .i32⟩
  | .hbm, ⟨47, _⟩ => ⟨S64x64, .i32⟩
  | .hbm, ⟨48, _⟩ => ⟨S64x64, .i32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S4096, .i32⟩
  | .hbm, ⟨58, _⟩ => ⟨S4096x1, .i32⟩
  | .hbm, ⟨59, _⟩ => ⟨S4096x1, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096, .i32⟩
  | .hbm, ⟨65, _⟩ => ⟨S4096x1, .i32⟩
  | .hbm, ⟨66, _⟩ => ⟨S4096x1, .f32⟩
  | .hbm, ⟨67, _⟩ => ⟨S1x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x1x16, .f32⟩
  | .hbm, ⟨72, _⟩ => ⟨S4096x1x16, .f32⟩
  | .hbm, ⟨73, _⟩ => ⟨S4096x2x16, .f32⟩
  | .hbm, ⟨74, _⟩ => ⟨S4096x2x16, .f32⟩
  | .hbm, ⟨75, _⟩ => ⟨S4096x2x16, .f32⟩
  | .hbm, ⟨76, _⟩ => ⟨S4x4096x2x2x16, .f32⟩
  | .hbm, ⟨77, _⟩ => ⟨S4x4096x2x1x16, .f32⟩
  | .hbm, ⟨78, _⟩ => ⟨S4x4096x2x16, .f32⟩
  | .hbm, ⟨79, _⟩ => ⟨S4x4096x2x1x16, .f32⟩
  | .hbm, ⟨80, _⟩ => ⟨S4x4096x2x16, .f32⟩
  | .hbm, ⟨81, _⟩ => ⟨S1x4096x2x16, .f32⟩
  | .hbm, ⟨82, _⟩ => ⟨S4x4096x2x16, .f32⟩
  | .hbm, ⟨83, _⟩ => ⟨S4x4096x2x16, .f32⟩
  | .hbm, ⟨84, _⟩ => ⟨S1x4096x2x16, .f32⟩
  | .hbm, ⟨85, _⟩ => ⟨S4x4096x2x16, .f32⟩
  | .hbm, ⟨86, _⟩ => ⟨S4x4096x2x16, .f32⟩
  | .hbm, ⟨87, _⟩ => ⟨S4x4096x2x16, .f32⟩
  | .hbm, ⟨88, _⟩ => ⟨S1x4096x2x16, .f32⟩
  | .hbm, ⟨89, _⟩ => ⟨S4x4096x2x16, .f32⟩
  | .hbm, ⟨90, _⟩ => ⟨S4x4096x2x16, .f32⟩
  | .hbm, ⟨91, _⟩ => ⟨S1x4096x2x16, .f32⟩
  | .hbm, ⟨92, _⟩ => ⟨S4x4096x2x16, .f32⟩
  | .hbm, ⟨93, _⟩ => ⟨S4x4096x2x16, .f32⟩
  | .hbm, ⟨94, _⟩ => ⟨S4x4096x2x16, .f32⟩
  | .hbm, ⟨95, _⟩ => ⟨S4x4096x2x1x16, .f32⟩
  | .hbm, ⟨96, _⟩ => ⟨S4x4096x2x1x16, .f32⟩
  | .hbm, ⟨97, _⟩ => ⟨S4x4096x2x2x16, .f32⟩
  | .hbm, ⟨98, _⟩ => ⟨S4x4096x64, .f32⟩
  | .hbm, ⟨99, _⟩ => ⟨S16384x64, .f32⟩
  | .hbm, ⟨100, _⟩ => ⟨S1024x64, .f32⟩
  | .hbm, ⟨101, _⟩ => ⟨S17408x64, .f32⟩
  | .hbm, ⟨102, _⟩ => ⟨S16x17408x64, .f32⟩
  | .hbm, ⟨103, _⟩ => ⟨S16x17408x128, .f32⟩
  | .hbm, ⟨104, _⟩ => ⟨S_, .f32⟩
  | .hbm, ⟨105, _⟩ => ⟨S16x17408x64, .f32⟩
  | .hbm, ⟨106, _⟩ => ⟨S16x17408x256, .f32⟩
  | .hbm, ⟨107, _⟩ => ⟨S16x17408x128, .f32⟩
  | .hbm, ⟨108, _⟩ => ⟨S_, .f32⟩
  | .hbm, ⟨109, _⟩ => ⟨S16x17408x1, .f32⟩
  | .hbm, ⟨110, _⟩ => ⟨S_, .f32⟩
  | .hbm, ⟨111, _⟩ => ⟨S16x17408x127, .f32⟩
  | .hbm, ⟨112, _⟩ => ⟨S16x17408x256, .f32⟩
  | .hbm, ⟨113, _⟩ => ⟨S16x17408x256, .bf16⟩
  | .hbm, ⟨114, _⟩ => ⟨S16x17408x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_7 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_8 : Ref sig .tc := ⟨.hbm, 108, rfl⟩
abbrev main_v93 : Ref sig .tc := ⟨.hbm, 109, rfl⟩
abbrev main_cst_9 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩

abbrev nD : Nat := 1
abbrev τ : Topo := Topo.v7x

variable {F : FTy → Type} [FloatOps F]
-- ==== Kernel7.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S8x256 : Shape := ⟨2, ![8, 256]⟩
abbrev S1x256x12288 : Shape := ⟨3, ![1, 256, 12288]⟩
abbrev S1x1x12288 : Shape := ⟨3, ![1, 1, 12288]⟩
abbrev S1x8x12288 : Shape := ⟨3, ![1, 8, 12288]⟩
abbrev S1x12288 : Shape := ⟨2, ![1, 12288]⟩
abbrev S8x12288 : Shape := ⟨2, ![8, 12288]⟩
abbrev S256x12288 : Shape := ⟨2, ![256, 12288]⟩

abbrev nBuf : Space → Nat
  | .hbm => 10
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x256, .f32⟩
  | .local _ .vmem, ⟨1, _⟩ => ⟨S8x256, .f32⟩
  | .local _ .vmem, ⟨2, _⟩ => ⟨S1x256x12288, .f32⟩
  | .local _ .vmem, ⟨3, _⟩ => ⟨S1x256x12288, .f32⟩
  | .local _ .vmem, ⟨4, _⟩ => ⟨S1x1x12288, .f32⟩
  | .local _ .vmem, ⟨5, _⟩ => ⟨S1x1x12288, .f32⟩
  | .local _ .vmem, ⟨6, _⟩ => ⟨S1x8x12288, .f32⟩
  | .local _ .vmem, ⟨7, _⟩ => ⟨S1x8x12288, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S2x12288x4 : Shape := ⟨3, ![2, 12288, 4]⟩
abbrev S2x4x12288 : Shape := ⟨3, ![2, 4, 12288]⟩
abbrev S2x1x12288 : Shape := ⟨3, ![2, 1, 12288]⟩
abbrev S1x2048 : Shape := ⟨2, ![1, 2048]⟩
abbrev S2x12288x1 : Shape := ⟨3, ![2, 12288, 1]⟩
abbrev S3x2048 : Shape := ⟨2, ![3, 2048]⟩
abbrev S2x12288x3 : Shape := ⟨3, ![2, 12288, 3]⟩
abbrev S2x3x12288 : Shape := ⟨3, ![2, 3, 12288]⟩
abbrev S2x8x12288 : Shape := ⟨3, ![2, 8, 12288]⟩

abbrev nBuf : Space → Nat
  | .hbm => 49
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2x12288x4, .f32⟩
  | .hbm, ⟨14, _⟩ => ⟨S2x4x12288, .f32⟩
  | .hbm, ⟨15, _⟩ => ⟨S2x1x12288, .f32⟩
  | .hbm, ⟨16, _⟩ => ⟨S2x4x12288, .f32⟩
  | .hbm, ⟨17, _⟩ => ⟨S2x4x12288, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S2x12288x1, .f32⟩
  | .hbm, ⟨29, _⟩ => ⟨S2x1x12288, .f32⟩
  | .hbm, ⟨30, _⟩ => ⟨S2x1x12288, .f32⟩
  | .hbm, ⟨31, _⟩ => ⟨S2x1x12288, .f32⟩
  | .hbm, ⟨32, _⟩ => ⟨S_, .f32⟩
  | .hbm, ⟨33, _⟩ => ⟨S3x2048, .f32⟩
  | .hbm, ⟨34, _⟩ => ⟨S3x2048, .f32⟩
  | .hbm, ⟨35, _⟩ => ⟨S3x2048, .f32⟩
  | .hbm, ⟨36, _⟩ => ⟨S_, .f32⟩
  | .hbm, ⟨37, _⟩ => ⟨S3x2048, .f32⟩
  | .hbm, ⟨38, _⟩ => ⟨S3x2048, .f32⟩
  | .hbm, ⟨39, _⟩ => ⟨S_, .f32⟩
  | .hbm, ⟨40, _⟩ => ⟨S3x2048, .f32⟩
  | .hbm, ⟨41, _⟩ => ⟨S3x2048, .f32⟩
  | .hbm, ⟨42, _⟩ => ⟨S3x2048, .f32⟩
  | .hbm, ⟨43, _⟩ => ⟨S2x12288x3, .f32⟩
  | .hbm, ⟨44, _⟩ => ⟨S2x3x12288, .f32⟩
  | .hbm, ⟨45, _⟩ => ⟨S2x1x12288, .f32⟩
  | .hbm, ⟨46, _⟩ => ⟨S2x3x12288, .f32⟩
  | .hbm, ⟨47, _⟩ => ⟨S2x3x12288, .f32⟩
  | .hbm, ⟨48, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x256x1024 : Shape := ⟨3, ![4, 256, 1024]⟩
abbrev S4x256x256 : Shape := ⟨3, ![4, 256, 256]⟩
abbrev S1024 : Shape := ⟨1, ![1024]⟩
abbrev S_ : Shape := ⟨0, ![]⟩
abbrev S17408x11264 : Shape := ⟨2, ![17408, 11264]⟩
abbrev S16384x1024 : Shape := ⟨2, ![16384, 1024]⟩
abbrev S1024x1024 : Shape := ⟨2, ![1024, 1024]⟩
abbrev S17408x1024 : Shape := ⟨2, ![17408, 1024]⟩
abbrev S17408x1536 : Shape := ⟨2, ![17408, 1536]⟩
abbrev S17408x13824 : Shape := ⟨2, ![17408, 13824]⟩
abbrev S1x1024 : Shape := ⟨2, ![1, 1024]⟩
abbrev S8x1024 : Shape := ⟨2, ![8, 1024]⟩
abbrev S512x1024 : Shape := ⟨2, ![512, 1024]⟩
abbrev S528x1024 : Shape := ⟨2, ![528, 1024]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x256x256, .f32⟩
  | .hbm, ⟨3, _⟩ => ⟨S1024, .f32⟩
  | .hbm, ⟨4, _⟩ => ⟨S_, .f32⟩
  | .hbm, ⟨5, _⟩ => ⟨S17408x11264, .f32⟩
  | .hbm, ⟨6, _⟩ => ⟨S16384x1024, .f32⟩
  | .hbm, ⟨7, _⟩ => ⟨S1024x1024, .f32⟩
  | .hbm, ⟨8, _⟩ => ⟨S17408x1024, .f32⟩
  | .hbm, ⟨9, _⟩ => ⟨S_, .f32⟩
  | .hbm, ⟨10, _⟩ => ⟨S17408x1536, .f32⟩
  | .hbm, ⟨11, _⟩ => ⟨S17408x13824, .f32⟩
  | .hbm, ⟨12, _⟩ => ⟨S4x256x256, .bf16⟩
  | .hbm, ⟨13, _⟩ => ⟨S1x1024, .f32⟩
  | .hbm, ⟨14, _⟩ => ⟨S16384x1024, .bf16⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S4x256x256, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S528x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c64_i32 : BitVec 32 := 64#32
  let v3 : BitVec 32 := Scalar.muli v2 c64_i32
  let c1_i32 : BitVec 32 := 1#32
  let v4 : BitVec 32 := Scalar.subi v3 c1_i32
  let c0_i32_0 : BitVec 32 := 0#32
  let v5 : BitVec 32 := Scalar.maxsi v4 c0_i32_0
  let c11_i32 : BitVec 32 := 11#32
  let c0_i32_1 : BitVec 32 := 0#32
  ![v5.toNat, c11_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c11_i32 : BitVec 32 := 11#32
  let c0_i32_0 : BitVec 32 := 0#32
  ![v2.toNat, c11_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c1_i32 : BitVec 32 := 1#32
  let v3 : BitVec 32 := Scalar.addi v2 c1_i32
  let c64_i32 : BitVec 32 := 64#32
  let v4 : BitVec 32 := Scalar.muli v3 c64_i32
  let c2175_i32 : BitVec 32 := 2175#32
  let v5 : BitVec 32 := Scalar.minsi v4 c2175_i32
  let c11_i32 : BitVec 32 := 11#32
  let c0_i32_0 : BitVec 32 := 0#32
  ![v5.toNat, c11_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4x4096x1024 : Shape := ⟨3, ![4, 4096, 1024]⟩
abbrev S4x256x1024 : Shape := ⟨3, ![4, 256, 1024]⟩
abbrev S4x256x256 : Shape := ⟨3, ![4, 256, 256]⟩
abbrev S1024 : Shape := ⟨1, ![1024]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4096x256 : Shape := ⟨3, ![4, 4096, 256]⟩
abbrev S4x256x4096 : Shape := ⟨3, ![4, 256, 4096]⟩
abbrev S1x4096x1 : Shape := ⟨3, ![1, 4096, 1]⟩
abbrev S4x4096x1x256 : Shape := ⟨4, ![4, 4096, 1, 256]⟩
abbrev S4x4096x4x256 : Shape := ⟨4, ![4, 4096, 4, 256]⟩
abbrev S4x256x4x4096 : Shape := ⟨4, ![4, 256, 4, 4096]⟩
abbrev S16384x1024 : Shape := ⟨2, ![16384, 1024]⟩
abbrev S1x1024 : Shape := ⟨2, ![1, 1024]⟩

abbrev nBuf : Space → Nat
  | .hbm => 149
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x256x256, .f32⟩
  | 3 => ⟨S1024, .f32⟩
  | 4 => ⟨S4096, .i32⟩
  | 5 => ⟨S_, .i32⟩
  | 6 => ⟨S4096, .i32⟩
  | 7 => ⟨S4096, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S1x4096, .i32⟩
  | 23 => ⟨S4096x1, .i32⟩
  | 24 => ⟨S4096x4096, .i32⟩
  | 25 => ⟨S4096x4096, .i32⟩
  | 26 => ⟨S4096x4096, .i1⟩
  | 27 => ⟨S4096x4096, .i1⟩
  | 28 => ⟨S4096x4096, .f32⟩
  | 29 => ⟨S4x4096x256, .f32⟩
  | 30 => ⟨S4x256x4096, .f32⟩
  | 31 => ⟨S4x4096x256, .f32⟩
  | 32 => ⟨S4096, .i32⟩
  | 33 => ⟨S4096, .f32⟩
  | 34 => ⟨S1x4096x1, .f32⟩
  | 35 => ⟨S4x4096x256, .f32⟩
  | 36 => ⟨S4x4096x256, .f32⟩
  | 37 => ⟨S4x4096x256, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S1x4096, .i32⟩
  | 51 => ⟨S4096x1, .i32⟩
  | 52 => ⟨S4096x4096, .i32⟩
  | 53 => ⟨S4096x4096, .i32⟩
  | 54 => ⟨S4096x4096, .i1⟩
  | 55 => ⟨S1x4096, .i32⟩
  | 56 => ⟨S4096x1, .i32⟩
  | 57 => ⟨S4096x4096, .i32⟩
  | 58 => ⟨S4096x4096, .i32⟩
  | 59 => ⟨S4096x4096, .i1⟩
  | 60 => ⟨S4096x4096, .i1⟩
  | 61 => ⟨S4096x4096, .f32⟩
  | 62 => ⟨S4x4096x256, .f32⟩
  | 63 => ⟨S4x256x4096, .f32⟩
  | 64 => ⟨S4x4096x256, .f32⟩
  | 65 => ⟨S4096, .i32⟩
  | 66 => ⟨S4096, .f32⟩
  | 67 => ⟨S1x4096x1, .f32⟩
  | 68 => ⟨S4x4096x256, .f32⟩
  | 69 => ⟨S4x4096x256, .f32⟩
  | 70 => ⟨S4x4096x256, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S1x4096, .i32⟩
  | 84 => ⟨S4096x1, .i32⟩
  | 85 => ⟨S4096x4096, .i32⟩
  | 86 => ⟨S4096x4096, .i32⟩
  | 87 => ⟨S4096x4096, .i1⟩
  | 88 => ⟨S1x4096, .i32⟩
  | 89 => ⟨S4096x1, .i32⟩
  | 90 => ⟨S4096x4096, .i32⟩
  | 91 => ⟨S4096x4096, .i32⟩
  | 92 => ⟨S4096x4096, .i1⟩
  | 93 => ⟨S4096x4096, .i1⟩
  | 94 => ⟨S4096x4096, .f32⟩
  | 95 => ⟨S4x4096x256, .f32⟩
  | 96 => ⟨S4x256x4096, .f32⟩
  | 97 => ⟨S4x4096x256, .f32⟩
  | 98 => ⟨S4096, .i32⟩
  | 99 => ⟨S4096, .f32⟩
  | 100 => ⟨S1x4096x1, .f32⟩
  | 101 => ⟨S4x4096x256, .f32⟩
  | 102 => ⟨S4x4096x256, .f32⟩
  | 103 => ⟨S4x4096x256, .f32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S1x4096, .i32⟩
  | 117 => ⟨S4096x1, .i32⟩
  | 118 => ⟨S4096x4096, .i32⟩
  | 119 => ⟨S4096x4096, .i32⟩
  | 120 => ⟨S4096x4096, .i1⟩
  | 121 => ⟨S1x4096, .i32⟩
  | 122 => ⟨S4096x1, .i32⟩
  | 123 => ⟨S4096x4096, .i32⟩
  | 124 => ⟨S4096x4096, .i32⟩
  | 125 => ⟨S4096x4096, .i1⟩
  | 126 => ⟨S4096x4096, .i1⟩
  | 127 => ⟨S4096x4096, .f32⟩
  | _ => ⟨S4x4096x1024, .f32⟩

abbrev hbmTy0_1 (i : Nat) : BufTy := match i % 128 with
  | 0 => ⟨S4x4096x256, .f32⟩
  | 1 => ⟨S4x256x4096, .f32⟩
  | 2 => ⟨S4x4096x256, .f32⟩
  | 3 => ⟨S4096, .i32⟩
  | 4 => ⟨S4096, .f32⟩
  | 5 => ⟨S1x4096x1, .f32⟩
  | 6 => ⟨S4x4096x256, .f32⟩
  | 7 => ⟨S4x4096x256, .f32⟩
  | 8 => ⟨S4x4096x256, .f32⟩
  | 9 => ⟨S4x4096x1x256, .f32⟩
  | 10 => ⟨S4x4096x1x256, .f32⟩
  | 11 => ⟨S4x4096x1x256, .f32⟩
  | 12 => ⟨S4x4096x1x256, .f32⟩
  | 13 => ⟨S4x4096x4x256, .f32⟩
  | 14 => ⟨S4x256x4x4096, .f32⟩
  | 15 => ⟨S4x4096x4x256, .f32⟩
  | 16 => ⟨S16384x1024, .f32⟩
  | 17 => ⟨S1x1024, .f32⟩
  | 18 => ⟨S16384x1024, .f32⟩
  | 19 => ⟨S16384x1024, .f32⟩
  | 20 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_7 : Ref sig .tc := ⟨.hbm, 71, rfl⟩
abbrev main_v59 : Ref sig .tc := ⟨.hbm, 72, rfl⟩
abbrev main_v60 : Ref sig .tc := ⟨.hbm, 73, rfl⟩
abbrev main_c_8 : Ref sig .tc := ⟨.hbm, 74, rfl⟩
abbrev main_v61 : Ref sig .tc := ⟨.hbm, 75, rfl⟩
abbrev main_v62 : Ref sig .tc := ⟨.hbm, 76, rfl⟩
abbrev main_c_9 : Ref sig .tc := ⟨.hbm, 77, rfl⟩
abbrev main_v63 : Ref sig .tc := ⟨.hbm, 78, rfl⟩
abbrev main_v64 : Ref sig .tc := ⟨.hbm, 79, rfl⟩
abbrev main_c_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_c_11 : Ref sig .tc := ⟨.hbm, 104, rfl⟩
abbrev main_v88 : Ref sig .tc := ⟨.hbm, 105, rfl⟩
abbrev main_v89 : Ref sig .tc := ⟨.hbm, 106, rfl⟩
abbrev main_c_12 : Ref sig .tc := ⟨.hbm, 107, rfl⟩
abbrev main_v90 : Ref sig .tc := ⟨.hbm, 108, rfl⟩
abbrev main_v91 : Ref sig .tc := ⟨.hbm, 109, rfl⟩
abbrev main_c_13 : Ref sig .tc := ⟨.hbm, 110, rfl⟩
abbrev main_v92 : Ref sig .tc := ⟨.hbm, 111, rfl⟩
abbrev main_v93 : Ref sig .tc := ⟨.hbm, 112, rfl⟩
abbrev main_c_14 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩

abbrev nD : Nat := 1
abbrev τ : Topo := Topo.v7x

variable {F : FTy → Type} [FloatOps F]
-- ==== Kernel9.lean ====
abbrev S4x256x16x192 : Shape := ⟨4, ![4, 256, 16, 192]⟩
abbrev S4x256x16x128 : Shape := ⟨4, ![4, 256, 16, 128]⟩
abbrev S_ : Shape := ⟨0, ![]⟩
abbrev S16x17408x64 : Shape := ⟨3, ![16, 17408, 64]⟩
abbrev S16x17408x128 : Shape := ⟨3, ![16, 17408, 128]⟩
abbrev S4x4096x16x192 : Shape := ⟨4, ![4, 4096, 16, 192]⟩
abbrev S16x4x4096x192 : Shape := ⟨4, ![16, 4, 4096, 192]⟩
abbrev S16x16384x192 : Shape := ⟨3, ![16, 16384, 192]⟩
abbrev S16x4x256x192 : Shape := ⟨4, ![16, 4, 256, 192]⟩
abbrev S16x1024x192 : Shape := ⟨3, ![16, 1024, 192]⟩
abbrev S16x17408x192 : Shape := ⟨3, ![16, 17408, 192]⟩
abbrev S16x17408x256 : Shape := ⟨3, ![16, 17408, 256]⟩
abbrev S4x4096x16x128 : Shape := ⟨4, ![4, 4096, 16, 128]⟩
abbrev S16x4x4096x128 : Shape := ⟨4, ![16, 4, 4096, 128]⟩
abbrev S16x16384x128 : Shape := ⟨3, ![16, 16384, 128]⟩
abbrev S16x4x256x128 : Shape := ⟨4, ![16, 4, 256, 128]⟩
abbrev S16x1024x128 : Shape := ⟨3, ![16, 1024, 128]⟩
abbrev S1024x2048 : Shape := ⟨2, ![1024, 2048]⟩
abbrev S1x256x256 : Shape := ⟨3, ![1, 256, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 50
  | .vmem => 8
  | .smem => 0
  | _ => 0

abbrev bufTy : (tb : Table) → Fin (tcTables nBuf tb) → BufTy
  | .hbm, ⟨0, _⟩ => ⟨S4x256x16x192, .f32⟩
  | .hbm, ⟨1, _⟩ => ⟨S4x256x16x192, .f32⟩
  | .hbm, ⟨2, _⟩ => ⟨S4x256x16x128, .f32⟩
  | .hbm, ⟨3, _⟩ => ⟨S_, .f32⟩
  | .hbm, ⟨4, _⟩ => ⟨S16x17408x64, .f32⟩
  | .hbm, ⟨5, _⟩ => ⟨S16x17408x128, .i32⟩
  | .hbm, ⟨6, _⟩ => ⟨S_, .i32⟩
  | .hbm, ⟨7, _⟩ => ⟨S16x17408x128, .i32⟩
  | .hbm, ⟨8, _⟩ => ⟨S16x17408x128, .i1⟩
  | .hbm, ⟨9, _⟩ => ⟨S_, .f32⟩
  | .hbm, ⟨10, _⟩ => ⟨S_, .f32⟩
  | .hbm, ⟨11, _⟩ => ⟨S16x17408x128, .f32⟩
  | .hbm, ⟨12, _⟩ => ⟨S16x17408x128, .f32⟩
  | .hbm, ⟨13, _⟩ => ⟨S16x17408x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096x16x192, .f32⟩
  | .hbm, ⟨23, _⟩ => ⟨S4x256x16x192, .f32⟩
  | .hbm, ⟨24, _⟩ => ⟨S4x256x16x192, .f32⟩
  | .hbm, ⟨25, _⟩ => ⟨S16x4x4096x192, .f32⟩
  | .hbm, ⟨26, _⟩ => ⟨S16x16384x192, .f32⟩
  | .hbm, ⟨27, _⟩ => ⟨S16x4x256x192, .f32⟩
  | .hbm, ⟨28, _⟩ => ⟨S16x1024x192, .f32⟩
  | .hbm, ⟨29, _⟩ => ⟨S16x17408x192, .f32⟩
  | .hbm, ⟨30, _⟩ => ⟨S16x17408x256, .f32⟩
  | .hbm, ⟨31, _⟩ => ⟨S16x17408x256, .bf16⟩
  | .hbm, ⟨32, _⟩ => ⟨S16x4x4096x192, .f32⟩
  | .hbm, ⟨33, _⟩ => ⟨S16x16384x192, .f32⟩
  | .hbm, ⟨34, _⟩ => ⟨S16x4x256x192, .f32⟩
  | .hbm, ⟨35, _⟩ => ⟨S16x1024x192, .f32⟩
  | .hbm, ⟨36, _⟩ => ⟨S16x17408x192, .f32⟩
  | .hbm, ⟨37, _⟩ => ⟨S16x17408x256, .f32⟩
  | .hbm, ⟨38, _⟩ => ⟨S16x17408x256, .bf16⟩
  | .hbm, ⟨39, _⟩ => ⟨S_, .f32⟩
  | .hbm, ⟨40, _⟩ => ⟨S4x4096x16x128, .f32⟩
  | .hbm, ⟨41, _⟩ => ⟨S16x4x4096x128, .f32⟩
  | .hbm, ⟨42, _⟩ => ⟨S16x16384x128, .f32⟩
  | .hbm, ⟨43, _⟩ => ⟨S16x4x256x128, .f32⟩
  | .hbm, ⟨44, _⟩ => ⟨S16x1024x128, .f32⟩
  | .hbm, ⟨45, _⟩ => ⟨S16x17408x128, .f32⟩
  | .hbm, ⟨46, _⟩ => ⟨S16x17408x128, .f32⟩
  | .hbm, ⟨47, _⟩ => ⟨S16x17408x256, .f32⟩
  | .hbm, ⟨48, _⟩ => ⟨S16x17408x256, .bf16⟩
  | .hbm, ⟨49, _⟩ => ⟨S1024x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x128, .bf16⟩
  | .local _ .vmem, ⟨7, _⟩ => ⟨S256x128, .bf16⟩
  | _, _ => ⟨S4x256x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4x256x16x192 : Shape := ⟨4, ![4, 256, 16, 192]⟩
abbrev S4x256x16x128 : Shape := ⟨4, ![4, 256, 16, 128]⟩
abbrev S4x16x256x256 : Shape := ⟨4, ![4, 16, 256, 256]⟩
abbrev S_ : Shape := ⟨0, ![]⟩
abbrev S4x16x256 : Shape := ⟨3, ![4, 16, 256]⟩
abbrev S4x16x256x1 : Shape := ⟨4, ![4, 16, 256, 1]⟩
abbrev S4x16x128x256 : Shape := ⟨4, ![4, 16, 128, 256]⟩
abbrev S1024x2048 : Shape := ⟨2, ![1024, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x256x16x192, .f32⟩
  | .hbm, ⟨1, _⟩ => ⟨S4x256x16x192, .f32⟩
  | .hbm, ⟨2, _⟩ => ⟨S4x256x16x128, .f32⟩
  | .hbm, ⟨3, _⟩ => ⟨S4x16x256x256, .f32⟩
  | .hbm, ⟨4, _⟩ => ⟨S_, .f32⟩
  | .hbm, ⟨5, _⟩ => ⟨S_, .f32⟩
  | .hbm, ⟨6, _⟩ => ⟨S4x16x256x256, .f32⟩
  | .hbm, ⟨7, _⟩ => ⟨S4x16x256x256, .f32⟩
  | .hbm, ⟨8, _⟩ => ⟨S_, .f32⟩
  | .hbm, ⟨9, _⟩ => ⟨S4x16x256, .f32⟩
  | .hbm, ⟨10, _⟩ => ⟨S_, .f32⟩
  | .hbm, ⟨11, _⟩ => ⟨S4x16x256, .f32⟩
  | .hbm, ⟨12, _⟩ => ⟨S4x16x256, .f32⟩
  | .hbm, ⟨13, _⟩ => ⟨S4x16x256x1, .f32⟩
  | .hbm, ⟨14, _⟩ => ⟨S4x16x256x256, .f32⟩
  | .hbm, ⟨15, _⟩ => ⟨S4x16x256x256, .f32⟩
  | .hbm, ⟨16, _⟩ => ⟨S4x16x256x256, .f32⟩
  | .hbm, ⟨17, _⟩ => ⟨S_, .f32⟩
  | .hbm, ⟨18, _⟩ => ⟨S4x16x256, .f32⟩
  | .hbm, ⟨19, _⟩ => ⟨S4x16x256x1, .f32⟩
  | .hbm, ⟨20, _⟩ => ⟨S4x16x256x256, .f32⟩
  | .hbm, ⟨21, _⟩ => ⟨S4x16x256x256, .f32⟩
  | .hbm, ⟨22, _⟩ => ⟨S4x16x128x256, .f32⟩
  | .hbm, ⟨23, _⟩ => ⟨S4x256x16x128, .f32⟩
  | .hbm, ⟨24, _⟩ => ⟨S1024x2048, .f32⟩
  | .hbm, ⟨25, _⟩ => ⟨S1024x2048, .bf16⟩
  | _, _ => ⟨S4x256x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel10.lean ====
abbrev S4x4096x512 : Shape := ⟨3, ![4, 4096, 512]⟩
abbrev S4x256x512 : Shape := ⟨3, ![4, 256, 512]⟩
abbrev S512 : Shape := ⟨1, ![512]⟩
abbrev S512x3072 : Shape := ⟨2, ![512, 3072]⟩
abbrev S_ : Shape := ⟨0, ![]⟩
abbrev S17408x12288 : Shape := ⟨2, ![17408, 12288]⟩
abbrev S16384x512 : Shape := ⟨2, ![16384, 512]⟩
abbrev S1024x512 : Shape := ⟨2, ![1024, 512]⟩
abbrev S17408x512 : Shape := ⟨2, ![17408, 512]⟩
abbrev S17408x1024 : Shape := ⟨2, ![17408, 1024]⟩
abbrev S17408x13824 : Shape := ⟨2, ![17408, 13824]⟩
abbrev S512x16x192 : Shape := ⟨3, ![512, 16, 192]⟩
abbrev S512x16x64 : Shape := ⟨3, ![512, 16, 64]⟩
abbrev S512x16x128 : Shape := ⟨3, ![512, 16, 128]⟩
abbrev S512x16x16 : Shape := ⟨3, ![512, 16, 16]⟩
abbrev S512x16x256 : Shape := ⟨3, ![512, 16, 256]⟩
abbrev S16x512x256 : Shape := ⟨3, ![16, 512, 256]⟩
abbrev S64 : Shape := ⟨1, ![64]⟩
abbrev S64x64 : Shape := ⟨2, ![64, 64]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x128 : Shape := ⟨2, ![4096, 128]⟩
abbrev S1x4096x1x128 : Shape := ⟨4, ![1, 4096, 1, 128]⟩
abbrev S4x4096x1x128 : Shape := ⟨4, ![4, 4096, 1, 128]⟩
abbrev S16384x128 : Shape := ⟨2, ![16384, 128]⟩
abbrev S1024x64 : Shape := ⟨2, ![1024, 64]⟩
abbrev S1024x128 : Shape := ⟨2, ![1024, 128]⟩
abbrev S17408x128 : Shape := ⟨2, ![17408, 128]⟩
abbrev S1x512 : Shape := ⟨2, ![1, 512]⟩
abbrev S16x17408x256 : Shape := ⟨3, ![16, 17408, 256]⟩
abbrev S512x512 : Shape := ⟨2, ![512, 512]⟩
abbrev S512x128 : Shape := ⟨2, ![512, 128]⟩
abbrev S512x1 : Shape := ⟨2, ![512, 1]⟩
abbrev S1x512x256 : Shape := ⟨3, ![1, 512, 256]⟩
abbrev S512x256 : Shape := ⟨2, ![512, 256]⟩

abbrev nBuf : Space → Nat
  | .hbm => 69
  | .vmem => 8
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S512, .f32⟩
  | .hbm, ⟨3, _⟩ => ⟨S512x3072, .f32⟩
  | .hbm, ⟨4, _⟩ => ⟨S_, .f32⟩
  | .hbm, ⟨5, _⟩ => ⟨S17408x12288, .f32⟩
  | .hbm, ⟨6, _⟩ => ⟨S16384x512, .f32⟩
  | .hbm, ⟨7, _⟩ => ⟨S1024x512, .f32⟩
  | .hbm, ⟨8, _⟩ => ⟨S17408x512, .f32⟩
  | .hbm, ⟨9, _⟩ => ⟨S_, .f32⟩
  | .hbm, ⟨10, _⟩ => ⟨S17408x1024, .f32⟩
  | .hbm, ⟨11, _⟩ => ⟨S17408x13824, .f32⟩
  | .hbm, ⟨12, _⟩ => ⟨S512x16x192, .f32⟩
  | .hbm, ⟨13, _⟩ => ⟨S512x16x64, .f32⟩
  | .hbm, ⟨14, _⟩ => ⟨S512x16x128, .f32⟩
  | .hbm, ⟨15, _⟩ => ⟨S512x16x16, .f32⟩
  | .hbm, ⟨16, _⟩ => ⟨S512x16x16, .f32⟩
  | .hbm, ⟨17, _⟩ => ⟨S512x16x16, .f32⟩
  | .hbm, ⟨18, _⟩ => ⟨S512x16x16, .f32⟩
  | .hbm, ⟨19, _⟩ => ⟨S512x16x16, .f32⟩
  | .hbm, ⟨20, _⟩ => ⟨S512x16x16, .f32⟩
  | .hbm, ⟨21, _⟩ => ⟨S512x16x64, .f32⟩
  | .hbm, ⟨22, _⟩ => ⟨S512x16x256, .f32⟩
  | .hbm, ⟨23, _⟩ => ⟨S16x512x256, .f32⟩
  | .hbm, ⟨24, _⟩ => ⟨S16x512x256, .bf16⟩
  | .hbm, ⟨25, _⟩ => ⟨S64, .i32⟩
  | .hbm, ⟨26, _⟩ => ⟨S64, .i32⟩
  | .hbm, ⟨27, _⟩ => ⟨S64x64, .i32⟩
  | .hbm, ⟨28, _⟩ => ⟨S64x64, .i32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S4096, .i32⟩
  | .hbm, ⟨38, _⟩ => ⟨S4096x1, .i32⟩
  | .hbm, ⟨39, _⟩ => ⟨S4096x1, .f32⟩
  | .hbm, ⟨40, _⟩ => ⟨S1x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096, .i32⟩
  | .hbm, ⟨45, _⟩ => ⟨S4096x1, .i32⟩
  | .hbm, ⟨46, _⟩ => ⟨S4096x1, .f32⟩
  | .hbm, ⟨47, _⟩ => ⟨S1x16, .f32⟩
  | .hbm, ⟨48, _⟩ => ⟨S4096x16, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x64, .f32⟩
  | .hbm, ⟨54, _⟩ => ⟨S4096x16, .f32⟩
  | .hbm, ⟨55, _⟩ => ⟨S4096x16, .f32⟩
  | .hbm, ⟨56, _⟩ => ⟨S4096x64, .f32⟩
  | .hbm, ⟨57, _⟩ => ⟨S4096x128, .f32⟩
  | .hbm, ⟨58, _⟩ => ⟨S1x4096x1x128, .f32⟩
  | .hbm, ⟨59, _⟩ => ⟨S4x4096x1x128, .f32⟩
  | .hbm, ⟨60, _⟩ => ⟨S16384x128, .f32⟩
  | .hbm, ⟨61, _⟩ => ⟨S_, .f32⟩
  | .hbm, ⟨62, _⟩ => ⟨S1024x64, .f32⟩
  | .hbm, ⟨63, _⟩ => ⟨S_, .f32⟩
  | .hbm, ⟨64, _⟩ => ⟨S1024x64, .f32⟩
  | .hbm, ⟨65, _⟩ => ⟨S1024x128, .f32⟩
  | .hbm, ⟨66, _⟩ => ⟨S17408x128, .f32⟩
  | .hbm, ⟨67, _⟩ => ⟨S1x512, .f32⟩
  | .hbm, ⟨68, _⟩ => ⟨S16x17408x256, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x128, .f32⟩
  | .local _ .vmem, ⟨4, _⟩ => ⟨S512x128, .f32⟩
  | .local _ .vmem, ⟨5, _⟩ => ⟨S16x512x256, .bf16⟩
  | .local _ .vmem, ⟨6, _⟩ => ⟨S16x512x256, .bf16⟩
  | .local _ .vmem, ⟨7, _⟩ => ⟨S16x512x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4x4096x512 : Shape := ⟨3, ![4, 4096, 512]⟩
abbrev S4x256x512 : Shape := ⟨3, ![4, 256, 512]⟩
abbrev S512 : Shape := ⟨1, ![512]⟩
abbrev S512x3072 : Shape := ⟨2, ![512, 3072]⟩
abbrev S512x16x192 : Shape := ⟨3, ![512, 16, 192]⟩
abbrev S512x16x64 : Shape := ⟨3, ![512, 16, 64]⟩
abbrev S512x16x2x2x16 : Shape := ⟨5, ![512, 16, 2, 2, 16]⟩
abbrev S512x16x2x1x16 : Shape := ⟨5, ![512, 16, 2, 1, 16]⟩
abbrev S512x16x2x16 : Shape := ⟨4, ![512, 16, 2, 16]⟩
abbrev S64 : Shape := ⟨1, ![64]⟩
abbrev S64x64 : Shape := ⟨2, ![64, 64]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x2x1x16 : Shape := ⟨4, ![4096, 2, 1, 16]⟩
abbrev S4096x2x2x16 : Shape := ⟨4, ![4096, 2, 2, 16]⟩
abbrev S4096x1x64 : Shape := ⟨3, ![4096, 1, 64]⟩
abbrev S4x4096 : Shape := ⟨2, ![4, 4096]⟩
abbrev S4x4096x1 : Shape := ⟨3, ![4, 4096, 1]⟩
abbrev S1x1x512 : Shape := ⟨3, ![1, 1, 512]⟩
abbrev S4x4096x16x192 : Shape := ⟨4, ![4, 4096, 16, 192]⟩
abbrev S4x4096x16x64 : Shape := ⟨4, ![4, 4096, 16, 64]⟩
abbrev S1x4096x1x64 : Shape := ⟨4, ![1, 4096, 1, 64]⟩
abbrev S4x4096x16x128 : Shape := ⟨4, ![4, 4096, 16, 128]⟩
abbrev S16384x16x192 : Shape := ⟨3, ![16384, 16, 192]⟩
abbrev S4x256 : Shape := ⟨2, ![4, 256]⟩
abbrev S4x256x1 : Shape := ⟨3, ![4, 256, 1]⟩
abbrev S4x256x16x192 : Shape := ⟨4, ![4, 256, 16, 192]⟩
abbrev S1024x16x192 : Shape := ⟨3, ![1024, 16, 192]⟩
abbrev S17408x16x192 : Shape := ⟨3, ![17408, 16, 192]⟩
abbrev S16x17408x192 : Shape := ⟨3, ![16, 17408, 192]⟩
abbrev S16x17408x64 : Shape := ⟨3, ![16, 17408, 64]⟩
abbrev S16x17408x256 : Shape := ⟨3, ![16, 17408, 256]⟩

abbrev nBuf : Space → Nat
  | .hbm => 108
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x256x512, .f32⟩
  | .hbm, ⟨2, _⟩ => ⟨S512, .f32⟩
  | .hbm, ⟨3, _⟩ => ⟨S512x3072, .f32⟩
  | .hbm, ⟨4, _⟩ => ⟨S512x16x192, .f32⟩
  | .hbm, ⟨5, _⟩ => ⟨S512x16x64, .f32⟩
  | .hbm, ⟨6, _⟩ => ⟨S512x16x2x2x16, .f32⟩
  | .hbm, ⟨7, _⟩ => ⟨S512x16x2x1x16, .f32⟩
  | .hbm, ⟨8, _⟩ => ⟨S512x16x2x16, .f32⟩
  | .hbm, ⟨9, _⟩ => ⟨S512x16x2x16, .f32⟩
  | .hbm, ⟨10, _⟩ => ⟨S512x16x2x1x16, .f32⟩
  | .hbm, ⟨11, _⟩ => ⟨S512x16x2x16, .f32⟩
  | .hbm, ⟨12, _⟩ => ⟨S512x16x2x1x16, .f32⟩
  | .hbm, ⟨13, _⟩ => ⟨S512x16x2x1x16, .f32⟩
  | .hbm, ⟨14, _⟩ => ⟨S512x16x2x2x16, .f32⟩
  | .hbm, ⟨15, _⟩ => ⟨S512x16x64, .f32⟩
  | .hbm, ⟨16, _⟩ => ⟨S64, .i32⟩
  | .hbm, ⟨17, _⟩ => ⟨S64, .i32⟩
  | .hbm, ⟨18, _⟩ => ⟨S64x64, .i32⟩
  | .hbm, ⟨19, _⟩ => ⟨S64x64, .i32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S4096, .i32⟩
  | .hbm, ⟨29, _⟩ => ⟨S4096x1, .i32⟩
  | .hbm, ⟨30, _⟩ => ⟨S4096x1, .f32⟩
  | .hbm, ⟨31, _⟩ => ⟨S1x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096, .i32⟩
  | .hbm, ⟨36, _⟩ => ⟨S4096x1, .i32⟩
  | .hbm, ⟨37, _⟩ => ⟨S4096x1, .f32⟩
  | .hbm, ⟨38, _⟩ => ⟨S1x16, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x1x16, .f32⟩
  | .hbm, ⟨43, _⟩ => ⟨S4096x1x16, .f32⟩
  | .hbm, ⟨44, _⟩ => ⟨S4096x2x16, .f32⟩
  | .hbm, ⟨45, _⟩ => ⟨S4096x2x16, .f32⟩
  | .hbm, ⟨46, _⟩ => ⟨S4096x2x16, .f32⟩
  | .hbm, ⟨47, _⟩ => ⟨S4096x2x1x16, .f32⟩
  | .hbm, ⟨48, _⟩ => ⟨S4096x2x1x16, .f32⟩
  | .hbm, ⟨49, _⟩ => ⟨S4096x2x2x16, .f32⟩
  | .hbm, ⟨50, _⟩ => ⟨S4096x1x64, .f32⟩
  | .hbm, ⟨51, _⟩ => ⟨S4096x2x1x16, .f32⟩
  | .hbm, ⟨52, _⟩ => ⟨S4096x2x1x16, .f32⟩
  | .hbm, ⟨53, _⟩ => ⟨S4096x2x2x16, .f32⟩
  | .hbm, ⟨54, _⟩ => ⟨S4096x1x64, .f32⟩
  | .hbm, ⟨55, _⟩ => ⟨S4x4096x512, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x512, .f32⟩
  | .hbm, ⟨67, _⟩ => ⟨S4x4096x512, .f32⟩
  | .hbm, ⟨68, _⟩ => ⟨S1x1x512, .f32⟩
  | .hbm, ⟨69, _⟩ => ⟨S4x4096x512, .f32⟩
  | .hbm, ⟨70, _⟩ => ⟨S4x4096x512, .f32⟩
  | .hbm, ⟨71, _⟩ => ⟨S4x4096x16x192, .f32⟩
  | .hbm, ⟨72, _⟩ => ⟨S4x4096x16x64, .f32⟩
  | .hbm, ⟨73, _⟩ => ⟨S1x4096x1x64, .f32⟩
  | .hbm, ⟨74, _⟩ => ⟨S4x4096x16x64, .f32⟩
  | .hbm, ⟨75, _⟩ => ⟨S4x4096x16x64, .f32⟩
  | .hbm, ⟨76, _⟩ => ⟨S4x4096x16x64, .f32⟩
  | .hbm, ⟨77, _⟩ => ⟨S1x4096x1x64, .f32⟩
  | .hbm, ⟨78, _⟩ => ⟨S4x4096x16x64, .f32⟩
  | .hbm, ⟨79, _⟩ => ⟨S4x4096x16x64, .f32⟩
  | .hbm, ⟨80, _⟩ => ⟨S4x4096x16x64, .f32⟩
  | .hbm, ⟨81, _⟩ => ⟨S4x4096x16x128, .f32⟩
  | .hbm, ⟨82, _⟩ => ⟨S4x4096x16x192, .f32⟩
  | .hbm, ⟨83, _⟩ => ⟨S16384x16x192, .f32⟩
  | .hbm, ⟨84, _⟩ => ⟨S4x256x512, .f32⟩
  | .hbm, ⟨85, _⟩ => ⟨S_, .f32⟩
  | .hbm, ⟨86, _⟩ => ⟨S4x256, .f32⟩
  | .hbm, ⟨87, _⟩ => ⟨S4x256x1, .f32⟩
  | .hbm, ⟨88, _⟩ => ⟨S_, .f32⟩
  | .hbm, ⟨89, _⟩ => ⟨S4x256x1, .f32⟩
  | .hbm, ⟨90, _⟩ => ⟨S4x256x1, .f32⟩
  | .hbm, ⟨91, _⟩ => ⟨S_, .f32⟩
  | .hbm, ⟨92, _⟩ => ⟨S4x256x1, .f32⟩
  | .hbm, ⟨93, _⟩ => ⟨S4x256x1, .f32⟩
  | .hbm, ⟨94, _⟩ => ⟨S4x256x1, .f32⟩
  | .hbm, ⟨95, _⟩ => ⟨S4x256x512, .f32⟩
  | .hbm, ⟨96, _⟩ => ⟨S4x256x512, .f32⟩
  | .hbm, ⟨97, _⟩ => ⟨S1x1x512, .f32⟩
  | .hbm, ⟨98, _⟩ => ⟨S4x256x512, .f32⟩
  | .hbm, ⟨99, _⟩ => ⟨S4x256x512, .f32⟩
  | .hbm, ⟨100, _⟩ => ⟨S4x256x16x192, .f32⟩
  | .hbm, ⟨101, _⟩ => ⟨S1024x16x192, .f32⟩
  | .hbm, ⟨102, _⟩ => ⟨S17408x16x192, .f32⟩
  | .hbm, ⟨103, _⟩ => ⟨S16x17408x192, .f32⟩
  | .hbm, ⟨104, _⟩ => ⟨S_, .f32⟩
  | .hbm, ⟨105, _⟩ => ⟨S16x17408x64, .f32⟩
  | .hbm, ⟨106, _⟩ => ⟨S16x17408x256, .f32⟩
  | .hbm, ⟨107, _⟩ => ⟨S16x17408x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_1 : Ref sig .tc := ⟨.hbm, 56, rfl⟩
abbrev main_v50 : Ref sig .tc := ⟨.hbm, 57, rfl⟩
abbrev main_v51 : Ref sig .tc := ⟨.hbm, 58, rfl⟩
abbrev main_cst_2 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_4 : Ref sig .tc := ⟨.hbm, 85, rfl⟩
abbrev main_v76 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_cst_6 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩

abbrev nD : Nat := 1
abbrev τ : Topo := Topo.v7x

variable {F : FTy → Type} [FloatOps F]
-- ==== Kernel11.lean ====
abbrev S4x4096x1024 : Shape := ⟨3, ![4, 4096, 1024]⟩
abbrev S4x256x1024 : Shape := ⟨3, ![4, 256, 1024]⟩
abbrev S4x256x256 : Shape := ⟨3, ![4, 256, 256]⟩
abbrev S1024 : Shape := ⟨1, ![1024]⟩
abbrev S_ : Shape := ⟨0, ![]⟩
abbrev S17408x11264 : Shape := ⟨2, ![17408, 11264]⟩
abbrev S16384x1024 : Shape := ⟨2, ![16384, 1024]⟩
abbrev S1024x1024 : Shape := ⟨2, ![1024, 1024]⟩
abbrev S17408x1024 : Shape := ⟨2, ![17408, 1024]⟩
abbrev S17408x1536 : Shape := ⟨2, ![17408, 1536]⟩
abbrev S17408x13824 : Shape := ⟨2, ![17408, 13824]⟩
abbrev S1x1024 : Shape := ⟨2, ![1, 1024]⟩
abbrev S8x1024 : Shape := ⟨2, ![8, 1024]⟩
abbrev S256x1024 : Shape := ⟨2, ![256, 1024]⟩
abbrev S272x1024 : Shape := ⟨2, ![272, 1024]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x256x256, .f32⟩
  | .hbm, ⟨3, _⟩ => ⟨S1024, .f32⟩
  | .hbm, ⟨4, _⟩ => ⟨S_, .f32⟩
  | .hbm, ⟨5, _⟩ => ⟨S17408x11264, .f32⟩
  | .hbm, ⟨6, _⟩ => ⟨S16384x1024, .f32⟩
  | .hbm, ⟨7, _⟩ => ⟨S1024x1024, .f32⟩
  | .hbm, ⟨8, _⟩ => ⟨S17408x1024, .f32⟩
  | .hbm, ⟨9, _⟩ => ⟨S_, .f32⟩
  | .hbm, ⟨10, _⟩ => ⟨S17408x1536, .f32⟩
  | .hbm, ⟨11, _⟩ => ⟨S17408x13824, .f32⟩
  | .hbm, ⟨12, _⟩ => ⟨S4x256x256, .bf16⟩
  | .hbm, ⟨13, _⟩ => ⟨S1x1024, .f32⟩
  | .hbm, ⟨14, _⟩ => ⟨S1024x1024, .bf16⟩
  | .local _ .vmem, ⟨0, _⟩ => ⟨S8x1024, .f32⟩
  | .local _ .vmem, ⟨1, _⟩ => ⟨S8x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1024, .f32⟩
  | .local _ .vmem, ⟨6, _⟩ => ⟨S4x256x256, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S272x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c64_i32 : BitVec 32 := 64#32
  let v1 : BitVec 32 := Scalar.addi c64_i32 v0
  let v2 : BitVec 32 := Scalar.addi v1 arg1
  let c32_i32 : BitVec 32 := 32#32
  let v3 : BitVec 32 := Scalar.muli v2 c32_i32
  let c1_i32_0 : BitVec 32 := 1#32
  let v4 : BitVec 32 := Scalar.subi v3 c1_i32_0
  let c0_i32 : BitVec 32 := 0#32
  let v5 : BitVec 32 := Scalar.maxsi v4 c0_i32
  let c11_i32 : BitVec 32 := 11#32
  let c0_i32_1 : BitVec 32 := 0#32
  ![v5.toNat, c11_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c64_i32 : BitVec 32 := 64#32
  let v1 : BitVec 32 := Scalar.addi c64_i32 v0
  let v2 : BitVec 32 := Scalar.addi v1 arg1
  let c11_i32 : BitVec 32 := 11#32
  let c0_i32 : BitVec 32 := 0#32
  ![v2.toNat, c11_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c64_i32 : BitVec 32 := 64#32
  let v1 : BitVec 32 := Scalar.addi c64_i32 v0
  let v2 : BitVec 32 := Scalar.addi v1 arg1
  let c1_i32_0 : BitVec 32 := 1#32
  let v3 : BitVec 32 := Scalar.addi v2 c1_i32_0
  let c32_i32 : BitVec 32 := 32#32
  let v4 : BitVec 32 := Scalar.muli v3 c32_i32
  let c2175_i32 : BitVec 32 := 2175#32
  let v5 : BitVec 32 := Scalar.minsi v4 c2175_i32
  let c11_i32 : BitVec 32 := 11#32
  let c0_i32 : BitVec 32 := 0#32
  ![v5.toNat, c11_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4x4096x1024 : Shape := ⟨3, ![4, 4096, 1024]⟩
abbrev S4x256x1024 : Shape := ⟨3, ![4, 256, 1024]⟩
abbrev S4x256x256 : Shape := ⟨3, ![4, 256, 256]⟩
abbrev S1024 : Shape := ⟨1, ![1024]⟩
abbrev S256 : Shape := ⟨1, ![256]⟩
abbrev S_ : Shape := ⟨0, ![]⟩
abbrev S1x256 : Shape := ⟨2, ![1, 256]⟩
abbrev S256x1 : Shape := ⟨2, ![256, 1]⟩
abbrev S256x256 : Shape := ⟨2, ![256, 256]⟩
abbrev S1x256x1 : Shape := ⟨3, ![1, 256, 1]⟩
abbrev S4x256x1x256 : Shape := ⟨4, ![4, 256, 1, 256]⟩
abbrev S4x256x4x256 : Shape := ⟨4, ![4, 256, 4, 256]⟩
abbrev S1024x1024 : Shape := ⟨2, ![1024, 1024]⟩
abbrev S1x1024 : Shape := ⟨2, ![1, 1024]⟩

abbrev nBuf : Space → Nat
  | .hbm => 149
  | .vmem => 0
  | .smem => 0
  | _ => 0

abbrev hbmTy0_0 (i : Nat) : BufTy := match i % 128 with
  | 0 => ⟨S4x4096x1024, .f32⟩
  | 1 => ⟨S4x256x1024, .f32⟩
  | 2 => ⟨S4x256x256, .f32⟩
  | 3 => ⟨S1024, .f32⟩
  | 4 => ⟨S256, .i32⟩
  | 5 => ⟨S_, .i32⟩
  | 6 => ⟨S256, .i32⟩
  | 7 => ⟨S256, .i32⟩
  | 8 => ⟨S_, .i32⟩
  | 9 => ⟨S256, .i32⟩
  | 10 => ⟨S256, .i32⟩
  | 11 => ⟨S_, .i32⟩
  | 12 => ⟨S256, .i32⟩
  | 13 => ⟨S256, .i32⟩
  | 14 => ⟨S_, .i32⟩
  | 15 => ⟨S256, .i32⟩
  | 16 => ⟨S256, .i32⟩
  | 17 => ⟨S1x256, .i32⟩
  | 18 => ⟨S256x1, .i32⟩
  | 19 => ⟨S256x256, .i32⟩
  | 20 => ⟨S256x256, .i32⟩
  | 21 => ⟨S256x256, .i1⟩
  | 22 => ⟨S1x256, .i32⟩
  | 23 => ⟨S256x1, .i32⟩
  | 24 => ⟨S256x256, .i32⟩
  | 25 => ⟨S256x256, .i32⟩
  | 26 => ⟨S256x256, .i1⟩
  | 27 => ⟨S256x256, .i1⟩
  | 28 => ⟨S256x256, .f32⟩
  | 29 => ⟨S4x256x256, .f32⟩
  | 30 => ⟨S4x256x256, .f32⟩
  | 31 => ⟨S4x256x256, .f32⟩
  | 32 => ⟨S256, .i32⟩
  | 33 => ⟨S256, .f32⟩
  | 34 => ⟨S1x256x1, .f32⟩
  | 35 => ⟨S4x256x256, .f32⟩
  | 36 => ⟨S4x256x256, .f32⟩
  | 37 => ⟨S4x256x256, .f32⟩
  | 38 => ⟨S_, .i32⟩
  | 39 => ⟨S256, .i32⟩
  | 40 => ⟨S256, .i32⟩
  | 41 => ⟨S_, .i32⟩
  | 42 => ⟨S256, .i32⟩
  | 43 => ⟨S256, .i32⟩
  | 44 => ⟨S_, .i32⟩
  | 45 => ⟨S256, .i32⟩
  | 46 => ⟨S256, .i32⟩
  | 47 => ⟨S_, .i32⟩
  | 48 => ⟨S256, .i32⟩
  | 49 => ⟨S256, .i32⟩
  | 50 => ⟨S1x256, .i32⟩
  | 51 => ⟨S256x1, .i32⟩
  | 52 => ⟨S256x256, .i32⟩
  | 53 => ⟨S256x256, .i32⟩
  | 54 => ⟨S256x256, .i1⟩
  | 55 => ⟨S1x256, .i32⟩
  | 56 => ⟨S256x1, .i32⟩
  | 57 => ⟨S256x256, .i32⟩
  | 58 => ⟨S256x256, .i32⟩
  | 59 => ⟨S256x256, .i1⟩
  | 60 => ⟨S256x256, .i1⟩
  | 61 => ⟨S256x256, .f32⟩
  | 62 => ⟨S4x256x256, .f32⟩
  | 63 => ⟨S4x256x256, .f32⟩
  | 64 => ⟨S4x256x256, .f32⟩
  | 65 => ⟨S256, .i32⟩
  | 66 => ⟨S256, .f32⟩
  | 67 => ⟨S1x256x1, .f32⟩
  | 68 => ⟨S4x256x256, .f32⟩
  | 69 => ⟨S4x256x256, .f32⟩
  | 70 => ⟨S4x256x256, .f32⟩
  | 71 => ⟨S_, .i32⟩
  | 72 => ⟨S256, .i32⟩
  | 73 => ⟨S256, .i32⟩
  | 74 => ⟨S_, .i32⟩
  | 75 => ⟨S256, .i32⟩
  | 76 => ⟨S256, .i32⟩
  | 77 => ⟨S_, .i32⟩
  | 78 => ⟨S256, .i32⟩
  | 79 => ⟨S256, .i32⟩
  | 80 => ⟨S_, .i32⟩
  | 81 => ⟨S256, .i32⟩
  | 82 => ⟨S256, .i32⟩
  | 83 => ⟨S1x256, .i32⟩
  | 84 => ⟨S256x1, .i32⟩
  | 85 => ⟨S256x256, .i32⟩
  | 86 => ⟨S256x256, .i32⟩
  | 87 => ⟨S256x256, .i1⟩
  | 88 => ⟨S1x256, .i32⟩
  | 89 => ⟨S256x1, .i32⟩
  | 90 => ⟨S256x256, .i32⟩
  | 91 => ⟨S256x256, .i32⟩
  | 92 => ⟨S256x256, .i1⟩
  | 93 => ⟨S256x256, .i1⟩
  | 94 => ⟨S256x256, .f32⟩
  | 95 => ⟨S4x256x256, .f32⟩
  | 96 => ⟨S4x256x256, .f32⟩
  | 97 => ⟨S4x256x256, .f32⟩
  | 98 => ⟨S256, .i32⟩
  | 99 => ⟨S256, .f32⟩
  | 100 => ⟨S1x256x1, .f32⟩
  | 101 => ⟨S4x256x256, .f32⟩
  | 102 => ⟨S4x256x256, .f32⟩
  | 103 => ⟨S4x256x256, .f32⟩
  | 104 => ⟨S_, .i32⟩
  | 105 => ⟨S256, .i32⟩
  | 106 => ⟨S256, .i32⟩
  | 107 => ⟨S_, .i32⟩
  | 108 => ⟨S256, .i32⟩
  | 109 => ⟨S256, .i32⟩
  | 110 => ⟨S_, .i32⟩
  | 111 => ⟨S256, .i32⟩
  | 112 => ⟨S256, .i32⟩
  | 113 => ⟨S_, .i32⟩
  | 114 => ⟨S256, .i32⟩
  | 115 => ⟨S256, .i32⟩
  | 116 => ⟨S1x256, .i32⟩
  | 117 => ⟨S256x1, .i32⟩
  | 118 => ⟨S256x256, .i32⟩
  | 119 => ⟨S256x256, .i32⟩
  | 120 => ⟨S256x256, .i1⟩
  | 121 => ⟨S1x256, .i32⟩
  | 122 => ⟨S256x1, .i32⟩
  | 123 => ⟨S256x256, .i32⟩
  | 124 => ⟨S256x256, .i32⟩
  | 125 => ⟨S256x256, .i1⟩
  | 126 => ⟨S256x256, .i1⟩
  | 127 => ⟨S256x256, .f32⟩
  | _ => ⟨S4x4096x1024, .f32⟩

abbrev hbmTy0_1 (i : Nat) : BufTy := match i % 128 with
  | 0 => ⟨S4x256x256, .f32⟩
  | 1 => ⟨S4x256x256, .f32⟩
  | 2 => ⟨S4x256x256, .f32⟩
  | 3 => ⟨S256, .i32⟩
  | 4 => ⟨S256, .f32⟩
  | 5 => ⟨S1x256x1, .f32⟩
  | 6 => ⟨S4x256x256, .f32⟩
  | 7 => ⟨S4x256x256, .f32⟩
  | 8 => ⟨S4x256x256, .f32⟩
  | 9 => ⟨S4x256x1x256, .f32⟩
  | 10 => ⟨S4x256x1x256, .f32⟩
  | 11 => ⟨S4x256x1x256, .f32⟩
  | 12 => ⟨S4x256x1x256, .f32⟩
  | 13 => ⟨S4x256x4x256, .f32⟩
  | 14 => ⟨S4x256x4x256, .f32⟩
  | 15 => ⟨S4x256x4x256, .f32⟩
  | 16 => ⟨S1024x1024, .f32⟩
  | 17 => ⟨S1x1024, .f32⟩
  | 18 => ⟨S1024x1024, .f32⟩
  | 19 => ⟨S1024x1024, .f32⟩
  | 20 => ⟨S1024x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_7 : Ref sig .tc := ⟨.hbm, 71, rfl⟩
abbrev main_v59 : Ref sig .tc := ⟨.hbm, 72, rfl⟩
abbrev main_v60 : Ref sig .tc := ⟨.hbm, 73, rfl⟩
abbrev main_c_8 : Ref sig .tc := ⟨.hbm, 74, rfl⟩
abbrev main_v61 : Ref sig .tc := ⟨.hbm, 75, rfl⟩
abbrev main_v62 : Ref sig .tc := ⟨.hbm, 76, rfl⟩
abbrev main_c_9 : Ref sig .tc := ⟨.hbm, 77, rfl⟩
abbrev main_v63 : Ref sig .tc := ⟨.hbm, 78, rfl⟩
abbrev main_v64 : Ref sig .tc := ⟨.hbm, 79, rfl⟩
abbrev main_c_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_c_11 : Ref sig .tc := ⟨.hbm, 104, rfl⟩
abbrev main_v88 : Ref sig .tc := ⟨.hbm, 105, rfl⟩
abbrev main_v89 : Ref sig .tc := ⟨.hbm, 106, rfl⟩
abbrev main_c_12 : Ref sig .tc := ⟨.hbm, 107, rfl⟩
abbrev main_v90 : Ref sig .tc := ⟨.hbm, 108, rfl⟩
abbrev main_v91 : Ref sig .tc := ⟨.hbm, 109, rfl⟩
abbrev main_c_13 : Ref sig .tc := ⟨.hbm, 110, rfl⟩
abbrev main_v92 : Ref sig .tc := ⟨.hbm, 111, rfl⟩
abbrev main_v93 : Ref sig .tc := ⟨.hbm, 112, rfl⟩
abbrev main_c_14 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩

abbrev nD : Nat := 1
abbrev τ : Topo := Topo.v7x

variable {F : FTy → Type} [FloatOps F]
-- ==== Proof.Attn.Math.lean ====
/- The softmax identity over the extended reals: weights taken as powers of two of scaled finite scores, accumulated with the values and
   divided by their total at the end, are the normalised exponential weights times the values, whatever the values are. -/
module
public import Idealize.ShloMosaic.Lib.Pointwise
@[expose] public section
noncomputable section
namespace Cert.Attn
open Idealize.ShloMosaic

theorem coe_sum' {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor that is not negative goes inside a sum. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, EReal.right_distrib_of_nonneg_of_ne_top (by exact_mod_cast hc) (EReal.coe_ne_top c), ih]

/-- A sum of products of reals is real. -/
theorem sum_mul_coe {n : ℕ} (x y : Fin n → EReal) (x' y' : Fin n → ℝ) (hx : ∀ i, x i = x' i) (hy : ∀ i, y i = y' i) :
    ∑ i, x i * y i = ((∑ i, x' i * y' i : ℝ) : EReal) := by
  rw [coe_sum']
  exact Finset.sum_congr rfl fun i _ => by rw [hx, hy, EReal.coe_mul]

theorem sup_coe {ι : Type*} [Fintype ι] (a : ι → ℝ) (k : ι) (h : ∀ i, a i ≤ a k) :
    (Finset.univ.sup fun i => (a i : EReal)) = (a k : EReal) :=
  le_antisymm (Finset.sup_le fun i _ => by exact_mod_cast h i) (Finset.le_sup (f := fun i => (a i : EReal)) (Finset.mem_univ k))

theorem softmax {ι : Type*} [Fintype ι] [Nonempty ι] (a b : ι → ℝ) (v : ι → EReal) (hab : ∀ i, b i = Real.log 2 * a i) :
    Ideal.div (∑ i, Ideal.exp2 ((a i : EReal) - Finset.univ.sup fun i => (a i : EReal)) * v i)
        (∑ i, Ideal.exp2 ((a i : EReal) - Finset.univ.sup fun i => (a i : EReal)) * 1)
      = ∑ i, v i * Ideal.div (Ideal.exp ((b i : EReal) - Finset.univ.sup fun i => (b i : EReal)))
          (∑ j, Ideal.exp ((b j : EReal) - Finset.univ.sup fun i => (b i : EReal))) := by
  obtain ⟨k, -, hk⟩ := Finset.exists_max_image Finset.univ a Finset.univ_nonempty
  have l2 : 0 < Real.log 2 := Real.log_pos (by norm_num)
  rw [sup_coe a k fun i => hk i (Finset.mem_univ i), sup_coe b k fun i => by
    rw [hab, hab]; exact mul_le_mul_of_nonneg_left (hk i (Finset.mem_univ i)) l2.le]
  have e1 : ∀ i, Ideal.exp2 ((a i : EReal) - (a k : EReal)) = ((Real.exp (b i - b k) : ℝ) : EReal) := fun i => by
    rw [← EReal.coe_sub, Ideal.exp2_coe]
    congr 1
    show (2 : ℝ) ^ (a i - a k) = _
    rw [Real.rpow_def_of_pos (by norm_num), hab, hab, mul_sub]
  have e2 : ∀ i, Ideal.exp ((b i : EReal) - (b k : EReal)) = ((Real.exp (b i - b k) : ℝ) : EReal) := fun i => by
    rw [← EReal.coe_sub, Ideal.exp_coe]
  simp only [e1, e2, mul_one]
  have pos : 0 < ∑ i, Real.exp (b i - b k) := Finset.sum_pos (fun i _ => Real.exp_pos _) Finset.univ_nonempty
  rw [← coe_sum', Ideal.div_coe pos.ne', sum_mul_real _ _ _ (by positivity)]
  refine Finset.sum_congr rfl fun i _ => ?_
  rw [Ideal.div_coe pos.ne', mul_comm (_ : EReal) (v i), mul_assoc]

/-- Keys are counted context first, then the latent keys: a sum over all of them in the order of the chunks. -/
theorem sum_keys (f : Fin 256 → EReal) (g : Fin 4096 → EReal) (z : Fin 4352 → EReal) (hf : ∀ i : Fin 256, z ⟨i, by omega⟩ = f i)
    (hg : ∀ i : Fin 4096, z ⟨256 + i, by omega⟩ = g i) : ∑ i, z i = ∑ i, f i + ∑ i, g i := by
  rw [← Fin.sum_congr' z (show 256 + 4096 = 4352 from rfl), Fin.sum_univ_add]
  exact congrArg₂ (· + ·) (Finset.sum_congr rfl fun i _ => hf i) (Finset.sum_congr rfl fun i _ => hg i)

theorem sum_chunks (x : EReal) (g : Fin 4096 → EReal) (h : Fin 8 → Fin 512 → EReal) (e : ∀ (j : Fin 8) (l : Fin 512), g ⟨512 * j + l, by omega⟩ = h j l) :
    x + ∑ i, g i = x + ∑ l, h 0 l + ∑ l, h 1 l + ∑ l, h 2 l + ∑ l, h 3 l + ∑ l, h 4 l + ∑ l, h 5 l + ∑ l, h 6 l + ∑ l, h 7 l := by
  rw [Fin.sum_univ_tiles 8 512 rfl g]
  have : ∀ j : Fin 8, ∑ l : Fin 512, g ⟨j.val * 512 + l.val, by omega⟩ = ∑ l, h j l := fun j =>
    Finset.sum_congr rfl fun l _ => by rw [← e]; congr 2; omega
  simp only [this, Fin.sum_univ_eight, add_assoc]

/-- The largest score over all keys, in the order of the chunks. -/
theorem sup_keys (f : Fin 256 → EReal) (h : Fin 8 → Fin 512 → EReal) (z : Fin 4352 → EReal) (hf : ∀ i : Fin 256, z ⟨i, by omega⟩ = f i)
    (hg : ∀ (j : Fin 8) (l : Fin 512), z ⟨256 + (512 * j + l), by omega⟩ = h j l) :
    Finset.univ.sup z = max (max (max (max (max (max (max (max (Finset.univ.sup f) (Finset.univ.sup (h 0))) (Finset.univ.sup (h 1)))
      (Finset.univ.sup (h 2))) (Finset.univ.sup (h 3))) (Finset.univ.sup (h 4))) (Finset.univ.sup (h 5))) (Finset.univ.sup (h 6))) (Finset.univ.sup (h 7)) := by
  have key : ∀ B : EReal, Finset.univ.sup z ≤ B ↔ (Finset.univ.sup f ≤ B ∧ ∀ j : Fin 8, Finset.univ.sup (h j) ≤ B) := fun B => by
    simp only [Finset.sup_le_iff, Finset.mem_univ, forall_true_left]
    constructor
    · exact fun H => ⟨fun i => hf i ▸ H _, fun j l => hg j l ▸ H _⟩
    · rintro ⟨H1, H2⟩ i
      by_cases hi : i.val < 256
      · exact (hf ⟨i, hi⟩).trans_le (H1 _)
      · have := hg ⟨(i - 256) / 512, by omega⟩ ⟨(i - 256) % 512, by omega⟩
        have e : (⟨256 + (512 * ((i.val - 256) / 512) + (i.val - 256) % 512), by omega⟩ : Fin 4352) = i := Fin.ext (by simp; omega)
        rw [← e]
        exact this.trans_le (H2 _ _)
  refine eq_of_forall_ge_iff fun B => (key B).trans ?_
  simp only [max_le_iff, Fin.forall_fin_succ, Fin.forall_fin_zero_pi, and_assoc]
  simp
end Cert.Attn
end
-- ==== Proof.Attn.Host.lean ====
/- The arrays the kernel's windows stage, as terms of the arguments and read at an index. -/
module
public import proofs.«01_k».proof.Proof.Gen.KernelIdeal.Value
public import Idealize.ShloMosaic.Lib.Pipeline.ValueKit
public import Idealize.ShloMosaic.Lib.Pointwise
public import Idealize.ShloMosaic.Lib.Claim
@[expose] public section
set_option maxRecDepth 200000
noncomputable section
namespace Cert.Attn
open Cert.KernelIdeal Cert.KernelIdeal.Gen Idealize.ShloMosaic Idealize.ShloMosaic.TcCoe Idealize.SL.Sem
open Idealize.ShloMosaic.Pipeline (Dat)

/-- The factor on the queries. -/
def fac : EReal := Ideal.div 1 (Ideal.sqrt (Ideal.ofBits .f32 0x43400000#32) * Ideal.log (Ideal.ofBits .f32 0x40000000#32))

/-- Keys (or scaled queries) in the call's layout: the latent rows of all batches, then the context rows, 64 zero lanes appended. -/
def kPack (l : FVec Ideal S4x4096x16x192 .f32) (x : FVec Ideal S4x256x16x192 .f32) : FVec Ideal S16x17408x256 .bf16 :=
  truncf .bf16
      (concatenate S16x17408x256 2
        [⟨S16x17408x192,
            concatenate S16x17408x192 1
              [⟨S16x16384x192, shapeCast S16x16384x192 (transpose S16x4x4096x192 [2, 0, 1, 3] l transposes_S4x4096x16x192_S16x4x4096x192_2_0_1_3)
                      shapeCasts_S16x4x4096x192_S16x16384x192⟩,
                ⟨S16x1024x192, shapeCast S16x1024x192 (transpose S16x4x256x192 [2, 0, 1, 3] x transposes_S4x256x16x192_S16x4x256x192_2_0_1_3)
                      shapeCasts_S16x4x256x192_S16x1024x192⟩]
              concatenates_S16x16384x192_S16x1024x192_S16x17408x192_d1⟩,
          ⟨S16x17408x64, broadcastInDim S16x17408x64 ![] bcast_S_S16x17408x64 (constant S_ FTy.f32 0#32)⟩]
        concatenates_S16x17408x192_S16x17408x64_S16x17408x256_d2)
      bitsLt_bf16_f32

/-- The scaled queries. -/
def qScale (q : FVec Ideal S4x4096x16x192 .f32) : FVec Ideal S4x4096x16x192 .f32 :=
  mulf q (broadcastInDim S4x4096x16x192 ![] bcast_S_S4x4096x16x192
    (Host.divf (constant S_ FTy.f32 1065353216#32) (mulf (Host.sqrt (constant S_ FTy.f32 1128267776#32)) (Host.log (constant S_ FTy.f32 1073741824#32)))))

/-- Values in the call's layout, a column of ones and 127 zero lanes appended. -/
def vPack (l : FVec Ideal S4x4096x16x128 .f32) (x : FVec Ideal S4x256x16x128 .f32) : FVec Ideal S16x17408x256 .bf16 :=
  truncf .bf16
      (concatenate S16x17408x256 2
        [⟨S16x17408x128,
            concatenate S16x17408x128 1
              [⟨S16x16384x128, shapeCast S16x16384x128 (transpose S16x4x4096x128 [2, 0, 1, 3] l transposes_S4x4096x16x128_S16x4x4096x128_2_0_1_3)
                      shapeCasts_S16x4x4096x128_S16x16384x128⟩,
                ⟨S16x1024x128, shapeCast S16x1024x128 (transpose S16x4x256x128 [2, 0, 1, 3] x transposes_S4x256x16x128_S16x4x256x128_2_0_1_3)
                      shapeCasts_S16x4x256x128_S16x1024x128⟩]
              concatenates_S16x16384x128_S16x1024x128_S16x17408x128_d1⟩,
          ⟨S16x17408x128, select (cmpi .eq (iotaInDim S16x17408x128 32 2) (broadcastInDim S16x17408x128 ![] bcast_S_S16x17408x128 (constantI S_ 32 0#32)))
              (broadcastInDim S16x17408x128 ![] bcast_S_S16x17408x128 (constant (F := Ideal) S_ FTy.f32 1065353216#32))
              (broadcastInDim S16x17408x128 ![] bcast_S_S16x17408x128 (constant (F := Ideal) S_ FTy.f32 0#32))⟩]
        concatenates_S16x17408x128_S16x17408x128_S16x17408x256_d2)
      bitsLt_bf16_f32

theorem kPack_at (l : FVec Ideal S4x4096x16x192 .f32) (x : FVec Ideal S4x256x16x192 .f32) (h : Fin 16) (r : Fin 17408) (d : Fin 256) :
    kPack l x (ix3 h r d) = if hd : d.val < 192 then
      if hr : r.val < 16384 then l (ix4 ⟨r / 4096, by omega⟩ ⟨r % 4096, by omega⟩ h ⟨d, hd⟩)
      else x (ix4 ⟨(r - 16384) / 256, by omega⟩ ⟨(r - 16384) % 256, by omega⟩ h ⟨d, hd⟩) else 0 := by
  pointwise [kPack]

theorem kPack_lat (l : FVec Ideal S4x4096x16x192 .f32) (x : FVec Ideal S4x256x16x192 .f32) (h : Fin 16) (b : Fin 4) (i : Fin 4096) (d : Fin 256) :
    kPack l x (ix3 h ⟨4096 * b + i, by omega⟩ d) = if hd : d.val < 192 then l (ix4 b i h ⟨d, hd⟩) else 0 := by
  rw [kPack_at]
  have hr : 4096 * b.val + i.val < 16384 := by omega
  have e1 : (⟨(4096 * b.val + i.val) / 4096, by omega⟩ : Fin 4) = b := Fin.ext (by simp <;> omega)
  have e2 : (⟨(4096 * b.val + i.val) % 4096, by omega⟩ : Fin 4096) = i := Fin.ext (by simp <;> omega)
  simp only [hr, dif_pos, e1, e2]

theorem kPack_ctx (l : FVec Ideal S4x4096x16x192 .f32) (x : FVec Ideal S4x256x16x192 .f32) (h : Fin 16) (b : Fin 4) (i : Fin 256) (d : Fin 256) :
    kPack l x (ix3 h ⟨16384 + (256 * b + i), by omega⟩ d) = if hd : d.val < 192 then x (ix4 b i h ⟨d, hd⟩) else 0 := by
  rw [kPack_at]
  have hr : ¬ 16384 + (256 * b.val + i.val) < 16384 := by omega
  have e1 : (⟨(16384 + (256 * b.val + i.val) - 16384) / 256, by omega⟩ : Fin 4) = b := Fin.ext (by simp <;> omega)
  have e2 : (⟨(16384 + (256 * b.val + i.val) - 16384) % 256, by omega⟩ : Fin 256) = i := Fin.ext (by simp <;> omega)
  simp only [hr, dif_neg, not_false_eq_true, e1, e2]

theorem qScale_at (q : FVec Ideal S4x4096x16x192 .f32) (b : Fin 4) (i : Fin 4096) (h : Fin 16) (d : Fin 192) :
    qScale q (ix4 b i h d) = q (ix4 b i h d) * fac := by
  pointwise [qScale, fac]
theorem vPack_at (l : FVec Ideal S4x4096x16x128 .f32) (x : FVec Ideal S4x256x16x128 .f32) (h : Fin 16) (r : Fin 17408) (d : Fin 256) :
    vPack l x (ix3 h r d) = if hd : d.val < 128 then
      if hr : r.val < 16384 then l (ix4 ⟨r / 4096, by omega⟩ ⟨r % 4096, by omega⟩ h ⟨d, hd⟩)
      else x (ix4 ⟨(r - 16384) / 256, by omega⟩ ⟨(r - 16384) % 256, by omega⟩ h ⟨d, hd⟩) else Scalar.select (IntOp.cmpi .eq (BitVec.ofNat 32 (d.val - 128)) 0#32) (1 : EReal) 0 := by
  pointwise [vPack]

theorem vPack_lat (l : FVec Ideal S4x4096x16x128 .f32) (x : FVec Ideal S4x256x16x128 .f32) (h : Fin 16) (b : Fin 4) (i : Fin 4096) (d : Fin 256) :
    vPack l x (ix3 h ⟨4096 * b + i, by omega⟩ d) = if hd : d.val < 128 then l (ix4 b i h ⟨d, hd⟩) else Scalar.select (IntOp.cmpi .eq (BitVec.ofNat 32 (d.val - 128)) 0#32) (1 : EReal) 0 := by
  rw [vPack_at]
  have hr : 4096 * b.val + i.val < 16384 := by omega
  have e1 : (⟨(4096 * b.val + i.val) / 4096, by omega⟩ : Fin 4) = b := Fin.ext (by simp <;> omega)
  have e2 : (⟨(4096 * b.val + i.val) % 4096, by omega⟩ : Fin 4096) = i := Fin.ext (by simp <;> omega)
  simp only [hr, dif_pos, e1, e2]

theorem vPack_ctx (l : FVec Ideal S4x4096x16x128 .f32) (x : FVec Ideal S4x256x16x128 .f32) (h : Fin 16) (b : Fin 4) (i : Fin 256) (d : Fin 256) :
    vPack l x (ix3 h ⟨16384 + (256 * b + i), by omega⟩ d) = if hd : d.val < 128 then x (ix4 b i h ⟨d, hd⟩) else Scalar.select (IntOp.cmpi .eq (BitVec.ofNat 32 (d.val - 128)) 0#32) (1 : EReal) 0 := by
  rw [vPack_at]
  have hr : ¬ 16384 + (256 * b.val + i.val) < 16384 := by omega
  have e1 : (⟨(16384 + (256 * b.val + i.val) - 16384) / 256, by omega⟩ : Fin 4) = b := Fin.ext (by simp <;> omega)
  have e2 : (⟨(16384 + (256 * b.val + i.val) - 16384) % 256, by omega⟩ : Fin 256) = i := Fin.ext (by simp <;> omega)
  simp only [hr, dif_neg, not_false_eq_true, e1, e2]

variable (m : (ℓ : Loc nD τ sig) → Buf (Elt Ideal) ℓ)

theorem V_q (c : Dev nD) : V m c main_v18 = kPack (qScale (m ((c : Thread nD τ).loc main_arg0))) (broadcastInDim S4x256x16x192 ![] bcast_S_S4x256x16x192 (constant S_ FTy.f32 0#32)) := by
  unfold V
  simp only [List.flatten_cons, List.flatten_nil, List.append_nil, List.cons_append, List.nil_append, hostOps0, hostOps0_1, hostOps0_2]
  after_results
  rfl
theorem V_k (c : Dev nD) : V m c main_v25 = kPack (m ((c : Thread nD τ).loc main_arg1)) (m ((c : Thread nD τ).loc main_arg2)) := by
  unfold V
  simp only [List.flatten_cons, List.flatten_nil, List.append_nil, List.cons_append, List.nil_append, hostOps0, hostOps0_1, hostOps0_2]
  after_results
  rfl
theorem V_v (c : Dev nD) : V m c main_v33 = vPack (m ((c : Thread nD τ).loc main_arg3)) (m ((c : Thread nD τ).loc main_arg4)) := by
  unfold V
  simp only [List.flatten_cons, List.flatten_nil, List.append_nil, List.cons_append, List.nil_append, hostOps0, hostOps0_1, hostOps0_2]
  after_results
  rfl
end Cert.Attn
end
-- ==== Proof.Attn.Row.lean ====
/- One query row: the padded, scaled scores under the powers of two against the plain softmax of the reference. -/
module
public import proofs.«01_k».proof.Proof.Attn.Math
public import proofs.«01_k».proof.Proof.Attn.Host
@[expose] public section
noncomputable section
namespace Cert.Attn
open Idealize.ShloMosaic

theorem fac_eq : fac = ((1 / (Real.sqrt 192 * Real.log 2) : ℝ) : EReal) := by
  have l2 : 0 < Real.log 2 := Real.log_pos (by norm_num)
  have s : 0 < Real.sqrt 192 := Real.sqrt_pos.2 (by norm_num)
  have e1 : Ideal.ofBits .f32 0x43400000#32 = ((192 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  rw [fac, e1, e2, Ideal.sqrt_coe, Ideal.log_coe, if_neg (by norm_num), if_neg (by norm_num), ← EReal.coe_mul, Ideal.div_coe (by positivity), one_mul]

theorem root_eq : Ideal.sqrt (Ideal.ofBits .f32 0x43400000#32) = ((Real.sqrt 192 : ℝ) : EReal) := by
  have e1 : Ideal.ofBits .f32 0x43400000#32 = ((192 : ℝ) : EReal) := by
    simp [Ideal.ofBits, Ideal.ieee, -EReal.coe_mul]; norm_num
  rw [e1, Ideal.sqrt_coe, if_neg (by norm_num)]

/-- The padding lanes add nothing to a product of a query with a key. -/
theorem padded (x y : Fin 192 → EReal) :
    ∑ d : Fin 256, (if h : d.val < 192 then x ⟨d, h⟩ else 0) * (if h : d.val < 192 then y ⟨d, h⟩ else 0) = ∑ d, x d * y d := by
  rw [← Fin.sum_congr' _ (show 192 + 64 = 256 from rfl), Fin.sum_univ_add]
  rw [Finset.sum_eq_zero (s := Finset.univ (α := Fin 64)), add_zero]
  · exact Finset.sum_congr rfl fun d _ => by simp
  · intro d _; simp

theorem row (q : Fin 192 → EReal) (k : Fin 4352 → Fin 192 → EReal) (hq : ∀ d, ∃ a : ℝ, q d = a) (hk : ∀ n d, ∃ a : ℝ, k n d = a)
    (v : Fin 4352 → EReal) (A B : Fin 4352 → EReal) (hA : ∀ n, A n = ∑ d, (q d * fac) * k n d)
    (hB : ∀ n, B n = Ideal.div (∑ d, q d * k n d) (Ideal.sqrt (Ideal.ofBits .f32 0x43400000#32))) :
    Ideal.div (∑ n, Ideal.exp2 (A n - Finset.univ.sup A) * v n) (∑ n, Ideal.exp2 (A n - Finset.univ.sup A) * 1)
      = ∑ n, v n * Ideal.div (Ideal.exp (B n - Finset.univ.sup B)) (∑ j, Ideal.exp (B j - Finset.univ.sup B)) := by
  choose q' hq' using hq
  choose k' hk' using hk
  have l2 : 0 < Real.log 2 := Real.log_pos (by norm_num)
  have s : 0 < Real.sqrt 192 := Real.sqrt_pos.2 (by norm_num)
  obtain rfl : A = fun n => ((∑ d, (q' d * (1 / (Real.sqrt 192 * Real.log 2))) * k' n d : ℝ) : EReal) := by
    funext n
    rw [hA, sum_mul_coe _ _ (fun d => q' d * (1 / (Real.sqrt 192 * Real.log 2))) (k' n) (fun d => by rw [hq', fac_eq, EReal.coe_mul]) (hk' n)]
  obtain rfl : B = fun n => (((∑ d, q' d * k' n d) * (1 / Real.sqrt 192) : ℝ) : EReal) := by
    funext n
    rw [hB, sum_mul_coe _ _ q' (k' n) hq' (hk' n), root_eq, Ideal.div_coe s.ne', EReal.coe_mul]
  refine softmax _ _ v fun n => ?_
  rw [Finset.sum_mul, Finset.mul_sum]
  refine Finset.sum_congr rfl fun d _ => ?_
  field_simp
end Cert.Attn
end
-- ==== Proof.Attn.Ref.lean ====
/- The reference's result as a term of its arguments, and that term read at an index. -/
module
public import proofs.«01_k».proof.Proof.Gen.ReferenceIdeal.Run
public import Idealize.ShloMosaic.Lib.Pointwise
@[expose] public section
set_option maxRecDepth 16384
noncomputable section
namespace Cert.Attn.Ref
open Cert.ReferenceIdeal Cert.ReferenceIdeal.Gen Idealize.ShloMosaic Idealize.ShloMosaic.TcCoe Idealize.SL.Sem

/-- The scores: queries times all keys, over the root of the key width. -/
def scores (q kl : FVec Ideal S4x4096x16x192 .f32) (kc : FVec Ideal S4x256x16x192 .f32) : FVec Ideal S4x16x4096x4352 .f32 :=
  Host.divf (Host.dotGeneral dot_S4x4096x16x192_S4x4352x16x192_S4x16x4096x4352_3_3_1_1_02_02 none q (concatenate S4x4352x16x192 1 [⟨S4x256x16x192, kc⟩, ⟨S4x4096x16x192, kl⟩] concatenates_S4x256x16x192_S4x4096x16x192_S4x4352x16x192_d1)) (broadcastInDim S4x16x4096x4352 ![] bcast_S_S4x16x4096x4352 (Host.sqrt (constant S_ .f32 0x43400000#32)))

/-- Each row's maximum. -/
def top (s : FVec Ideal S4x16x4096x4352 .f32) : FVec Ideal S4x16x4096 .f32 :=
  Host.reduce FloatOps.maximumf s (constant S_ .f32 0xFF800000#32) reducesTo_S4x16x4096x4352_S4x16x4096_d3 h_S_

/-- The exponentials of scores relative to a number for each row. -/
def expAt (s : FVec Ideal S4x16x4096x4352 .f32) (t : FVec Ideal S4x16x4096 .f32) : FVec Ideal S4x16x4096x4352 .f32 :=
  Host.exp (subf s (broadcastInDim S4x16x4096x4352 ![0, 1, 2, 3] bcast_S4x16x4096x1_S4x16x4096x4352_0_1_2_3 (broadcastInDim S4x16x4096x1 ![0, 1, 2] bcast_S4x16x4096_S4x16x4096x1_0_1_2 (maximumf (broadcastInDim S4x16x4096 ![] bcast_S_S4x16x4096 (constant S_ .f32 0xFF800000#32)) t))))

/-- The weights before they are normalised. -/
def weights (s : FVec Ideal S4x16x4096x4352 .f32) : FVec Ideal S4x16x4096x4352 .f32 := expAt s (top s)

/-- The result. -/
def result (q kl : FVec Ideal S4x4096x16x192 .f32) (kc : FVec Ideal S4x256x16x192 .f32) (vl : FVec Ideal S4x4096x16x128 .f32)
    (vc : FVec Ideal S4x256x16x128 .f32) : FVec Ideal S16384x2048 .bf16 :=
  truncf .bf16 (shapeCast S16384x2048 (transpose S4x4096x16x128 [0, 3, 1, 2] (Host.dotGeneral dot_S4x4352x16x128_S4x16x4096x4352_S4x16x128x4096_1_3_3_2_02_01 none (concatenate S4x4352x16x128 1 [⟨S4x256x16x128, vc⟩, ⟨S4x4096x16x128, vl⟩] concatenates_S4x256x16x128_S4x4096x16x128_S4x4352x16x128_d1) (Host.divf (weights (scores q kl kc)) (broadcastInDim S4x16x4096x4352 ![0, 1, 2, 3] bcast_S4x16x4096x1_S4x16x4096x4352_0_1_2_3 (broadcastInDim S4x16x4096x1 ![0, 1, 2] bcast_S4x16x4096_S4x16x4096x1_0_1_2 (Host.reduceAdd (weights (scores q kl kc)) (constant S_ .f32 0x00000000#32) reducesTo_S4x16x4096x4352_S4x16x4096_d3 h_S_))))) transposes_S4x16x128x4096_S4x4096x16x128_0_3_1_2) shapeCasts_S4x4096x16x128_S16384x2048) bitsLt_bf16_f32

theorem fold_maximumf {n : Nat} (z : EReal) (f : Fin n → EReal) :
    Finset.univ.fold (FloatOps.maximumf (F := Ideal) (φ := .f32)) z f = Finset.univ.fold max z f := rfl

theorem ninf : Ideal.ofBits .f32 0xFF800000#32 = ⊥ := by simp [Ideal.ofBits, Ideal.ieee]

theorem top_at (s : FVec Ideal S4x16x4096x4352 .f32) (b : Fin 4) (h : Fin 16) (i : Fin 4096) :
    top s (ix3 b h i) = Finset.univ.sup fun k : Fin 4352 => s (ix4 b h i k) := by
  unfold top
  rw [Host.reduce_eq_fold, Shape.ReducesTo.fold_fiber_r4_a3, fold_maximumf]
  show Finset.univ.fold max (Ideal.ofBits .f32 0xFF800000#32) _ = Finset.univ.fold max ⊥ _
  rw [ninf]
  rfl

theorem expAt_at (s : FVec Ideal S4x16x4096x4352 .f32) (t : FVec Ideal S4x16x4096 .f32) (b : Fin 4) (h : Fin 16) (i : Fin 4096) (k : Fin 4352) :
    expAt s t (ix4 b h i k) = Ideal.exp (s (ix4 b h i k) - t (ix3 b h i)) := by
  pointwise [expAt]
  rw [ninf, max_eq_right bot_le]

theorem scores_at (q kl : FVec Ideal S4x4096x16x192 .f32) (kc : FVec Ideal S4x256x16x192 .f32) (b : Fin 4) (h : Fin 16) (i : Fin 4096) (k : Fin 4352) :
    scores q kl kc (ix4 b h i k) = Ideal.div (∑ x : Fin 192, q (ix4 b i h x) * if hk : k.val < 256 then kc (ix4 b ⟨k, hk⟩ h x) else kl (ix4 b ⟨k - 256, by omega⟩ h x))
      (Ideal.sqrt (Ideal.ofBits FTy.f32 0x43400000#32)) := by
  pointwise [scores]

theorem weights_at (s : FVec Ideal S4x16x4096x4352 .f32) (b : Fin 4) (h : Fin 16) (i : Fin 4096) (k : Fin 4352) :
    weights s (ix4 b h i k) = Ideal.exp (s (ix4 b h i k) - Finset.univ.sup fun k : Fin 4352 => s (ix4 b h i k)) := by
  rw [weights, expAt_at, top_at]

/-- The scores of one query against all keys, context first. -/
def sc (q kl : FVec Ideal S4x4096x16x192 .f32) (kc : FVec Ideal S4x256x16x192 .f32) (b : Fin 4) (h : Fin 16) (i : Fin 4096) (k : Fin 4352) : EReal :=
  Ideal.div (∑ x : Fin 192, q (ix4 b i h x) * if hk : k.val < 256 then kc (ix4 b ⟨k, hk⟩ h x) else kl (ix4 b ⟨k - 256, by omega⟩ h x))
    (Ideal.sqrt (Ideal.ofBits FTy.f32 0x43400000#32))

/-- The weight of key `k`. -/
def wt (q kl : FVec Ideal S4x4096x16x192 .f32) (kc : FVec Ideal S4x256x16x192 .f32) (b : Fin 4) (h : Fin 16) (i : Fin 4096) (k : Fin 4352) : EReal :=
  Ideal.div (Ideal.exp (sc q kl kc b h i k - Finset.univ.sup (sc q kl kc b h i)))
    (∑ j, Ideal.exp (sc q kl kc b h i j - Finset.univ.sup (sc q kl kc b h i)))

theorem w_at (q kl : FVec Ideal S4x4096x16x192 .f32) (kc : FVec Ideal S4x256x16x192 .f32) (b : Fin 4) (h : Fin 16) (i : Fin 4096) (k : Fin 4352) :
    weights (scores q kl kc) (ix4 b h i k) = Ideal.exp (sc q kl kc b h i k - Finset.univ.sup (sc q kl kc b h i)) := by
  rw [weights_at]
  simp only [scores_at]
  rfl

theorem result_at (q kl : FVec Ideal S4x4096x16x192 .f32) (kc : FVec Ideal S4x256x16x192 .f32) (vl : FVec Ideal S4x4096x16x128 .f32)
    (vc : FVec Ideal S4x256x16x128 .f32) (r : Fin 16384) (l : Fin 2048) :
    result q kl kc vl vc (ix2 r l) =
      (∑ k : Fin 256, vc (ix4 ⟨r / 4096, by omega⟩ k ⟨l / 128, by omega⟩ ⟨l % 128, by omega⟩) *
        wt q kl kc ⟨r / 4096, by omega⟩ ⟨l / 128, by omega⟩ ⟨r % 4096, by omega⟩ ⟨k, by omega⟩) +
      ∑ k : Fin 4096, vl (ix4 ⟨r / 4096, by omega⟩ k ⟨l / 128, by omega⟩ ⟨l % 128, by omega⟩) *
        wt q kl kc ⟨r / 4096, by omega⟩ ⟨l / 128, by omega⟩ ⟨r % 4096, by omega⟩ ⟨256 + k, by omega⟩ := by
  pointwise [result]
  simp only [w_at]
  rfl
end Cert.Attn.Ref
end
-- ==== Proof.Attn.Blocks.lean ====
/- The blocks a grid point stages, read at coordinates of the packed arrays. Point `t` is batch `t / 32`, head `t / 2 % 16`, and query half `t % 2`. -/
module
public import proofs.«01_k».proof.Proof.Gen.KernelIdeal.Value
public import Idealize.ShloMosaic.Lib.Pipeline.ValueKit
public import Idealize.ShloMosaic.Lib.Pointwise
@[expose] public section
set_option maxRecDepth 16384
noncomputable section
namespace Cert.Attn
open Cert.KernelIdeal Cert.KernelIdeal.Gen Idealize.ShloMosaic Idealize.ShloMosaic.TcCoe Idealize.SL.Sem
open Idealize.ShloMosaic.Pipeline (Dat)

theorem idx : ∀ t : Fin cfg0.N, win0_0.index t = ![t.val / 2 % 16, t.val / 32 * 2 + t.val % 2, 0] ∧ win0_1.index t = ![t.val / 2 % 16, t.val / 32, 0]
    ∧ win0_2.index t = ![t.val / 2 % 16, 64 + t.val / 32, 0] ∧ win0_3.index t = ![t.val / 2 % 16, t.val / 32, 0]
    ∧ win0_4.index t = ![t.val / 2 % 16, 64 + t.val / 32, 0] ∧ win0_5.index t = ![t.val / 32 * 2 + t.val % 2, t.val / 2 % 16] :=
  (by decide +kernel : ∀ t : Fin grid0.N, _)

variable (m : (ℓ : Loc nD τ sig) → Buf (Elt Ideal) ℓ)

def pb (t : Fin cfg0.N) : Fin 4 := ⟨t.val / 32, by have : t.val < 128 := t.isLt; omega⟩
def ph (t : Fin cfg0.N) : Fin 16 := ⟨t.val / 2 % 16, by omega⟩
def pi (t : Fin cfg0.N) : Fin 2 := ⟨t.val % 2, by omega⟩

theorem blk_q (c : Dev nD) (t : Fin cfg0.N) (i : Fin 2048) (d : Fin 256) :
    X0_0 m c t (ix3 0 i d : S1x2048x256.Idx) = V m c main_v18 (ix3 (ph t) ⟨4096 * (pb t).val + (2048 * (pi t).val + i.val), by omega⟩ d) := by
  unfold X0_0 Pipeline.Window.fill
  rw [dif_pos (moved0_0 t _)]
  blk_ext [iblk, idx t, pb, ph, pi]

theorem blk_k (c : Dev nD) (t : Fin cfg0.N) (i : Fin 4096) (d : Fin 256) :
    X0_1 m c t (ix3 0 i d : S1x4096x256.Idx) = V m c main_v25 (ix3 (ph t) ⟨4096 * (pb t).val + i.val, by omega⟩ d) := by
  unfold X0_1 Pipeline.Window.fill
  rw [dif_pos (moved0_1 t _)]
  blk_ext [iblk, idx t, pb, ph, pi]

theorem blk_v (c : Dev nD) (t : Fin cfg0.N) (i : Fin 4096) (d : Fin 256) :
    X0_3 m c t (ix3 0 i d : S1x4096x256.Idx) = V m c main_v33 (ix3 (ph t) ⟨4096 * (pb t).val + i.val, by omega⟩ d) := by
  unfold X0_3 Pipeline.Window.fill
  rw [dif_pos (moved0_3 t _)]
  blk_ext [iblk, idx t, pb, ph, pi]

theorem blk_kc (c : Dev nD) (t : Fin cfg0.N) (i : Fin 256) (d : Fin 256) :
    iblk m c 2 t (ix3 0 i d : S1x256x256.Idx) = V m c main_v25 (ix3 (ph t) ⟨16384 + (256 * (pb t).val + i.val), by omega⟩ d) := by
  blk_ext [iblk, idx t, pb, ph, pi]

theorem blk_vc (c : Dev nD) (t : Fin cfg0.N) (i : Fin 256) (d : Fin 256) :
    iblk m c 4 t (ix3 0 i d : S1x256x256.Idx) = V m c main_v33 (ix3 (ph t) ⟨16384 + (256 * (pb t).val + i.val), by omega⟩ d) := by
  blk_ext [iblk, idx t, pb, ph, pi]
end Cert.Attn
end
-- ==== Proof.Attn.Sub.lean ====
/- One sub-block of 256 query rows of the attention kernel as ONE vector term of its operands: the scores against the context keys
   and the eight chunks of latent keys, their running maximum, the weighted values accumulated chunk by chunk, and the quotient by
   the row's total weight. And that term read at an index. -/
module
public import proofs.«01_k».proof.Proof.Gen.KernelIdeal.Skeleton
public import Idealize.ShloMosaic.Lib.Pointwise
@[expose] public section
set_option maxRecDepth 16384
noncomputable section
namespace Cert.Attn
open Cert.KernelIdeal Cert.KernelIdeal.Gen Idealize.ShloMosaic Idealize.ShloMosaic.TcCoe Idealize.SL.Sem

/-- The scores of 256 query rows against a chunk of 512 latent keys. -/
def scL (q : Vec Ideal S1x256x256 .bf16) (k : Vec Ideal S1x512x256 .bf16) : FVec Ideal S256x512 .f32 :=
  matmul (F := Ideal) (φ₁ := .bf16) (φ₂ := .bf16) dot_S256x256_S512x256_S256x512_1_1_0_0_n_n none (shapeCast S256x256 q shapeCasts_S1x256x256_S256x256)
    (shapeCast S512x256 k shapeCasts_S1x512x256_S512x256) (constant S256x512 .f32 0x00000000#32)

/-- The scores against the 256 context keys. -/
def scC (q : Vec Ideal S1x256x256 .bf16) (k : Vec Ideal S1x256x256 .bf16) : FVec Ideal S256x256 .f32 :=
  matmul (F := Ideal) (φ₁ := .bf16) (φ₂ := .bf16) dot_S256x256_S256x256_S256x256_1_1_0_0_n_n none (shapeCast S256x256 q shapeCasts_S1x256x256_S256x256)
    (shapeCast S256x256 k shapeCasts_S1x256x256_S256x256) (constant S256x256 .f32 0x00000000#32)

/-- The maximum of each row of a chunk's scores. -/
def rowMax (s : FVec Ideal S256x512 .f32) : FVec Ideal S256x1 .f32 :=
  shapeCast S256x1 (multiReduction (F := Ideal) (φ := .f32) .maximumf [1] S256 s 0xFF800000#32 reduces_S256x512_S256 (.inl rfl) rfl) shapeCasts_S256_S256x1

/-- A chunk's weighted values, the weights taken relative to the maximum `mx`. -/
def part (mx : FVec Ideal S256x1 .f32) (s : FVec Ideal S256x512 .f32) (v : Vec Ideal S1x512x256 .bf16) : FVec Ideal S256x256 .f32 :=
  matmul (F := Ideal) (φ₁ := .bf16) (φ₂ := .bf16) dot_S256x512_S512x256_S256x256_1_0_0_1_n_n none
    (exp2 (truncf .bf16 (subf (shapeCast S256x512 s shapeCasts_S256x512_S256x512) (broadcastTo S256x512 mx broadcasts_S256x1_S256x512)) bitsLt_bf16_f32))
    (shapeCast S512x256 v shapeCasts_S1x512x256_S512x256) (constant S256x256 .f32 0x00000000#32)

/-- The context's weighted values. -/
def partC (mx : FVec Ideal S256x1 .f32) (s : FVec Ideal S256x256 .f32) (v : Vec Ideal S1x256x256 .bf16) : FVec Ideal S256x256 .f32 :=
  matmul (F := Ideal) (φ₁ := .bf16) (φ₂ := .bf16) dot_S256x256_S256x256_S256x256_1_0_0_1_n_n none
    (truncf .bf16 (exp2 (subf s (broadcastTo S256x256 mx broadcasts_S256x1_S256x256))) bitsLt_bf16_f32)
    (shapeCast S256x256 v shapeCasts_S1x256x256_S256x256) (constant S256x256 .f32 0x00000000#32)

/-- The running maximum after the context and all eight chunks. -/
def total (q kc : Vec Ideal S1x256x256 .bf16) (k0 k1 k2 k3 k4 k5 k6 k7 : Vec Ideal S1x512x256 .bf16) : FVec Ideal S256x1 .f32 :=
  maximumf (maximumf (maximumf (maximumf (maximumf (maximumf (maximumf (maximumf
    (shapeCast S256x1 (multiReduction (F := Ideal) (φ := .f32) .maximumf [1] S256 (scC q kc) 0xFF800000#32 reduces_S256x256_S256 (.inl rfl) rfl) shapeCasts_S256_S256x1)
    (rowMax (scL q k0))) (rowMax (scL q k1))) (rowMax (scL q k2))) (rowMax (scL q k3)))
    (rowMax (scL q k4))) (rowMax (scL q k5))) (rowMax (scL q k6))) (rowMax (scL q k7))

/-- The values accumulated over the context and the chunks, relative to `mx`. -/
def acc (mx : FVec Ideal S256x1 .f32) (q kc vc : Vec Ideal S1x256x256 .bf16)
    (k0 k1 k2 k3 k4 k5 k6 k7 v0 v1 v2 v3 v4 v5 v6 v7 : Vec Ideal S1x512x256 .bf16) : FVec Ideal S256x256 .f32 :=
  addf (addf (addf (addf (addf (addf (addf (addf (partC mx (scC q kc) vc)
    (part mx (scL q k0) v0)) (part mx (scL q k1) v1)) (part mx (scL q k2) v2)) (part mx (scL q k3) v3))
    (part mx (scL q k4) v4)) (part mx (scL q k5) v5)) (part mx (scL q k6) v6)) (part mx (scL q k7) v7)

/-- The first 128 columns divided by column 128. -/
def quot (o : FVec Ideal S256x256 .f32) : FVec Ideal S256x128 .bf16 :=
  truncf .bf16 (divf (extractStridedSlice S256x128 ![0, 0] o slices_S256x256_o0_0_S256x128)
    (broadcastTo S256x128 (extractStridedSlice S256x1 ![0, 128] o slices_S256x256_o0_128_S256x1) broadcasts_S256x1_S256x128)) bitsLt_bf16_f32

/-- The whole sub-block. -/
def sub (q kc vc : Vec Ideal S1x256x256 .bf16)
    (k0 k1 k2 k3 k4 k5 k6 k7 v0 v1 v2 v3 v4 v5 v6 v7 : Vec Ideal S1x512x256 .bf16) : FVec Ideal S256x128 .bf16 :=
  quot (acc (total q kc k0 k1 k2 k3 k4 k5 k6 k7) q kc vc k0 k1 k2 k3 k4 k5 k6 k7 v0 v1 v2 v3 v4 v5 v6 v7)

theorem ofBits_ninf : Ideal.ofBits .f32 0xFF800000#32 = ⊥ := by
  simp [Ideal.ofBits, Ideal.ieee]

theorem scL_at (q : Vec Ideal S1x256x256 .bf16) (k : Vec Ideal S1x512x256 .bf16) (r : Fin 256) (l : Fin 512) :
    scL q k (ix2 r l) = ∑ d : Fin 256, q (ix3 0 r d) * k (ix3 0 l d) := by
  pointwise [scL]
theorem scC_at (q k : Vec Ideal S1x256x256 .bf16) (r l : Fin 256) :
    scC q k (ix2 r l) = ∑ d : Fin 256, q (ix3 0 r d) * k (ix3 0 l d) := by
  pointwise [scC]
theorem rowMax_at (s : FVec Ideal S256x512 .f32) (r : Fin 256) :
    rowMax s (ix2 r 0) = Finset.univ.fold max (⊥ : EReal) fun l : Fin 512 => s (ix2 r l) := by
  pointwise [rowMax]
  rw [ofBits_ninf]
theorem part_at (mx : FVec Ideal S256x1 .f32) (s : FVec Ideal S256x512 .f32) (v : Vec Ideal S1x512x256 .bf16) (r d : Fin 256) :
    part mx s v (ix2 r d) = ∑ l : Fin 512, Ideal.exp2 (s (ix2 r l) - mx (ix2 r 0)) * v (ix3 0 l d) := by
  pointwise [part]
  rfl
theorem partC_at (mx : FVec Ideal S256x1 .f32) (s : FVec Ideal S256x256 .f32) (v : Vec Ideal S1x256x256 .bf16) (r d : Fin 256) :
    partC mx s v (ix2 r d) = ∑ l : Fin 256, Ideal.exp2 (s (ix2 r l) - mx (ix2 r 0)) * v (ix3 0 l d) := by
  pointwise [partC]
  rfl
theorem quot_at (o : FVec Ideal S256x256 .f32) (r : Fin 256) (l : Fin 128) :
    quot o (ix2 r l) = Ideal.div (o (ix2 r ⟨l, by omega⟩)) (o (ix2 r 128)) := by
  pointwise [quot]
end Cert.Attn
end
-- ==== Proof.Attn.Point.lean ====
/- What a grid point leaves in its output block: eight sub-blocks, each the term of Sub.lean over the point's staged blocks, and those terms
   as one softmax-weighted sum over all keys. -/
module
public import proofs.«01_k».proof.Proof.Attn.Sub
public import proofs.«01_k».proof.Proof.Attn.Math
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
namespace Cert.Attn
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- Query rows `256 r` to `256 r + 255` of a point's block. -/
def qb (X : Vec Ideal S1x2048x256 .bf16) (r : Fin 8) : Vec Ideal S1x256x256 .bf16 :=
  View.ld X (Rect.unit ![0, 256 * r.val, 0] ![1, 256, 256] (by intro a; fin_cases a <;> simp <;> omega))
/-- Chunk `j` of a point's latent keys, or of its latent values. -/
def kb (X : Vec Ideal S1x4096x256 .bf16) (j : Fin 8) : Vec Ideal S1x512x256 .bf16 :=
  View.ld X (Rect.unit ![0, 512 * j.val, 0] ![1, 512, 256] (by intro a; fin_cases a <;> simp <;> omega))

/-- A point's sub-block `r`. -/
def subAt (Q : Vec Ideal S1x2048x256 .bf16) (K V : Vec Ideal S1x4096x256 .bf16) (kc vc : Vec Ideal S1x256x256 .bf16) (r : Fin 8) :
    FVec Ideal S256x128 .bf16 :=
  sub (qb Q r) kc vc (kb K 0) (kb K 1) (kb K 2) (kb K 3) (kb K 4) (kb K 5) (kb K 6) (kb K 7)
    (kb V 0) (kb V 1) (kb V 2) (kb V 3) (kb V 4) (kb V 5) (kb V 6) (kb V 7)

theorem out_eq (c : Dev nD) (t : Fin cfg0.N) (y : S2048x128.Idx) (r : Fin 8) (x : S256x128.Idx)
   (hr : (y 0).val = 256 * r.val + (x 0).val) (h1 : (y 1).val = (x 1).val) :
   outsAt0 m c t y = subAt (X0_0 m c t) (X0_1 m c t) (X0_3 m c t) (iblk m c 2 t) (iblk m c 4 t) r x := by
  unfold outsAt0
  frame_open
  simp (disch := decide) only [↓ View.readCov_skip, ↓ View.readCov_cons_toLoadRect, ↓ View.readCov_fill]
  frame_out
  canon_tiles z h
  case piece0 =>
    obtain rfl : r = 7 := by
      have := (x 0).isLt; have := (z 0).isLt; apply Fin.ext; simp at *; omega
    obtain rfl : z = x := by
      funext a; fin_cases a <;> apply Fin.ext <;> simp at * <;> omega
    rfl
  case piece1 =>
    obtain rfl : r = 6 := by
      have := (x 0).isLt; have := (z 0).isLt; apply Fin.ext; simp at *; omega
    obtain rfl : z = x := by
      funext a; fin_cases a <;> apply Fin.ext <;> simp at * <;> omega
    rfl
  case piece2 =>
    obtain rfl : r = 5 := by
      have := (x 0).isLt; have := (z 0).isLt; apply Fin.ext; simp at *; omega
    obtain rfl : z = x := by
      funext a; fin_cases a <;> apply Fin.ext <;> simp at * <;> omega
    rfl
  case piece3 =>
    obtain rfl : r = 4 := by
      have := (x 0).isLt; have := (z 0).isLt; apply Fin.ext; simp at *; omega
    obtain rfl : z = x := by
      funext a; fin_cases a <;> apply Fin.ext <;> simp at * <;> omega
    rfl
  case piece4 =>
    obtain rfl : r = 3 := by
      have := (x 0).isLt; have := (z 0).isLt; apply Fin.ext; simp at *; omega
    obtain rfl : z = x := by
      funext a; fin_cases a <;> apply Fin.ext <;> simp at * <;> omega
    rfl
  case piece5 =>
    obtain rfl : r = 2 := by
      have := (x 0).isLt; have := (z 0).isLt; apply Fin.ext; simp at *; omega
    obtain rfl : z = x := by
      funext a; fin_cases a <;> apply Fin.ext <;> simp at * <;> omega
    rfl
  case piece6 =>
    obtain rfl : r = 1 := by
      have := (x 0).isLt; have := (z 0).isLt; apply Fin.ext; simp at *; omega
    obtain rfl : z = x := by
      funext a; fin_cases a <;> apply Fin.ext <;> simp at * <;> omega
    rfl
  case piece7 =>
    obtain rfl : r = 0 := by
      have := (x 0).isLt; have := (z 0).isLt; apply Fin.ext; simp at *; omega
    obtain rfl : z = x := by
      funext a; fin_cases a <;> apply Fin.ext <;> simp at * <;> omega
    rfl

theorem qb_at (X : Vec Ideal S1x2048x256 .bf16) (r : Fin 8) (i d : Fin 256) : qb X r (ix3 0 i d) = X (ix3 0 ⟨256 * r.val + i.val, by omega⟩ d) := by
  pointwise [qb]
theorem kb_at (X : Vec Ideal S1x4096x256 .bf16) (j : Fin 8) (l : Fin 512) (d : Fin 256) : kb X j (ix3 0 l d) = X (ix3 0 ⟨512 * j.val + l.val, by omega⟩ d) := by
  pointwise [kb]

theorem acc_at (mx : FVec Ideal S256x1 .f32) (q kc vc : Vec Ideal S1x256x256 .bf16)
    (k0 k1 k2 k3 k4 k5 k6 k7 v0 v1 v2 v3 v4 v5 v6 v7 : Vec Ideal S1x512x256 .bf16) (j : S256x256.Idx) :
    acc mx q kc vc k0 k1 k2 k3 k4 k5 k6 k7 v0 v1 v2 v3 v4 v5 v6 v7 j = partC mx (scC q kc) vc j
    + part mx (scL q k0) v0 j + part mx (scL q k1) v1 j + part mx (scL q k2) v2 j + part mx (scL q k3) v3 j
    + part mx (scL q k4) v4 j + part mx (scL q k5) v5 j + part mx (scL q k6) v6 j + part mx (scL q k7) v7 j := by
  pointwise [acc]

theorem total_at (q kc : Vec Ideal S1x256x256 .bf16) (k0 k1 k2 k3 k4 k5 k6 k7 : Vec Ideal S1x512x256 .bf16) (i : Fin 256) :
    total q kc k0 k1 k2 k3 k4 k5 k6 k7 (ix2 i 0) =
      max (max (max (max (max (max (max (max (Finset.univ.sup fun l : Fin 256 => (scC q kc (ix2 i l) : EReal)) (rowMax (scL q k0) (ix2 i 0)))
      (rowMax (scL q k1) (ix2 i 0))) (rowMax (scL q k2) (ix2 i 0))) (rowMax (scL q k3) (ix2 i 0)))
      (rowMax (scL q k4) (ix2 i 0))) (rowMax (scL q k5) (ix2 i 0))) (rowMax (scL q k6) (ix2 i 0))) (rowMax (scL q k7) (ix2 i 0)) := by
  pointwise [total]
  rw [ofBits_ninf]
  rfl

theorem rowMax_sup (s : FVec Ideal S256x512 .f32) (r : Fin 256) :
    rowMax s (ix2 r 0) = Finset.univ.sup fun l : Fin 512 => (s (ix2 r l) : EReal) := rowMax_at s r

/-- One row of a sub-block, column `d`: the exponentials of all scores relative to their maximum, times that column of the values. -/
theorem sub_sum (Q : Vec Ideal S1x2048x256 .bf16) (K V : Vec Ideal S1x4096x256 .bf16) (kc vc : Vec Ideal S1x256x256 .bf16) (r : Fin 8) (i : Fin 256)
    (A : Fin 4352 → EReal)
    (hAc : ∀ l : Fin 256, ∑ d : Fin 256, Q (ix3 0 ⟨256 * r.val + i.val, by omega⟩ d) * kc (ix3 0 l d) = A ⟨l, by omega⟩)
    (hAl : ∀ l : Fin 4096, ∑ d : Fin 256, Q (ix3 0 ⟨256 * r.val + i.val, by omega⟩ d) * K (ix3 0 l d) = A ⟨256 + l, by omega⟩)
    (W : Fin 256 → Fin 4352 → EReal)
    (hWc : ∀ d (l : Fin 256), vc (ix3 0 l d) = W d ⟨l, by omega⟩) (hWl : ∀ d (l : Fin 4096), V (ix3 0 l d) = W d ⟨256 + l, by omega⟩) (x : Fin 128) :
    subAt Q K V kc vc r (ix2 i x) = Ideal.div (∑ k, Ideal.exp2 (A k - Finset.univ.sup A) * W ⟨x, by omega⟩ k) (∑ k, Ideal.exp2 (A k - Finset.univ.sup A) * W 128 k) := by
  have sC : ∀ l : Fin 256, scC (qb Q r) kc (ix2 i l) = A ⟨l, by omega⟩ := fun l => by
    rw [scC_at, ← hAc]; simp only [qb_at]
  have sL : ∀ (j : Fin 8) (l : Fin 512), scL (qb Q r) (kb K j) (ix2 i l) = A ⟨256 + (512 * j.val + l.val), by omega⟩ := fun j l => by
    rw [scL_at, ← hAl ⟨512 * j.val + l.val, by omega⟩]; simp only [qb_at, kb_at]
  have hM : total (qb Q r) kc (kb K 0) (kb K 1) (kb K 2) (kb K 3) (kb K 4) (kb K 5) (kb K 6) (kb K 7) (ix2 i 0) = Finset.univ.sup A := by
    rw [sup_keys (fun l => A ⟨l, by omega⟩) (fun j l => A ⟨256 + (512 * j.val + l.val), by omega⟩) A (fun _ => rfl) (fun _ _ => rfl), total_at]
    simp only [rowMax_sup, sC, sL]
  have main : ∀ d : Fin 256, acc (total (qb Q r) kc (kb K 0) (kb K 1) (kb K 2) (kb K 3) (kb K 4) (kb K 5) (kb K 6) (kb K 7)) (qb Q r) kc vc
      (kb K 0) (kb K 1) (kb K 2) (kb K 3) (kb K 4) (kb K 5) (kb K 6) (kb K 7) (kb V 0) (kb V 1) (kb V 2) (kb V 3) (kb V 4) (kb V 5) (kb V 6) (kb V 7) (ix2 i d)
      = ∑ k, Ideal.exp2 (A k - Finset.univ.sup A) * W d k := fun d => by
    rw [acc_at, sum_keys _ _ (fun k => Ideal.exp2 (A k - Finset.univ.sup A) * W d k) (fun _ => rfl) (fun _ => rfl),
      sum_chunks _ _ (fun j l => Ideal.exp2 (A ⟨256 + (512 * j.val + l.val), by omega⟩ - Finset.univ.sup A) * W d ⟨256 + (512 * j.val + l.val), by omega⟩) (fun _ _ => rfl)]
    simp only [part_at, partC_at, hM, sC, sL, kb_at, hWc, hWl]
  unfold subAt sub
  rw [quot_at, main, main]

end Cert.Attn
end
-- ==== Proof.Attn.Final.lean ====
/- The kernel's result array is the reference's, wherever the queries and keys are real. -/
module
public import proofs.«01_k».proof.Proof.Attn.Row
public import proofs.«01_k».proof.Proof.Attn.Ref
public import proofs.«01_k».proof.Proof.Attn.Blocks
public import proofs.«01_k».proof.Proof.Attn.Point
public import proofs.«01_k».proof.Proof.Gen.KernelIdeal.Value
@[expose] public section
set_option maxRecDepth 16384
noncomputable section
namespace Cert.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Every element of an array is a real number. -/
def Reals {s : Shape} (f : FVec Ideal s .f32) : Prop := ∀ i, ∃ a : ℝ, (f i : EReal) = a

/-- Column `d` of the values beside their column of ones, all keys of batch `b` and head `h`, context first. -/
def vals (vl : FVec Ideal S4x4096x16x128 .f32) (vc : FVec Ideal S4x256x16x128 .f32) (b : Fin 4) (h : Fin 16) (d : Fin 256) (k : Fin 4352) : EReal :=
  if hd : d.val < 128 then (if hk : k.val < 256 then vc (ix4 b ⟨k, hk⟩ h ⟨d, hd⟩) else vl (ix4 b ⟨k - 256, by omega⟩ h ⟨d, hd⟩))
  else Scalar.select (IntOp.cmpi .eq (BitVec.ofNat 32 (d.val - 128)) 0#32) (1 : EReal) 0

/-- Key `k` of batch `b` and head `h`, context first. -/
def key (kl : FVec Ideal S4x4096x16x192 .f32) (kc : FVec Ideal S4x256x16x192 .f32) (b : Fin 4) (h : Fin 16) (k : Fin 4352) (d : Fin 192) : EReal :=
  if hk : k.val < 256 then kc (ix4 b ⟨k, hk⟩ h d) else kl (ix4 b ⟨k - 256, by omega⟩ h d)

theorem key_ctx (kl : FVec Ideal S4x4096x16x192 .f32) (kc : FVec Ideal S4x256x16x192 .f32) (b : Fin 4) (h : Fin 16) (k : Fin 256) (d : Fin 192) :
    key kl kc b h ⟨k, by omega⟩ d = kc (ix4 b k h d) := dif_pos k.isLt

theorem key_lat (kl : FVec Ideal S4x4096x16x192 .f32) (kc : FVec Ideal S4x256x16x192 .f32) (b : Fin 4) (h : Fin 16) (k : Fin 4096) (d : Fin 192) :
    key kl kc b h ⟨256 + k, by omega⟩ d = kl (ix4 b k h d) := by
  rw [key, dif_neg (by simp)]
  congr 2
  exact Fin.ext (by simp)

theorem vals_ctx (vl : FVec Ideal S4x4096x16x128 .f32) (vc : FVec Ideal S4x256x16x128 .f32) (b : Fin 4) (h : Fin 16) (d : Fin 256) (k : Fin 256) :
    vals vl vc b h d ⟨k, by omega⟩ = if hd : d.val < 128 then vc (ix4 b k h ⟨d, hd⟩) else
      Scalar.select (IntOp.cmpi .eq (BitVec.ofNat 32 (d.val - 128)) 0#32) (1 : EReal) 0 := by
  unfold vals
  split
  · exact dif_pos k.isLt
  · rfl

theorem vals_lat (vl : FVec Ideal S4x4096x16x128 .f32) (vc : FVec Ideal S4x256x16x128 .f32) (b : Fin 4) (h : Fin 16) (d : Fin 256) (k : Fin 4096) :
    vals vl vc b h d ⟨256 + k, by omega⟩ = if hd : d.val < 128 then vl (ix4 b k h ⟨d, hd⟩) else
      Scalar.select (IntOp.cmpi .eq (BitVec.ofNat 32 (d.val - 128)) 0#32) (1 : EReal) 0 := by
  unfold vals
  split
  · rw [dif_neg (by simp)]
    congr 2
    exact Fin.ext (by simp)
  · rfl

theorem vals_one (vl : FVec Ideal S4x4096x16x128 .f32) (vc : FVec Ideal S4x256x16x128 .f32) (b : Fin 4) (h : Fin 16) (k : Fin 4352) :
    vals vl vc b h 128 k = 1 := by
  rw [vals, dif_neg (by decide)]
  rfl

section
variable (q kl : FVec Ideal S4x4096x16x192 .f32) (kc : FVec Ideal S4x256x16x192 .f32) (vl : FVec Ideal S4x4096x16x128 .f32)
  (vc : FVec Ideal S4x256x16x128 .f32)

/-- The kernel's scores of query row `i`. -/
def att (b : Fin 4) (h : Fin 16) (i : Fin 4096) (k : Fin 4352) : EReal := ∑ d, (q (ix4 b i h d) * fac) * key kl kc b h k d

theorem att_row (hq : ∀ i, ∃ a : ℝ, q i = a) (hl : ∀ i, ∃ a : ℝ, kl i = a) (hc : ∀ i, ∃ a : ℝ, kc i = a)
    (b : Fin 4) (h : Fin 16) (i : Fin 4096) (r : Fin 16384) (l : Fin 2048) (x : Fin 128) (hr : r.val = 4096 * b + i) (hl' : l.val = 128 * h + x) :
    Ideal.div (∑ k, Ideal.exp2 (att q kl kc b h i k - Finset.univ.sup (att q kl kc b h i)) * vals vl vc b h ⟨x, by omega⟩ k)
      (∑ k, Ideal.exp2 (att q kl kc b h i k - Finset.univ.sup (att q kl kc b h i)) * vals vl vc b h 128 k) = Ref.result q kl kc vl vc (ix2 r l) := by
  simp only [vals_one]
  rw [row (fun d => q (ix4 b i h d)) (key kl kc b h) (fun d => hq _) (fun n d => by unfold key; split; exacts [hc _, hl _]) _
    (att q kl kc b h i) (Ref.sc q kl kc b h i) (fun n => rfl) (fun n => rfl)]
  rw [Ref.result_at]
  have e1 : (⟨r / 4096, by omega⟩ : Fin 4) = b := Fin.ext (by show r.val / 4096 = b.val; omega)
  have e2 : (⟨l / 128, by omega⟩ : Fin 16) = h := Fin.ext (by show l.val / 128 = h.val; omega)
  have e3 : (⟨r % 4096, by omega⟩ : Fin 4096) = i := Fin.ext (by show r.val % 4096 = i.val; omega)
  have e4 : (⟨l % 128, by omega⟩ : Fin 128) = x := Fin.ext (by show l.val % 128 = x.val; omega)
  rw [e1, e2, e3, e4]
  exact sum_keys _ _ _ (fun k => by rw [vals_ctx, dif_pos x.isLt]; rfl) (fun k => by rw [vals_lat, dif_pos x.isLt]; rfl)
end

/-- A scaled query, padded to the width of the packed rows. -/
def qRow (q : FVec Ideal S4x4096x16x192 .f32) (b : Fin 4) (j : Fin 4096) (h : Fin 16) (d : Fin 256) : EReal :=
  if hd : d.val < 192 then q (ix4 b j h ⟨d, hd⟩) * fac else 0

theorem q_at (c : Dev nD) (t : Fin cfg0.N) (i : Fin 2048) (j : Fin 4096) (e : j.val = 2048 * (pi t).val + i.val) (d : Fin 256) :
    X0_0 m c t (ix3 0 i d : S1x2048x256.Idx) =
      qRow (m ((c : Thread nD τ).loc main_arg0)) (pb t) j (ph t) d := by
  rw [blk_q, V_q]
  have e' : (⟨4096 * (pb t).val + (2048 * (pi t).val + i.val), by omega⟩ : Fin 17408) = ⟨4096 * (pb t).val + j.val, by omega⟩ :=
    Fin.ext (by show 4096 * (pb t).val + (2048 * (pi t).val + i.val) = 4096 * (pb t).val + j.val; omega)
  rw [e', kPack_lat]
  simp only [qScale_at]
  rfl

/-- What a grid point leaves at row `y 0`, column `y 1` of its output block. -/
theorem point (c : Dev nD) (hq : Reals (s := S4x4096x16x192) (m ((c : Thread nD τ).loc main_arg0)))
    (hl : Reals (s := S4x4096x16x192) (m ((c : Thread nD τ).loc main_arg1)))
    (hc : Reals (s := S4x256x16x192) (m ((c : Thread nD τ).loc main_arg2)))
    (t : Fin cfg0.N) (y : S2048x128.Idx) (r : Fin 16384) (l : Fin 2048) (hr : r.val = 4096 * (pb t).val + (2048 * (pi t).val + (y 0).val))
    (hl' : l.val = 128 * (ph t).val + (y 1).val) :
    outsAt0 m c t y = Ref.result (m ((c : Thread nD τ).loc main_arg0)) (m ((c : Thread nD τ).loc main_arg1)) (m ((c : Thread nD τ).loc main_arg2))
      (m ((c : Thread nD τ).loc main_arg3)) (m ((c : Thread nD τ).loc main_arg4)) (ix2 r l) := by
  have h0 : (y 0).val < 2048 := (y 0).isLt
  have h1 : (y 1).val < 128 := (y 1).isLt
  rw [out_eq m c t y ⟨(y 0).val / 256, by omega⟩ (ix2 ⟨(y 0).val % 256, by omega⟩ ⟨(y 1).val, h1⟩) (by show (y 0).val = 256 * ((y 0).val / 256) + (y 0).val % 256; omega) rfl]
  rw [sub_sum _ _ _ _ _ _ _
    (att (m ((c : Thread nD τ).loc main_arg0)) (m ((c : Thread nD τ).loc main_arg1)) (m ((c : Thread nD τ).loc main_arg2)) (pb t) (ph t)
      ⟨2048 * (pi t).val + (y 0).val, by omega⟩)
    (fun k => ?_) (fun k => ?_) (vals (m ((c : Thread nD τ).loc main_arg3)) (m ((c : Thread nD τ).loc main_arg4)) (pb t) (ph t)) (fun d k => ?_) (fun d k => ?_)]
  · exact att_row _ _ _ _ _ hq hl hc _ _ _ _ _ ⟨(y 1).val, h1⟩ hr hl'
  · refine Eq.trans (Finset.sum_congr rfl fun d _ => ?_) ((padded (fun d => _) (fun d => _)).trans (Finset.sum_congr rfl fun d _ => congrArg (_ * ·) (key_ctx _ _ _ _ _ _).symm))
    rw [q_at m c t _ ⟨2048 * (pi t).val + (y 0).val, by omega⟩ (by show 2048 * (pi t).val + (y 0).val = 2048 * (pi t).val + (256 * ((y 0).val / 256) + (y 0).val % 256); omega),
      blk_kc, V_k, kPack_ctx]
    rfl
  · refine Eq.trans (Finset.sum_congr rfl fun d _ => ?_) ((padded (fun d => _) (fun d => _)).trans (Finset.sum_congr rfl fun d _ => congrArg (_ * ·) (key_lat _ _ _ _ _ _).symm))
    rw [q_at m c t _ ⟨2048 * (pi t).val + (y 0).val, by omega⟩ (by show 2048 * (pi t).val + (y 0).val = 2048 * (pi t).val + (256 * ((y 0).val / 256) + (y 0).val % 256); omega),
      blk_k, V_k, kPack_lat]
    rfl
  · rw [blk_vc, V_v, vPack_ctx, vals_ctx]
  · rw [blk_v, V_v, vPack_lat, vals_lat]

/-- The whole result. -/
theorem final (c : Dev nD) (hq : Reals (s := S4x4096x16x192) (m ((c : Thread nD τ).loc main_arg0))) (hl : Reals (s := S4x4096x16x192) (m ((c : Thread nD τ).loc main_arg1)))
    (hc : Reals (s := S4x256x16x192) (m ((c : Thread nD τ).loc main_arg2))) :
    (dats m 0 c).arrAt 5 cfg0.N = Ref.result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  have e := idx t
  rw [point m c hq hl hc t y ((win0_5.blk t).view.emb y 0) ((win0_5.blk t).view.emb y 1) ?_ ?_]
  · exact congrArg _ (by funext a; fin_cases a <;> rfl)
  · blk_simp
    rw [e.2.2.2.2.2]
    simp only [pb, pi, Matrix.cons_val_zero]
    omega
  · blk_simp
    rw [e.2.2.2.2.2]
    show t.val / 2 % 16 * 128 + (y 1).val = 128 * (t.val / 2 % 16) + (y 1).val
    omega
end Cert.Attn
end
-- ==== Proof.Attn.Pre.lean ====
/- The precondition, read at an element: the queries and the keys are real numbers. -/
module
public import proofs.«01_k».proof.Pre_finite_scores
public import Idealize.ShloMosaic.Lib.ReduceAll
public import Idealize.ShloMosaic.Lib.Pointwise
@[expose] public section
noncomputable section
namespace Cert.Attn
open Idealize.ShloMosaic Cert.Pre_finite_scores

theorem real_of_lt (x : EReal) (h : max x (-x) < Ideal.ofBits .f32 0x7F800000#32) : ∃ a : ℝ, x = a := by
  have e : Ideal.ofBits .f32 0x7F800000#32 = ⊤ := by simp [Ideal.ofBits, Ideal.ieee]
  rw [e] at h
  induction x using EReal.rec with
  | bot => simp at h
  | top => simp at h
  | coe a => exact ⟨a, rfl⟩

theorem real_of_one (x : EReal) (h : Ideal.cmp .olt (max x (-x)) (Ideal.ofBits .f32 0x7F800000#32) = 1#1) : ∃ a : ℝ, x = a := by
  refine real_of_lt x ?_
  by_contra hn
  rw [show Ideal.cmp .olt (max x (-x)) (Ideal.ofBits .f32 0x7F800000#32) = BitVec.ofBool (decide (max x (-x) < Ideal.ofBits .f32 0x7F800000#32)) from rfl,
    decide_eq_false hn] at h
  exact absurd h (by decide)

theorem one_and (a b : BitVec 1) (h : IntOp.andi a b = 1#1) : a = 1#1 ∧ b = 1#1 := by
  revert a b; decide

variable [Facts]
theorem reals (q kl : FVec Ideal S4x4096x16x192 .f32) (kc : FVec Ideal S4x256x16x192 .f32) (vl : FVec Ideal S4x4096x16x128 .f32)
    (vc : FVec Ideal S4x256x16x128 .f32) (h : Cert.Pre_finite_scores.fn (F := Ideal) q kl kc vl vc = fun _ => 1#1) :
    (∀ i, ∃ a : ℝ, q i = a) ∧ (∀ i, ∃ a : ℝ, kl i = a) ∧ ∀ i, ∃ a : ℝ, kc i = a := by
  have h0 := congrFun h (fun a => a.elim0)
  obtain ⟨h1, hc⟩ := one_and _ _ h0
  obtain ⟨hq, hl⟩ := one_and _ _ h1
  exact ⟨fun i => real_of_one _ (Host.reduce_andi_all _ _ _ _ _ hq i), fun i => real_of_one _ (Host.reduce_andi_all _ _ _ _ _ hl i),
    fun i => real_of_one _ (Host.reduce_andi_all _ _ _ _ _ hc i)⟩
end Cert.Attn
end
-- ==== Proof.Attn.Claims.lean ====
/- The attention's claims: the frames of the three programs and the equality of the kernel's result with the reference's. -/
module
public import proofs.«01_k».proof.Defs
public import proofs.«01_k».proof.Proof.Gen.Kernel.Frame
public import proofs.«01_k».proof.Proof.Gen.KernelIdeal.Frame
public import proofs.«01_k».proof.Proof.Attn.Final
public import proofs.«01_k».proof.Proof.Attn.Pre
@[expose] public section
set_option maxRecDepth 16384
noncomputable section
namespace Cert.Attn.Claims
open Idealize.ShloMosaic Idealize.SL.Sem

instance facts : Cert.Pre_finite_scores.Facts := by
  constructor <;> decide

theorem frame_kernel : Cert.quiescent_Kernel := fun m ρ _ => Cert.Kernel.Gen.frame m ρ
theorem frame_kernel_any : Cert.quiescent_Kernel_pre_none := fun m ρ _ => Cert.Kernel.Gen.frame m ρ
theorem frame_ideal : Cert.quiescent_KernelIdeal := fun m ρ _ => Cert.KernelIdeal.Gen.frame m ρ
theorem frame_ideal_any : Cert.quiescent_KernelIdeal_pre_none := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Wherever the queries and keys are finite, the kernel leaves the reference's array. -/
theorem equal : Cert.algebraic_KernelIdeal_ReferenceIdeal := by
  intro m ρ m' ρ' hpre hagree
  refine ⟨fun c => Cert.Attn.Ref.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Value.run_blocks m ρ)
    obtain ⟨hq, hl, hc⟩ := reals _ _ _ _ _ (hpre c)
    exact final m c hq hl hc
  · refine (θ_run Cert.ReferenceIdeal.defs _ _).mono (fun r h c => ⟨(h c).1.trans ?_, (h c).2⟩) (Cert.ReferenceIdeal.Value.run m' ρ')
    obtain ⟨e0, e1, e2, e3, e4⟩ := hagree c
    rw [e0, e1, e2, e3, e4]
    rfl
end Cert.Attn.Claims
end
-- ==== Proof.Proj.Ref.lean ====
/- The reference of the combined input projection as a term of its arguments, and that term read at an index. -/
module
public import proofs.«01_k».proof.Proof.Gen.Reference2Ideal.Run
public import Idealize.ShloMosaic.Lib.Pipeline.ValueKit
public import Idealize.ShloMosaic.Lib.Pointwise
@[expose] public section
set_option maxRecDepth 16384
noncomputable section
namespace Cert.Proj.Ref
open Cert.Reference2Ideal Cert.Reference2Ideal.Gen Idealize.ShloMosaic Idealize.ShloMosaic.TcCoe Idealize.SL.Sem

/-- A row divided by its root mean square, times its gain, then scaled and shifted. -/
def modRow (x g sc sh : Fin 2048 → EReal) (d : Fin 2048) : EReal :=
  x d * Ideal.rsqrt (Ideal.div (∑ k, x k * x k) (Ideal.ofBits .f32 0x45000000#32) + Ideal.ofBits .f32 0x358637BD#32) * g d * (1 + sc d) + sh d

/-- The latent rows, normalised and modulated. -/
def hl (x : FVec Ideal S4x4096x2048 .f32) (dl : FVec Ideal S4x12288 .f32) (g : FVec Ideal S2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 2048] dl slices_S4x12288_S4x2048_0_2048))))) (broadcastInDim S4x4096x2048 ![0, 1, 2] bcast_S4x1x2048_S4x4096x2048_0_1_2 (broadcastInDim S4x1x2048 ![0, 2] bcast_S4x2048_S4x1x2048_0_2 (extractStridedSlice S4x2048 ![0, 0] dl slices_S4x12288_S4x2048_0_0)))

/-- The context rows, normalised and modulated. -/
def hc (ctx : FVec Ideal S4x256x2048 .f32) (dc : FVec Ideal S12288 .f32) (g : FVec Ideal S2048 .f32) : FVec Ideal S4x256x2048 .f32 :=
  addf (mulf (mulf (mulf ctx (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf ctx ctx) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 g))) (broadcastInDim S4x256x2048 ![0, 1, 2] bcast_S1x1x2048_S4x256x2048_0_1_2 (broadcastInDim S1x1x2048 ![2] bcast_S2048_S1x1x2048_2 (addf (broadcastInDim S2048 ![] bcast_S_S2048 (constant S_ .f32 0x3F800000#32)) (extractStridedSlice S2048 ![2048] dc slices_S12288_S2048_2048))))) (broadcastInDim S4x256x2048 ![0, 1, 2] bcast_S1x1x2048_S4x256x2048_0_1_2 (broadcastInDim S1x1x2048 ![2] bcast_S2048_S1x1x2048_2 (extractStridedSlice S2048 ![0] dc slices_S12288_S2048_0)))

/-- All rows. -/
def hh (x : FVec Ideal S4x4096x2048 .f32) (ctx : FVec Ideal S4x256x2048 .f32) (dl : FVec Ideal S4x12288 .f32) (dc : FVec Ideal S12288 .f32)
    (g : FVec Ideal S2048 .f32) : FVec Ideal S17408x2048 .f32 :=
  concatenate S17408x2048 0 [⟨S16384x2048, (shapeCast _ (hl x dl g) shapeCasts_S4x4096x2048_S16384x2048)⟩, ⟨S1024x2048, (shapeCast _ (hc ctx dc g) shapeCasts_S4x256x2048_S1024x2048)⟩] concatenates_S16384x2048_S1024x2048_S17408x2048_d0

/-- The first layer's weight. -/
def w0 (w : FVec Ideal S2x2048x13376 .f32) : FVec Ideal S2048x13376 .f32 :=
  shapeCast _ (extractStridedSlice S1x2048x13376 ![0, 0, 0] w slices_S2x2048x13376_S1x2048x13376_0_0_0) shapeCasts_S1x2048x13376_S2048x13376

/-- The rotary key's columns, turned a quarter. -/
def turned (w : FVec Ideal S2x2048x13376 .f32) : FVec Ideal S2048x64 .f32 :=
  shapeCast _ (concatenate S2048x2x2x16 2 [⟨S2048x2x1x16, (broadcastInDim S2048x2x1x16 ![0, 1, 3] bcast_S2048x2x16_S2048x2x1x16_0_1_3 (Host.negf (shapeCast _ (extractStridedSlice S2048x2x1x16 ![0, 0, 1, 0] (shapeCast _ (extractStridedSlice S2048x64 ![0, 7168] (w0 w) slices_S2048x13376_S2048x64_0_7168) shapeCasts_S2048x64_S2048x2x2x16) slices_S2048x2x2x16_S2048x2x1x16_0_0_1_0) shapeCasts_S2048x2x1x16_S2048x2x16)))⟩, ⟨S2048x2x1x16, (broadcastInDim S2048x2x1x16 ![0, 1, 3] bcast_S2048x2x16_S2048x2x1x16_0_1_3 (shapeCast _ (extractStridedSlice S2048x2x1x16 ![0, 0, 0, 0] (shapeCast _ (extractStridedSlice S2048x64 ![0, 7168] (w0 w) slices_S2048x13376_S2048x64_0_7168) shapeCasts_S2048x64_S2048x2x2x16) slices_S2048x2x2x16_S2048x2x1x16_0_0_0_0) shapeCasts_S2048x2x1x16_S2048x2x16))⟩] concatenates_S2048x2x1x16_S2048x2x1x16_S2048x2x2x16_d2) shapeCasts_S2048x2x2x16_S2048x64

/-- The result. -/
def result (x : FVec Ideal S4x4096x2048 .f32) (ctx : FVec Ideal S4x256x2048 .f32) (dl : FVec Ideal S4x12288 .f32) (dc : FVec Ideal S12288 .f32)
    (g : FVec Ideal S2048 .f32) (w : FVec Ideal S2x2048x13376 .f32) : FVec Ideal S17408x13824 .f32 :=
  concatenate S17408x13824 1 [⟨S17408x6144, ((extractStridedSlice S17408x6144 ![0, 7232] (Host.dotGeneral dot_S17408x2048_S2048x13376_S17408x13376_1_0_0_1_n_n none (hh x ctx dl dc g) (w0 w)) slices_S17408x13376_S17408x6144_0_7232))⟩, ⟨S17408x7232, ((extractStridedSlice S17408x7232 ![0, 0] (Host.dotGeneral dot_S17408x2048_S2048x13376_S17408x13376_1_0_0_1_n_n none (hh x ctx dl dc g) (w0 w)) slices_S17408x13376_S17408x7232_0_0))⟩, ⟨S17408x64, ((Host.dotGeneral dot_S17408x2048_S2048x64_S17408x64_1_0_0_1_n_n none (hh x ctx dl dc g) (turned w)))⟩, ⟨S17408x384, ((broadcastInDim S17408x384 ![] bcast_S_S17408x384 (constant S_ .f32 0x00000000#32)))⟩] concatenates_S17408x6144_S17408x7232_S17408x64_S17408x384_S17408x13824_d1

theorem hl_at (x : FVec Ideal S4x4096x2048 .f32) (dl : FVec Ideal S4x12288 .f32) (g : FVec Ideal S2048 .f32) (b : Fin 4) (i : Fin 4096) (d : Fin 2048) :
    hl x dl g (ix3 b i d) = modRow (fun k => x (ix3 b i k)) (fun k => g (ix1 k)) (fun k => dl (ix2 b ⟨2048 + k, by omega⟩)) (fun k => dl (ix2 b ⟨k, by omega⟩)) d := by
  pointwise [hl, modRow]

theorem hc_at (ctx : FVec Ideal S4x256x2048 .f32) (dc : FVec Ideal S12288 .f32) (g : FVec Ideal S2048 .f32) (b : Fin 4) (i : Fin 256) (d : Fin 2048) :
    hc ctx dc g (ix3 b i d) = modRow (fun k => ctx (ix3 b i k)) (fun k => g (ix1 k)) (fun k => dc (ix1 ⟨2048 + k, by omega⟩)) (fun k => dc (ix1 ⟨k, by omega⟩)) d := by
  pointwise [hc, modRow]

theorem hh_at (x : FVec Ideal S4x4096x2048 .f32) (ctx : FVec Ideal S4x256x2048 .f32) (dl : FVec Ideal S4x12288 .f32) (dc : FVec Ideal S12288 .f32)
    (g : FVec Ideal S2048 .f32) (r : Fin 17408) (d : Fin 2048) :
    hh x ctx dl dc g (ix2 r d) = if hr : r.val < 16384 then hl x dl g (ix3 ⟨r / 4096, by omega⟩ ⟨r % 4096, by omega⟩ d)
      else hc ctx dc g (ix3 ⟨(r - 16384) / 256, by omega⟩ ⟨(r - 16384) % 256, by omega⟩ d) := by
  pointwise [hh]

theorem w0_at (w : FVec Ideal S2x2048x13376 .f32) (k : Fin 2048) (l : Fin 13376) : w0 w (ix2 k l) = w (ix3 0 k l) := by
  pointwise [w0]

theorem turned_at (w : FVec Ideal S2x2048x13376 .f32) (k : Fin 2048) (q : Fin 64) :
    turned w (ix2 k q) = if h : q.val / 16 % 2 = 0 then - w (ix3 0 k ⟨7168 + q.val + 16, by omega⟩) else w (ix3 0 k ⟨7168 + q.val - 16, by omega⟩) := by
  pointwise [turned, w0]
  blk_point []
  all_goals omega

/-- Column `l` of the packed weight. -/
def wcol (w : FVec Ideal S2x2048x13376 .f32) (k : Fin 2048) (l : Fin 13824) : EReal :=
  if h : l.val < 6144 then w (ix3 0 k ⟨7232 + l.val, by omega⟩)
  else if h2 : l.val - 6144 < 7232 then w (ix3 0 k ⟨l.val - 6144, by omega⟩)
  else if h3 : l.val - 6144 - 7232 < 64 then turned w (ix2 k ⟨l.val - 6144 - 7232, by omega⟩)
  else 0

theorem result_at (x : FVec Ideal S4x4096x2048 .f32) (ctx : FVec Ideal S4x256x2048 .f32) (dl : FVec Ideal S4x12288 .f32) (dc : FVec Ideal S12288 .f32)
    (g : FVec Ideal S2048 .f32) (w : FVec Ideal S2x2048x13376 .f32) (r : Fin 17408) (l : Fin 13824) :
    result x ctx dl dc g w (ix2 r l) = ∑ k, hh x ctx dl dc g (ix2 r k) * wcol w k l := by
  trans (if h : l.val < 6144 then ∑ k, hh x ctx dl dc g (ix2 r k) * w0 w (ix2 k ⟨7232 + l.val, by omega⟩)
    else if h2 : l.val - 6144 < 7232 then ∑ k, hh x ctx dl dc g (ix2 r k) * w0 w (ix2 k ⟨l.val - 6144, by omega⟩)
    else if h3 : l.val - 6144 - 7232 < 64 then ∑ k, hh x ctx dl dc g (ix2 r k) * turned w (ix2 k ⟨l.val - 6144 - 7232, by omega⟩) else 0)
  · pointwise [result]
  · unfold wcol
    split
    · simp only [w0_at]
    · split
      · simp only [w0_at]
      · split
        · rfl
        · simp only [mul_zero, Finset.sum_const_zero]
end Cert.Proj.Ref
end
-- ==== Proof.Proj.Host.lean ====
/- The arrays the input projection's windows stage, as terms of the arguments and read at an index. -/
module
public import proofs.«01_k».proof.Proof.Gen.Kernel2Ideal.Value
public import proofs.«01_k».proof.Proof.Proj.Ref
public import Idealize.ShloMosaic.Lib.Pipeline.ValueKit
public import Idealize.ShloMosaic.Lib.Pointwise
public import Idealize.ShloMosaic.Lib.Claim
@[expose] public section
set_option maxRecDepth 200000
noncomputable section
namespace Cert.Proj
open Cert.Kernel2Ideal Cert.Kernel2Ideal.Gen Idealize.ShloMosaic Idealize.ShloMosaic.TcCoe Idealize.SL.Sem
open Idealize.ShloMosaic.Pipeline (Dat)
/-- The latent rows of all batches, then the context rows. -/
def rows (l : FVec Ideal S4x4096x2048 .f32) (x : FVec Ideal S4x256x2048 .f32) : FVec Ideal S17408x2048 .f32 :=
  concatenate S17408x2048 0 [⟨S16384x2048, shapeCast S16384x2048 l shapeCasts_S4x4096x2048_S16384x2048⟩,
    ⟨S1024x2048, shapeCast S1024x2048 x shapeCasts_S4x256x2048_S1024x2048⟩] concatenates_S16384x2048_S1024x2048_S17408x2048_d0

/-- The modulation of the batches, that of the context, and three rows of zeros. -/
def table (l : FVec Ideal S4x12288 .f32) (x : FVec Ideal S12288 .f32) : FVec Ideal S8x6x2048 .f32 :=
  shapeCast S8x6x2048 (concatenate S8x12288 0 [⟨S4x12288, l⟩, ⟨S1x12288, broadcastInDim S1x12288 ![1] bcast_S12288_S1x12288_1 x⟩,
    ⟨S3x12288, broadcastInDim S3x12288 ![] bcast_S_S3x12288 (constant S_ .f32 0x00000000#32)⟩] concatenates_S4x12288_S1x12288_S3x12288_S8x12288_d0)
    shapeCasts_S8x12288_S8x6x2048

theorem rows_at (l : FVec Ideal S4x4096x2048 .f32) (x : FVec Ideal S4x256x2048 .f32) (r : Fin 17408) (d : Fin 2048) :
    rows l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rows]

theorem table_at (l : FVec Ideal S4x12288 .f32) (x : FVec Ideal S12288 .f32) (b : Fin 8) (k : Fin 6) (d : Fin 2048) (hb : b.val < 5) :
    table l x (ix3 b k d) = if h : b.val < 4 then l (ix2 ⟨b, h⟩ ⟨2048 * k + d, by omega⟩) else x (ix1 ⟨2048 * k + d, by omega⟩) := by
  pointwise [table]
  blk_point []
  omega

/-- The rotary key's columns of a weight. -/
def keyCols (w : FVec Ideal S2x2048x13376 .f32) : FVec Ideal S2x2048x64 .bf16 :=
  extractStridedSlice S2x2048x64 ![0, 0, 7168] (truncf (F := Ideal) .bf16 w bitsLt_bf16_f32) slices_S2x2048x13376_S2x2048x64_0_0_7168

/-- Those columns turned a quarter. -/
def rot (w : FVec Ideal S2x2048x13376 .f32) : FVec Ideal S2x2048x64 .bf16 :=
  concatenate S2x2048x64 2 [⟨S2x2048x16, Host.negf (extractStridedSlice S2x2048x16 ![0, 0, 16] (keyCols w) slices_S2x2048x64_S2x2048x16_0_0_16)⟩, ⟨S2x2048x16, (extractStridedSlice S2x2048x16 ![0, 0, 0] (keyCols w) slices_S2x2048x64_S2x2048x16_0_0_0)⟩,
    ⟨S2x2048x16, Host.negf (extractStridedSlice S2x2048x16 ![0, 0, 48] (keyCols w) slices_S2x2048x64_S2x2048x16_0_0_48)⟩, ⟨S2x2048x16, (extractStridedSlice S2x2048x16 ![0, 0, 32] (keyCols w) slices_S2x2048x64_S2x2048x16_0_0_32)⟩] concatenates_S2x2048x16_S2x2048x16_S2x2048x16_S2x2048x16_S2x2048x64_d2

/-- The packed weight: gates, then the other columns in order, then the turned ones, then zeros. -/
def packW (w : FVec Ideal S2x2048x13376 .f32) : FVec Ideal S2x2048x13824 .bf16 :=
  concatenate S2x2048x13824 2 [
    ⟨S2x2048x6144, extractStridedSlice S2x2048x6144 ![0, 0, 7232] (truncf (F := Ideal) .bf16 w bitsLt_bf16_f32) slices_S2x2048x13376_S2x2048x6144_0_0_7232⟩,
    ⟨S2x2048x7168, extractStridedSlice S2x2048x7168 ![0, 0, 0] (truncf (F := Ideal) .bf16 w bitsLt_bf16_f32) slices_S2x2048x13376_S2x2048x7168_0_0_0⟩,
    ⟨S2x2048x64, keyCols w⟩, ⟨S2x2048x64, rot w⟩,
    ⟨S2x2048x384, broadcastInDim S2x2048x384 ![] bcast_S_S2x2048x384 (constant S_ .bf16 0x0000#16)⟩]
    concatenates_S2x2048x6144_S2x2048x7168_S2x2048x64_S2x2048x64_S2x2048x384_S2x2048x13824_d2

theorem keyCols_at (w : FVec Ideal S2x2048x13376 .f32) (k : Fin 2048) (q : Fin 64) : keyCols w (ix3 0 k q) = w (ix3 0 k ⟨7168 + q, by omega⟩) := by
  pointwise [keyCols]

theorem rot_at (w : FVec Ideal S2x2048x13376 .f32) (k : Fin 2048) (q : Fin 64) : rot w (ix3 0 k q) = Ref.turned w (ix2 k q) := by
  rw [Ref.turned_at]
  pointwise [rot]
  simp only [keyCols_at]
  blk_point []
  all_goals omega

theorem packW_at (w : FVec Ideal S2x2048x13376 .f32) (k : Fin 2048) (l : Fin 13824) : packW w (ix3 0 k l) = Ref.wcol w k l := by
  unfold Ref.wcol
  pointwise [packW]
  simp only [keyCols_at, rot_at]
  blk_point []
  all_goals omega

variable (m : (ℓ : Loc nD τ sig) → Buf (Elt Ideal) ℓ)

theorem V_x (c : Dev nD) : V m c main_v2 = rows (m ((c : Thread nD τ).loc main_arg0)) (m ((c : Thread nD τ).loc main_arg1)) := by
  unfold V
  simp only [List.flatten_cons, List.flatten_nil, List.append_nil, List.cons_append, List.nil_append, hostOps0]
  after_results
  rfl
theorem V_g (c : Dev nD) : V m c main_v20 = shapeCast (α := EReal) S1x2048 (m ((c : Thread nD τ).loc main_arg4)) shapeCasts_S2048_S1x2048 := by
  unfold V
  simp only [List.flatten_cons, List.flatten_nil, List.append_nil, List.cons_append, List.nil_append, hostOps0]
  after_results
  rfl
theorem V_d (c : Dev nD) : V m c main_v6 = table (m ((c : Thread nD τ).loc main_arg2)) (m ((c : Thread nD τ).loc main_arg3)) := by
  unfold V
  simp only [List.flatten_cons, List.flatten_nil, List.append_nil, List.cons_append, List.nil_append, hostOps0]
  after_results
  rfl
theorem V_w (c : Dev nD) : V m c main_v19 = packW (m ((c : Thread nD τ).loc main_arg5)) := by
  unfold V
  simp only [List.flatten_cons, List.flatten_nil, List.append_nil, List.cons_append, List.nil_append, hostOps0]
  after_results
  rfl
end Cert.Proj
end
-- ==== Proof.Proj.Final.lean ====
/- The input projection: the blocks of a grid point, the normalised rows carried from a row block's first point to its last, and the
   kernel's result array as the reference's. Point `t` is row block `t / 9` and column block `t % 9`. -/
module
public import proofs.«01_k».proof.Proof.Proj.Host
public import Idealize.ShloMosaic.Lib.Pipeline.ValueKit
public import Idealize.ShloMosaic.Lib.Pointwise
public import Idealize.ShloMosaic.Lib.Claim
@[expose] public section
set_option maxRecDepth 16384
noncomputable section
namespace Cert.Proj
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val / 9, 0] ∧ win0_1.index t = ![0, 0]
    ∧ win0_2.index t = ![if t.val / 9 < 16 then t.val / 36 else 4, 0, 0] ∧ win0_3.index t = ![0, 0, t.val % 9] ∧ win0_4.index t = ![t.val / 9, t.val % 9] :=
  (by decide +kernel : ∀ t : Fin grid0.N, _)

theorem lt (t : Fin cfg0.N) : t.val < 153 := t.isLt

/-- The modulation's row for a row block. -/
def batch (t : Fin cfg0.N) : Fin 8 := ⟨if t.val / 9 < 16 then t.val / 36 else 4, by have := lt t; split <;> omega⟩

theorem blk_x (c : Dev nD) (t : Fin cfg0.N) (i : Fin 1024) (k : Fin 2048) (r : Fin 17408) (hr : r.val = 1024 * (t.val / 9) + i.val) :
    iblk m c 0 t (ix2 i k : S1024x2048.Idx) = V m c main_v2 (ix2 r k) := by
  blk_ext [iblk, idx t]
theorem blk_g (c : Dev nD) (t : Fin cfg0.N) (k : Fin 2048) : iblk m c 1 t (ix2 0 k : S1x2048.Idx) = V m c main_v20 (ix2 0 k) := by
  blk_ext [iblk, idx t]
theorem blk_d (c : Dev nD) (t : Fin cfg0.N) (k : Fin 6) (d : Fin 2048) :
    iblk m c 2 t (ix3 0 k d : S1x6x2048.Idx) = V m c main_v6 (ix3 (batch t) k d) := by
  blk_ext [iblk, idx t, batch]
theorem blk_w (c : Dev nD) (t : Fin cfg0.N) (k : Fin 2048) (j : Fin 1536) (l : Fin 13824) (hl : l.val = 1536 * (t.val % 9) + j.val) :
    iblk m c 3 t (ix3 0 k j : S1x2048x1536.Idx) = V m c main_v19 (ix3 0 k l) := by
  blk_ext [iblk, idx t]

theorem pay2 (h : Vec Ideal S1024x2048 .bf16) (w : Vec Ideal S1x2048x1536 .bf16) (i : Fin 1024) (j : Fin 1536) :
    k0_pay2 (F := Ideal) h w (ix2 i j) = ∑ k : Fin 2048, h (ix2 i k) * w (ix3 0 k j) := by
  pointwise [k0_pay2]

theorem pay1 (x : Vec Ideal S1024x2048 .f32) (g : Vec Ideal S1x2048 .f32) (s : Vec Ideal S1x6x2048 .f32) (i : Fin 1024) (d : Fin 2048) :
    k0_pay1 (F := Ideal) x g (View.ld s (Rect.unit ![0, 1, 0] ![1, 1, 2048] inb_S1x6x2048_S1x1x2048_0_1_0)) (View.ld s (Rect.unit ![0, 0, 0] ![1, 1, 2048] inb_S1x6x2048_S1x1x2048_0_0_0)) (ix2 i d)
      = Ref.modRow (fun k => x (ix2 i k)) (fun k => g (ix2 0 k)) (fun k => s (ix3 0 1 k)) (fun k => s (ix3 0 0 k)) d := by
  pointwise [k0_pay1, Ref.modRow]

theorem table_scale (l : FVec Ideal S4x12288 .f32) (x : FVec Ideal S12288 .f32) (b : Fin 8) (d : Fin 2048) (hb : b.val < 5) :
    table l x (ix3 b 1 d) = if h : b.val < 4 then l (ix2 ⟨b, h⟩ ⟨2048 + d, by omega⟩) else x (ix1 ⟨2048 + d, by omega⟩) :=
  table_at l x b 1 d hb

theorem table_shift (l : FVec Ideal S4x12288 .f32) (x : FVec Ideal S12288 .f32) (b : Fin 8) (d : Fin 2048) (hb : b.val < 5) :
    table l x (ix3 b 0 d) = if h : b.val < 4 then l (ix2 ⟨b, h⟩ ⟨d, by omega⟩) else x (ix1 ⟨d, by omega⟩) := by
  have e : (⟨2048 * (0 : Fin 6).val + d.val, by show 2048 * 0 + d.val < 12288; omega⟩ : Fin 12288) = ⟨d, by omega⟩ := Fin.ext (by show 2048 * 0 + d.val = d.val; omega)
  rw [table_at l x b 0 d hb, e]

/-- A normalised row of the packed arrays is the reference's. -/
theorem core (x : FVec Ideal S4x4096x2048 .f32) (ctx : FVec Ideal S4x256x2048 .f32) (dl : FVec Ideal S4x12288 .f32) (dc : FVec Ideal S12288 .f32)
    (g : FVec Ideal S2048 .f32) (r : Fin 17408) (d : Fin 2048) (b : Fin 8) (hb : b.val = if r.val < 16384 then r.val / 4096 else 4) :
    Ref.modRow (fun k => rows x ctx (ix2 r k)) (fun k => shapeCast (α := EReal) S1x2048 g shapeCasts_S2048_S1x2048 (ix2 0 k)) (fun k => table dl dc (ix3 b 1 k))
      (fun k => table dl dc (ix3 b 0 k)) d = Ref.hh x ctx dl dc g (ix2 r d) := by
  have hb5 : b.val < 5 := by rw [hb]; split <;> omega
  have eg : (fun k => shapeCast (α := EReal) S1x2048 g shapeCasts_S2048_S1x2048 (ix2 0 k)) = fun k => g (ix1 k) := by
    funext k
    pointwise []
  rw [Ref.hh_at, eg]
  simp only [rows_at, table_scale _ _ _ _ hb5, table_shift _ _ _ _ hb5, Ref.hl_at, Ref.hc_at]
  by_cases h : r.val < 16384
  · have hb' : b.val < 4 := by rw [hb, if_pos h]; omega
    have e : (⟨b.val, hb'⟩ : Fin 4) = ⟨r.val / 4096, by omega⟩ := Fin.ext (by simp only [hb, if_pos h])
    simp only [dif_pos h, dif_pos hb', e]
  · have hb' : ¬ b.val < 4 := by rw [hb, if_neg h]; omega
    simp only [dif_neg h, dif_neg hb']

/-- The rows a row block's first point normalises. -/
theorem first (c : Dev nD) (t : Fin cfg0.N) (i : Fin 1024) (d : Fin 2048) (r : Fin 17408) (hr : r.val = 1024 * (t.val / 9) + i.val) :
    k0_pay1 (F := Ideal) (iblk m c 0 t) (iblk m c 1 t) (View.ld (iblk m c 2 t) (Rect.unit ![0, 1, 0] ![1, 1, 2048] inb_S1x6x2048_S1x1x2048_0_1_0))
      (View.ld (iblk m c 2 t) (Rect.unit ![0, 0, 0] ![1, 1, 2048] inb_S1x6x2048_S1x1x2048_0_0_0)) (ix2 i d) = Ref.hh (m ((c : Thread nD τ).loc main_arg0)) (m ((c : Thread nD τ).loc main_arg1)) (m ((c : Thread nD τ).loc main_arg2)) (m ((c : Thread nD τ).loc main_arg3)) (m ((c : Thread nD τ).loc main_arg4)) (ix2 r d) := by
  have ht := lt t
  refine (pay1 _ _ _ i d).trans ?_
  simp only [blk_x m c t _ _ r hr, blk_g, blk_d, V_x, V_g, V_d]
  refine core _ _ _ _ _ r d (batch t) ?_
  show (if t.val / 9 < 16 then t.val / 36 else 4) = _
  split <;> split <;> omega

/-- The scratch after any point of a row block holds that block's normalised rows. -/
theorem carried (c : Dev nD) (n : ℕ) : ∀ (hn : n < cfg0.N) (i : Fin 1024) (d : Fin 2048) (r : Fin 17408) (_ : r.val = 1024 * (n / 9) + i.val),
    (outsAt0 m c n hn).2 (ix2 i d) = Ref.hh (m ((c : Thread nD τ).loc main_arg0)) (m ((c : Thread nD τ).loc main_arg1)) (m ((c : Thread nD τ).loc main_arg2)) (m ((c : Thread nD τ).loc main_arg3)) (m ((c : Thread nD τ).loc main_arg4)) (ix2 r d) := by
  induction n with
  | zero =>
    intro hn i d r hr
    rw [outsAt0_A m c ⟨0, hn⟩ rfl]
    frame_out
    exact first m c ⟨0, hn⟩ i d r hr
  | succ n ih =>
    intro hn i d r hr
    by_cases h : (n + 1) % 9 = 0
    · rw [outsAt0_A m c ⟨n + 1, hn⟩ h]
      frame_out
      exact first m c ⟨n + 1, hn⟩ i d r hr
    · rw [outsAt0_B m c ⟨n + 1, hn⟩ h]
      dsimp only
      unfold sout0_B_0
      exact ih (Nat.lt_of_succ_lt hn) i d r (by omega)

/-- What a grid point leaves at row `y 0`, column `y 1` of its output block. -/
theorem point (c : Dev nD) (t : Fin cfg0.N) (y : S1024x1536.Idx) (r : Fin 17408) (l : Fin 13824) (hr : r.val = 1024 * (t.val / 9) + (y 0).val)
    (hl : l.val = 1536 * (t.val % 9) + (y 1).val) :
    (outsAt0 m c t.val t.isLt).1 y = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r l) := by
  have ht := lt t
  obtain ⟨i, j, rfl⟩ : ∃ (i : Fin 1024) (j : Fin 1536), y = ix2 i j := ⟨y 0, y 1, by funext a; fin_cases a <;> rfl⟩
  have hr : r.val = 1024 * (t.val / 9) + i.val := hr
  have hl : l.val = 1536 * (t.val % 9) + j.val := hl
  rw [Ref.result_at]
  by_cases h : t.val % 9 = 0
  · rw [outsAt0_A m c t h]
    frame_out
    rw [pay2]
    refine Finset.sum_congr rfl fun k _ => ?_
    rw [blk_w m c t k j l hl, V_w, packW_at]
    exact congrArg (· * _) (first m c t i k r hr)
  · rw [outsAt0_B m c t h]
    frame_out
    rw [pay2]
    refine Finset.sum_congr rfl fun k _ => ?_
    rw [blk_w m c t k j l hl, V_w, packW_at]
    exact congrArg (· * _) ((congrFun ((Memref.isWhole_whole cc0_scratch0).read_unread _) _).trans (carried m c (t.val - 1) _ i k r (by omega)))

/-- The whole result. -/
theorem final (c : Dev nD) : (dats m 0 c).arrAt 4 cfg0.N
    = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t _ y => ?_
  blk_simp
  rw [after0_4]
  have e := (idx t).2.2.2.2
  rw [point m c t y ((win0_4.blk t).view.emb y 0) ((win0_4.blk t).view.emb y 1) ?_ ?_]
  · exact congrArg _ (by funext a; fin_cases a <;> rfl)
  · blk_simp
    rw [e]
    show t.val / 9 * 1024 + (y 0).val = 1024 * (t.val / 9) + (y 0).val
    omega
  · blk_simp
    rw [e]
    show t.val % 9 * 1536 + (y 1).val = 1536 * (t.val % 9) + (y 1).val
    omega
end Cert.Proj
end
-- ==== Proof.Proj.Claims.lean ====
/- The projection's claims: the frames of the three programs and the equality of the kernel's result with the reference's. -/
module
public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Proj.Final
@[expose] public section
set_option maxRecDepth 16384
noncomputable section
namespace Cert.Proj.Claims
open Idealize.ShloMosaic Idealize.SL.Sem

theorem frame_kernel : Cert.quiescent_Kernel2 := fun m ρ _ => Cert.Kernel2.Gen.frame m ρ
theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- On any arguments the kernel leaves the reference's array. -/
theorem equal : Cert.algebraic_Kernel2Ideal_Reference2Ideal := by
  intro m ρ m' ρ' _ hagree
  refine ⟨fun c => Cert.Proj.Ref.result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5)), ?_, ?_⟩
  · exact (θ_run Cert.Kernel2Ideal.defs _ _).mono (fun r h c => ⟨(h c).1.trans (final m c), (h c).2⟩) (Cert.Kernel2Ideal.Value.run_blocks m ρ)
  · refine (θ_run Cert.Reference2Ideal.defs _ _).mono (fun r h c => ⟨(h c).1.trans ?_, (h c).2⟩) (Cert.Reference2Ideal.Value.run m' ρ')
    obtain ⟨e0, e1, e2, e3, e4, e5⟩ := hagree c
    unfold Cert.Reference2Ideal.Value.res_main_v67
    rw [e0, e1, e2, e3, e4, e5]
    rfl
end Cert.Proj.Claims
end
-- ==== Proof.Merge.Ref.lean ====
/- The reference of the gated merge as a term of its arguments, and that term read at an index. -/
module
public import proofs.«01_k».proof.Proof.Gen.Reference3Ideal.Run
public import Idealize.ShloMosaic.Lib.Pointwise
@[expose] public section
set_option maxRecDepth 16384
noncomputable section
namespace Cert.Merge.Ref
open Cert.Reference3Ideal Cert.Reference3Ideal.Gen Idealize.ShloMosaic Idealize.ShloMosaic.TcCoe Idealize.SL.Sem

/-- The logistic function. -/
def gate (x : EReal) : EReal := Ideal.div 1 (1 + Ideal.exp (-x))

/-- The logistic function of the gates of 4096 rows. -/
def gates4096 (g : FVec Ideal S4x4096x6144 .f32) : FVec Ideal S4x4096x6144 .f32 :=
  Host.divf (broadcastInDim S4x4096x6144 ![] bcast_S_S4x4096x6144 (constant S_ .f32 0x3F800000#32)) (addf (broadcastInDim S4x4096x6144 ![] bcast_S_S4x4096x6144 (constant S_ .f32 0x3F800000#32)) (Host.exp (Host.negf g)))

/-- The gated sum of 4096 rows of each batch. -/
def lat (a b : FVec Ideal S4x4096x1024 .f32) (c : FVec Ideal S4x4096x2048 .f32) (g : FVec Ideal S4x4096x6144 .f32) (wa wb : FVec Ideal S1024x2048 .f32) (wc : FVec Ideal S2048x2048 .f32) : FVec Ideal S4x4096x2048 .f32 :=
  addf (addf (mulf (extractStridedSlice S4x4096x2048 ![0, 0, 0] (gates4096 g) slices_S4x4096x6144_S4x4096x2048_0_0_0) (Host.dotGeneral dot_S4x4096x1024_S1024x2048_S4x4096x2048_2_0_01_1_n_n none a wa)) (mulf (extractStridedSlice S4x4096x2048 ![0, 0, 2048] (gates4096 g) slices_S4x4096x6144_S4x4096x2048_0_0_2048) (Host.dotGeneral dot_S4x4096x1024_S1024x2048_S4x4096x2048_2_0_01_1_n_n none b wb))) (mulf (extractStridedSlice S4x4096x2048 ![0, 0, 4096] (gates4096 g) slices_S4x4096x6144_S4x4096x2048_0_0_4096) (Host.dotGeneral dot_S4x4096x2048_S2048x2048_S4x4096x2048_2_0_01_1_n_n none c wc))

theorem gates4096_at (g : FVec Ideal S4x4096x6144 .f32) (p : Fin 4) (q : Fin 4096) (l : Fin 6144) : gates4096 g (ix3 p q l) = gate (g (ix3 p q l)) := by
  pointwise [gates4096, gate]

theorem lat_at (a b : FVec Ideal S4x4096x1024 .f32) (c : FVec Ideal S4x4096x2048 .f32) (g : FVec Ideal S4x4096x6144 .f32) (wa wb : FVec Ideal S1024x2048 .f32) (wc : FVec Ideal S2048x2048 .f32) (p : Fin 4) (q : Fin 4096) (l : Fin 2048) :
    lat a b c g wa wb wc (ix3 p q l) = gate (g (ix3 p q ⟨l, by omega⟩)) * (∑ k : Fin 1024, a (ix3 p q k) * wa (ix2 k l)) + gate (g (ix3 p q ⟨2048 + l, by omega⟩)) * (∑ k : Fin 1024, b (ix3 p q k) * wb (ix2 k l)) + gate (g (ix3 p q ⟨4096 + l, by omega⟩)) * (∑ k : Fin 2048, c (ix3 p q k) * wc (ix2 k l)) := by
  pointwise [lat]
  simp only [gates4096_at]

/-- The logistic function of the gates of 256 rows. -/
def gates256 (g : FVec Ideal S4x256x6144 .f32) : FVec Ideal S4x256x6144 .f32 :=
  Host.divf (broadcastInDim S4x256x6144 ![] bcast_S_S4x256x6144 (constant S_ .f32 0x3F800000#32)) (addf (broadcastInDim S4x256x6144 ![] bcast_S_S4x256x6144 (constant S_ .f32 0x3F800000#32)) (Host.exp (Host.negf g)))

/-- The gated sum of 256 rows of each batch. -/
def con (a b : FVec Ideal S4x256x1024 .f32) (c : FVec Ideal S4x256x2048 .f32) (g : FVec Ideal S4x256x6144 .f32) (wa wb : FVec Ideal S1024x2048 .f32) (wc : FVec Ideal S2048x2048 .f32) : FVec Ideal S4x256x2048 .f32 :=
  addf (addf (mulf (extractStridedSlice S4x256x2048 ![0, 0, 0] (gates256 g) slices_S4x256x6144_S4x256x2048_0_0_0) (Host.dotGeneral dot_S4x256x1024_S1024x2048_S4x256x2048_2_0_01_1_n_n none a wa)) (mulf (extractStridedSlice S4x256x2048 ![0, 0, 2048] (gates256 g) slices_S4x256x6144_S4x256x2048_0_0_2048) (Host.dotGeneral dot_S4x256x1024_S1024x2048_S4x256x2048_2_0_01_1_n_n none b wb))) (mulf (extractStridedSlice S4x256x2048 ![0, 0, 4096] (gates256 g) slices_S4x256x6144_S4x256x2048_0_0_4096) (Host.dotGeneral dot_S4x256x2048_S2048x2048_S4x256x2048_2_0_01_1_n_n none c wc))

theorem gates256_at (g : FVec Ideal S4x256x6144 .f32) (p : Fin 4) (q : Fin 256) (l : Fin 6144) : gates256 g (ix3 p q l) = gate (g (ix3 p q l)) := by
  pointwise [gates256, gate]

theorem con_at (a b : FVec Ideal S4x256x1024 .f32) (c : FVec Ideal S4x256x2048 .f32) (g : FVec Ideal S4x256x6144 .f32) (wa wb : FVec Ideal S1024x2048 .f32) (wc : FVec Ideal S2048x2048 .f32) (p : Fin 4) (q : Fin 256) (l : Fin 2048) :
    con a b c g wa wb wc (ix3 p q l) = gate (g (ix3 p q ⟨l, by omega⟩)) * (∑ k : Fin 1024, a (ix3 p q k) * wa (ix2 k l)) + gate (g (ix3 p q ⟨2048 + l, by omega⟩)) * (∑ k : Fin 1024, b (ix3 p q k) * wb (ix2 k l)) + gate (g (ix3 p q ⟨4096 + l, by omega⟩)) * (∑ k : Fin 2048, c (ix3 p q k) * wc (ix2 k l)) := by
  pointwise [con]
  simp only [gates256_at]

/-- The result. -/
def result (al : FVec Ideal S4x4096x1024 .f32) (ac : FVec Ideal S4x256x1024 .f32) (bl : FVec Ideal S4x4096x1024 .f32) (bc : FVec Ideal S4x256x1024 .f32) (cl : FVec Ideal S4x4096x2048 .f32) (cc : FVec Ideal S4x256x2048 .f32) (gl : FVec Ideal S4x4096x6144 .f32) (gc : FVec Ideal S4x256x6144 .f32) (wa : FVec Ideal S1024x2048 .f32) (wb : FVec Ideal S1024x2048 .f32) (wc : FVec Ideal S2048x2048 .f32) : FVec Ideal S17408x2048 .bf16 :=
  truncf .bf16 (concatenate S17408x2048 0 [⟨S16384x2048, (shapeCast _ (lat al bl cl gl wa wb wc) shapeCasts_S4x4096x2048_S16384x2048)⟩, ⟨S1024x2048, (shapeCast _ (con ac bc cc gc wa wb wc) shapeCasts_S4x256x2048_S1024x2048)⟩] concatenates_S16384x2048_S1024x2048_S17408x2048_d0) bitsLt_bf16_f32

theorem result_at (al : FVec Ideal S4x4096x1024 .f32) (ac : FVec Ideal S4x256x1024 .f32) (bl : FVec Ideal S4x4096x1024 .f32) (bc : FVec Ideal S4x256x1024 .f32) (cl : FVec Ideal S4x4096x2048 .f32) (cc : FVec Ideal S4x256x2048 .f32) (gl : FVec Ideal S4x4096x6144 .f32) (gc : FVec Ideal S4x256x6144 .f32) (wa : FVec Ideal S1024x2048 .f32) (wb : FVec Ideal S1024x2048 .f32) (wc : FVec Ideal S2048x2048 .f32) (r : Fin 17408) (l : Fin 2048) :
    result al ac bl bc cl cc gl gc wa wb wc (ix2 r l) = if hr : r.val < 16384 then
      gate (gl (ix3 ⟨r / 4096, by omega⟩ ⟨r % 4096, by omega⟩ ⟨l, by omega⟩)) * (∑ k : Fin 1024, al (ix3 ⟨r / 4096, by omega⟩ ⟨r % 4096, by omega⟩ k) * wa (ix2 k l)) + gate (gl (ix3 ⟨r / 4096, by omega⟩ ⟨r % 4096, by omega⟩ ⟨2048 + l, by omega⟩)) * (∑ k : Fin 1024, bl (ix3 ⟨r / 4096, by omega⟩ ⟨r % 4096, by omega⟩ k) * wb (ix2 k l)) + gate (gl (ix3 ⟨r / 4096, by omega⟩ ⟨r % 4096, by omega⟩ ⟨4096 + l, by omega⟩)) * (∑ k : Fin 2048, cl (ix3 ⟨r / 4096, by omega⟩ ⟨r % 4096, by omega⟩ k) * wc (ix2 k l))
      else gate (gc (ix3 ⟨(r - 16384) / 256, by omega⟩ ⟨(r - 16384) % 256, by omega⟩ ⟨l, by omega⟩)) * (∑ k : Fin 1024, ac (ix3 ⟨(r - 16384) / 256, by omega⟩ ⟨(r - 16384) % 256, by omega⟩ k) * wa (ix2 k l)) + gate (gc (ix3 ⟨(r - 16384) / 256, by omega⟩ ⟨(r - 16384) % 256, by omega⟩ ⟨2048 + l, by omega⟩)) * (∑ k : Fin 1024, bc (ix3 ⟨(r - 16384) / 256, by omega⟩ ⟨(r - 16384) % 256, by omega⟩ k) * wb (ix2 k l)) + gate (gc (ix3 ⟨(r - 16384) / 256, by omega⟩ ⟨(r - 16384) % 256, by omega⟩ ⟨4096 + l, by omega⟩)) * (∑ k : Fin 2048, cc (ix3 ⟨(r - 16384) / 256, by omega⟩ ⟨(r - 16384) % 256, by omega⟩ k) * wc (ix2 k l)) := by
  pointwise [result]
  simp only [lat_at, con_at]
end Cert.Merge.Ref
end
-- ==== Proof.Merge.Final.lean ====
/- The gated merge: the arrays its windows stage, the blocks of a grid point, and the kernel's result array as the reference's. Point `t` is
   row block `t / 4` and column block `t % 4`. -/
module
public import proofs.«01_k».proof.Proof.Gen.Kernel3Ideal.Value
public import proofs.«01_k».proof.Proof.Merge.Ref
public import Idealize.ShloMosaic.Lib.Pipeline.ValueKit
public import Idealize.ShloMosaic.Lib.Pointwise
public import Idealize.ShloMosaic.Lib.Claim
@[expose] public section
set_option maxRecDepth 16384
noncomputable section
namespace Cert.Merge
open Cert.Kernel3Ideal Cert.Kernel3Ideal.Gen Idealize.ShloMosaic Idealize.ShloMosaic.TcCoe Idealize.SL.Sem
open Idealize.ShloMosaic.Pipeline (Dat)
open Ref (gate)

/-- The latent rows of all batches, then the context rows. -/
def rows1 (l : FVec Ideal S4x4096x1024 .f32) (x : FVec Ideal S4x256x1024 .f32) : FVec Ideal S17408x1024 .f32 :=
  concatenate S17408x1024 0 [⟨S16384x1024, shapeCast S16384x1024 l shapeCasts_S4x4096x1024_S16384x1024⟩,
    ⟨S1024x1024, shapeCast S1024x1024 x shapeCasts_S4x256x1024_S1024x1024⟩] concatenates_S16384x1024_S1024x1024_S17408x1024_d0

/-- The same for rows of twice the width. -/
def rows2 (l : FVec Ideal S4x4096x2048 .f32) (x : FVec Ideal S4x256x2048 .f32) : FVec Ideal S17408x2048 .f32 :=
  concatenate S17408x2048 0 [⟨S16384x2048, shapeCast S16384x2048 l shapeCasts_S4x4096x2048_S16384x2048⟩,
    ⟨S1024x2048, shapeCast S1024x2048 x shapeCasts_S4x256x2048_S1024x2048⟩] concatenates_S16384x2048_S1024x2048_S17408x2048_d0

/-- The same for the gates, padded to the width of the projection's result. -/
def gates (l : FVec Ideal S4x4096x6144 .f32) (x : FVec Ideal S4x256x6144 .f32) : FVec Ideal S17408x13824 .f32 :=
  concatenate S17408x13824 1 [⟨S17408x6144, concatenate S17408x6144 0 [⟨S16384x6144, shapeCast S16384x6144 l shapeCasts_S4x4096x6144_S16384x6144⟩,
    ⟨S1024x6144, shapeCast S1024x6144 x shapeCasts_S4x256x6144_S1024x6144⟩] concatenates_S16384x6144_S1024x6144_S17408x6144_d0⟩,
    ⟨S17408x7680, broadcastInDim S17408x7680 ![] bcast_S_S17408x7680 (constant S_ .f32 0x00000000#32)⟩] concatenates_S17408x6144_S17408x7680_S17408x13824_d1

theorem rows1_at (l : FVec Ideal S4x4096x1024 .f32) (x : FVec Ideal S4x256x1024 .f32) (r : Fin 17408) (d : Fin 1024) :
    rows1 l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rows1]
theorem rows2_at (l : FVec Ideal S4x4096x2048 .f32) (x : FVec Ideal S4x256x2048 .f32) (r : Fin 17408) (d : Fin 2048) :
    rows2 l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rows2]

theorem gates_at (l : FVec Ideal S4x4096x6144 .f32) (x : FVec Ideal S4x256x6144 .f32) (r : Fin 17408) (d : Fin 13824) (hd : d.val < 6144) :
    gates l x (ix2 r d) = if hr : r.val < 16384 then l (ix3 ⟨r / 4096, by omega⟩ ⟨r % 4096, by omega⟩ ⟨d, hd⟩)
      else x (ix3 ⟨(r - 16384) / 256, by omega⟩ ⟨(r - 16384) % 256, by omega⟩ ⟨d, hd⟩) := by
  pointwise [gates]
  blk_point []
  all_goals omega

variable (m : (ℓ : Loc nD τ sig) → Buf (Elt Ideal) ℓ)

theorem V_a (c : Dev nD) : V m c main_v8 = truncf (F := Ideal) .bf16 (rows1 (m ((c : Thread nD τ).loc main_arg0)) (m ((c : Thread nD τ).loc main_arg1))) bitsLt_bf16_f32 := by
  unfold V
  simp only [List.flatten_cons, List.flatten_nil, List.append_nil, List.cons_append, List.nil_append, hostOps0]
  after_results
  rfl
theorem V_b (c : Dev nD) : V m c main_v12 = truncf (F := Ideal) .bf16 (rows1 (m ((c : Thread nD τ).loc main_arg2)) (m ((c : Thread nD τ).loc main_arg3))) bitsLt_bf16_f32 := by
  unfold V
  simp only [List.flatten_cons, List.flatten_nil, List.append_nil, List.cons_append, List.nil_append, hostOps0]
  after_results
  rfl
theorem V_c (c : Dev nD) : V m c main_v16 = truncf (F := Ideal) .bf16 (rows2 (m ((c : Thread nD τ).loc main_arg4)) (m ((c : Thread nD τ).loc main_arg5))) bitsLt_bf16_f32 := by
  unfold V
  simp only [List.flatten_cons, List.flatten_nil, List.append_nil, List.cons_append, List.nil_append, hostOps0]
  after_results
  rfl
theorem V_g (c : Dev nD) : V m c main_v4 = gates (m ((c : Thread nD τ).loc main_arg6)) (m ((c : Thread nD τ).loc main_arg7)) := by
  unfold V
  simp only [List.flatten_cons, List.flatten_nil, List.append_nil, List.cons_append, List.nil_append, hostOps0]
  after_results
  rfl
theorem V_wa (c : Dev nD) : V m c main_v17 = truncf (F := Ideal) .bf16 (m ((c : Thread nD τ).loc main_arg8)) bitsLt_bf16_f32 := by
  unfold V
  simp only [List.flatten_cons, List.flatten_nil, List.append_nil, List.cons_append, List.nil_append, hostOps0]
  after_results
theorem V_wb (c : Dev nD) : V m c main_v18 = truncf (F := Ideal) .bf16 (m ((c : Thread nD τ).loc main_arg9)) bitsLt_bf16_f32 := by
  unfold V
  simp only [List.flatten_cons, List.flatten_nil, List.append_nil, List.cons_append, List.nil_append, hostOps0]
  after_results
theorem V_wc (c : Dev nD) : V m c main_v19 = truncf (F := Ideal) .bf16 (m ((c : Thread nD τ).loc main_arg10)) bitsLt_bf16_f32 := by
  unfold V
  simp only [List.flatten_cons, List.flatten_nil, List.append_nil, List.cons_append, List.nil_append, hostOps0]
  after_results

theorem idx : ∀ t : Fin cfg0.N, win0_0.index t = ![t.val / 4, 0] ∧ win0_1.index t = ![t.val / 4, 0] ∧ win0_2.index t = ![t.val / 4, 0]
    ∧ win0_3.index t = ![t.val / 4, t.val % 4] ∧ win0_4.index t = ![t.val / 4, 4 + t.val % 4] ∧ win0_5.index t = ![t.val / 4, 8 + t.val % 4]
    ∧ win0_6.index t = ![0, t.val % 4] ∧ win0_7.index t = ![0, t.val % 4] ∧ win0_8.index t = ![0, t.val % 4] ∧ win0_9.index t = ![t.val / 4, t.val % 4] :=
  (by decide +kernel : ∀ t : Fin grid0.N, _)

theorem lt (t : Fin cfg0.N) : t.val < 68 := t.isLt

theorem blk_a (c : Dev nD) (t : Fin cfg0.N) (i : Fin 1024) (k : Fin 1024) (r : Fin 17408) (hr : r.val = 1024 * (t.val / 4) + i.val) :
    iblk m c 0 t (ix2 i k : S1024x1024.Idx) = V m c main_v8 (ix2 r k) := by
  blk_ext [iblk, idx t]
theorem blk_b (c : Dev nD) (t : Fin cfg0.N) (i : Fin 1024) (k : Fin 1024) (r : Fin 17408) (hr : r.val = 1024 * (t.val / 4) + i.val) :
    iblk m c 1 t (ix2 i k : S1024x1024.Idx) = V m c main_v12 (ix2 r k) := by
  blk_ext [iblk, idx t]
theorem blk_c (c : Dev nD) (t : Fin cfg0.N) (i : Fin 1024) (k : Fin 2048) (r : Fin 17408) (hr : r.val = 1024 * (t.val / 4) + i.val) :
    iblk m c 2 t (ix2 i k : S1024x2048.Idx) = V m c main_v16 (ix2 r k) := by
  blk_ext [iblk, idx t]
theorem blk_ga (c : Dev nD) (t : Fin cfg0.N) (i : Fin 1024) (j : Fin 512) (r : Fin 17408) (hr : r.val = 1024 * (t.val / 4) + i.val)
    (l : Fin 13824) (hl : l.val = 0 + (512 * (t.val % 4) + j.val)) :
    iblk m c 3 t (ix2 i j : S1024x512.Idx) = V m c main_v4 (ix2 r l) := by
  blk_ext [iblk, idx t]
theorem blk_gb (c : Dev nD) (t : Fin cfg0.N) (i : Fin 1024) (j : Fin 512) (r : Fin 17408) (hr : r.val = 1024 * (t.val / 4) + i.val)
    (l : Fin 13824) (hl : l.val = 2048 + (512 * (t.val % 4) + j.val)) :
    iblk m c 4 t (ix2 i j : S1024x512.Idx) = V m c main_v4 (ix2 r l) := by
  blk_ext [iblk, idx t]
theorem blk_gc (c : Dev nD) (t : Fin cfg0.N) (i : Fin 1024) (j : Fin 512) (r : Fin 17408) (hr : r.val = 1024 * (t.val / 4) + i.val)
    (l : Fin 13824) (hl : l.val = 4096 + (512 * (t.val % 4) + j.val)) :
    iblk m c 5 t (ix2 i j : S1024x512.Idx) = V m c main_v4 (ix2 r l) := by
  blk_ext [iblk, idx t]
theorem blk_wa (c : Dev nD) (t : Fin cfg0.N) (k : Fin 1024) (j : Fin 512) (l : Fin 2048) (hl : l.val = 512 * (t.val % 4) + j.val) :
    iblk m c 6 t (ix2 k j : S1024x512.Idx) = V m c main_v17 (ix2 k l) := by
  blk_ext [iblk, idx t]
theorem blk_wb (c : Dev nD) (t : Fin cfg0.N) (k : Fin 1024) (j : Fin 512) (l : Fin 2048) (hl : l.val = 512 * (t.val % 4) + j.val) :
    iblk m c 7 t (ix2 k j : S1024x512.Idx) = V m c main_v18 (ix2 k l) := by
  blk_ext [iblk, idx t]
theorem blk_wc (c : Dev nD) (t : Fin cfg0.N) (k : Fin 2048) (j : Fin 512) (l : Fin 2048) (hl : l.val = 512 * (t.val % 4) + j.val) :
    iblk m c 8 t (ix2 k j : S2048x512.Idx) = V m c main_v19 (ix2 k l) := by
  blk_ext [iblk, idx t]

theorem pay (xa xb : Vec Ideal S1024x1024 .bf16) (xc : Vec Ideal S1024x2048 .bf16) (ga gb gc : Vec Ideal S1024x512 .f32) (wa wb : Vec Ideal S1024x512 .bf16)
    (wc : Vec Ideal S2048x512 .bf16) (i : Fin 1024) (j : Fin 512) :
    k0_pay1 (F := Ideal) (k0_pay2 ga xa wa gb xb wb) (k0_pay3 gc) xc wc (ix2 i j) = gate (ga (ix2 i j)) * (∑ k : Fin 1024, xa (ix2 i k) * wa (ix2 k j))
      + gate (gb (ix2 i j)) * (∑ k : Fin 1024, xb (ix2 i k) * wb (ix2 k j)) + gate (gc (ix2 i j)) * (∑ k : Fin 2048, xc (ix2 i k) * wc (ix2 k j)) := by
  pointwise [k0_pay1, k0_pay2, k0_pay3, gate]
  simp only [zero_sub]

/-- The row's gated sums over the packed arrays are the reference's. -/
theorem core (al : FVec Ideal S4x4096x1024 .f32) (ac : FVec Ideal S4x256x1024 .f32) (bl : FVec Ideal S4x4096x1024 .f32) (bc : FVec Ideal S4x256x1024 .f32) (cl : FVec Ideal S4x4096x2048 .f32) (cc : FVec Ideal S4x256x2048 .f32) (gl : FVec Ideal S4x4096x6144 .f32) (gc : FVec Ideal S4x256x6144 .f32) (wa : FVec Ideal S1024x2048 .f32) (wb : FVec Ideal S1024x2048 .f32) (wc : FVec Ideal S2048x2048 .f32) (r : Fin 17408) (l : Fin 2048) :
    gate (gates gl gc (ix2 r ⟨l, by omega⟩)) * (∑ k : Fin 1024, rows1 al ac (ix2 r k) * wa (ix2 k l))
      + gate (gates gl gc (ix2 r ⟨2048 + l, by omega⟩)) * (∑ k : Fin 1024, rows1 bl bc (ix2 r k) * wb (ix2 k l))
      + gate (gates gl gc (ix2 r ⟨4096 + l, by omega⟩)) * (∑ k : Fin 2048, rows2 cl cc (ix2 r k) * wc (ix2 k l))
      = Ref.result al ac bl bc cl cc gl gc wa wb wc (ix2 r l) := by
  rw [Ref.result_at, gates_at _ _ _ _ (by show l.val < 6144; omega), gates_at _ _ _ _ (by show 2048 + l.val < 6144; omega), gates_at _ _ _ _ (by show 4096 + l.val < 6144; omega)]
  simp only [rows1_at, rows2_at]
  by_cases h : r.val < 16384
  · simp only [dif_pos h]
  · simp only [dif_neg h]

/-- What a grid point leaves at row `y 0`, column `y 1` of its output block. -/
theorem point (c : Dev nD) (t : Fin cfg0.N) (y : S1024x512.Idx) (r : Fin 17408) (l : Fin 2048) (hr : r.val = 1024 * (t.val / 4) + (y 0).val)
    (hl : l.val = 512 * (t.val % 4) + (y 1).val) :
    out0_9 (iblk m c 0 t) (iblk m c 1 t) (iblk m c 2 t) (iblk m c 3 t) (iblk m c 4 t) (iblk m c 5 t) (iblk m c 6 t) (iblk m c 7 t) (iblk m c 8 t) y
      = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 r l) := by
  have ht := lt t
  obtain ⟨i, j, rfl⟩ : ∃ (i : Fin 1024) (j : Fin 512), y = ix2 i j := ⟨y 0, y 1, by funext a; fin_cases a <;> rfl⟩
  have hr : r.val = 1024 * (t.val / 4) + i.val := hr
  have hl : l.val = 512 * (t.val % 4) + j.val := hl
  frame_out
  rw [pay, blk_ga m c t _ _ r hr ⟨l, by omega⟩ (by show l.val = _; omega), blk_gb m c t _ _ r hr ⟨2048 + l, by omega⟩ (by show 2048 + l.val = _; omega),
    blk_gc m c t _ _ r hr ⟨4096 + l, by omega⟩ (by show 4096 + l.val = _; omega), V_g]
  refine Eq.trans (congrArg₂ _ (congrArg₂ _ (congrArg _ (Finset.sum_congr rfl fun k _ => ?_)) (congrArg _ (Finset.sum_congr rfl fun k _ => ?_)))
    (congrArg _ (Finset.sum_congr rfl fun k _ => ?_))) (core _ _ _ _ _ _ _ _ _ _ _ r l)
  · rw [blk_a m c t _ k r hr, blk_wa m c t k _ l hl, V_a, V_wa]
    rfl
  · rw [blk_b m c t _ k r hr, blk_wb m c t k _ l hl, V_b, V_wb]
    rfl
  · rw [blk_c m c t _ k r hr, blk_wc m c t k _ l hl, V_c, V_wc]
    rfl

/-- The whole result. -/
theorem final (c : Dev nD) : (dats m 0 c).arrAt 9 cfg0.N
    = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 9 _ (by decide +kernel) fun t _ y => ?_
  blk_simp
  rw [after0_9]
  have e := (idx t).2.2.2.2.2.2.2.2.2
  rw [point m c t y ((win0_9.blk t).view.emb y 0) ((win0_9.blk t).view.emb y 1) ?_ ?_]
  · exact congrArg _ (by funext a; fin_cases a <;> rfl)
  · blk_simp
    rw [e]
    show t.val / 4 * 1024 + (y 0).val = 1024 * (t.val / 4) + (y 0).val
    omega
  · blk_simp
    rw [e]
    show t.val % 4 * 512 + (y 1).val = 512 * (t.val % 4) + (y 1).val
    omega
end Cert.Merge
end
-- ==== Proof.Merge.Claims.lean ====
/- The branch merge's claims: the frames of the three programs and the equality of the kernel's result with the reference's. -/
module
public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Merge.Final
@[expose] public section
set_option maxRecDepth 16384
noncomputable section
namespace Cert.Merge.Claims
open Idealize.ShloMosaic Idealize.SL.Sem

theorem frame_kernel : Cert.quiescent_Kernel3 := fun m ρ _ => Cert.Kernel3.Gen.frame m ρ
theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- On any arguments the kernel leaves the reference's array. -/
theorem equal : Cert.algebraic_Kernel3Ideal_Reference3Ideal := by
  intro m ρ m' ρ' _ hagree
  refine ⟨fun c => Cert.Merge.Ref.result (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5))
    (m ((c.tc : Thread Cert.Kernel3Ideal.nD Cert.Kernel3Ideal.τ).loc Cert.Kernel3Ideal.main_arg6))
    (m ((c.tc : Thread Cert.Kernel3Ideal.nD Cert.Kernel3Ideal.τ).loc Cert.Kernel3Ideal.main_arg7))
    (m ((c.tc : Thread Cert.Kernel3Ideal.nD Cert.Kernel3Ideal.τ).loc Cert.Kernel3Ideal.main_arg8))
    (m ((c.tc : Thread Cert.Kernel3Ideal.nD Cert.Kernel3Ideal.τ).loc Cert.Kernel3Ideal.main_arg9))
    (m ((c.tc : Thread Cert.Kernel3Ideal.nD Cert.Kernel3Ideal.τ).loc Cert.Kernel3Ideal.main_arg10)), ?_, ?_⟩
  · exact (θ_run Cert.Kernel3Ideal.defs _ _).mono (fun r h c => ⟨(h c).1.trans (final m c), (h c).2⟩) (Cert.Kernel3Ideal.Value.run_blocks m ρ)
  · refine (θ_run Cert.Reference3Ideal.defs _ _).mono (fun r h c => ⟨(h c).1.trans ?_, (h c).2⟩) (Cert.Reference3Ideal.Value.run m' ρ')
    obtain ⟨e0, e1, e2, e3, e4, e5, e6, e7, e8, e9, e10⟩ := hagree c
    rw [e0, e1, e2, e3, e4, e5, e6, e7, e8, e9, e10]
    rfl
end Cert.Merge.Claims
end
-- ==== Proof.Out.Ref.lean ====
/- The reference of the output projection as a term of its arguments, and that term read at an index. -/
module
public import proofs.«01_k».proof.Proof.Gen.Reference4Ideal.Run
public import Idealize.ShloMosaic.Lib.Pointwise
@[expose] public section
set_option maxRecDepth 16384
noncomputable section
namespace Cert.Out.Ref
open Cert.Reference4Ideal Cert.Reference4Ideal.Gen Idealize.ShloMosaic Idealize.ShloMosaic.TcCoe Idealize.SL.Sem

/-- The result. -/
def result (ml : FVec Ideal S4x4096x2048 .f32) (mc : FVec Ideal S4x256x2048 .f32) (x : FVec Ideal S4x4096x2048 .f32) (ctx : FVec Ideal S4x256x2048 .f32)
    (dl : FVec Ideal S4x12288 .f32) (dc : FVec Ideal S12288 .f32) (w : FVec Ideal S2048x2048 .f32) : FVec Ideal S17408x2048 .f32 :=
  concatenate S17408x2048 0 [⟨S16384x2048, (shapeCast _ (addf x (mulf (broadcastInDim S4x4096x2048 ![0, 1, 2] bcast_S4x1x2048_S4x4096x2048_0_1_2 (broadcastInDim S4x1x2048 ![0, 2] bcast_S4x2048_S4x1x2048_0_2 (extractStridedSlice S4x2048 ![0, 4096] dl slices_S4x12288_S4x2048_0_4096))) (Host.dotGeneral dot_S4x4096x2048_S2048x2048_S4x4096x2048_2_0_01_1_n_n none ml w))) shapeCasts_S4x4096x2048_S16384x2048)⟩, ⟨S1024x2048, (shapeCast _ (addf ctx (mulf (broadcastInDim S4x256x2048 ![0, 1, 2] bcast_S1x1x2048_S4x256x2048_0_1_2 (broadcastInDim S1x1x2048 ![2] bcast_S2048_S1x1x2048_2 (extractStridedSlice S2048 ![4096] dc slices_S12288_S2048_4096))) (Host.dotGeneral dot_S4x256x2048_S2048x2048_S4x256x2048_2_0_01_1_n_n none mc w))) shapeCasts_S4x256x2048_S1024x2048)⟩] concatenates_S16384x2048_S1024x2048_S17408x2048_d0

theorem result_at (ml : FVec Ideal S4x4096x2048 .f32) (mc : FVec Ideal S4x256x2048 .f32) (x : FVec Ideal S4x4096x2048 .f32) (ctx : FVec Ideal S4x256x2048 .f32)
    (dl : FVec Ideal S4x12288 .f32) (dc : FVec Ideal S12288 .f32) (w : FVec Ideal S2048x2048 .f32) (r : Fin 17408) (l : Fin 2048) :
    result ml mc x ctx dl dc w (ix2 r l) = if hr : r.val < 16384 then
      x (ix3 ⟨r / 4096, by omega⟩ ⟨r % 4096, by omega⟩ l) + dl (ix2 ⟨r / 4096, by omega⟩ ⟨4096 + l, by omega⟩) *
        ∑ k : Fin 2048, ml (ix3 ⟨r / 4096, by omega⟩ ⟨r % 4096, by omega⟩ k) * w (ix2 k l)
      else ctx (ix3 ⟨(r - 16384) / 256, by omega⟩ ⟨(r - 16384) % 256, by omega⟩ l) + dc (ix1 ⟨4096 + l, by omega⟩) *
        ∑ k : Fin 2048, mc (ix3 ⟨(r - 16384) / 256, by omega⟩ ⟨(r - 16384) % 256, by omega⟩ k) * w (ix2 k l) := by
  pointwise [result]
end Cert.Out.Ref
end
-- ==== Proof.Out.Final.lean ====
/- The output projection: the arrays its windows stage, the blocks of a grid point, and the kernel's result array as the reference's. Point `t`
   is row block `t / 2` and column block `t % 2`. -/
module
public import proofs.«01_k».proof.Proof.Gen.Kernel4Ideal.Value
public import proofs.«01_k».proof.Proof.Out.Ref
public import Idealize.ShloMosaic.Lib.Pipeline.ValueKit
public import Idealize.ShloMosaic.Lib.Pointwise
public import Idealize.ShloMosaic.Lib.Claim
@[expose] public section
set_option maxRecDepth 16384
noncomputable section
namespace Cert.Out
open Cert.Kernel4Ideal Cert.Kernel4Ideal.Gen Idealize.ShloMosaic Idealize.ShloMosaic.TcCoe Idealize.SL.Sem
open Idealize.ShloMosaic.Pipeline (Dat)

/-- The latent rows of all batches, then the context rows. -/
def rows (l : FVec Ideal S4x4096x2048 .f32) (x : FVec Ideal S4x256x2048 .f32) : FVec Ideal S17408x2048 .f32 :=
  concatenate S17408x2048 0 [⟨S16384x2048, shapeCast S16384x2048 l shapeCasts_S4x4096x2048_S16384x2048⟩,
    ⟨S1024x2048, shapeCast S1024x2048 x shapeCasts_S4x256x2048_S1024x2048⟩] concatenates_S16384x2048_S1024x2048_S17408x2048_d0

/-- The modulation of the batches, that of the context, and three rows of zeros. -/
def table (l : FVec Ideal S4x12288 .f32) (x : FVec Ideal S12288 .f32) : FVec Ideal S8x6x2048 .f32 :=
  shapeCast S8x6x2048 (concatenate S8x12288 0 [⟨S4x12288, l⟩, ⟨S1x12288, broadcastInDim S1x12288 ![1] bcast_S12288_S1x12288_1 x⟩,
    ⟨S3x12288, broadcastInDim S3x12288 ![] bcast_S_S3x12288 (constant S_ .f32 0x00000000#32)⟩] concatenates_S4x12288_S1x12288_S3x12288_S8x12288_d0)
    shapeCasts_S8x12288_S8x6x2048

theorem rows_at (l : FVec Ideal S4x4096x2048 .f32) (x : FVec Ideal S4x256x2048 .f32) (r : Fin 17408) (d : Fin 2048) :
    rows l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rows]

theorem table_at (l : FVec Ideal S4x12288 .f32) (x : FVec Ideal S12288 .f32) (b : Fin 8) (k : Fin 6) (d : Fin 2048) (hb : b.val < 5) :
    table l x (ix3 b k d) = if h : b.val < 4 then l (ix2 ⟨b, h⟩ ⟨2048 * k + d, by omega⟩) else x (ix1 ⟨2048 * k + d, by omega⟩) := by
  pointwise [table]
  blk_point []
  omega

variable (m : (ℓ : Loc nD τ sig) → Buf (Elt Ideal) ℓ)

theorem V_a (c : Dev nD) : V m c main_v3 = truncf (F := Ideal) .bf16 (rows (m ((c : Thread nD τ).loc main_arg0)) (m ((c : Thread nD τ).loc main_arg1))) bitsLt_bf16_f32 := by
  unfold V
  simp only [List.flatten_cons, List.flatten_nil, List.append_nil, List.cons_append, List.nil_append, hostOps0]
  after_results
  rfl
theorem V_w (c : Dev nD) : V m c main_v4 = truncf (F := Ideal) .bf16 (m ((c : Thread nD τ).loc main_arg6)) bitsLt_bf16_f32 := by
  unfold V
  simp only [List.flatten_cons, List.flatten_nil, List.append_nil, List.cons_append, List.nil_append, hostOps0]
  after_results
theorem V_x (c : Dev nD) : V m c main_v7 = rows (m ((c : Thread nD τ).loc main_arg2)) (m ((c : Thread nD τ).loc main_arg3)) := by
  unfold V
  simp only [List.flatten_cons, List.flatten_nil, List.append_nil, List.cons_append, List.nil_append, hostOps0]
  after_results
  rfl
theorem V_d (c : Dev nD) : V m c main_v11 = table (m ((c : Thread nD τ).loc main_arg4)) (m ((c : Thread nD τ).loc main_arg5)) := by
  unfold V
  simp only [List.flatten_cons, List.flatten_nil, List.append_nil, List.cons_append, List.nil_append, hostOps0]
  after_results
  rfl

theorem idx : ∀ t : Fin cfg0.N, win0_0.index t = ![t.val / 2, 0] ∧ win0_1.index t = ![0, t.val % 2] ∧ win0_2.index t = ![t.val / 2, t.val % 2]
    ∧ win0_3.index t = ![if t.val / 2 < 16 then t.val / 8 else 4, 0, t.val % 2] ∧ win0_4.index t = ![t.val / 2, t.val % 2] :=
  (by decide +kernel : ∀ t : Fin grid0.N, _)

theorem lt (t : Fin cfg0.N) : t.val < 34 := t.isLt

/-- The modulation's row for a row block. -/
def batch (t : Fin cfg0.N) : Fin 8 := ⟨if t.val / 2 < 16 then t.val / 8 else 4, by have := lt t; split <;> omega⟩

theorem blk_a (c : Dev nD) (t : Fin cfg0.N) (i : Fin 1024) (k : Fin 2048) (r : Fin 17408) (hr : r.val = 1024 * (t.val / 2) + i.val) :
    iblk m c 0 t (ix2 i k : S1024x2048.Idx) = V m c main_v3 (ix2 r k) := by
  blk_ext [iblk, idx t]
theorem blk_w (c : Dev nD) (t : Fin cfg0.N) (k : Fin 2048) (j : Fin 1024) (l : Fin 2048) (hl : l.val = 1024 * (t.val % 2) + j.val) :
    iblk m c 1 t (ix2 k j : S2048x1024.Idx) = V m c main_v4 (ix2 k l) := by
  blk_ext [iblk, idx t]
theorem blk_x (c : Dev nD) (t : Fin cfg0.N) (i j : Fin 1024) (r : Fin 17408) (hr : r.val = 1024 * (t.val / 2) + i.val)
    (l : Fin 2048) (hl : l.val = 1024 * (t.val % 2) + j.val) :
    iblk m c 2 t (ix2 i j : S1024x1024.Idx) = V m c main_v7 (ix2 r l) := by
  blk_ext [iblk, idx t]
theorem blk_d (c : Dev nD) (t : Fin cfg0.N) (k : Fin 6) (j : Fin 1024) (l : Fin 2048) (hl : l.val = 1024 * (t.val % 2) + j.val) :
    iblk m c 3 t (ix3 0 k j : S1x6x1024.Idx) = V m c main_v11 (ix3 (batch t) k l) := by
  blk_ext [iblk, idx t, batch]

theorem pay (x : Vec Ideal S1024x1024 .f32) (d : Vec Ideal S1x6x1024 .f32) (a : Vec Ideal S1024x2048 .bf16) (w : Vec Ideal S2048x1024 .bf16) (i j : Fin 1024) :
    k0_pay1 (F := Ideal) x (View.ld d r0_1) a w (ix2 i j) = x (ix2 i j) + d (ix3 0 2 j) * ∑ k : Fin 2048, a (ix2 i k) * w (ix2 k j) := by
  pointwise [k0_pay1]

/-- The row's sum over the packed arrays is the reference's. -/
theorem core (ml : FVec Ideal S4x4096x2048 .f32) (mc : FVec Ideal S4x256x2048 .f32) (x : FVec Ideal S4x4096x2048 .f32) (ctx : FVec Ideal S4x256x2048 .f32)
    (dl : FVec Ideal S4x12288 .f32) (dc : FVec Ideal S12288 .f32) (w : FVec Ideal S2048x2048 .f32) (r : Fin 17408) (l : Fin 2048) (b : Fin 8)
    (hb : b.val = if r.val < 16384 then r.val / 4096 else 4) :
    rows x ctx (ix2 r l) + table dl dc (ix3 b 2 l) * (∑ k : Fin 2048, rows ml mc (ix2 r k) * w (ix2 k l)) = Ref.result ml mc x ctx dl dc w (ix2 r l) := by
  have hb5 : b.val < 5 := by rw [hb]; split <;> omega
  rw [Ref.result_at, table_at _ _ _ _ _ hb5]
  simp only [rows_at]
  by_cases h : r.val < 16384
  · have hb' : b.val < 4 := by rw [hb, if_pos h]; omega
    have e : (⟨b.val, hb'⟩ : Fin 4) = ⟨r.val / 4096, by omega⟩ := Fin.ext (by simp only [hb, if_pos h])
    simp only [dif_pos h, dif_pos hb', e]
    rfl
  · have hb' : ¬ b.val < 4 := by rw [hb, if_neg h]; omega
    simp only [dif_neg h, dif_neg hb']
    rfl

/-- What a grid point leaves at row `y 0`, column `y 1` of its output block. -/
theorem point (c : Dev nD) (t : Fin cfg0.N) (y : S1024x1024.Idx) (r : Fin 17408) (l : Fin 2048) (hr : r.val = 1024 * (t.val / 2) + (y 0).val)
    (hl : l.val = 1024 * (t.val % 2) + (y 1).val) :
    out0_4 (iblk m c 0 t) (iblk m c 1 t) (iblk m c 2 t) (iblk m c 3 t) y = Ref.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 r l) := by
  have ht := lt t
  obtain ⟨i, j, rfl⟩ : ∃ i j : Fin 1024, y = ix2 i j := ⟨y 0, y 1, by funext a; fin_cases a <;> rfl⟩
  have hr : r.val = 1024 * (t.val / 2) + i.val := hr
  have hl : l.val = 1024 * (t.val % 2) + j.val := hl
  frame_out
  rw [pay, blk_x m c t _ _ r hr l hl, blk_d m c t 2 _ l hl, V_x, V_d]
  refine Eq.trans (congrArg _ (congrArg _ (Finset.sum_congr rfl fun k _ => ?_))) (core _ _ _ _ _ _ _ r l (batch t) ?_)
  · rw [blk_a m c t _ k r hr, blk_w m c t k _ l hl, V_a, V_w]
    rfl
  · show (if t.val / 2 < 16 then t.val / 8 else 4) = _
    split <;> split <;> omega

/-- The whole result. -/
theorem final (c : Dev nD) : (dats m 0 c).arrAt 4 cfg0.N = Ref.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 4 _ (by decide +kernel) fun t _ y => ?_
  blk_simp
  rw [after0_4]
  have e := idx t
  rw [point m c t y ((win0_4.blk t).view.emb y 0) ((win0_4.blk t).view.emb y 1) ?_ ?_]
  · exact congrArg _ (by funext a; fin_cases a <;> rfl)
  · blk_simp
    rw [e.2.2.2.2]
    show t.val / 2 * 1024 + (y 0).val = 1024 * (t.val / 2) + (y 0).val
    omega
  · blk_simp
    rw [e.2.2.2.2]
    show t.val % 2 * 1024 + (y 1).val = 1024 * (t.val % 2) + (y 1).val
    omega
end Cert.Out
end
-- ==== Proof.Out.Claims.lean ====
/- The output projection's claims: the frames of the three programs and the equality of the kernel's result with the reference's. -/
module
public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Out.Final
@[expose] public section
set_option maxRecDepth 16384
noncomputable section
namespace Cert.Out.Claims
open Idealize.ShloMosaic Idealize.SL.Sem

theorem frame_kernel : Cert.quiescent_Kernel4 := fun m ρ _ => Cert.Kernel4.Gen.frame m ρ
theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- On any arguments the kernel leaves the reference's array. -/
theorem equal : Cert.algebraic_Kernel4Ideal_Reference4Ideal := by
  intro m ρ m' ρ' _ hagree
  refine ⟨fun c => Cert.Out.Ref.result (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6)), ?_, ?_⟩
  · exact (θ_run Cert.Kernel4Ideal.defs _ _).mono (fun r h c => ⟨(h c).1.trans (final m c), (h c).2⟩) (Cert.Kernel4Ideal.Value.run_blocks m ρ)
  · refine (θ_run Cert.Reference4Ideal.defs _ _).mono (fun r h c => ⟨(h c).1.trans ?_, (h c).2⟩) (Cert.Reference4Ideal.Value.run m' ρ')
    obtain ⟨e0, e1, e2, e3, e4, e5, e6⟩ := hagree c
    rw [e0, e1, e2, e3, e4, e5, e6]
    rfl
end Cert.Out.Claims
end
-- ==== Proof.Experts.Ref.lean ====
/- The reference of the experts and the final norm as a term of its arguments, and that term read at an index. -/
module
public import proofs.«01_k».proof.Proof.Gen.Reference5Ideal.Run
public import Idealize.ShloMosaic.Lib.Pointwise
public import Idealize.ShloMosaic.Lib.Claim
@[expose] public section
set_option maxRecDepth 16384
noncomputable section
namespace Cert.Experts.Ref
open Cert.Reference5Ideal Cert.Reference5Ideal.Gen Idealize.ShloMosaic Idealize.ShloMosaic.TcCoe Idealize.SL.Sem

/-- The exact GELU. -/
def gelu (a : EReal) : EReal :=
  (FloatOps.ofBits (F := Ideal) .f32 0x3F000000#32 : EReal) * a * (1 + Ideal.erf (a * (FloatOps.ofBits (F := Ideal) .f32 0x3F3504F3#32 : EReal)))

/-- The gate of each expert for each token. -/
def gates (a3 : FVec Ideal S8x128x16384 .f32) (a4 : FVec Ideal S8x128x16384 .f32) (a5 : FVec Ideal S8x128x16384 .f32) (a6 : FVec Ideal S8x128x16384 .f32) : FVec Ideal S16384x16384 .f32 :=
  transpose S16384x16384 [1, 0] (shapeCast _ (Host.reduceAdd (select (cmpf .olt (broadcastInDim S8x128x128x16384 ![0, 1, 2, 3] bcast_S8x1x128x16384_S8x128x128x16384_0_1_2_3 (broadcastInDim S8x1x128x16384 ![0, 2, 3] bcast_S8x128x16384_S8x1x128x16384_0_2_3 a3)) (broadcastInDim S8x128x128x16384 ![0, 1, 2, 3] bcast_S8x128x1x16384_S8x128x128x16384_0_1_2_3 (broadcastInDim S8x128x1x16384 ![0, 1, 3] bcast_S8x128x16384_S8x128x1x16384_0_1_3 a5))) (mulf (broadcastInDim S8x128x128x16384 ![0, 1, 2, 3] bcast_S8x1x128x16384_S8x128x128x16384_0_1_2_3 (broadcastInDim S8x1x128x16384 ![0, 2, 3] bcast_S8x128x16384_S8x1x128x16384_0_2_3 a4)) (broadcastInDim S8x128x128x16384 ![0, 1, 2, 3] bcast_S8x128x1x16384_S8x128x128x16384_0_1_2_3 (broadcastInDim S8x128x1x16384 ![0, 1, 3] bcast_S8x128x16384_S8x128x1x16384_0_1_3 a6))) (broadcastInDim S8x128x128x16384 ![] bcast_S_S8x128x128x16384 (id (constant S_ .f32 0x00000000#32)))) (constant S_ .f32 0x00000000#32) reducesTo_S8x128x128x16384_S128x128x16384_d0 h_S_) shapeCasts_S128x128x16384_S16384x16384) transposes_S16384x16384_S16384x16384_1_0

/-- The activation of each expert for each token, before the GELU. -/
def hidden (a0 : FVec Ideal S4x4096x2048 .f32) (a7 : FVec Ideal S2x16384x2048 .f32) : FVec Ideal S16384x16384 .f32 :=
  Host.dotGeneral dot_S16384x2048_S2048x16384_S16384x16384_1_0_0_1_n_n none (shapeCast _ a0 shapeCasts_S4x4096x2048_S16384x2048) (transpose S2048x16384 [1, 0] (shapeCast _ (extractStridedSlice S1x16384x2048 ![1, 0, 0] a7 slices_S2x16384x2048_S1x16384x2048_1_0_0) shapeCasts_S1x16384x2048_S16384x2048) transposes_S16384x2048_S2048x16384_1_0)

/-- The GELU of every entry. -/
def gelus (a : FVec Ideal S16384x16384 .f32) : FVec Ideal S16384x16384 .f32 :=
  mulf (mulf (broadcastInDim S16384x16384 ![] bcast_S_S16384x16384 (constant S_ .f32 0x3F000000#32)) a) (Host.erfc (mulf (Host.negf a) (broadcastInDim S16384x16384 ![] bcast_S_S16384x16384 (constant S_ .f32 0x3F3504F3#32))))

/-- The experts' sum. -/
def experts (a0 : FVec Ideal S4x4096x2048 .f32) (a3 : FVec Ideal S8x128x16384 .f32) (a4 : FVec Ideal S8x128x16384 .f32) (a5 : FVec Ideal S8x128x16384 .f32) (a6 : FVec Ideal S8x128x16384 .f32) (a7 : FVec Ideal S2x16384x2048 .f32) (a8 : FVec Ideal S2x16384x2048 .f32) : FVec Ideal S16384x2048 .f32 :=
  Host.dotGeneral dot_S16384x16384_S16384x2048_S16384x2048_1_0_0_1_n_n none (mulf (gates a3 a4 a5 a6) (gelus (hidden a0 a7))) (shapeCast _ (extractStridedSlice S1x16384x2048 ![1, 0, 0] a8 slices_S2x16384x2048_S1x16384x2048_1_0_0) shapeCasts_S1x16384x2048_S16384x2048)

/-- The residual stream with the gated sum. -/
def resid (a1 : FVec Ideal S4x4096x2048 .f32) (a2 : FVec Ideal S4x12288 .f32) (y : FVec Ideal S16384x2048 .f32) : FVec Ideal S4x4096x2048 .f32 :=
  addf a1 (mulf (broadcastInDim S4x4096x2048 ![0, 1, 2] bcast_S4x1x2048_S4x4096x2048_0_1_2 (broadcastInDim S4x1x2048 ![0, 2] bcast_S4x2048_S4x1x2048_0_2 (extractStridedSlice S4x2048 ![0, 10240] a2 slices_S4x12288_S4x2048_0_10240))) (shapeCast _ y shapeCasts_S16384x2048_S4x4096x2048))

/-- The final norm, in rows. -/
def normed (o : FVec Ideal S4x4096x2048 .f32) (a9 : FVec Ideal S2048 .f32) : FVec Ideal S16384x2048 .f32 :=
  shapeCast _ (mulf (mulf o (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf o o) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a9))) shapeCasts_S4x4096x2048_S16384x2048

/-- The result. -/
def result (a0 : FVec Ideal S4x4096x2048 .f32) (a1 : FVec Ideal S4x4096x2048 .f32) (a2 : FVec Ideal S4x12288 .f32) (a3 : FVec Ideal S8x128x16384 .f32) (a4 : FVec Ideal S8x128x16384 .f32) (a5 : FVec Ideal S8x128x16384 .f32) (a6 : FVec Ideal S8x128x16384 .f32) (a7 : FVec Ideal S2x16384x2048 .f32) (a8 : FVec Ideal S2x16384x2048 .f32) (a9 : FVec Ideal S2048 .f32) : FVec Ideal S16384x2048 .f32 :=
  normed (resid a1 a2 (experts a0 a3 a4 a5 a6 a7 a8)) a9

/-- The gate of expert (first key `p`, second key `s`) for token `r`. -/
def gate (a3 : FVec Ideal S8x128x16384 .f32) (a4 : FVec Ideal S8x128x16384 .f32) (a5 : FVec Ideal S8x128x16384 .f32) (a6 : FVec Ideal S8x128x16384 .f32) (p s : Fin 128) (r : Fin 16384) : EReal :=
  ∑ h : Fin 8, if a3 (ix3 h s r) < a5 (ix3 h p r) then a4 (ix3 h s r) * a6 (ix3 h p r) else 0

/-- The activation of expert `e` for token `r`. -/
def act (a0 : FVec Ideal S4x4096x2048 .f32) (a7 : FVec Ideal S2x16384x2048 .f32) (r e : Fin 16384) : EReal :=
  ∑ k : Fin 2048, a0 (ix3 ⟨r / 4096, by omega⟩ ⟨r % 4096, by omega⟩ k) * a7 (ix3 1 e k)

/-- A row's final norm. -/
def normRow (o : Fin 2048 → EReal) (w : Fin 2048 → EReal) (l : Fin 2048) : EReal :=
  o l * Ideal.rsqrt (Ideal.div (∑ k : Fin 2048, o k * o k) (FloatOps.ofBits (F := Ideal) .f32 0x45000000#32 : EReal) + (FloatOps.ofBits (F := Ideal) .f32 0x358637BD#32 : EReal)) * w l

theorem gates_at (a3 : FVec Ideal S8x128x16384 .f32) (a4 : FVec Ideal S8x128x16384 .f32) (a5 : FVec Ideal S8x128x16384 .f32) (a6 : FVec Ideal S8x128x16384 .f32) (r e : Fin 16384) :
    gates a3 a4 a5 a6 (ix2 r e) = gate a3 a4 a5 a6 ⟨e / 128, by omega⟩ ⟨e % 128, by omega⟩ r := by
  pointwise [gates, gate]
  simp only [id_eq]
  pointwise []

theorem hidden_at (a0 : FVec Ideal S4x4096x2048 .f32) (a7 : FVec Ideal S2x16384x2048 .f32) (r e : Fin 16384) : hidden a0 a7 (ix2 r e) = act a0 a7 r e := by
  pointwise [hidden, act]

theorem gelus_at (a : FVec Ideal S16384x16384 .f32) (r e : Fin 16384) : gelus a (ix2 r e) = gelu (a (ix2 r e)) := by
  pointwise [gelus, gelu]
  rw [neg_mul, Ideal.erfc_neg]

theorem experts_at (a0 : FVec Ideal S4x4096x2048 .f32) (a3 : FVec Ideal S8x128x16384 .f32) (a4 : FVec Ideal S8x128x16384 .f32) (a5 : FVec Ideal S8x128x16384 .f32) (a6 : FVec Ideal S8x128x16384 .f32) (a7 : FVec Ideal S2x16384x2048 .f32) (a8 : FVec Ideal S2x16384x2048 .f32) (r : Fin 16384) (l : Fin 2048) :
    experts a0 a3 a4 a5 a6 a7 a8 (ix2 r l) = ∑ e : Fin 16384, gate a3 a4 a5 a6 ⟨e / 128, by omega⟩ ⟨e % 128, by omega⟩ r * gelu (act a0 a7 r e) * a8 (ix3 1 e l) := by
  pointwise [experts]
  simp only [gates_at, gelus_at, hidden_at]

theorem resid_at (a1 : FVec Ideal S4x4096x2048 .f32) (a2 : FVec Ideal S4x12288 .f32) (y : FVec Ideal S16384x2048 .f32) (p : Fin 4) (q : Fin 4096) (l : Fin 2048) :
    resid a1 a2 y (ix3 p q l) = a1 (ix3 p q l) + a2 (ix2 p ⟨10240 + l, by omega⟩) * y (ix2 ⟨p * 4096 + q, by omega⟩ l) := by
  pointwise [resid]

theorem normed_at (o : FVec Ideal S4x4096x2048 .f32) (a9 : FVec Ideal S2048 .f32) (r : Fin 16384) (l : Fin 2048) :
    normed o a9 (ix2 r l) = normRow (fun k => o (ix3 ⟨r / 4096, by omega⟩ ⟨r % 4096, by omega⟩ k)) (fun k => a9 (ix1 k)) l := by
  pointwise [normed, normRow]

theorem result_at (a0 : FVec Ideal S4x4096x2048 .f32) (a1 : FVec Ideal S4x4096x2048 .f32) (a2 : FVec Ideal S4x12288 .f32) (a3 : FVec Ideal S8x128x16384 .f32) (a4 : FVec Ideal S8x128x16384 .f32) (a5 : FVec Ideal S8x128x16384 .f32) (a6 : FVec Ideal S8x128x16384 .f32) (a7 : FVec Ideal S2x16384x2048 .f32) (a8 : FVec Ideal S2x16384x2048 .f32) (a9 : FVec Ideal S2048 .f32) (r : Fin 16384) (l : Fin 2048) :
    result a0 a1 a2 a3 a4 a5 a6 a7 a8 a9 (ix2 r l)
      = normRow (fun k => a1 (ix3 ⟨r / 4096, by omega⟩ ⟨r % 4096, by omega⟩ k) + a2 (ix2 ⟨r / 4096, by omega⟩ ⟨10240 + k, by omega⟩)
          * ∑ e : Fin 16384, gate a3 a4 a5 a6 ⟨e / 128, by omega⟩ ⟨e % 128, by omega⟩ r * gelu (act a0 a7 r e) * a8 (ix3 1 e k)) (fun k => a9 (ix1 k)) l := by
  have e : (⟨r.val / 4096 * 4096 + r.val % 4096, by omega⟩ : Fin 16384) = r := Fin.ext (by show r.val / 4096 * 4096 + r.val % 4096 = r.val; omega)
  rw [result, normed_at]
  simp only [resid_at, experts_at, e]
end Cert.Experts.Ref
end
-- ==== Proof.Experts.Chunks.lean ====
/- The experts: the gated activations one point computes, chunk by chunk, and the eight chunks read back from the scratch. -/
module
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.Claim
@[expose] public section
set_option maxRecDepth 200000
noncomputable section
namespace Cert.Experts
open Cert.Kernel5Ideal Cert.Kernel5Ideal.Gen Cert.Kernel5Ideal.Value Idealize.ShloMosaic Idealize.ShloMosaic.TcCoe Idealize.SL.Sem
open Idealize.ShloMosaic.Pipeline (Dat)

/-- The gate of the expert (first key `q` of the point's eight, second key `s`) for token `d`: the sum over the heads that chose it. -/
def gate (x3 x4 : Vec Ideal S8x128x512 .bf16) (x5 x6 : Vec Ideal S8x8x512 .f32) (q : Fin 8) (s : Fin 128) (d : Fin 512) : EReal :=
  ∑ h : Fin 8, if x3 (ix3 h s d) < x5 (ix3 h q d) then x4 (ix3 h s d) * x6 (ix3 h q d) else 0

theorem pay4 (x : Vec Ideal S2048x512 .bf16) : k0_pay4 (F := Ideal) x = x := by
  funext y
  obtain ⟨i, d, rfl⟩ : ∃ (i : Fin 2048) (d : Fin 512), y = ix2 i d := ⟨y 0, y 1, by funext a; fin_cases a <;> rfl⟩
  pointwise [k0_pay4]

/-- The exact GELU. -/
def gelu (a : EReal) : EReal :=
  (FloatOps.ofBits (F := Ideal) .f32 0x3F000000#32 : EReal) * a * (1 + Ideal.erf (a * (FloatOps.ofBits (F := Ideal) .f32 0x3F3504F3#32 : EReal)))

theorem chunk7 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay108 (k0_pay107 (k0_pay96 (k0_pay4 x0) (View.ld x1 (Rect.unit ![0, 896, 0] ![1, 128, 2048] inb_S1x1024x2048_S1x128x2048_0_896_0))) (k0_pay105 (k0_pay103 (k0_pay100 k0_pay97 (k0_pay98 (View.ld x5 (Rect.unit ![0, 7, 0] ![1, 1, 512] inb_S8x8x512_S1x1x512_0_7_0))) (k0_pay99 (View.ld x6 (Rect.unit ![0, 7, 0] ![1, 1, 512] inb_S8x8x512_S1x1x512_0_7_0))) (View.ld x3 (Rect.unit ![0, 0, 0] ![1, 128, 512] inb_S8x128x512_S1x128x512_0_0_0)) (View.ld x4 (Rect.unit ![0, 0, 0] ![1, 128, 512] inb_S8x128x512_S1x128x512_0_0_0)) (View.ld x5 (Rect.unit ![1, 7, 0] ![1, 1, 512] inb_S8x8x512_S1x1x512_1_7_0)) (View.ld x6 (Rect.unit ![1, 7, 0] ![1, 1, 512] inb_S8x8x512_S1x1x512_1_7_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay101 (View.ld x5 (Rect.unit ![2, 7, 0] ![1, 1, 512] inb_S8x8x512_S1x1x512_2_7_0))) (k0_pay102 (View.ld x6 (Rect.unit ![2, 7, 0] ![1, 1, 512] inb_S8x8x512_S1x1x512_2_7_0))) (View.ld x3 (Rect.unit ![2, 0, 0] ![1, 128, 512] inb_S8x128x512_S1x128x512_2_0_0)) (View.ld x4 (Rect.unit ![2, 0, 0] ![1, 128, 512] inb_S8x128x512_S1x128x512_2_0_0)) (View.ld x5 (Rect.unit ![3, 7, 0] ![1, 1, 512] inb_S8x8x512_S1x1x512_3_7_0)) (View.ld x6 (Rect.unit ![3, 7, 0] ![1, 1, 512] inb_S8x8x512_S1x1x512_3_7_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay104 (View.ld x5 (Rect.unit ![4, 7, 0] ![1, 1, 512] inb_S8x8x512_S1x1x512_4_7_0))) (View.ld x6 (Rect.unit ![4, 7, 0] ![1, 1, 512] inb_S8x8x512_S1x1x512_4_7_0)) (View.ld x3 (Rect.unit ![4, 0, 0] ![1, 128, 512] inb_S8x128x512_S1x128x512_4_0_0)) (View.ld x4 (Rect.unit ![4, 0, 0] ![1, 128, 512] inb_S8x128x512_S1x128x512_4_0_0)) (View.ld x5 (Rect.unit ![5, 7, 0] ![1, 1, 512] inb_S8x8x512_S1x1x512_5_7_0)) (View.ld x6 (Rect.unit ![5, 7, 0] ![1, 1, 512] inb_S8x8x512_S1x1x512_5_7_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay106 (View.ld x5 (Rect.unit ![6, 7, 0] ![1, 1, 512] inb_S8x8x512_S1x1x512_6_7_0))) (View.ld x6 (Rect.unit ![6, 7, 0] ![1, 1, 512] inb_S8x8x512_S1x1x512_6_7_0)) (View.ld x3 (Rect.unit ![6, 0, 0] ![1, 128, 512] inb_S8x128x512_S1x128x512_6_0_0)) (View.ld x4 (Rect.unit ![6, 0, 0] ![1, 128, 512] inb_S8x128x512_S1x128x512_6_0_0)) (View.ld x5 (Rect.unit ![7, 7, 0] ![1, 1, 512] inb_S8x8x512_S1x1x512_7_7_0)) (View.ld x6 (Rect.unit ![7, 7, 0] ![1, 1, 512] inb_S8x8x512_S1x1x512_7_7_0)) (View.ld x3 (Rect.unit ![7, 0, 0] ![1, 128, 512] inb_S8x128x512_S1x128x512_7_0_0)) (View.ld x4 (Rect.unit ![7, 0, 0] ![1, 128, 512] inb_S8x128x512_S1x128x512_7_0_0))) : FVec Ideal S128x512 .bf16) (ix2 s d)
      = gate x3 x4 x5 x6 7 s d * gelu (∑ k : Fin 2048, x1 (ix3 0 ⟨896 + s.val, by omega⟩ k) * x0 (ix2 k d)) := by
  rw [gate, Fin.sum_univ_eight]
  pointwise [gelu, k0_pay4, k0_pay96, k0_pay97, k0_pay98, k0_pay99, k0_pay100, k0_pay101, k0_pay102, k0_pay103, k0_pay104, k0_pay105, k0_pay106, k0_pay107, k0_pay108]
  first | rfl | (rw [pay4]; rfl)

theorem chunk6 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay95 (k0_pay81 (k0_pay4 x0) (View.ld x1 (Rect.unit ![0, 768, 0] ![1, 128, 2048] inb_S1x1024x2048_S1x128x2048_0_768_0))) (k0_pay92 (k0_pay89 (k0_pay85 (k0_pay83 k0_pay82 (View.ld x5 (Rect.unit ![0, 6, 0] ![1, 1, 512] inb_S8x8x512_S1x1x512_0_6_0)) (View.ld x6 (Rect.unit ![0, 6, 0] ![1, 1, 512] inb_S8x8x512_S1x1x512_0_6_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay84 (View.ld x5 (Rect.unit ![1, 6, 0] ![1, 1, 512] inb_S8x8x512_S1x1x512_1_6_0)) (View.ld x6 (Rect.unit ![1, 6, 0] ![1, 1, 512] inb_S8x8x512_S1x1x512_1_6_0)) (View.ld x3 (Rect.unit ![1, 0, 0] ![1, 128, 512] inb_S8x128x512_S1x128x512_1_0_0)) (View.ld x4 (Rect.unit ![1, 0, 0] ![1, 128, 512] inb_S8x128x512_S1x128x512_1_0_0))) (View.ld x5 (Rect.unit ![2, 6, 0] ![1, 1, 512] inb_S8x8x512_S1x1x512_2_6_0)) (View.ld x6 (Rect.unit ![2, 6, 0] ![1, 1, 512] inb_S8x8x512_S1x1x512_2_6_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay86 (View.ld x6 (Rect.unit ![3, 6, 0] ![1, 1, 512] inb_S8x8x512_S1x1x512_3_6_0))) (k0_pay87 (View.ld x5 (Rect.unit ![3, 6, 0] ![1, 1, 512] inb_S8x8x512_S1x1x512_3_6_0)) (View.ld x3 (Rect.unit ![3, 0, 0] ![1, 128, 512] inb_S8x128x512_S1x128x512_3_0_0))) (k0_pay88 (View.ld x4 (Rect.unit ![3, 0, 0] ![1, 128, 512] inb_S8x128x512_S1x128x512_3_0_0))) (View.ld x5 (Rect.unit ![4, 6, 0] ![1, 1, 512] inb_S8x8x512_S1x1x512_4_6_0)) (View.ld x6 (Rect.unit ![4, 6, 0] ![1, 1, 512] inb_S8x8x512_S1x1x512_4_6_0)) (View.ld x3 (Rect.unit ![4, 0, 0] ![1, 128, 512] inb_S8x128x512_S1x128x512_4_0_0)) (View.ld x4 (Rect.unit ![4, 0, 0] ![1, 128, 512] inb_S8x128x512_S1x128x512_4_0_0))) (k0_pay90 (View.ld x6 (Rect.unit ![5, 6, 0] ![1, 1, 512] inb_S8x8x512_S1x1x512_5_6_0))) (k0_pay91 (View.ld x5 (Rect.unit ![5, 6, 0] ![1, 1, 512] inb_S8x8x512_S1x1x512_5_6_0)) (View.ld x3 (Rect.unit ![5, 0, 0] ![1, 128, 512] inb_S8x128x512_S1x128x512_5_0_0))) (View.ld x4 (Rect.unit ![5, 0, 0] ![1, 128, 512] inb_S8x128x512_S1x128x512_5_0_0)) (View.ld x5 (Rect.unit ![6, 6, 0] ![1, 1, 512] inb_S8x8x512_S1x1x512_6_6_0)) (View.ld x6 (Rect.unit ![6, 6, 0] ![1, 1, 512] inb_S8x8x512_S1x1x512_6_6_0)) (View.ld x3 (Rect.unit ![6, 0, 0] ![1, 128, 512] inb_S8x128x512_S1x128x512_6_0_0)) (View.ld x4 (Rect.unit ![6, 0, 0] ![1, 128, 512] inb_S8x128x512_S1x128x512_6_0_0))) (k0_pay93 (View.ld x5 (Rect.unit ![7, 6, 0] ![1, 1, 512] inb_S8x8x512_S1x1x512_7_6_0))) (k0_pay94 (View.ld x6 (Rect.unit ![7, 6, 0] ![1, 1, 512] inb_S8x8x512_S1x1x512_7_6_0))) (View.ld x3 (Rect.unit ![7, 0, 0] ![1, 128, 512] inb_S8x128x512_S1x128x512_7_0_0)) (View.ld x4 (Rect.unit ![7, 0, 0] ![1, 128, 512] inb_S8x128x512_S1x128x512_7_0_0)) : FVec Ideal S128x512 .bf16) (ix2 s d)
      = gate x3 x4 x5 x6 6 s d * gelu (∑ k : Fin 2048, x1 (ix3 0 ⟨768 + s.val, by omega⟩ k) * x0 (ix2 k d)) := by
  rw [gate, Fin.sum_univ_eight]
  pointwise [gelu, k0_pay4, k0_pay81, k0_pay82, k0_pay83, k0_pay84, k0_pay85, k0_pay86, k0_pay87, k0_pay88, k0_pay89, k0_pay90, k0_pay91, k0_pay92, k0_pay93, k0_pay94, k0_pay95]
  first | rfl | (rw [pay4]; rfl)

theorem chunk5 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay80 (k0_pay71 (k0_pay70 (k0_pay4 x0) (View.ld x1 (Rect.unit ![0, 640, 0] ![1, 128, 2048] inb_S1x1024x2048_S1x128x2048_0_640_0))) (FloatOps.ofBits FTy.f32 1056964608#32)) (k0_pay79 (k0_pay77 (k0_pay75 (k0_pay72 (View.ld x5 (Rect.unit ![0, 5, 0] ![1, 1, 512] inb_S8x8x512_S1x1x512_0_5_0)) (View.ld x6 (Rect.unit ![0, 5, 0] ![1, 1, 512] inb_S8x8x512_S1x1x512_0_5_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay73 (View.ld x5 (Rect.unit ![1, 5, 0] ![1, 1, 512] inb_S8x8x512_S1x1x512_1_5_0))) (k0_pay74 (View.ld x6 (Rect.unit ![1, 5, 0] ![1, 1, 512] inb_S8x8x512_S1x1x512_1_5_0))) (View.ld x3 (Rect.unit ![1, 0, 0] ![1, 128, 512] inb_S8x128x512_S1x128x512_1_0_0)) (View.ld x4 (Rect.unit ![1, 0, 0] ![1, 128, 512] inb_S8x128x512_S1x128x512_1_0_0)) (View.ld x5 (Rect.unit ![2, 5, 0] ![1, 1, 512] inb_S8x8x512_S1x1x512_2_5_0)) (View.ld x6 (Rect.unit ![2, 5, 0] ![1, 1, 512] inb_S8x8x512_S1x1x512_2_5_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay76 (View.ld x5 (Rect.unit ![3, 5, 0] ![1, 1, 512] inb_S8x8x512_S1x1x512_3_5_0))) (View.ld x6 (Rect.unit ![3, 5, 0] ![1, 1, 512] inb_S8x8x512_S1x1x512_3_5_0)) (View.ld x3 (Rect.unit ![3, 0, 0] ![1, 128, 512] inb_S8x128x512_S1x128x512_3_0_0)) (View.ld x4 (Rect.unit ![3, 0, 0] ![1, 128, 512] inb_S8x128x512_S1x128x512_3_0_0)) (View.ld x5 (Rect.unit ![4, 5, 0] ![1, 1, 512] inb_S8x8x512_S1x1x512_4_5_0)) (View.ld x6 (Rect.unit ![4, 5, 0] ![1, 1, 512] inb_S8x8x512_S1x1x512_4_5_0)) (View.ld x3 (Rect.unit ![4, 0, 0] ![1, 128, 512] inb_S8x128x512_S1x128x512_4_0_0)) (View.ld x4 (Rect.unit ![4, 0, 0] ![1, 128, 512] inb_S8x128x512_S1x128x512_4_0_0))) (k0_pay78 (View.ld x5 (Rect.unit ![5, 5, 0] ![1, 1, 512] inb_S8x8x512_S1x1x512_5_5_0))) (View.ld x6 (Rect.unit ![5, 5, 0] ![1, 1, 512] inb_S8x8x512_S1x1x512_5_5_0)) (View.ld x3 (Rect.unit ![5, 0, 0] ![1, 128, 512] inb_S8x128x512_S1x128x512_5_0_0)) (View.ld x4 (Rect.unit ![5, 0, 0] ![1, 128, 512] inb_S8x128x512_S1x128x512_5_0_0)) (View.ld x5 (Rect.unit ![6, 5, 0] ![1, 1, 512] inb_S8x8x512_S1x1x512_6_5_0)) (View.ld x6 (Rect.unit ![6, 5, 0] ![1, 1, 512] inb_S8x8x512_S1x1x512_6_5_0)) (View.ld x3 (Rect.unit ![6, 0, 0] ![1, 128, 512] inb_S8x128x512_S1x128x512_6_0_0)) (View.ld x4 (Rect.unit ![6, 0, 0] ![1, 128, 512] inb_S8x128x512_S1x128x512_6_0_0))) (View.ld x5 (Rect.unit ![7, 5, 0] ![1, 1, 512] inb_S8x8x512_S1x1x512_7_5_0)) (View.ld x6 (Rect.unit ![7, 5, 0] ![1, 1, 512] inb_S8x8x512_S1x1x512_7_5_0)) (View.ld x3 (Rect.unit ![7, 0, 0] ![1, 128, 512] inb_S8x128x512_S1x128x512_7_0_0)) (View.ld x4 (Rect.unit ![7, 0, 0] ![1, 128, 512] inb_S8x128x512_S1x128x512_7_0_0)) : FVec Ideal S128x512 .bf16) (ix2 s d)
      = gate x3 x4 x5 x6 5 s d * gelu (∑ k : Fin 2048, x1 (ix3 0 ⟨640 + s.val, by omega⟩ k) * x0 (ix2 k d)) := by
  rw [gate, Fin.sum_univ_eight]
  pointwise [gelu, k0_pay4, k0_pay70, k0_pay71, k0_pay72, k0_pay73, k0_pay74, k0_pay75, k0_pay76, k0_pay77, k0_pay78, k0_pay79, k0_pay80]
  first | rfl | (rw [pay4]; rfl)

theorem chunk4 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay69 (k0_pay56 (k0_pay4 x0) (View.ld x1 (Rect.unit ![0, 512, 0] ![1, 128, 2048] inb_S1x1024x2048_S1x128x2048_0_512_0))) (k0_pay66 (k0_pay63 (k0_pay59 k0_pay57 (k0_pay58 (View.ld x5 (Rect.unit ![0, 4, 0] ![1, 1, 512] inb_S8x8x512_S1x1x512_0_4_0)) (View.ld x6 (Rect.unit ![0, 4, 0] ![1, 1, 512] inb_S8x8x512_S1x1x512_0_4_0)) (View.ld x3 (Rect.unit ![0, 0, 0] ![1, 128, 512] inb_S8x128x512_S1x128x512_0_0_0)) (View.ld x4 (Rect.unit ![0, 0, 0] ![1, 128, 512] inb_S8x128x512_S1x128x512_0_0_0))) (View.ld x5 (Rect.unit ![1, 4, 0] ![1, 1, 512] inb_S8x8x512_S1x1x512_1_4_0)) (View.ld x6 (Rect.unit ![1, 4, 0] ![1, 1, 512] inb_S8x8x512_S1x1x512_1_4_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay60 (View.ld x6 (Rect.unit ![2, 4, 0] ![1, 1, 512] inb_S8x8x512_S1x1x512_2_4_0))) (k0_pay61 (View.ld x5 (Rect.unit ![2, 4, 0] ![1, 1, 512] inb_S8x8x512_S1x1x512_2_4_0)) (View.ld x3 (Rect.unit ![2, 0, 0] ![1, 128, 512] inb_S8x128x512_S1x128x512_2_0_0))) (k0_pay62 (View.ld x4 (Rect.unit ![2, 0, 0] ![1, 128, 512] inb_S8x128x512_S1x128x512_2_0_0))) (View.ld x5 (Rect.unit ![3, 4, 0] ![1, 1, 512] inb_S8x8x512_S1x1x512_3_4_0)) (View.ld x6 (Rect.unit ![3, 4, 0] ![1, 1, 512] inb_S8x8x512_S1x1x512_3_4_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay64 (View.ld x6 (Rect.unit ![4, 4, 0] ![1, 1, 512] inb_S8x8x512_S1x1x512_4_4_0))) (k0_pay65 (View.ld x5 (Rect.unit ![4, 4, 0] ![1, 1, 512] inb_S8x8x512_S1x1x512_4_4_0)) (View.ld x3 (Rect.unit ![4, 0, 0] ![1, 128, 512] inb_S8x128x512_S1x128x512_4_0_0))) (View.ld x4 (Rect.unit ![4, 0, 0] ![1, 128, 512] inb_S8x128x512_S1x128x512_4_0_0)) (View.ld x5 (Rect.unit ![5, 4, 0] ![1, 1, 512] inb_S8x8x512_S1x1x512_5_4_0)) (View.ld x6 (Rect.unit ![5, 4, 0] ![1, 1, 512] inb_S8x8x512_S1x1x512_5_4_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay67 (View.ld x5 (Rect.unit ![6, 4, 0] ![1, 1, 512] inb_S8x8x512_S1x1x512_6_4_0))) (k0_pay68 (View.ld x6 (Rect.unit ![6, 4, 0] ![1, 1, 512] inb_S8x8x512_S1x1x512_6_4_0))) (View.ld x3 (Rect.unit ![6, 0, 0] ![1, 128, 512] inb_S8x128x512_S1x128x512_6_0_0)) (View.ld x4 (Rect.unit ![6, 0, 0] ![1, 128, 512] inb_S8x128x512_S1x128x512_6_0_0)) (View.ld x5 (Rect.unit ![7, 4, 0] ![1, 1, 512] inb_S8x8x512_S1x1x512_7_4_0)) (View.ld x6 (Rect.unit ![7, 4, 0] ![1, 1, 512] inb_S8x8x512_S1x1x512_7_4_0)) (View.ld x3 (Rect.unit ![7, 0, 0] ![1, 128, 512] inb_S8x128x512_S1x128x512_7_0_0)) (View.ld x4 (Rect.unit ![7, 0, 0] ![1, 128, 512] inb_S8x128x512_S1x128x512_7_0_0)) : FVec Ideal S128x512 .bf16) (ix2 s d)
      = gate x3 x4 x5 x6 4 s d * gelu (∑ k : Fin 2048, x1 (ix3 0 ⟨512 + s.val, by omega⟩ k) * x0 (ix2 k d)) := by
  rw [gate, Fin.sum_univ_eight]
  pointwise [gelu, k0_pay4, k0_pay56, k0_pay57, k0_pay58, k0_pay59, k0_pay60, k0_pay61, k0_pay62, k0_pay63, k0_pay64, k0_pay65, k0_pay66, k0_pay67, k0_pay68, k0_pay69]
  first | rfl | (rw [pay4]; rfl)

theorem chunk3 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay55 (k0_pay44 (k0_pay4 x0) (View.ld x1 (Rect.unit ![0, 384, 0] ![1, 128, 2048] inb_S1x1024x2048_S1x128x2048_0_384_0))) (k0_pay53 (k0_pay52 (k0_pay50 (k0_pay48 k0_pay45 (k0_pay46 (View.ld x5 (Rect.unit ![0, 3, 0] ![1, 1, 512] inb_S8x8x512_S1x1x512_0_3_0))) (k0_pay47 (View.ld x6 (Rect.unit ![0, 3, 0] ![1, 1, 512] inb_S8x8x512_S1x1x512_0_3_0))) (View.ld x3 (Rect.unit ![0, 0, 0] ![1, 128, 512] inb_S8x128x512_S1x128x512_0_0_0)) (View.ld x4 (Rect.unit ![0, 0, 0] ![1, 128, 512] inb_S8x128x512_S1x128x512_0_0_0)) (View.ld x5 (Rect.unit ![1, 3, 0] ![1, 1, 512] inb_S8x8x512_S1x1x512_1_3_0)) (View.ld x6 (Rect.unit ![1, 3, 0] ![1, 1, 512] inb_S8x8x512_S1x1x512_1_3_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay49 (View.ld x5 (Rect.unit ![2, 3, 0] ![1, 1, 512] inb_S8x8x512_S1x1x512_2_3_0))) (View.ld x6 (Rect.unit ![2, 3, 0] ![1, 1, 512] inb_S8x8x512_S1x1x512_2_3_0)) (View.ld x3 (Rect.unit ![2, 0, 0] ![1, 128, 512] inb_S8x128x512_S1x128x512_2_0_0)) (View.ld x4 (Rect.unit ![2, 0, 0] ![1, 128, 512] inb_S8x128x512_S1x128x512_2_0_0)) (View.ld x5 (Rect.unit ![3, 3, 0] ![1, 1, 512] inb_S8x8x512_S1x1x512_3_3_0)) (View.ld x6 (Rect.unit ![3, 3, 0] ![1, 1, 512] inb_S8x8x512_S1x1x512_3_3_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay51 (View.ld x5 (Rect.unit ![4, 3, 0] ![1, 1, 512] inb_S8x8x512_S1x1x512_4_3_0))) (View.ld x6 (Rect.unit ![4, 3, 0] ![1, 1, 512] inb_S8x8x512_S1x1x512_4_3_0)) (View.ld x3 (Rect.unit ![4, 0, 0] ![1, 128, 512] inb_S8x128x512_S1x128x512_4_0_0)) (View.ld x4 (Rect.unit ![4, 0, 0] ![1, 128, 512] inb_S8x128x512_S1x128x512_4_0_0)) (View.ld x5 (Rect.unit ![5, 3, 0] ![1, 1, 512] inb_S8x8x512_S1x1x512_5_3_0)) (View.ld x6 (Rect.unit ![5, 3, 0] ![1, 1, 512] inb_S8x8x512_S1x1x512_5_3_0)) (View.ld x3 (Rect.unit ![5, 0, 0] ![1, 128, 512] inb_S8x128x512_S1x128x512_5_0_0)) (View.ld x4 (Rect.unit ![5, 0, 0] ![1, 128, 512] inb_S8x128x512_S1x128x512_5_0_0))) (View.ld x5 (Rect.unit ![6, 3, 0] ![1, 1, 512] inb_S8x8x512_S1x1x512_6_3_0)) (View.ld x6 (Rect.unit ![6, 3, 0] ![1, 1, 512] inb_S8x8x512_S1x1x512_6_3_0)) (View.ld x3 (Rect.unit ![6, 0, 0] ![1, 128, 512] inb_S8x128x512_S1x128x512_6_0_0)) (View.ld x4 (Rect.unit ![6, 0, 0] ![1, 128, 512] inb_S8x128x512_S1x128x512_6_0_0))) (k0_pay54 (View.ld x5 (Rect.unit ![7, 3, 0] ![1, 1, 512] inb_S8x8x512_S1x1x512_7_3_0)) (View.ld x6 (Rect.unit ![7, 3, 0] ![1, 1, 512] inb_S8x8x512_S1x1x512_7_3_0)) (View.ld x3 (Rect.unit ![7, 0, 0] ![1, 128, 512] inb_S8x128x512_S1x128x512_7_0_0)) (View.ld x4 (Rect.unit ![7, 0, 0] ![1, 128, 512] inb_S8x128x512_S1x128x512_7_0_0))) : FVec Ideal S128x512 .bf16) (ix2 s d)
      = gate x3 x4 x5 x6 3 s d * gelu (∑ k : Fin 2048, x1 (ix3 0 ⟨384 + s.val, by omega⟩ k) * x0 (ix2 k d)) := by
  rw [gate, Fin.sum_univ_eight]
  pointwise [gelu, k0_pay4, k0_pay44, k0_pay45, k0_pay46, k0_pay47, k0_pay48, k0_pay49, k0_pay50, k0_pay51, k0_pay52, k0_pay53, k0_pay54, k0_pay55]
  first | rfl | (rw [pay4]; rfl)

theorem chunk2 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay43 (k0_pay29 (k0_pay4 x0) (View.ld x1 (Rect.unit ![0, 256, 0] ![1, 128, 2048] inb_S1x1024x2048_S1x128x2048_0_256_0))) (k0_pay40 (k0_pay37 (k0_pay34 (k0_pay30 (FloatOps.ofBits FTy.bf16 0#16) (View.ld x5 (Rect.unit ![0, 2, 0] ![1, 1, 512] inb_S8x8x512_S1x1x512_0_2_0)) (View.ld x6 (Rect.unit ![0, 2, 0] ![1, 1, 512] inb_S8x8x512_S1x1x512_0_2_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay31 (View.ld x6 (Rect.unit ![1, 2, 0] ![1, 1, 512] inb_S8x8x512_S1x1x512_1_2_0))) (k0_pay32 (View.ld x5 (Rect.unit ![1, 2, 0] ![1, 1, 512] inb_S8x8x512_S1x1x512_1_2_0)) (View.ld x3 (Rect.unit ![1, 0, 0] ![1, 128, 512] inb_S8x128x512_S1x128x512_1_0_0))) (k0_pay33 (View.ld x4 (Rect.unit ![1, 0, 0] ![1, 128, 512] inb_S8x128x512_S1x128x512_1_0_0))) (View.ld x5 (Rect.unit ![2, 2, 0] ![1, 1, 512] inb_S8x8x512_S1x1x512_2_2_0)) (View.ld x6 (Rect.unit ![2, 2, 0] ![1, 1, 512] inb_S8x8x512_S1x1x512_2_2_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay35 (View.ld x6 (Rect.unit ![3, 2, 0] ![1, 1, 512] inb_S8x8x512_S1x1x512_3_2_0))) (k0_pay36 (View.ld x5 (Rect.unit ![3, 2, 0] ![1, 1, 512] inb_S8x8x512_S1x1x512_3_2_0)) (View.ld x3 (Rect.unit ![3, 0, 0] ![1, 128, 512] inb_S8x128x512_S1x128x512_3_0_0))) (View.ld x4 (Rect.unit ![3, 0, 0] ![1, 128, 512] inb_S8x128x512_S1x128x512_3_0_0)) (View.ld x5 (Rect.unit ![4, 2, 0] ![1, 1, 512] inb_S8x8x512_S1x1x512_4_2_0)) (View.ld x6 (Rect.unit ![4, 2, 0] ![1, 1, 512] inb_S8x8x512_S1x1x512_4_2_0)) (View.ld x3 (Rect.unit ![4, 0, 0] ![1, 128, 512] inb_S8x128x512_S1x128x512_4_0_0)) (View.ld x4 (Rect.unit ![4, 0, 0] ![1, 128, 512] inb_S8x128x512_S1x128x512_4_0_0))) (k0_pay38 (View.ld x5 (Rect.unit ![5, 2, 0] ![1, 1, 512] inb_S8x8x512_S1x1x512_5_2_0))) (k0_pay39 (View.ld x6 (Rect.unit ![5, 2, 0] ![1, 1, 512] inb_S8x8x512_S1x1x512_5_2_0))) (View.ld x3 (Rect.unit ![5, 0, 0] ![1, 128, 512] inb_S8x128x512_S1x128x512_5_0_0)) (View.ld x4 (Rect.unit ![5, 0, 0] ![1, 128, 512] inb_S8x128x512_S1x128x512_5_0_0)) (View.ld x5 (Rect.unit ![6, 2, 0] ![1, 1, 512] inb_S8x8x512_S1x1x512_6_2_0)) (View.ld x6 (Rect.unit ![6, 2, 0] ![1, 1, 512] inb_S8x8x512_S1x1x512_6_2_0)) (View.ld x3 (Rect.unit ![6, 0, 0] ![1, 128, 512] inb_S8x128x512_S1x128x512_6_0_0)) (View.ld x4 (Rect.unit ![6, 0, 0] ![1, 128, 512] inb_S8x128x512_S1x128x512_6_0_0))) (k0_pay41 (View.ld x5 (Rect.unit ![7, 2, 0] ![1, 1, 512] inb_S8x8x512_S1x1x512_7_2_0))) (k0_pay42 (View.ld x6 (Rect.unit ![7, 2, 0] ![1, 1, 512] inb_S8x8x512_S1x1x512_7_2_0))) (View.ld x3 (Rect.unit ![7, 0, 0] ![1, 128, 512] inb_S8x128x512_S1x128x512_7_0_0)) (View.ld x4 (Rect.unit ![7, 0, 0] ![1, 128, 512] inb_S8x128x512_S1x128x512_7_0_0)) : FVec Ideal S128x512 .bf16) (ix2 s d)
      = gate x3 x4 x5 x6 2 s d * gelu (∑ k : Fin 2048, x1 (ix3 0 ⟨256 + s.val, by omega⟩ k) * x0 (ix2 k d)) := by
  rw [gate, Fin.sum_univ_eight]
  pointwise [gelu, k0_pay4, k0_pay29, k0_pay30, k0_pay31, k0_pay32, k0_pay33, k0_pay34, k0_pay35, k0_pay36, k0_pay37, k0_pay38, k0_pay39, k0_pay40, k0_pay41, k0_pay42, k0_pay43]
  first | rfl | (rw [pay4]; rfl)

theorem chunk1 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay28 (k0_pay20 (k0_pay4 x0) (View.ld x1 (Rect.unit ![0, 128, 0] ![1, 128, 2048] inb_S1x1024x2048_S1x128x2048_0_128_0))) (k0_pay26 (k0_pay25 (k0_pay23 (k0_pay21 (View.ld x5 (Rect.unit ![0, 1, 0] ![1, 1, 512] inb_S8x8x512_S1x1x512_0_1_0)) (View.ld x6 (Rect.unit ![0, 1, 0] ![1, 1, 512] inb_S8x8x512_S1x1x512_0_1_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay22 (View.ld x5 (Rect.unit ![1, 1, 0] ![1, 1, 512] inb_S8x8x512_S1x1x512_1_1_0))) (View.ld x6 (Rect.unit ![1, 1, 0] ![1, 1, 512] inb_S8x8x512_S1x1x512_1_1_0)) (View.ld x3 (Rect.unit ![1, 0, 0] ![1, 128, 512] inb_S8x128x512_S1x128x512_1_0_0)) (View.ld x4 (Rect.unit ![1, 0, 0] ![1, 128, 512] inb_S8x128x512_S1x128x512_1_0_0)) (View.ld x5 (Rect.unit ![2, 1, 0] ![1, 1, 512] inb_S8x8x512_S1x1x512_2_1_0)) (View.ld x6 (Rect.unit ![2, 1, 0] ![1, 1, 512] inb_S8x8x512_S1x1x512_2_1_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay24 (View.ld x5 (Rect.unit ![3, 1, 0] ![1, 1, 512] inb_S8x8x512_S1x1x512_3_1_0))) (View.ld x6 (Rect.unit ![3, 1, 0] ![1, 1, 512] inb_S8x8x512_S1x1x512_3_1_0)) (View.ld x3 (Rect.unit ![3, 0, 0] ![1, 128, 512] inb_S8x128x512_S1x128x512_3_0_0)) (View.ld x4 (Rect.unit ![3, 0, 0] ![1, 128, 512] inb_S8x128x512_S1x128x512_3_0_0)) (View.ld x5 (Rect.unit ![4, 1, 0] ![1, 1, 512] inb_S8x8x512_S1x1x512_4_1_0)) (View.ld x6 (Rect.unit ![4, 1, 0] ![1, 1, 512] inb_S8x8x512_S1x1x512_4_1_0)) (View.ld x3 (Rect.unit ![4, 0, 0] ![1, 128, 512] inb_S8x128x512_S1x128x512_4_0_0)) (View.ld x4 (Rect.unit ![4, 0, 0] ![1, 128, 512] inb_S8x128x512_S1x128x512_4_0_0))) (View.ld x5 (Rect.unit ![5, 1, 0] ![1, 1, 512] inb_S8x8x512_S1x1x512_5_1_0)) (View.ld x6 (Rect.unit ![5, 1, 0] ![1, 1, 512] inb_S8x8x512_S1x1x512_5_1_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay27 (View.ld x5 (Rect.unit ![6, 1, 0] ![1, 1, 512] inb_S8x8x512_S1x1x512_6_1_0)) (View.ld x6 (Rect.unit ![6, 1, 0] ![1, 1, 512] inb_S8x8x512_S1x1x512_6_1_0)) (View.ld x3 (Rect.unit ![6, 0, 0] ![1, 128, 512] inb_S8x128x512_S1x128x512_6_0_0)) (View.ld x4 (Rect.unit ![6, 0, 0] ![1, 128, 512] inb_S8x128x512_S1x128x512_6_0_0))) (View.ld x5 (Rect.unit ![7, 1, 0] ![1, 1, 512] inb_S8x8x512_S1x1x512_7_1_0)) (View.ld x6 (Rect.unit ![7, 1, 0] ![1, 1, 512] inb_S8x8x512_S1x1x512_7_1_0)) (View.ld x3 (Rect.unit ![7, 0, 0] ![1, 128, 512] inb_S8x128x512_S1x128x512_7_0_0)) (View.ld x4 (Rect.unit ![7, 0, 0] ![1, 128, 512] inb_S8x128x512_S1x128x512_7_0_0)) : FVec Ideal S128x512 .bf16) (ix2 s d)
      = gate x3 x4 x5 x6 1 s d * gelu (∑ k : Fin 2048, x1 (ix3 0 ⟨128 + s.val, by omega⟩ k) * x0 (ix2 k d)) := by
  rw [gate, Fin.sum_univ_eight]
  pointwise [gelu, k0_pay4, k0_pay20, k0_pay21, k0_pay22, k0_pay23, k0_pay24, k0_pay25, k0_pay26, k0_pay27, k0_pay28]
  first | rfl | (rw [pay4]; rfl)

theorem chunk0 (x0 : Vec Ideal S2048x512 .bf16) (x1 : Vec Ideal S1x1024x2048 .bf16) (x3 x4 : Vec Ideal S8x128x512 .bf16) (x5 x6 : Vec Ideal S8x8x512 .f32) (s : Fin 128) (d : Fin 512) :
    (k0_pay19 (k0_pay5 x0 (View.ld x1 (Rect.unit ![0, 0, 0] ![1, 128, 2048] inb_S1x1024x2048_S1x128x2048_0_0_0))) (k0_pay16 (k0_pay13 (k0_pay10 k0_pay6 (k0_pay7 (View.ld x6 (Rect.unit ![0, 0, 0] ![1, 1, 512] inb_S8x8x512_S1x1x512_0_0_0))) (k0_pay8 (View.ld x5 (Rect.unit ![0, 0, 0] ![1, 1, 512] inb_S8x8x512_S1x1x512_0_0_0)) (View.ld x3 (Rect.unit ![0, 0, 0] ![1, 128, 512] inb_S8x128x512_S1x128x512_0_0_0))) (k0_pay9 (View.ld x4 (Rect.unit ![0, 0, 0] ![1, 128, 512] inb_S8x128x512_S1x128x512_0_0_0))) (View.ld x5 (Rect.unit ![1, 0, 0] ![1, 1, 512] inb_S8x8x512_S1x1x512_1_0_0)) (View.ld x6 (Rect.unit ![1, 0, 0] ![1, 1, 512] inb_S8x8x512_S1x1x512_1_0_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay11 (View.ld x6 (Rect.unit ![2, 0, 0] ![1, 1, 512] inb_S8x8x512_S1x1x512_2_0_0))) (k0_pay12 (View.ld x5 (Rect.unit ![2, 0, 0] ![1, 1, 512] inb_S8x8x512_S1x1x512_2_0_0)) (View.ld x3 (Rect.unit ![2, 0, 0] ![1, 128, 512] inb_S8x128x512_S1x128x512_2_0_0))) (View.ld x4 (Rect.unit ![2, 0, 0] ![1, 128, 512] inb_S8x128x512_S1x128x512_2_0_0)) (View.ld x5 (Rect.unit ![3, 0, 0] ![1, 1, 512] inb_S8x8x512_S1x1x512_3_0_0)) (View.ld x6 (Rect.unit ![3, 0, 0] ![1, 1, 512] inb_S8x8x512_S1x1x512_3_0_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay14 (View.ld x5 (Rect.unit ![4, 0, 0] ![1, 1, 512] inb_S8x8x512_S1x1x512_4_0_0))) (k0_pay15 (View.ld x6 (Rect.unit ![4, 0, 0] ![1, 1, 512] inb_S8x8x512_S1x1x512_4_0_0))) (View.ld x3 (Rect.unit ![4, 0, 0] ![1, 128, 512] inb_S8x128x512_S1x128x512_4_0_0)) (View.ld x4 (Rect.unit ![4, 0, 0] ![1, 128, 512] inb_S8x128x512_S1x128x512_4_0_0)) (View.ld x5 (Rect.unit ![5, 0, 0] ![1, 1, 512] inb_S8x8x512_S1x1x512_5_0_0)) (View.ld x6 (Rect.unit ![5, 0, 0] ![1, 1, 512] inb_S8x8x512_S1x1x512_5_0_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay17 (View.ld x5 (Rect.unit ![6, 0, 0] ![1, 1, 512] inb_S8x8x512_S1x1x512_6_0_0))) (k0_pay18 (View.ld x6 (Rect.unit ![6, 0, 0] ![1, 1, 512] inb_S8x8x512_S1x1x512_6_0_0))) (View.ld x3 (Rect.unit ![6, 0, 0] ![1, 128, 512] inb_S8x128x512_S1x128x512_6_0_0)) (View.ld x4 (Rect.unit ![6, 0, 0] ![1, 128, 512] inb_S8x128x512_S1x128x512_6_0_0)) (View.ld x5 (Rect.unit ![7, 0, 0] ![1, 1, 512] inb_S8x8x512_S1x1x512_7_0_0)) (View.ld x6 (Rect.unit ![7, 0, 0] ![1, 1, 512] inb_S8x8x512_S1x1x512_7_0_0)) (View.ld x3 (Rect.unit ![7, 0, 0] ![1, 128, 512] inb_S8x128x512_S1x128x512_7_0_0)) (View.ld x4 (Rect.unit ![7, 0, 0] ![1, 128, 512] inb_S8x128x512_S1x128x512_7_0_0)) : FVec Ideal S128x512 .bf16) (ix2 s d)
      = gate x3 x4 x5 x6 0 s d * gelu (∑ k : Fin 2048, x1 (ix3 0 ⟨0 + s.val, by omega⟩ k) * x0 (ix2 k d)) := by
  rw [gate, Fin.sum_univ_eight]
  pointwise [gelu, k0_pay5, k0_pay6, k0_pay7, k0_pay8, k0_pay9, k0_pay10, k0_pay11, k0_pay12, k0_pay13, k0_pay14, k0_pay15, k0_pay16, k0_pay17, k0_pay18, k0_pay19]
  first | rfl | (rw [pay4]; rfl)

/-- The gated activations of a point's 1024 experts for a block of tokens. -/
def acts (x0 : Vec Ideal S2048x512 .bf16) (x1 : Vec Ideal S1x1024x2048 .bf16) (x3 x4 : Vec Ideal S8x128x512 .bf16) (x5 x6 : Vec Ideal S8x8x512 .f32) : Vec Ideal S1024x512 .bf16 := fun y =>
  gate x3 x4 x5 x6 ⟨(y 0).val / 128, by have : (y 0).val < 1024 := (y 0).isLt; omega⟩ ⟨(y 0).val % 128, by omega⟩ (y 1)
    * gelu (∑ k : Fin 2048, x1 (ix3 0 (y 0) k) * x0 (ix2 k (y 1)))

theorem acts_at (x0 : Vec Ideal S2048x512 .bf16) (x1 : Vec Ideal S1x1024x2048 .bf16) (x3 x4 : Vec Ideal S8x128x512 .bf16) (x5 x6 : Vec Ideal S8x8x512 .f32) (q : Fin 8) (s : Fin 128) (d : Fin 512) (j : Fin 1024) (hj : j.val = 128 * q.val + s.val) (y : S1024x512.Idx) (h0 : (y 0).val = j.val) (h1 : (y 1).val = d.val) :
    acts x0 x1 x3 x4 x5 x6 y = gate x3 x4 x5 x6 q s d * gelu (∑ k : Fin 2048, x1 (ix3 0 j k) * x0 (ix2 k d)) := by
  have e0 : y 0 = j := Fin.ext h0
  have e1 : y 1 = d := Fin.ext h1
  have eq : (⟨(y 0).val / 128, by have : (y 0).val < 1024 := (y 0).isLt; omega⟩ : Fin 8) = q := Fin.ext (by show (y 0).val / 128 = q.val; omega)
  have es : (⟨(y 0).val % 128, by omega⟩ : Fin 128) = s := Fin.ext (by show (y 0).val % 128 = s.val; omega)
  show gate x3 x4 x5 x6 _ _ (y 1) * gelu (∑ k : Fin 2048, x1 (ix3 0 (y 0) k) * x0 (ix2 k (y 1))) = _
  rw [eq, es, e0, e1]

/-- The eight chunks a point stores, read back as one array. -/
theorem stacked (x0 : Vec Ideal S2048x512 .bf16) (x1 : Vec Ideal S1x1024x2048 .bf16) (x3 x4 : Vec Ideal S8x128x512 .bf16) (x5 x6 : Vec Ideal S8x8x512 .f32) :
    (View.whole cc0_scratch1).readCov (Val := Elt Ideal) [⟨Rect.unit ![896, 0] ![128, 512] inb_S1024x512_S128x512_896_0, k0_pay108 (k0_pay107 (k0_pay96 (k0_pay4 x0) (View.ld x1 (Rect.unit ![0, 896, 0] ![1, 128, 2048] inb_S1x1024x2048_S1x128x2048_0_896_0))) (k0_pay105 (k0_pay103 (k0_pay100 k0_pay97 (k0_pay98 (View.ld x5 (Rect.unit ![0, 7, 0] ![1, 1, 512] inb_S8x8x512_S1x1x512_0_7_0))) (k0_pay99 (View.ld x6 (Rect.unit ![0, 7, 0] ![1, 1, 512] inb_S8x8x512_S1x1x512_0_7_0))) (View.ld x3 (Rect.unit ![0, 0, 0] ![1, 128, 512] inb_S8x128x512_S1x128x512_0_0_0)) (View.ld x4 (Rect.unit ![0, 0, 0] ![1, 128, 512] inb_S8x128x512_S1x128x512_0_0_0)) (View.ld x5 (Rect.unit ![1, 7, 0] ![1, 1, 512] inb_S8x8x512_S1x1x512_1_7_0)) (View.ld x6 (Rect.unit ![1, 7, 0] ![1, 1, 512] inb_S8x8x512_S1x1x512_1_7_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay101 (View.ld x5 (Rect.unit ![2, 7, 0] ![1, 1, 512] inb_S8x8x512_S1x1x512_2_7_0))) (k0_pay102 (View.ld x6 (Rect.unit ![2, 7, 0] ![1, 1, 512] inb_S8x8x512_S1x1x512_2_7_0))) (View.ld x3 (Rect.unit ![2, 0, 0] ![1, 128, 512] inb_S8x128x512_S1x128x512_2_0_0)) (View.ld x4 (Rect.unit ![2, 0, 0] ![1, 128, 512] inb_S8x128x512_S1x128x512_2_0_0)) (View.ld x5 (Rect.unit ![3, 7, 0] ![1, 1, 512] inb_S8x8x512_S1x1x512_3_7_0)) (View.ld x6 (Rect.unit ![3, 7, 0] ![1, 1, 512] inb_S8x8x512_S1x1x512_3_7_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay104 (View.ld x5 (Rect.unit ![4, 7, 0] ![1, 1, 512] inb_S8x8x512_S1x1x512_4_7_0))) (View.ld x6 (Rect.unit ![4, 7, 0] ![1, 1, 512] inb_S8x8x512_S1x1x512_4_7_0)) (View.ld x3 (Rect.unit ![4, 0, 0] ![1, 128, 512] inb_S8x128x512_S1x128x512_4_0_0)) (View.ld x4 (Rect.unit ![4, 0, 0] ![1, 128, 512] inb_S8x128x512_S1x128x512_4_0_0)) (View.ld x5 (Rect.unit ![5, 7, 0] ![1, 1, 512] inb_S8x8x512_S1x1x512_5_7_0)) (View.ld x6 (Rect.unit ![5, 7, 0] ![1, 1, 512] inb_S8x8x512_S1x1x512_5_7_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay106 (View.ld x5 (Rect.unit ![6, 7, 0] ![1, 1, 512] inb_S8x8x512_S1x1x512_6_7_0))) (View.ld x6 (Rect.unit ![6, 7, 0] ![1, 1, 512] inb_S8x8x512_S1x1x512_6_7_0)) (View.ld x3 (Rect.unit ![6, 0, 0] ![1, 128, 512] inb_S8x128x512_S1x128x512_6_0_0)) (View.ld x4 (Rect.unit ![6, 0, 0] ![1, 128, 512] inb_S8x128x512_S1x128x512_6_0_0)) (View.ld x5 (Rect.unit ![7, 7, 0] ![1, 1, 512] inb_S8x8x512_S1x1x512_7_7_0)) (View.ld x6 (Rect.unit ![7, 7, 0] ![1, 1, 512] inb_S8x8x512_S1x1x512_7_7_0)) (View.ld x3 (Rect.unit ![7, 0, 0] ![1, 128, 512] inb_S8x128x512_S1x128x512_7_0_0)) (View.ld x4 (Rect.unit ![7, 0, 0] ![1, 128, 512] inb_S8x128x512_S1x128x512_7_0_0)))⟩,
      ⟨Rect.unit ![768, 0] ![128, 512] inb_S1024x512_S128x512_768_0, k0_pay95 (k0_pay81 (k0_pay4 x0) (View.ld x1 (Rect.unit ![0, 768, 0] ![1, 128, 2048] inb_S1x1024x2048_S1x128x2048_0_768_0))) (k0_pay92 (k0_pay89 (k0_pay85 (k0_pay83 k0_pay82 (View.ld x5 (Rect.unit ![0, 6, 0] ![1, 1, 512] inb_S8x8x512_S1x1x512_0_6_0)) (View.ld x6 (Rect.unit ![0, 6, 0] ![1, 1, 512] inb_S8x8x512_S1x1x512_0_6_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay84 (View.ld x5 (Rect.unit ![1, 6, 0] ![1, 1, 512] inb_S8x8x512_S1x1x512_1_6_0)) (View.ld x6 (Rect.unit ![1, 6, 0] ![1, 1, 512] inb_S8x8x512_S1x1x512_1_6_0)) (View.ld x3 (Rect.unit ![1, 0, 0] ![1, 128, 512] inb_S8x128x512_S1x128x512_1_0_0)) (View.ld x4 (Rect.unit ![1, 0, 0] ![1, 128, 512] inb_S8x128x512_S1x128x512_1_0_0))) (View.ld x5 (Rect.unit ![2, 6, 0] ![1, 1, 512] inb_S8x8x512_S1x1x512_2_6_0)) (View.ld x6 (Rect.unit ![2, 6, 0] ![1, 1, 512] inb_S8x8x512_S1x1x512_2_6_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay86 (View.ld x6 (Rect.unit ![3, 6, 0] ![1, 1, 512] inb_S8x8x512_S1x1x512_3_6_0))) (k0_pay87 (View.ld x5 (Rect.unit ![3, 6, 0] ![1, 1, 512] inb_S8x8x512_S1x1x512_3_6_0)) (View.ld x3 (Rect.unit ![3, 0, 0] ![1, 128, 512] inb_S8x128x512_S1x128x512_3_0_0))) (k0_pay88 (View.ld x4 (Rect.unit ![3, 0, 0] ![1, 128, 512] inb_S8x128x512_S1x128x512_3_0_0))) (View.ld x5 (Rect.unit ![4, 6, 0] ![1, 1, 512] inb_S8x8x512_S1x1x512_4_6_0)) (View.ld x6 (Rect.unit ![4, 6, 0] ![1, 1, 512] inb_S8x8x512_S1x1x512_4_6_0)) (View.ld x3 (Rect.unit ![4, 0, 0] ![1, 128, 512] inb_S8x128x512_S1x128x512_4_0_0)) (View.ld x4 (Rect.unit ![4, 0, 0] ![1, 128, 512] inb_S8x128x512_S1x128x512_4_0_0))) (k0_pay90 (View.ld x6 (Rect.unit ![5, 6, 0] ![1, 1, 512] inb_S8x8x512_S1x1x512_5_6_0))) (k0_pay91 (View.ld x5 (Rect.unit ![5, 6, 0] ![1, 1, 512] inb_S8x8x512_S1x1x512_5_6_0)) (View.ld x3 (Rect.unit ![5, 0, 0] ![1, 128, 512] inb_S8x128x512_S1x128x512_5_0_0))) (View.ld x4 (Rect.unit ![5, 0, 0] ![1, 128, 512] inb_S8x128x512_S1x128x512_5_0_0)) (View.ld x5 (Rect.unit ![6, 6, 0] ![1, 1, 512] inb_S8x8x512_S1x1x512_6_6_0)) (View.ld x6 (Rect.unit ![6, 6, 0] ![1, 1, 512] inb_S8x8x512_S1x1x512_6_6_0)) (View.ld x3 (Rect.unit ![6, 0, 0] ![1, 128, 512] inb_S8x128x512_S1x128x512_6_0_0)) (View.ld x4 (Rect.unit ![6, 0, 0] ![1, 128, 512] inb_S8x128x512_S1x128x512_6_0_0))) (k0_pay93 (View.ld x5 (Rect.unit ![7, 6, 0] ![1, 1, 512] inb_S8x8x512_S1x1x512_7_6_0))) (k0_pay94 (View.ld x6 (Rect.unit ![7, 6, 0] ![1, 1, 512] inb_S8x8x512_S1x1x512_7_6_0))) (View.ld x3 (Rect.unit ![7, 0, 0] ![1, 128, 512] inb_S8x128x512_S1x128x512_7_0_0)) (View.ld x4 (Rect.unit ![7, 0, 0] ![1, 128, 512] inb_S8x128x512_S1x128x512_7_0_0))⟩,
      ⟨Rect.unit ![640, 0] ![128, 512] inb_S1024x512_S128x512_640_0, k0_pay80 (k0_pay71 (k0_pay70 (k0_pay4 x0) (View.ld x1 (Rect.unit ![0, 640, 0] ![1, 128, 2048] inb_S1x1024x2048_S1x128x2048_0_640_0))) (FloatOps.ofBits FTy.f32 1056964608#32)) (k0_pay79 (k0_pay77 (k0_pay75 (k0_pay72 (View.ld x5 (Rect.unit ![0, 5, 0] ![1, 1, 512] inb_S8x8x512_S1x1x512_0_5_0)) (View.ld x6 (Rect.unit ![0, 5, 0] ![1, 1, 512] inb_S8x8x512_S1x1x512_0_5_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay73 (View.ld x5 (Rect.unit ![1, 5, 0] ![1, 1, 512] inb_S8x8x512_S1x1x512_1_5_0))) (k0_pay74 (View.ld x6 (Rect.unit ![1, 5, 0] ![1, 1, 512] inb_S8x8x512_S1x1x512_1_5_0))) (View.ld x3 (Rect.unit ![1, 0, 0] ![1, 128, 512] inb_S8x128x512_S1x128x512_1_0_0)) (View.ld x4 (Rect.unit ![1, 0, 0] ![1, 128, 512] inb_S8x128x512_S1x128x512_1_0_0)) (View.ld x5 (Rect.unit ![2, 5, 0] ![1, 1, 512] inb_S8x8x512_S1x1x512_2_5_0)) (View.ld x6 (Rect.unit ![2, 5, 0] ![1, 1, 512] inb_S8x8x512_S1x1x512_2_5_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay76 (View.ld x5 (Rect.unit ![3, 5, 0] ![1, 1, 512] inb_S8x8x512_S1x1x512_3_5_0))) (View.ld x6 (Rect.unit ![3, 5, 0] ![1, 1, 512] inb_S8x8x512_S1x1x512_3_5_0)) (View.ld x3 (Rect.unit ![3, 0, 0] ![1, 128, 512] inb_S8x128x512_S1x128x512_3_0_0)) (View.ld x4 (Rect.unit ![3, 0, 0] ![1, 128, 512] inb_S8x128x512_S1x128x512_3_0_0)) (View.ld x5 (Rect.unit ![4, 5, 0] ![1, 1, 512] inb_S8x8x512_S1x1x512_4_5_0)) (View.ld x6 (Rect.unit ![4, 5, 0] ![1, 1, 512] inb_S8x8x512_S1x1x512_4_5_0)) (View.ld x3 (Rect.unit ![4, 0, 0] ![1, 128, 512] inb_S8x128x512_S1x128x512_4_0_0)) (View.ld x4 (Rect.unit ![4, 0, 0] ![1, 128, 512] inb_S8x128x512_S1x128x512_4_0_0))) (k0_pay78 (View.ld x5 (Rect.unit ![5, 5, 0] ![1, 1, 512] inb_S8x8x512_S1x1x512_5_5_0))) (View.ld x6 (Rect.unit ![5, 5, 0] ![1, 1, 512] inb_S8x8x512_S1x1x512_5_5_0)) (View.ld x3 (Rect.unit ![5, 0, 0] ![1, 128, 512] inb_S8x128x512_S1x128x512_5_0_0)) (View.ld x4 (Rect.unit ![5, 0, 0] ![1, 128, 512] inb_S8x128x512_S1x128x512_5_0_0)) (View.ld x5 (Rect.unit ![6, 5, 0] ![1, 1, 512] inb_S8x8x512_S1x1x512_6_5_0)) (View.ld x6 (Rect.unit ![6, 5, 0] ![1, 1, 512] inb_S8x8x512_S1x1x512_6_5_0)) (View.ld x3 (Rect.unit ![6, 0, 0] ![1, 128, 512] inb_S8x128x512_S1x128x512_6_0_0)) (View.ld x4 (Rect.unit ![6, 0, 0] ![1, 128, 512] inb_S8x128x512_S1x128x512_6_0_0))) (View.ld x5 (Rect.unit ![7, 5, 0] ![1, 1, 512] inb_S8x8x512_S1x1x512_7_5_0)) (View.ld x6 (Rect.unit ![7, 5, 0] ![1, 1, 512] inb_S8x8x512_S1x1x512_7_5_0)) (View.ld x3 (Rect.unit ![7, 0, 0] ![1, 128, 512] inb_S8x128x512_S1x128x512_7_0_0)) (View.ld x4 (Rect.unit ![7, 0, 0] ![1, 128, 512] inb_S8x128x512_S1x128x512_7_0_0))⟩,
      ⟨Rect.unit ![512, 0] ![128, 512] inb_S1024x512_S128x512_512_0, k0_pay69 (k0_pay56 (k0_pay4 x0) (View.ld x1 (Rect.unit ![0, 512, 0] ![1, 128, 2048] inb_S1x1024x2048_S1x128x2048_0_512_0))) (k0_pay66 (k0_pay63 (k0_pay59 k0_pay57 (k0_pay58 (View.ld x5 (Rect.unit ![0, 4, 0] ![1, 1, 512] inb_S8x8x512_S1x1x512_0_4_0)) (View.ld x6 (Rect.unit ![0, 4, 0] ![1, 1, 512] inb_S8x8x512_S1x1x512_0_4_0)) (View.ld x3 (Rect.unit ![0, 0, 0] ![1, 128, 512] inb_S8x128x512_S1x128x512_0_0_0)) (View.ld x4 (Rect.unit ![0, 0, 0] ![1, 128, 512] inb_S8x128x512_S1x128x512_0_0_0))) (View.ld x5 (Rect.unit ![1, 4, 0] ![1, 1, 512] inb_S8x8x512_S1x1x512_1_4_0)) (View.ld x6 (Rect.unit ![1, 4, 0] ![1, 1, 512] inb_S8x8x512_S1x1x512_1_4_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay60 (View.ld x6 (Rect.unit ![2, 4, 0] ![1, 1, 512] inb_S8x8x512_S1x1x512_2_4_0))) (k0_pay61 (View.ld x5 (Rect.unit ![2, 4, 0] ![1, 1, 512] inb_S8x8x512_S1x1x512_2_4_0)) (View.ld x3 (Rect.unit ![2, 0, 0] ![1, 128, 512] inb_S8x128x512_S1x128x512_2_0_0))) (k0_pay62 (View.ld x4 (Rect.unit ![2, 0, 0] ![1, 128, 512] inb_S8x128x512_S1x128x512_2_0_0))) (View.ld x5 (Rect.unit ![3, 4, 0] ![1, 1, 512] inb_S8x8x512_S1x1x512_3_4_0)) (View.ld x6 (Rect.unit ![3, 4, 0] ![1, 1, 512] inb_S8x8x512_S1x1x512_3_4_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay64 (View.ld x6 (Rect.unit ![4, 4, 0] ![1, 1, 512] inb_S8x8x512_S1x1x512_4_4_0))) (k0_pay65 (View.ld x5 (Rect.unit ![4, 4, 0] ![1, 1, 512] inb_S8x8x512_S1x1x512_4_4_0)) (View.ld x3 (Rect.unit ![4, 0, 0] ![1, 128, 512] inb_S8x128x512_S1x128x512_4_0_0))) (View.ld x4 (Rect.unit ![4, 0, 0] ![1, 128, 512] inb_S8x128x512_S1x128x512_4_0_0)) (View.ld x5 (Rect.unit ![5, 4, 0] ![1, 1, 512] inb_S8x8x512_S1x1x512_5_4_0)) (View.ld x6 (Rect.unit ![5, 4, 0] ![1, 1, 512] inb_S8x8x512_S1x1x512_5_4_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay67 (View.ld x5 (Rect.unit ![6, 4, 0] ![1, 1, 512] inb_S8x8x512_S1x1x512_6_4_0))) (k0_pay68 (View.ld x6 (Rect.unit ![6, 4, 0] ![1, 1, 512] inb_S8x8x512_S1x1x512_6_4_0))) (View.ld x3 (Rect.unit ![6, 0, 0] ![1, 128, 512] inb_S8x128x512_S1x128x512_6_0_0)) (View.ld x4 (Rect.unit ![6, 0, 0] ![1, 128, 512] inb_S8x128x512_S1x128x512_6_0_0)) (View.ld x5 (Rect.unit ![7, 4, 0] ![1, 1, 512] inb_S8x8x512_S1x1x512_7_4_0)) (View.ld x6 (Rect.unit ![7, 4, 0] ![1, 1, 512] inb_S8x8x512_S1x1x512_7_4_0)) (View.ld x3 (Rect.unit ![7, 0, 0] ![1, 128, 512] inb_S8x128x512_S1x128x512_7_0_0)) (View.ld x4 (Rect.unit ![7, 0, 0] ![1, 128, 512] inb_S8x128x512_S1x128x512_7_0_0))⟩,
      ⟨Rect.unit ![384, 0] ![128, 512] inb_S1024x512_S128x512_384_0, k0_pay55 (k0_pay44 (k0_pay4 x0) (View.ld x1 (Rect.unit ![0, 384, 0] ![1, 128, 2048] inb_S1x1024x2048_S1x128x2048_0_384_0))) (k0_pay53 (k0_pay52 (k0_pay50 (k0_pay48 k0_pay45 (k0_pay46 (View.ld x5 (Rect.unit ![0, 3, 0] ![1, 1, 512] inb_S8x8x512_S1x1x512_0_3_0))) (k0_pay47 (View.ld x6 (Rect.unit ![0, 3, 0] ![1, 1, 512] inb_S8x8x512_S1x1x512_0_3_0))) (View.ld x3 (Rect.unit ![0, 0, 0] ![1, 128, 512] inb_S8x128x512_S1x128x512_0_0_0)) (View.ld x4 (Rect.unit ![0, 0, 0] ![1, 128, 512] inb_S8x128x512_S1x128x512_0_0_0)) (View.ld x5 (Rect.unit ![1, 3, 0] ![1, 1, 512] inb_S8x8x512_S1x1x512_1_3_0)) (View.ld x6 (Rect.unit ![1, 3, 0] ![1, 1, 512] inb_S8x8x512_S1x1x512_1_3_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay49 (View.ld x5 (Rect.unit ![2, 3, 0] ![1, 1, 512] inb_S8x8x512_S1x1x512_2_3_0))) (View.ld x6 (Rect.unit ![2, 3, 0] ![1, 1, 512] inb_S8x8x512_S1x1x512_2_3_0)) (View.ld x3 (Rect.unit ![2, 0, 0] ![1, 128, 512] inb_S8x128x512_S1x128x512_2_0_0)) (View.ld x4 (Rect.unit ![2, 0, 0] ![1, 128, 512] inb_S8x128x512_S1x128x512_2_0_0)) (View.ld x5 (Rect.unit ![3, 3, 0] ![1, 1, 512] inb_S8x8x512_S1x1x512_3_3_0)) (View.ld x6 (Rect.unit ![3, 3, 0] ![1, 1, 512] inb_S8x8x512_S1x1x512_3_3_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay51 (View.ld x5 (Rect.unit ![4, 3, 0] ![1, 1, 512] inb_S8x8x512_S1x1x512_4_3_0))) (View.ld x6 (Rect.unit ![4, 3, 0] ![1, 1, 512] inb_S8x8x512_S1x1x512_4_3_0)) (View.ld x3 (Rect.unit ![4, 0, 0] ![1, 128, 512] inb_S8x128x512_S1x128x512_4_0_0)) (View.ld x4 (Rect.unit ![4, 0, 0] ![1, 128, 512] inb_S8x128x512_S1x128x512_4_0_0)) (View.ld x5 (Rect.unit ![5, 3, 0] ![1, 1, 512] inb_S8x8x512_S1x1x512_5_3_0)) (View.ld x6 (Rect.unit ![5, 3, 0] ![1, 1, 512] inb_S8x8x512_S1x1x512_5_3_0)) (View.ld x3 (Rect.unit ![5, 0, 0] ![1, 128, 512] inb_S8x128x512_S1x128x512_5_0_0)) (View.ld x4 (Rect.unit ![5, 0, 0] ![1, 128, 512] inb_S8x128x512_S1x128x512_5_0_0))) (View.ld x5 (Rect.unit ![6, 3, 0] ![1, 1, 512] inb_S8x8x512_S1x1x512_6_3_0)) (View.ld x6 (Rect.unit ![6, 3, 0] ![1, 1, 512] inb_S8x8x512_S1x1x512_6_3_0)) (View.ld x3 (Rect.unit ![6, 0, 0] ![1, 128, 512] inb_S8x128x512_S1x128x512_6_0_0)) (View.ld x4 (Rect.unit ![6, 0, 0] ![1, 128, 512] inb_S8x128x512_S1x128x512_6_0_0))) (k0_pay54 (View.ld x5 (Rect.unit ![7, 3, 0] ![1, 1, 512] inb_S8x8x512_S1x1x512_7_3_0)) (View.ld x6 (Rect.unit ![7, 3, 0] ![1, 1, 512] inb_S8x8x512_S1x1x512_7_3_0)) (View.ld x3 (Rect.unit ![7, 0, 0] ![1, 128, 512] inb_S8x128x512_S1x128x512_7_0_0)) (View.ld x4 (Rect.unit ![7, 0, 0] ![1, 128, 512] inb_S8x128x512_S1x128x512_7_0_0)))⟩,
      ⟨Rect.unit ![256, 0] ![128, 512] inb_S1024x512_S128x512_256_0, k0_pay43 (k0_pay29 (k0_pay4 x0) (View.ld x1 (Rect.unit ![0, 256, 0] ![1, 128, 2048] inb_S1x1024x2048_S1x128x2048_0_256_0))) (k0_pay40 (k0_pay37 (k0_pay34 (k0_pay30 (FloatOps.ofBits FTy.bf16 0#16) (View.ld x5 (Rect.unit ![0, 2, 0] ![1, 1, 512] inb_S8x8x512_S1x1x512_0_2_0)) (View.ld x6 (Rect.unit ![0, 2, 0] ![1, 1, 512] inb_S8x8x512_S1x1x512_0_2_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay31 (View.ld x6 (Rect.unit ![1, 2, 0] ![1, 1, 512] inb_S8x8x512_S1x1x512_1_2_0))) (k0_pay32 (View.ld x5 (Rect.unit ![1, 2, 0] ![1, 1, 512] inb_S8x8x512_S1x1x512_1_2_0)) (View.ld x3 (Rect.unit ![1, 0, 0] ![1, 128, 512] inb_S8x128x512_S1x128x512_1_0_0))) (k0_pay33 (View.ld x4 (Rect.unit ![1, 0, 0] ![1, 128, 512] inb_S8x128x512_S1x128x512_1_0_0))) (View.ld x5 (Rect.unit ![2, 2, 0] ![1, 1, 512] inb_S8x8x512_S1x1x512_2_2_0)) (View.ld x6 (Rect.unit ![2, 2, 0] ![1, 1, 512] inb_S8x8x512_S1x1x512_2_2_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay35 (View.ld x6 (Rect.unit ![3, 2, 0] ![1, 1, 512] inb_S8x8x512_S1x1x512_3_2_0))) (k0_pay36 (View.ld x5 (Rect.unit ![3, 2, 0] ![1, 1, 512] inb_S8x8x512_S1x1x512_3_2_0)) (View.ld x3 (Rect.unit ![3, 0, 0] ![1, 128, 512] inb_S8x128x512_S1x128x512_3_0_0))) (View.ld x4 (Rect.unit ![3, 0, 0] ![1, 128, 512] inb_S8x128x512_S1x128x512_3_0_0)) (View.ld x5 (Rect.unit ![4, 2, 0] ![1, 1, 512] inb_S8x8x512_S1x1x512_4_2_0)) (View.ld x6 (Rect.unit ![4, 2, 0] ![1, 1, 512] inb_S8x8x512_S1x1x512_4_2_0)) (View.ld x3 (Rect.unit ![4, 0, 0] ![1, 128, 512] inb_S8x128x512_S1x128x512_4_0_0)) (View.ld x4 (Rect.unit ![4, 0, 0] ![1, 128, 512] inb_S8x128x512_S1x128x512_4_0_0))) (k0_pay38 (View.ld x5 (Rect.unit ![5, 2, 0] ![1, 1, 512] inb_S8x8x512_S1x1x512_5_2_0))) (k0_pay39 (View.ld x6 (Rect.unit ![5, 2, 0] ![1, 1, 512] inb_S8x8x512_S1x1x512_5_2_0))) (View.ld x3 (Rect.unit ![5, 0, 0] ![1, 128, 512] inb_S8x128x512_S1x128x512_5_0_0)) (View.ld x4 (Rect.unit ![5, 0, 0] ![1, 128, 512] inb_S8x128x512_S1x128x512_5_0_0)) (View.ld x5 (Rect.unit ![6, 2, 0] ![1, 1, 512] inb_S8x8x512_S1x1x512_6_2_0)) (View.ld x6 (Rect.unit ![6, 2, 0] ![1, 1, 512] inb_S8x8x512_S1x1x512_6_2_0)) (View.ld x3 (Rect.unit ![6, 0, 0] ![1, 128, 512] inb_S8x128x512_S1x128x512_6_0_0)) (View.ld x4 (Rect.unit ![6, 0, 0] ![1, 128, 512] inb_S8x128x512_S1x128x512_6_0_0))) (k0_pay41 (View.ld x5 (Rect.unit ![7, 2, 0] ![1, 1, 512] inb_S8x8x512_S1x1x512_7_2_0))) (k0_pay42 (View.ld x6 (Rect.unit ![7, 2, 0] ![1, 1, 512] inb_S8x8x512_S1x1x512_7_2_0))) (View.ld x3 (Rect.unit ![7, 0, 0] ![1, 128, 512] inb_S8x128x512_S1x128x512_7_0_0)) (View.ld x4 (Rect.unit ![7, 0, 0] ![1, 128, 512] inb_S8x128x512_S1x128x512_7_0_0))⟩,
      ⟨Rect.unit ![128, 0] ![128, 512] inb_S1024x512_S128x512_128_0, k0_pay28 (k0_pay20 (k0_pay4 x0) (View.ld x1 (Rect.unit ![0, 128, 0] ![1, 128, 2048] inb_S1x1024x2048_S1x128x2048_0_128_0))) (k0_pay26 (k0_pay25 (k0_pay23 (k0_pay21 (View.ld x5 (Rect.unit ![0, 1, 0] ![1, 1, 512] inb_S8x8x512_S1x1x512_0_1_0)) (View.ld x6 (Rect.unit ![0, 1, 0] ![1, 1, 512] inb_S8x8x512_S1x1x512_0_1_0)) (View.ld x3 (Rect.unit ![0, 0, 0] ![1, 128, 512] inb_S8x128x512_S1x128x512_0_0_0)) (View.ld x4 (Rect.unit ![0, 0, 0] ![1, 128, 512] inb_S8x128x512_S1x128x512_0_0_0))) (k0_pay22 (View.ld x5 (Rect.unit ![1, 1, 0] ![1, 1, 512] inb_S8x8x512_S1x1x512_1_1_0))) (View.ld x6 (Rect.unit ![1, 1, 0] ![1, 1, 512] inb_S8x8x512_S1x1x512_1_1_0)) (View.ld x3 (Rect.unit ![1, 0, 0] ![1, 128, 512] inb_S8x128x512_S1x128x512_1_0_0)) (View.ld x4 (Rect.unit ![1, 0, 0] ![1, 128, 512] inb_S8x128x512_S1x128x512_1_0_0)) (View.ld x5 (Rect.unit ![2, 1, 0] ![1, 1, 512] inb_S8x8x512_S1x1x512_2_1_0)) (View.ld x6 (Rect.unit ![2, 1, 0] ![1, 1, 512] inb_S8x8x512_S1x1x512_2_1_0)) (View.ld x3 (Rect.unit ![2, 0, 0] ![1, 128, 512] inb_S8x128x512_S1x128x512_2_0_0)) (View.ld x4 (Rect.unit ![2, 0, 0] ![1, 128, 512] inb_S8x128x512_S1x128x512_2_0_0))) (k0_pay24 (View.ld x5 (Rect.unit ![3, 1, 0] ![1, 1, 512] inb_S8x8x512_S1x1x512_3_1_0))) (View.ld x6 (Rect.unit ![3, 1, 0] ![1, 1, 512] inb_S8x8x512_S1x1x512_3_1_0)) (View.ld x3 (Rect.unit ![3, 0, 0] ![1, 128, 512] inb_S8x128x512_S1x128x512_3_0_0)) (View.ld x4 (Rect.unit ![3, 0, 0] ![1, 128, 512] inb_S8x128x512_S1x128x512_3_0_0)) (View.ld x5 (Rect.unit ![4, 1, 0] ![1, 1, 512] inb_S8x8x512_S1x1x512_4_1_0)) (View.ld x6 (Rect.unit ![4, 1, 0] ![1, 1, 512] inb_S8x8x512_S1x1x512_4_1_0)) (View.ld x3 (Rect.unit ![4, 0, 0] ![1, 128, 512] inb_S8x128x512_S1x128x512_4_0_0)) (View.ld x4 (Rect.unit ![4, 0, 0] ![1, 128, 512] inb_S8x128x512_S1x128x512_4_0_0))) (View.ld x5 (Rect.unit ![5, 1, 0] ![1, 1, 512] inb_S8x8x512_S1x1x512_5_1_0)) (View.ld x6 (Rect.unit ![5, 1, 0] ![1, 1, 512] inb_S8x8x512_S1x1x512_5_1_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay27 (View.ld x5 (Rect.unit ![6, 1, 0] ![1, 1, 512] inb_S8x8x512_S1x1x512_6_1_0)) (View.ld x6 (Rect.unit ![6, 1, 0] ![1, 1, 512] inb_S8x8x512_S1x1x512_6_1_0)) (View.ld x3 (Rect.unit ![6, 0, 0] ![1, 128, 512] inb_S8x128x512_S1x128x512_6_0_0)) (View.ld x4 (Rect.unit ![6, 0, 0] ![1, 128, 512] inb_S8x128x512_S1x128x512_6_0_0))) (View.ld x5 (Rect.unit ![7, 1, 0] ![1, 1, 512] inb_S8x8x512_S1x1x512_7_1_0)) (View.ld x6 (Rect.unit ![7, 1, 0] ![1, 1, 512] inb_S8x8x512_S1x1x512_7_1_0)) (View.ld x3 (Rect.unit ![7, 0, 0] ![1, 128, 512] inb_S8x128x512_S1x128x512_7_0_0)) (View.ld x4 (Rect.unit ![7, 0, 0] ![1, 128, 512] inb_S8x128x512_S1x128x512_7_0_0))⟩,
      ⟨Rect.unit ![0, 0] ![128, 512] inb_S1024x512_S128x512_0_0, k0_pay19 (k0_pay5 x0 (View.ld x1 (Rect.unit ![0, 0, 0] ![1, 128, 2048] inb_S1x1024x2048_S1x128x2048_0_0_0))) (k0_pay16 (k0_pay13 (k0_pay10 k0_pay6 (k0_pay7 (View.ld x6 (Rect.unit ![0, 0, 0] ![1, 1, 512] inb_S8x8x512_S1x1x512_0_0_0))) (k0_pay8 (View.ld x5 (Rect.unit ![0, 0, 0] ![1, 1, 512] inb_S8x8x512_S1x1x512_0_0_0)) (View.ld x3 (Rect.unit ![0, 0, 0] ![1, 128, 512] inb_S8x128x512_S1x128x512_0_0_0))) (k0_pay9 (View.ld x4 (Rect.unit ![0, 0, 0] ![1, 128, 512] inb_S8x128x512_S1x128x512_0_0_0))) (View.ld x5 (Rect.unit ![1, 0, 0] ![1, 1, 512] inb_S8x8x512_S1x1x512_1_0_0)) (View.ld x6 (Rect.unit ![1, 0, 0] ![1, 1, 512] inb_S8x8x512_S1x1x512_1_0_0)) (View.ld x3 (Rect.unit ![1, 0, 0] ![1, 128, 512] inb_S8x128x512_S1x128x512_1_0_0)) (View.ld x4 (Rect.unit ![1, 0, 0] ![1, 128, 512] inb_S8x128x512_S1x128x512_1_0_0))) (k0_pay11 (View.ld x6 (Rect.unit ![2, 0, 0] ![1, 1, 512] inb_S8x8x512_S1x1x512_2_0_0))) (k0_pay12 (View.ld x5 (Rect.unit ![2, 0, 0] ![1, 1, 512] inb_S8x8x512_S1x1x512_2_0_0)) (View.ld x3 (Rect.unit ![2, 0, 0] ![1, 128, 512] inb_S8x128x512_S1x128x512_2_0_0))) (View.ld x4 (Rect.unit ![2, 0, 0] ![1, 128, 512] inb_S8x128x512_S1x128x512_2_0_0)) (View.ld x5 (Rect.unit ![3, 0, 0] ![1, 1, 512] inb_S8x8x512_S1x1x512_3_0_0)) (View.ld x6 (Rect.unit ![3, 0, 0] ![1, 1, 512] inb_S8x8x512_S1x1x512_3_0_0)) (View.ld x3 (Rect.unit ![3, 0, 0] ![1, 128, 512] inb_S8x128x512_S1x128x512_3_0_0)) (View.ld x4 (Rect.unit ![3, 0, 0] ![1, 128, 512] inb_S8x128x512_S1x128x512_3_0_0))) (k0_pay14 (View.ld x5 (Rect.unit ![4, 0, 0] ![1, 1, 512] inb_S8x8x512_S1x1x512_4_0_0))) (k0_pay15 (View.ld x6 (Rect.unit ![4, 0, 0] ![1, 1, 512] inb_S8x8x512_S1x1x512_4_0_0))) (View.ld x3 (Rect.unit ![4, 0, 0] ![1, 128, 512] inb_S8x128x512_S1x128x512_4_0_0)) (View.ld x4 (Rect.unit ![4, 0, 0] ![1, 128, 512] inb_S8x128x512_S1x128x512_4_0_0)) (View.ld x5 (Rect.unit ![5, 0, 0] ![1, 1, 512] inb_S8x8x512_S1x1x512_5_0_0)) (View.ld x6 (Rect.unit ![5, 0, 0] ![1, 1, 512] inb_S8x8x512_S1x1x512_5_0_0)) (View.ld x3 (Rect.unit ![5, 0, 0] ![1, 128, 512] inb_S8x128x512_S1x128x512_5_0_0)) (View.ld x4 (Rect.unit ![5, 0, 0] ![1, 128, 512] inb_S8x128x512_S1x128x512_5_0_0))) (k0_pay17 (View.ld x5 (Rect.unit ![6, 0, 0] ![1, 1, 512] inb_S8x8x512_S1x1x512_6_0_0))) (k0_pay18 (View.ld x6 (Rect.unit ![6, 0, 0] ![1, 1, 512] inb_S8x8x512_S1x1x512_6_0_0))) (View.ld x3 (Rect.unit ![6, 0, 0] ![1, 128, 512] inb_S8x128x512_S1x128x512_6_0_0)) (View.ld x4 (Rect.unit ![6, 0, 0] ![1, 128, 512] inb_S8x128x512_S1x128x512_6_0_0)) (View.ld x5 (Rect.unit ![7, 0, 0] ![1, 1, 512] inb_S8x8x512_S1x1x512_7_0_0)) (View.ld x6 (Rect.unit ![7, 0, 0] ![1, 1, 512] inb_S8x8x512_S1x1x512_7_0_0)) (View.ld x3 (Rect.unit ![7, 0, 0] ![1, 128, 512] inb_S8x128x512_S1x128x512_7_0_0)) (View.ld x4 (Rect.unit ![7, 0, 0] ![1, 128, 512] inb_S8x128x512_S1x128x512_7_0_0))⟩]
      (Rect.unit ![0, 0] ![1024, 512] inb_S1024x512_S1024x512_0_0).toLoadRect = acts x0 x1 x3 x4 x5 x6 := by
  rw [View.readCov_eq_canon']
  funext y
  show View.canon _ _ = _
  canon_tiles x h
  case piece0 =>
    obtain ⟨s, d, rfl⟩ : ∃ (s : Fin 128) (d : Fin 512), x = ix2 s d := ⟨x 0, x 1, by funext a; fin_cases a <;> rfl⟩
    simp only [Rect.idx_unit_val] at h0 h1
    exact (chunk7 x0 x1 x3 x4 x5 x6 s d).trans (acts_at x0 x1 x3 x4 x5 x6 7 s d ⟨896 + s.val, by omega⟩ (by rfl) y
      (by simpa using h0) (by simpa using h1)).symm
  case piece1 =>
    obtain ⟨s, d, rfl⟩ : ∃ (s : Fin 128) (d : Fin 512), x = ix2 s d := ⟨x 0, x 1, by funext a; fin_cases a <;> rfl⟩
    simp only [Rect.idx_unit_val] at h0 h1
    exact (chunk6 x0 x1 x3 x4 x5 x6 s d).trans (acts_at x0 x1 x3 x4 x5 x6 6 s d ⟨768 + s.val, by omega⟩ (by rfl) y
      (by simpa using h0) (by simpa using h1)).symm
  case piece2 =>
    obtain ⟨s, d, rfl⟩ : ∃ (s : Fin 128) (d : Fin 512), x = ix2 s d := ⟨x 0, x 1, by funext a; fin_cases a <;> rfl⟩
    simp only [Rect.idx_unit_val] at h0 h1
    exact (chunk5 x0 x1 x3 x4 x5 x6 s d).trans (acts_at x0 x1 x3 x4 x5 x6 5 s d ⟨640 + s.val, by omega⟩ (by rfl) y
      (by simpa using h0) (by simpa using h1)).symm
  case piece3 =>
    obtain ⟨s, d, rfl⟩ : ∃ (s : Fin 128) (d : Fin 512), x = ix2 s d := ⟨x 0, x 1, by funext a; fin_cases a <;> rfl⟩
    simp only [Rect.idx_unit_val] at h0 h1
    exact (chunk4 x0 x1 x3 x4 x5 x6 s d).trans (acts_at x0 x1 x3 x4 x5 x6 4 s d ⟨512 + s.val, by omega⟩ (by rfl) y
      (by simpa using h0) (by simpa using h1)).symm
  case piece4 =>
    obtain ⟨s, d, rfl⟩ : ∃ (s : Fin 128) (d : Fin 512), x = ix2 s d := ⟨x 0, x 1, by funext a; fin_cases a <;> rfl⟩
    simp only [Rect.idx_unit_val] at h0 h1
    exact (chunk3 x0 x1 x3 x4 x5 x6 s d).trans (acts_at x0 x1 x3 x4 x5 x6 3 s d ⟨384 + s.val, by omega⟩ (by rfl) y
      (by simpa using h0) (by simpa using h1)).symm
  case piece5 =>
    obtain ⟨s, d, rfl⟩ : ∃ (s : Fin 128) (d : Fin 512), x = ix2 s d := ⟨x 0, x 1, by funext a; fin_cases a <;> rfl⟩
    simp only [Rect.idx_unit_val] at h0 h1
    exact (chunk2 x0 x1 x3 x4 x5 x6 s d).trans (acts_at x0 x1 x3 x4 x5 x6 2 s d ⟨256 + s.val, by omega⟩ (by rfl) y
      (by simpa using h0) (by simpa using h1)).symm
  case piece6 =>
    obtain ⟨s, d, rfl⟩ : ∃ (s : Fin 128) (d : Fin 512), x = ix2 s d := ⟨x 0, x 1, by funext a; fin_cases a <;> rfl⟩
    simp only [Rect.idx_unit_val] at h0 h1
    exact (chunk1 x0 x1 x3 x4 x5 x6 s d).trans (acts_at x0 x1 x3 x4 x5 x6 1 s d ⟨128 + s.val, by omega⟩ (by rfl) y
      (by simpa using h0) (by simpa using h1)).symm
  case piece7 =>
    obtain ⟨s, d, rfl⟩ : ∃ (s : Fin 128) (d : Fin 512), x = ix2 s d := ⟨x 0, x 1, by funext a; fin_cases a <;> rfl⟩
    simp only [Rect.idx_unit_val] at h0 h1
    exact (chunk0 x0 x1 x3 x4 x5 x6 s d).trans (acts_at x0 x1 x3 x4 x5 x6 0 s d ⟨0 + s.val, by omega⟩ (by rfl) y
      (by simpa using h0) (by simpa using h1)).symm
end Cert.Experts
end
-- ==== Proof.Experts.Steps.lean ====
/- The experts: what a grid point adds to the running sum in the scratch, and what the last point of a token block writes. Point `t` is token block `t / 16` and expert block `t % 16`. -/
module
public import proofs.«01_k».proof.Proof.Experts.Chunks
@[expose] public section
set_option maxRecDepth 200000
noncomputable section
namespace Cert.Experts
open Cert.Kernel5Ideal Cert.Kernel5Ideal.Gen Cert.Kernel5Ideal.Value Idealize.ShloMosaic Idealize.ShloMosaic.TcCoe Idealize.SL.Sem
open Idealize.ShloMosaic.Pipeline (Dat)
variable (m : (ℓ : Loc nD τ sig) → Buf (Elt Ideal) ℓ)

theorem pay_step (a : Vec Ideal S2048x512 .f32) (v : Vec Ideal S1x2048x1024 .bf16) (g : Vec Ideal S1024x512 .bf16) (i : Fin 2048) (d : Fin 512) :
    k0_pay1 (F := Ideal) (k0_pay109 a v g) (ix2 i d) = a (ix2 i d) + ∑ j : Fin 1024, v (ix3 0 i j) * g (ix2 j d) := by
  pointwise [k0_pay1, k0_pay109]

theorem pay_zero (i : Fin 2048) (d : Fin 512) : k0_pay3 (F := Ideal) (ix2 i d) = 0 := by
  pointwise [k0_pay3]

/-- A point's gated activations. -/
abbrev act (c : Dev nD) (t : Fin cfg0.N) : Vec Ideal S1024x512 .bf16 :=
  acts (iblk m c 0 t) (iblk m c 1 t) (iblk m c 3 t) (iblk m c 4 t) (iblk m c 5 t) (iblk m c 6 t)

/-- What a point adds to the running sum. -/
def term (c : Dev nD) (t : Fin cfg0.N) (y : S2048x512.Idx) : EReal :=
  ∑ j : Fin 1024, (show FVec Ideal S1x2048x1024 .bf16 from iblk m c 2 t) (ix3 0 (y 0) j) * act m c t (ix2 j (y 1))

theorem reset (c : Dev nD) (t : Fin cfg0.N) (h : t.val % 16 = 0) (i : Fin 2048) (d : Fin 512) :
    (outsAt0 m c t.val t.isLt).2 (ix2 i d) = 0 + term m c t (ix2 i d) := by
  rw [outsAt0_A m c t h (by omega)]
  frame_out
  refine (congrArg (fun w => k0_pay1 (F := Ideal) (k0_pay109 _ (iblk m c 2 t) w) (ix2 i d))
    (stacked (iblk m c 0 t) (iblk m c 1 t) (iblk m c 3 t) (iblk m c 4 t) (iblk m c 5 t) (iblk m c 6 t))).trans ?_
  refine (pay_step _ _ _ i d).trans ?_
  exact congrArg (· + _) (pay_zero i d)

theorem stepB (c : Dev nD) (t : Fin cfg0.N) (h : ¬ t.val % 16 = 0) (h1 : ¬ t.val % 16 = 15) (i : Fin 2048) (d : Fin 512) :
    (outsAt0 m c t.val t.isLt).2 (ix2 i d) = (outsAt0 m c (t.val - 1) (Nat.lt_of_le_of_lt (Nat.sub_le _ _) t.isLt)).2 (ix2 i d) + term m c t (ix2 i d) := by
  rw [outsAt0_B m c t h h1]
  frame_out
  refine (congrArg (fun w => k0_pay1 (F := Ideal) (k0_pay109 _ (iblk m c 2 t) w) (ix2 i d))
    (stacked (iblk m c 0 t) (iblk m c 1 t) (iblk m c 3 t) (iblk m c 4 t) (iblk m c 5 t) (iblk m c 6 t))).trans ?_
  refine (pay_step _ _ _ i d).trans ?_
  exact congrArg (· + _) (congrFun ((Memref.isWhole_whole cc0_scratch0).read_unread _) _)

theorem stepC (c : Dev nD) (t : Fin cfg0.N) (h : ¬ t.val % 16 = 0) (h1 : t.val % 16 = 15) (i : Fin 2048) (d : Fin 512) :
    (outsAt0 m c t.val t.isLt).2 (ix2 i d) = (outsAt0 m c (t.val - 1) (Nat.lt_of_le_of_lt (Nat.sub_le _ _) t.isLt)).2 (ix2 i d) + term m c t (ix2 i d) := by
  rw [outsAt0_C m c t h h1]
  frame_out
  refine (congrArg (fun w => k0_pay1 (F := Ideal) (k0_pay109 _ (iblk m c 2 t) w) (ix2 i d))
    (stacked (iblk m c 0 t) (iblk m c 1 t) (iblk m c 3 t) (iblk m c 4 t) (iblk m c 5 t) (iblk m c 6 t))).trans ?_
  refine (pay_step _ _ _ i d).trans ?_
  exact congrArg (· + _) (congrFun ((Memref.isWhole_whole cc0_scratch0).read_unread _) _)

theorem out_C (c : Dev nD) (t : Fin cfg0.N) (h : ¬ t.val % 16 = 0) (h1 : t.val % 16 = 15) (y : S512x2048.Idx) :
    (outsAt0 m c t.val t.isLt).1 y = k0_pay2 (F := Ideal) (iblk m c 7 t) (View.ld (iblk m c 8 t) (Rect.unit ![0, 5, 0] ![1, 1, 2048] inb_S1x6x2048_S1x1x2048_0_5_0))
      (outsAt0 m c t.val t.isLt).2 (iblk m c 9 t) y := by
  rw [outsAt0_C m c t h h1]
  frame_out
  rfl
end Cert.Experts
end
-- ==== Proof.Experts.Host.lean ====
/- The arrays the experts' windows stage, read at an index, and each point's blocks as entries of the arguments. -/
module
public import proofs.«01_k».proof.Proof.Experts.Ref
public import proofs.«01_k».proof.Proof.Experts.Steps
@[expose] public section
set_option maxRecDepth 200000
noncomputable section
namespace Cert.Experts
open Cert.Kernel5Ideal Cert.Kernel5Ideal.Gen Cert.Kernel5Ideal.Value Idealize.ShloMosaic Idealize.ShloMosaic.TcCoe Idealize.SL.Sem
open Idealize.ShloMosaic.Pipeline (Dat)

/-- The tokens as columns. -/
def cols (h : FVec Ideal S4x4096x2048 .f32) : FVec Ideal S2048x16384 .bf16 :=
  truncf (F := Ideal) .bf16 (transpose S2048x16384 [1, 0] (shapeCast S16384x2048 h shapeCasts_S4x4096x2048_S16384x2048) transposes_S16384x2048_S2048x16384_1_0) bitsLt_bf16_f32

/-- The experts' output vectors as columns. -/
def vcols (v : FVec Ideal S2x16384x2048 .f32) : FVec Ideal S2x2048x16384 .bf16 :=
  transpose S2x2048x16384 [0, 2, 1] (truncf (F := Ideal) .bf16 v bitsLt_bf16_f32) transposes_S2x16384x2048_S2x2048x16384_0_2_1

/-- The modulation of the batches and four rows of zeros. -/
def table (l : FVec Ideal S4x12288 .f32) : FVec Ideal S8x6x2048 .f32 :=
  shapeCast S8x6x2048 (concatenate S8x12288 0 [⟨S4x12288, l⟩,
    ⟨S1x12288, broadcastInDim S1x12288 ![1] bcast_S12288_S1x12288_1 (broadcastInDim S12288 ![] bcast_S_S12288 (constant (F := Ideal) S_ .f32 0x00000000#32))⟩,
    ⟨S3x12288, broadcastInDim S3x12288 ![] bcast_S_S3x12288 (constant S_ .f32 0x00000000#32)⟩] concatenates_S4x12288_S1x12288_S3x12288_S8x12288_d0)
    shapeCasts_S8x12288_S8x6x2048

theorem cols_at (h : FVec Ideal S4x4096x2048 .f32) (k : Fin 2048) (r : Fin 16384) :
    cols h (ix2 k r) = h (ix3 ⟨r / 4096, by omega⟩ ⟨r % 4096, by omega⟩ k) := by
  pointwise [cols]

theorem vcols_at (v : FVec Ideal S2x16384x2048 .f32) (l : Fin 2048) (e : Fin 16384) : vcols v (ix3 1 l e) = v (ix3 1 e l) := by
  pointwise [vcols]

theorem table_at (l : FVec Ideal S4x12288 .f32) (b : Fin 8) (d : Fin 2048) (hb : b.val < 4) :
    table l (ix3 b 5 d) = l (ix2 ⟨b, hb⟩ ⟨10240 + d, by omega⟩) := by
  pointwise [table]
  blk_point []
  all_goals omega

theorem rows_at (x : FVec Ideal S4x4096x2048 .f32) (r : Fin 16384) (l : Fin 2048) :
    shapeCast (α := EReal) S16384x2048 x shapeCasts_S4x4096x2048_S16384x2048 (ix2 r l) = x (ix3 ⟨r / 4096, by omega⟩ ⟨r % 4096, by omega⟩ l) := by
  pointwise []

theorem vec_at (w : FVec Ideal S2048 .f32) (l : Fin 2048) : shapeCast (α := EReal) S1x2048 w shapeCasts_S2048_S1x2048 (ix2 0 l) = w (ix1 l) := by
  pointwise []

variable (m : (ℓ : Loc nD τ sig) → Buf (Elt Ideal) ℓ)

theorem V_h (c : Dev nD) : V m c main_v4 = cols (m ((c : Thread nD τ).loc main_arg0)) := by
  unfold V
  simp only [List.flatten_cons, List.flatten_nil, List.append_nil, List.cons_append, List.nil_append, hostOps0]
  after_results
  rfl
theorem V_u (c : Dev nD) : V m c main_v5 = truncf (F := Ideal) .bf16 (m ((c : Thread nD τ).loc main_arg7) : FVec Ideal S2x16384x2048 .f32) bitsLt_bf16_f32 := by
  unfold V
  simp only [List.flatten_cons, List.flatten_nil, List.append_nil, List.cons_append, List.nil_append, hostOps0]
  after_results
theorem V_v (c : Dev nD) : V m c main_v7 = vcols (m ((c : Thread nD τ).loc main_arg8)) := by
  unfold V
  simp only [List.flatten_cons, List.flatten_nil, List.append_nil, List.cons_append, List.nil_append, hostOps0]
  after_results
  rfl
theorem V_rank (c : Dev nD) : V m c main_v0 = truncf (F := Ideal) .bf16 (m ((c : Thread nD τ).loc main_arg3) : FVec Ideal S8x128x16384 .f32) bitsLt_bf16_f32 := by
  unfold V
  simp only [List.flatten_cons, List.flatten_nil, List.append_nil, List.cons_append, List.nil_append, hostOps0]
  after_results
theorem V_exp (c : Dev nD) : V m c main_v1 = truncf (F := Ideal) .bf16 (m ((c : Thread nD τ).loc main_arg4) : FVec Ideal S8x128x16384 .f32) bitsLt_bf16_f32 := by
  unfold V
  simp only [List.flatten_cons, List.flatten_nil, List.append_nil, List.cons_append, List.nil_append, hostOps0]
  after_results
theorem V_x (c : Dev nD) : V m c main_v8 = shapeCast (α := EReal) S16384x2048 (m ((c : Thread nD τ).loc main_arg1)) shapeCasts_S4x4096x2048_S16384x2048 := by
  unfold V
  simp only [List.flatten_cons, List.flatten_nil, List.append_nil, List.cons_append, List.nil_append, hostOps0]
  after_results
  rfl
theorem V_d (c : Dev nD) : V m c main_v13 = table (m ((c : Thread nD τ).loc main_arg2)) := by
  unfold V
  simp only [List.flatten_cons, List.flatten_nil, List.append_nil, List.cons_append, List.nil_append, hostOps0]
  after_results
  rfl
theorem V_w (c : Dev nD) : V m c main_v14 = shapeCast (α := EReal) S1x2048 (m ((c : Thread nD τ).loc main_arg9)) shapeCasts_S2048_S1x2048 := by
  unfold V
  simp only [List.flatten_cons, List.flatten_nil, List.append_nil, List.cons_append, List.nil_append, hostOps0]
  after_results
  rfl

theorem idx : ∀ t : Fin cfg0.N, win0_0.index t = ![0, t.val / 16] ∧ win0_1.index t = ![1, t.val % 16, 0] ∧ win0_2.index t = ![1, 0, t.val % 16]
    ∧ win0_3.index t = ![0, 0, t.val / 16] ∧ win0_4.index t = ![0, 0, t.val / 16] ∧ win0_5.index t = ![0, t.val % 16, t.val / 16] ∧ win0_6.index t = ![0, t.val % 16, t.val / 16]
    ∧ win0_7.index t = ![t.val / 16, 0] ∧ win0_8.index t = ![t.val / 128, 0, 0] ∧ win0_9.index t = ![0, 0] ∧ win0_10.index t = ![t.val / 16, 0] :=
  (by decide +kernel : ∀ t : Fin grid0.N, _)

theorem lt (t : Fin cfg0.N) : t.val < 512 := t.isLt

section
variable (c : Dev nD) (t : Fin cfg0.N)

theorem blk_h (k : Fin 2048) (d : Fin 512) (r : Fin 16384) (hr : r.val = 512 * (t.val / 16) + d.val) :
    iblk m c 0 t (ix2 k d : S2048x512.Idx) = (m ((c : Thread nD τ).loc main_arg0) : FVec Ideal S4x4096x2048 .f32) (ix3 ⟨r / 4096, by omega⟩ ⟨r % 4096, by omega⟩ k) := by
  have e : iblk m c 0 t (ix2 k d : S2048x512.Idx) = V m c main_v4 (ix2 k r) := by
    blk_ext [iblk, idx t]
  rw [e, V_h, cols_at]
theorem blk_u (j : Fin 1024) (k : Fin 2048) (e : Fin 16384) (he : e.val = 1024 * (t.val % 16) + j.val) :
    iblk m c 1 t (ix3 0 j k : S1x1024x2048.Idx) = (m ((c : Thread nD τ).loc main_arg7) : FVec Ideal S2x16384x2048 .f32) (ix3 1 e k) := by
  have e : iblk m c 1 t (ix3 0 j k : S1x1024x2048.Idx) = V m c main_v5 (ix3 1 e k) := by
    blk_ext [iblk, idx t]
  rw [e, V_u]
  pointwise []
theorem blk_v (l : Fin 2048) (j : Fin 1024) (e : Fin 16384) (he : e.val = 1024 * (t.val % 16) + j.val) :
    iblk m c 2 t (ix3 0 l j : S1x2048x1024.Idx) = (m ((c : Thread nD τ).loc main_arg8) : FVec Ideal S2x16384x2048 .f32) (ix3 1 e l) := by
  have e : iblk m c 2 t (ix3 0 l j : S1x2048x1024.Idx) = V m c main_v7 (ix3 1 l e) := by
    blk_ext [iblk, idx t]
  rw [e, V_v, vcols_at]
theorem blk_rank (h : Fin 8) (s : Fin 128) (d : Fin 512) (r : Fin 16384) (hr : r.val = 512 * (t.val / 16) + d.val) :
    iblk m c 3 t (ix3 h s d : S8x128x512.Idx) = (m ((c : Thread nD τ).loc main_arg3) : FVec Ideal S8x128x16384 .f32) (ix3 h s r) := by
  have e : iblk m c 3 t (ix3 h s d : S8x128x512.Idx) = V m c main_v0 (ix3 h s r) := by
    blk_ext [iblk, idx t]
  rw [e, V_rank]
  pointwise []
theorem blk_exp (h : Fin 8) (s : Fin 128) (d : Fin 512) (r : Fin 16384) (hr : r.val = 512 * (t.val / 16) + d.val) :
    iblk m c 4 t (ix3 h s d : S8x128x512.Idx) = (m ((c : Thread nD τ).loc main_arg4) : FVec Ideal S8x128x16384 .f32) (ix3 h s r) := by
  have e : iblk m c 4 t (ix3 h s d : S8x128x512.Idx) = V m c main_v1 (ix3 h s r) := by
    blk_ext [iblk, idx t]
  rw [e, V_exp]
  pointwise []
theorem blk_count (h : Fin 8) (q : Fin 8) (d : Fin 512) (r : Fin 16384) (p : Fin 128) (hr : r.val = 512 * (t.val / 16) + d.val) (hp : p.val = 8 * (t.val % 16) + q.val) :
    iblk m c 5 t (ix3 h q d : S8x8x512.Idx) = (m ((c : Thread nD τ).loc main_arg5) : FVec Ideal S8x128x16384 .f32) (ix3 h p r) := by
  have e : iblk m c 5 t (ix3 h q d : S8x8x512.Idx) = V m c main_arg5 (ix3 h p r) := by
    blk_ext [iblk, idx t]
  rw [e, V_main_arg5]
theorem blk_first (h : Fin 8) (q : Fin 8) (d : Fin 512) (r : Fin 16384) (p : Fin 128) (hr : r.val = 512 * (t.val / 16) + d.val) (hp : p.val = 8 * (t.val % 16) + q.val) :
    iblk m c 6 t (ix3 h q d : S8x8x512.Idx) = (m ((c : Thread nD τ).loc main_arg6) : FVec Ideal S8x128x16384 .f32) (ix3 h p r) := by
  have e : iblk m c 6 t (ix3 h q d : S8x8x512.Idx) = V m c main_arg6 (ix3 h p r) := by
    blk_ext [iblk, idx t]
  rw [e, V_main_arg6]
theorem blk_x (d : Fin 512) (l : Fin 2048) (r : Fin 16384) (hr : r.val = 512 * (t.val / 16) + d.val) :
    iblk m c 7 t (ix2 d l : S512x2048.Idx) = (m ((c : Thread nD τ).loc main_arg1) : FVec Ideal S4x4096x2048 .f32) (ix3 ⟨r / 4096, by omega⟩ ⟨r % 4096, by omega⟩ l) := by
  have e : iblk m c 7 t (ix2 d l : S512x2048.Idx) = V m c main_v8 (ix2 r l) := by
    blk_ext [iblk, idx t]
  rw [e, V_x, rows_at]
theorem blk_d (l : Fin 2048) (b : Fin 4) (hb : b.val = t.val / 128) :
    iblk m c 8 t (ix3 0 5 l : S1x6x2048.Idx) = (m ((c : Thread nD τ).loc main_arg2) : FVec Ideal S4x12288 .f32) (ix2 b ⟨10240 + l, by omega⟩) := by
  have e : iblk m c 8 t (ix3 0 5 l : S1x6x2048.Idx) = V m c main_v13 (ix3 ⟨b.val, by omega⟩ 5 l) := by
    blk_ext [iblk, idx t]
  rw [e, V_d, table_at _ _ _ b.isLt]
theorem blk_w (l : Fin 2048) : iblk m c 9 t (ix2 0 l : S1x2048.Idx) = (m ((c : Thread nD τ).loc main_arg9) : FVec Ideal S2048 .f32) (ix1 l) := by
  have e : iblk m c 9 t (ix2 0 l : S1x2048.Idx) = V m c main_v14 (ix2 0 l) := by
    blk_ext [iblk, idx t]
  rw [e, V_w, vec_at]
end
end Cert.Experts
end
-- ==== Proof.Experts.Final.lean ====
/- The experts: the sum in the scratch at a token block's last point is the sum over all experts, and the kernel's result array is the reference's. -/
module
public import proofs.«01_k».proof.Proof.Experts.Host
@[expose] public section
set_option maxRecDepth 16384
noncomputable section
namespace Cert.Experts
open Cert.Kernel5Ideal Cert.Kernel5Ideal.Gen Cert.Kernel5Ideal.Value Idealize.ShloMosaic Idealize.ShloMosaic.TcCoe Idealize.SL.Sem
open Idealize.ShloMosaic.Pipeline (Dat)
variable (m : (ℓ : Loc nD τ sig) → Buf (Elt Ideal) ℓ)

/-- The last point's result, from a block's rows. -/
theorem pay_out (x : Vec Ideal S512x2048 .f32) (s : Vec Ideal S1x6x2048 .f32) (a : Vec Ideal S2048x512 .f32) (w : Vec Ideal S1x2048 .f32) (d : Fin 512) (l : Fin 2048) :
    k0_pay2 (F := Ideal) x (View.ld s (Rect.unit ![0, 5, 0] ![1, 1, 2048] inb_S1x6x2048_S1x1x2048_0_5_0)) a w (ix2 d l)
      = Ref.normRow (fun k => x (ix2 d k) + s (ix3 0 5 k) * a (ix2 k d)) (fun k => w (ix2 0 k)) l := by
  pointwise [k0_pay2, Ref.normRow]

/-- A block's gate is the expert's. -/
theorem gate_eq (c : Dev nD) (t : Fin cfg0.N) (q : Fin 8) (s : Fin 128) (d : Fin 512) (r : Fin 16384) (p : Fin 128)
    (hr : r.val = 512 * (t.val / 16) + d.val) (hp : p.val = 8 * (t.val % 16) + q.val) :
    gate (iblk m c 3 t) (iblk m c 4 t) (iblk m c 5 t) (iblk m c 6 t) q s d = Ref.gate (m ((c : Thread nD τ).loc main_arg3)) (m ((c : Thread nD τ).loc main_arg4)) (m ((c : Thread nD τ).loc main_arg5)) (m ((c : Thread nD τ).loc main_arg6)) p s r := by
  unfold gate Ref.gate
  refine Finset.sum_congr rfl fun h _ => ?_
  rw [blk_rank m c t h s d r hr, blk_exp m c t h s d r hr, blk_count m c t h q d r p hr hp, blk_first m c t h q d r p hr hp]

/-- A point's gated activation of expert `e` for token `r`. -/
theorem act_eq (c : Dev nD) (t : Fin cfg0.N) (j : Fin 1024) (d : Fin 512) (r e : Fin 16384)
    (hr : r.val = 512 * (t.val / 16) + d.val) (he : e.val = 1024 * (t.val % 16) + j.val) :
    act m c t (ix2 j d) = Ref.gate (m ((c : Thread nD τ).loc main_arg3)) (m ((c : Thread nD τ).loc main_arg4)) (m ((c : Thread nD τ).loc main_arg5)) (m ((c : Thread nD τ).loc main_arg6)) ⟨e / 128, by omega⟩ ⟨e % 128, by omega⟩ r * Ref.gelu (Ref.act (m ((c : Thread nD τ).loc main_arg0)) (m ((c : Thread nD τ).loc main_arg7)) r e) := by
  have es : (⟨e.val % 128, by omega⟩ : Fin 128) = ⟨j.val % 128, by omega⟩ := Fin.ext (by show e.val % 128 = j.val % 128; omega)
  refine (acts_at (iblk m c 0 t) (iblk m c 1 t) (iblk m c 3 t) (iblk m c 4 t) (iblk m c 5 t) (iblk m c 6 t) ⟨j / 128, by omega⟩ ⟨j % 128, by omega⟩ d j
    (by show j.val = 128 * (j.val / 128) + j.val % 128; omega) (ix2 j d) rfl rfl).trans ?_
  rw [es, gate_eq m c t _ _ d r ⟨e / 128, by omega⟩ hr (by show e.val / 128 = 8 * (t.val % 16) + j.val / 128; omega)]
  refine congrArg (fun z => _ * Ref.gelu z) ?_
  refine Finset.sum_congr rfl fun k _ => ?_
  rw [blk_u m c t j k e he, blk_h m c t k d r hr]
  exact mul_comm _ _

/-- The scratch at a token block's last point: the sum over all experts. -/
theorem total (c : Dev nD) (t : Fin cfg0.N) (h : t.val % 16 = 15) (l : Fin 2048) (d : Fin 512) (r : Fin 16384) (hr : r.val = 512 * (t.val / 16) + d.val) :
    (outsAt0 m c t.val t.isLt).2 (ix2 l d) = ∑ e : Fin 16384, Ref.gate (m ((c : Thread nD τ).loc main_arg3)) (m ((c : Thread nD τ).loc main_arg4)) (m ((c : Thread nD τ).loc main_arg5)) (m ((c : Thread nD τ).loc main_arg6)) ⟨e / 128, by omega⟩ ⟨e % 128, by omega⟩ r
      * Ref.gelu (Ref.act (m ((c : Thread nD τ).loc main_arg0)) (m ((c : Thread nD τ).loc main_arg7)) r e) * (m ((c : Thread nD τ).loc main_arg8) : FVec Ideal S2x16384x2048 .f32) (ix3 1 e l) := by
  have ht := lt t
  have ey : ∀ y : S2048x512.Idx, y = ix2 (y 0) (y 1) := fun y => by funext a; fin_cases a <;> rfl
  have hf := Pipeline.eq_sum_fin_of_reset_step_apply_of_flush (M := EReal) (fun n h => (outsAt0 m c n h).2) 16 (fun _ => 0) (term m c)
    (fun t h y => by rw [ey y]; exact reset m c t h _ _)
    (fun t h y => by
      rw [ey y]
      by_cases h1 : t.val % 16 = 15
      · exact stepC m c t h h1 _ _
      · exact stepB m c t h h1 _ _)
    t h (ix2 l d)
  rw [zero_add] at hf
  refine hf.trans ?_
  refine Fin.sum_mul_add_congr fun s j hl => ?_
  have hs : (16 * (t.val / 16) + s.val) % 16 = s.val := by omega
  have hq : (16 * (t.val / 16) + s.val) / 16 = t.val / 16 := by omega
  show (show FVec Ideal S1x2048x1024 .bf16 from iblk m c 2 _) (ix3 0 l j) * act m c _ (ix2 j d) = _
  rw [act_eq m c _ j d r ⟨s.val * 1024 + j.val, hl⟩ (by show r.val = 512 * ((16 * (t.val / 16) + s.val) / 16) + d.val; omega) (by show s.val * 1024 + j.val = 1024 * ((16 * (t.val / 16) + s.val) % 16) + j.val; omega)]
  refine (congrArg (fun z : EReal => z * _) (blk_v m c _ l j ⟨s.val * 1024 + j.val, hl⟩ (by show s.val * 1024 + j.val = 1024 * ((16 * (t.val / 16) + s.val) % 16) + j.val; omega))).trans ?_
  exact mul_comm _ _

/-- What a token block's last point writes. -/
theorem point (c : Dev nD) (t : Fin cfg0.N) (h : t.val % 16 = 15) (y : S512x2048.Idx) (r : Fin 16384) (l : Fin 2048)
    (hr : r.val = 512 * (t.val / 16) + (y 0).val) (hl : l.val = (y 1).val) :
    (outsAt0 m c t.val t.isLt).1 y = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r l) := by
  have ht := lt t
  obtain ⟨d, l', rfl⟩ : ∃ (d : Fin 512) (l' : Fin 2048), y = ix2 d l' := ⟨y 0, y 1, by funext a; fin_cases a <;> rfl⟩
  have hr : r.val = 512 * (t.val / 16) + d.val := hr
  obtain rfl : l = l' := Fin.ext hl
  rw [Ref.result_at, out_C m c t (by omega) h]
  refine (pay_out _ _ _ _ d l).trans ?_
  have e1 : (fun k => iblk m c 9 t (ix2 0 k : S1x2048.Idx)) = fun k => (m ((c : Thread nD τ).loc main_arg9) : FVec Ideal S2048 .f32) (ix1 k) := funext fun k => blk_w m c t k
  refine congr (congrArg₂ Ref.normRow (funext fun k => ?_) e1) rfl
  rw [total m c t h k d r hr, blk_x m c t d k r hr, blk_d m c t k ⟨r / 4096, by omega⟩ (by show r.val / 4096 = t.val / 128; omega)]

/-- The whole result. -/
theorem final (c : Dev nD) : (dats m 0 c).arrAt 10 cfg0.N
    = Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  have e := (idx t).2.2.2.2.2.2.2.2.2.2
  rw [point m c t ((flush0_10 t).mp hf) y ((win0_10.blk t).view.emb y 0) ((win0_10.blk t).view.emb y 1) ?_ ?_]
  · exact congrArg _ (by funext a; fin_cases a <;> rfl)
  · blk_simp
    rw [e]
    show t.val / 16 * 512 + (y 0).val = 512 * (t.val / 16) + (y 0).val
    omega
  · blk_simp
    rw [e]
    show 0 * 2048 + (y 1).val = (y 1).val
    omega
end Cert.Experts
end
-- ==== Proof.Experts.Claims.lean ====
/- The expert sum's claims: the frames of the three programs and the equality of the kernel's result with the reference's. -/
module
public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Experts.Final
@[expose] public section
set_option maxRecDepth 16384
noncomputable section
namespace Cert.Experts.Claims
open Idealize.ShloMosaic Idealize.SL.Sem

theorem frame_kernel : Cert.quiescent_Kernel5 := fun m ρ _ => Cert.Kernel5.Gen.frame m ρ
theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- On any arguments the kernel leaves the reference's array. -/
theorem equal : Cert.algebraic_Kernel5Ideal_Reference5Ideal := by
  intro m ρ m' ρ' _ hagree
  refine ⟨fun c => Cert.Experts.Ref.result (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
    (m ((c.tc : Thread Cert.Kernel5Ideal.nD Cert.Kernel5Ideal.τ).loc Cert.Kernel5Ideal.main_arg5))
    (m ((c.tc : Thread Cert.Kernel5Ideal.nD Cert.Kernel5Ideal.τ).loc Cert.Kernel5Ideal.main_arg6))
    (m ((c.tc : Thread Cert.Kernel5Ideal.nD Cert.Kernel5Ideal.τ).loc Cert.Kernel5Ideal.main_arg7))
    (m ((c.tc : Thread Cert.Kernel5Ideal.nD Cert.Kernel5Ideal.τ).loc Cert.Kernel5Ideal.main_arg8))
    (m ((c.tc : Thread Cert.Kernel5Ideal.nD Cert.Kernel5Ideal.τ).loc Cert.Kernel5Ideal.main_arg9)), ?_, ?_⟩
  · exact (θ_run Cert.Kernel5Ideal.defs _ _).mono (fun r h c => ⟨(h c).1.trans (final m c), (h c).2⟩) (Cert.Kernel5Ideal.Value.run_blocks m ρ)
  · refine (θ_run Cert.Reference5Ideal.defs _ _).mono (fun r h c => ⟨(h c).1.trans ?_, (h c).2⟩) (Cert.Reference5Ideal.Value.run m' ρ')
    obtain ⟨e0, e1, e2, e3, e4, e5, e6, e7, e8, e9⟩ := hagree c
    unfold Cert.Reference5Ideal.Value.res_main_v49
    rw [e0, e1, e2, e3, e4, e5, e6, e7, e8, e9]
    rfl
end Cert.Experts.Claims
end
-- ==== Proof.Keys.Ref.lean ====
/- The reference of the keys and values as a term of its arguments, and that term read at an index. -/
module
public import proofs.«01_k».proof.Proof.Gen.Reference6Ideal.Run
public import Idealize.ShloMosaic.Lib.Pipeline.ValueKit
public import Idealize.ShloMosaic.Lib.Pointwise
@[expose] public section
set_option maxRecDepth 16384
noncomputable section
namespace Cert.Keys.Ref
open Cert.Reference6Ideal Cert.Reference6Ideal.Gen Idealize.ShloMosaic Idealize.ShloMosaic.TcCoe Idealize.SL.Sem

/-- A row divided by its root mean square, times its gain. -/
def normRow (x g : Fin 512 → EReal) (d : Fin 512) : EReal :=
  x d * Ideal.rsqrt (Ideal.div (∑ k, x k * x k) (Ideal.ofBits .f32 0x44000000#32) + Ideal.ofBits .f32 0x358637BD#32) * g d

/-- The angles of a position by its row of the grid. -/
def angR : FVec Ideal S4096x16 .f32 :=
  mulf (broadcastInDim S4096x16 ![0, 1] bcast_S4096x1_S4096x16_0_1 (sitofp .f32 (broadcastInDim S4096x1 ![0] bcast_S4096_S4096x1_0 (shapeCast _ (broadcastInDim S64x64 ![0] bcast_S64_S64x64_0 (iotaInDim S64 32 0)) shapeCasts_S64x64_S4096)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The angles of a position by its column of the grid. -/
def angC : FVec Ideal S4096x16 .f32 :=
  mulf (broadcastInDim S4096x16 ![0, 1] bcast_S4096x1_S4096x16_0_1 (sitofp .f32 (broadcastInDim S4096x1 ![0] bcast_S4096_S4096x1_0 (shapeCast _ (broadcastInDim S64x64 ![1] bcast_S64_S64x64_1 (iotaInDim S64 32 0)) shapeCasts_S64x64_S4096)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The cosines. -/
def cosT : FVec Ideal S4096x2x16 .f32 :=
  Host.cos (concatenate S4096x2x16 1 [⟨S4096x1x16, (broadcastInDim S4096x1x16 ![0, 2] bcast_S4096x16_S4096x1x16_0_2 angR)⟩, ⟨S4096x1x16, (broadcastInDim S4096x1x16 ![0, 2] bcast_S4096x16_S4096x1x16_0_2 angC)⟩] concatenates_S4096x1x16_S4096x1x16_S4096x2x16_d1)

/-- The sines. -/
def sinT : FVec Ideal S4096x2x16 .f32 :=
  Host.sin (concatenate S4096x2x16 1 [⟨S4096x1x16, (broadcastInDim S4096x1x16 ![0, 2] bcast_S4096x16_S4096x1x16_0_2 angR)⟩, ⟨S4096x1x16, (broadcastInDim S4096x1x16 ![0, 2] bcast_S4096x16_S4096x1x16_0_2 angC)⟩] concatenates_S4096x1x16_S4096x1x16_S4096x2x16_d1)

/-- The latent rows, normalised. -/
def nl (cl : FVec Ideal S4x4096x512 .f32) (g : FVec Ideal S512 .f32) : FVec Ideal S4x4096x512 .f32 :=
  mulf (mulf cl (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf cl cl) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 g))

/-- The context rows, normalised. -/
def nc (cc : FVec Ideal S4x256x512 .f32) (g : FVec Ideal S512 .f32) : FVec Ideal S4x256x512 .f32 :=
  mulf (mulf cc (broadcastInDim S4x256x512 ![0, 1, 2] bcast_S4x256x1_S4x256x512_0_1_2 (Host.rsqrt (addf (Host.divf (broadcastInDim S4x256x1 ![0, 1] bcast_S4x256_S4x256x1_0_1 (Host.reduceAdd (mulf cc cc) (constant S_ .f32 0x00000000#32) reducesTo_S4x256x512_S4x256_d2 h_S_)) (broadcastInDim S4x256x1 ![] bcast_S_S4x256x1 (constant S_ .f32 0x44000000#32))) (broadcastInDim S4x256x1 ![] bcast_S_S4x256x1 (constant S_ .f32 0x358637BD#32)))))) (broadcastInDim S4x256x512 ![0, 1, 2] bcast_S1x1x512_S4x256x512_0_1_2 (broadcastInDim S1x1x512 ![2] bcast_S512_S1x1x512_2 g))

/-- The latent rows' heads. -/
def headsL (cl : FVec Ideal S4x4096x512 .f32) (g : FVec Ideal S512 .f32) (w : FVec Ideal S512x4096 .f32) : FVec Ideal S16x16384x256 .f32 :=
  transpose S16x16384x256 [1, 0, 2] (shapeCast _ (Host.dotGeneral dot_S4x4096x512_S512x4096_S4x4096x4096_2_0_01_1_n_n none (nl cl g) w) shapeCasts_S4x4096x4096_S16384x16x256) transposes_S16384x16x256_S16x16384x256_1_0_2

/-- The context rows' heads. -/
def headsC (cc : FVec Ideal S4x256x512 .f32) (g : FVec Ideal S512 .f32) (w : FVec Ideal S512x4096 .f32) : FVec Ideal S16x1024x256 .f32 :=
  transpose S16x1024x256 [1, 0, 2] (shapeCast _ (Host.dotGeneral dot_S4x256x512_S512x4096_S4x256x4096_2_0_01_1_n_n none (nc cc g) w) shapeCasts_S4x256x4096_S1024x16x256) transposes_S1024x16x256_S16x1024x256_1_0_2

/-- All rows' heads. -/
def kv (cl : FVec Ideal S4x4096x512 .f32) (cc : FVec Ideal S4x256x512 .f32) (g : FVec Ideal S512 .f32) (w : FVec Ideal S512x4096 .f32) : FVec Ideal S16x17408x256 .f32 :=
  concatenate S16x17408x256 1 [⟨S16x16384x256, (headsL cl g w)⟩, ⟨S16x1024x256, (headsC cc g w)⟩] concatenates_S16x16384x256_S16x1024x256_S16x17408x256_d1

/-- The rotary key with its positions. -/
def turn (kl : FVec Ideal S4x4096x64 .f32) (cs sn : FVec Ideal S4096x2x16 .f32) : FVec Ideal S4x4096x64 .f32 :=
  shapeCast _ (concatenate S4x4096x2x2x16 3 [⟨S4x4096x2x1x16, (broadcastInDim S4x4096x2x1x16 ![0, 1, 2, 4] bcast_S4x4096x2x16_S4x4096x2x1x16_0_1_2_4 (subf (mulf (shapeCast _ (extractStridedSlice S4x4096x2x1x16 ![0, 0, 0, 0, 0] (shapeCast _ kl shapeCasts_S4x4096x64_S4x4096x2x2x16) slices_S4x4096x2x2x16_S4x4096x2x1x16_0_0_0_0_0) shapeCasts_S4x4096x2x1x16_S4x4096x2x16) (broadcastInDim S4x4096x2x16 ![0, 1, 2, 3] bcast_S1x4096x2x16_S4x4096x2x16_0_1_2_3 (broadcastInDim S1x4096x2x16 ![1, 2, 3] bcast_S4096x2x16_S1x4096x2x16_1_2_3 cs))) (mulf (shapeCast _ (extractStridedSlice S4x4096x2x1x16 ![0, 0, 0, 1, 0] (shapeCast _ kl shapeCasts_S4x4096x64_S4x4096x2x2x16) slices_S4x4096x2x2x16_S4x4096x2x1x16_0_0_0_1_0) shapeCasts_S4x4096x2x1x16_S4x4096x2x16) (broadcastInDim S4x4096x2x16 ![0, 1, 2, 3] bcast_S1x4096x2x16_S4x4096x2x16_0_1_2_3 (broadcastInDim S1x4096x2x16 ![1, 2, 3] bcast_S4096x2x16_S1x4096x2x16_1_2_3 sn)))))⟩, ⟨S4x4096x2x1x16, (broadcastInDim S4x4096x2x1x16 ![0, 1, 2, 4] bcast_S4x4096x2x16_S4x4096x2x1x16_0_1_2_4 (addf (mulf (shapeCast _ (extractStridedSlice S4x4096x2x1x16 ![0, 0, 0, 1, 0] (shapeCast _ kl shapeCasts_S4x4096x64_S4x4096x2x2x16) slices_S4x4096x2x2x16_S4x4096x2x1x16_0_0_0_1_0) shapeCasts_S4x4096x2x1x16_S4x4096x2x16) (broadcastInDim S4x4096x2x16 ![0, 1, 2, 3] bcast_S1x4096x2x16_S4x4096x2x16_0_1_2_3 (broadcastInDim S1x4096x2x16 ![1, 2, 3] bcast_S4096x2x16_S1x4096x2x16_1_2_3 cs))) (mulf (shapeCast _ (extractStridedSlice S4x4096x2x1x16 ![0, 0, 0, 0, 0] (shapeCast _ kl shapeCasts_S4x4096x64_S4x4096x2x2x16) slices_S4x4096x2x2x16_S4x4096x2x1x16_0_0_0_0_0) shapeCasts_S4x4096x2x1x16_S4x4096x2x16) (broadcastInDim S4x4096x2x16 ![0, 1, 2, 3] bcast_S1x4096x2x16_S4x4096x2x16_0_1_2_3 (broadcastInDim S1x4096x2x16 ![1, 2, 3] bcast_S4096x2x16_S1x4096x2x16_1_2_3 sn)))))⟩] concatenates_S4x4096x2x1x16_S4x4096x2x1x16_S4x4096x2x2x16_d3) shapeCasts_S4x4096x2x2x16_S4x4096x64

/-- The rotary part of all rows' keys. -/
def ropes (kl : FVec Ideal S4x4096x64 .f32) (kc : FVec Ideal S4x256x64 .f32) : FVec Ideal S17408x64 .f32 :=
  concatenate S17408x64 0 [⟨S16384x64, (shapeCast _ (turn kl cosT sinT) shapeCasts_S4x4096x64_S16384x64)⟩, ⟨S1024x64, (shapeCast _ kc shapeCasts_S4x256x64_S1024x64)⟩] concatenates_S16384x64_S1024x64_S17408x64_d0

/-- The keys. -/
def keys (cl : FVec Ideal S4x4096x512 .f32) (cc : FVec Ideal S4x256x512 .f32) (kl : FVec Ideal S4x4096x64 .f32) (kc : FVec Ideal S4x256x64 .f32) (g : FVec Ideal S512 .f32) (w : FVec Ideal S512x4096 .f32) : FVec Ideal S16x17408x256 .bf16 :=
  truncf .bf16 ((concatenate S16x17408x256 2 [⟨S16x17408x128, ((extractStridedSlice S16x17408x128 ![0, 0, 0] (kv cl cc g w) slices_S16x17408x256_S16x17408x128_0_0_0))⟩, ⟨S16x17408x64, ((broadcastInDim S16x17408x64 ![1, 2] bcast_S17408x64_S16x17408x64_1_2 (ropes kl kc)))⟩, ⟨S16x17408x64, ((broadcastInDim S16x17408x64 ![] bcast_S_S16x17408x64 (constant S_ .f32 0x00000000#32)))⟩] concatenates_S16x17408x128_S16x17408x64_S16x17408x64_S16x17408x256_d2)) bitsLt_bf16_f32

/-- The values. -/
def vals (cl : FVec Ideal S4x4096x512 .f32) (cc : FVec Ideal S4x256x512 .f32) (g : FVec Ideal S512 .f32) (w : FVec Ideal S512x4096 .f32) : FVec Ideal S16x17408x256 .bf16 :=
  truncf .bf16 ((concatenate S16x17408x256 2 [⟨S16x17408x128, ((extractStridedSlice S16x17408x128 ![0, 0, 128] (kv cl cc g w) slices_S16x17408x256_S16x17408x128_0_0_128))⟩, ⟨S16x17408x1, ((broadcastInDim S16x17408x1 ![] bcast_S_S16x17408x1 (constant S_ .f32 0x3F800000#32)))⟩, ⟨S16x17408x127, ((broadcastInDim S16x17408x127 ![] bcast_S_S16x17408x127 (constant S_ .f32 0x00000000#32)))⟩] concatenates_S16x17408x128_S16x17408x1_S16x17408x127_S16x17408x256_d2)) bitsLt_bf16_f32

theorem cosT_at (p : Fin 4096) (a : Fin 2) (j : Fin 16) :
    cosT (ix3 p a j) = if a.val = 0 then Ideal.cos (angR (ix2 p j)) else Ideal.cos (angC (ix2 p j)) := by
  pointwise [cosT]
  split_ifs <;> first | rfl | omega

theorem sinT_at (p : Fin 4096) (a : Fin 2) (j : Fin 16) :
    sinT (ix3 p a j) = if a.val = 0 then Ideal.sin (angR (ix2 p j)) else Ideal.sin (angC (ix2 p j)) := by
  pointwise [sinT]
  split_ifs <;> first | rfl | omega

theorem nl_at (cl : FVec Ideal S4x4096x512 .f32) (g : FVec Ideal S512 .f32) (b : Fin 4) (i : Fin 4096) (d : Fin 512) :
    nl cl g (ix3 b i d) = normRow (fun k => cl (ix3 b i k)) (fun k => g (ix1 k)) d := by
  pointwise [nl, normRow]

theorem nc_at (cc : FVec Ideal S4x256x512 .f32) (g : FVec Ideal S512 .f32) (b : Fin 4) (i : Fin 256) (d : Fin 512) :
    nc cc g (ix3 b i d) = normRow (fun k => cc (ix3 b i k)) (fun k => g (ix1 k)) d := by
  pointwise [nc, normRow]

theorem headsL_at (cl : FVec Ideal S4x4096x512 .f32) (g : FVec Ideal S512 .f32) (w : FVec Ideal S512x4096 .f32) (h : Fin 16) (r : Fin 16384) (j : Fin 256) :
    headsL cl g w (ix3 h r j) = ∑ k, nl cl g (ix3 ⟨r / 4096, by omega⟩ ⟨r % 4096, by omega⟩ k) * w (ix2 k ⟨h * 256 + j, by omega⟩) := by
  pointwise [headsL]

theorem headsC_at (cc : FVec Ideal S4x256x512 .f32) (g : FVec Ideal S512 .f32) (w : FVec Ideal S512x4096 .f32) (h : Fin 16) (r : Fin 1024) (j : Fin 256) :
    headsC cc g w (ix3 h r j) = ∑ k, nc cc g (ix3 ⟨r / 256, by omega⟩ ⟨r % 256, by omega⟩ k) * w (ix2 k ⟨h * 256 + j, by omega⟩) := by
  pointwise [headsC]

theorem kv_at (cl : FVec Ideal S4x4096x512 .f32) (cc : FVec Ideal S4x256x512 .f32) (g : FVec Ideal S512 .f32) (w : FVec Ideal S512x4096 .f32) (h : Fin 16) (r : Fin 17408) (j : Fin 256) :
    kv cl cc g w (ix3 h r j) = if hr : r.val < 16384 then headsL cl g w (ix3 h ⟨r, hr⟩ j) else headsC cc g w (ix3 h ⟨r - 16384, by omega⟩ j) := by
  pointwise [kv]

theorem turn_at (kl : FVec Ideal S4x4096x64 .f32) (cs sn : FVec Ideal S4096x2x16 .f32) (b : Fin 4) (p : Fin 4096) (j : Fin 64) :
    turn kl cs sn (ix3 b p j) = if h : j.val / 16 % 2 = 0
      then kl (ix3 b p j) * cs (ix3 p ⟨j / 32, by omega⟩ ⟨j % 16, by omega⟩) - kl (ix3 b p ⟨j + 16, by omega⟩) * sn (ix3 p ⟨j / 32, by omega⟩ ⟨j % 16, by omega⟩)
      else kl (ix3 b p j) * cs (ix3 p ⟨j / 32, by omega⟩ ⟨j % 16, by omega⟩) + kl (ix3 b p ⟨j - 16, by omega⟩) * sn (ix3 p ⟨j / 32, by omega⟩ ⟨j % 16, by omega⟩) := by
  pointwise [turn]
  by_cases h : j.val / 16 % 2 = 0
  · have e1 : ∀ hq, (⟨j.val / 32 * 32 + j.val % 16, hq⟩ : Fin 64) = j := fun _ => Fin.ext (by show j.val / 32 * 32 + j.val % 16 = j.val; omega)
    have e2 : ∀ hq hq', (⟨j.val / 32 * 32 + 16 + j.val % 16, hq⟩ : Fin 64) = ⟨j.val + 16, hq'⟩ :=
      fun _ _ => Fin.ext (by show j.val / 32 * 32 + 16 + j.val % 16 = j.val + 16; omega)
    simp only [dif_pos h, dif_pos (show j.val / 16 % 2 < 1 by omega), e1, e2 _ (show j.val + 16 < 64 by omega)]
  · have e1 : ∀ hq, (⟨j.val / 32 * 32 + 16 + j.val % 16, hq⟩ : Fin 64) = j := fun _ => Fin.ext (by show j.val / 32 * 32 + 16 + j.val % 16 = j.val; omega)
    have e2 : ∀ hq hq', (⟨j.val / 32 * 32 + j.val % 16, hq⟩ : Fin 64) = ⟨j.val - 16, hq'⟩ :=
      fun _ _ => Fin.ext (by show j.val / 32 * 32 + j.val % 16 = j.val - 16; omega)
    simp only [dif_neg h, dif_neg (show ¬ j.val / 16 % 2 < 1 by omega), e1, e2 _ (show j.val - 16 < 64 by omega)]

theorem ropes_at (kl : FVec Ideal S4x4096x64 .f32) (kc : FVec Ideal S4x256x64 .f32) (r : Fin 17408) (j : Fin 64) :
    ropes kl kc (ix2 r j) = if hr : r.val < 16384 then turn kl cosT sinT (ix3 ⟨r / 4096, by omega⟩ ⟨r % 4096, by omega⟩ j)
      else kc (ix3 ⟨(r - 16384) / 256, by omega⟩ ⟨(r - 16384) % 256, by omega⟩ j) := by
  pointwise [ropes]

theorem keys_at (cl : FVec Ideal S4x4096x512 .f32) (cc : FVec Ideal S4x256x512 .f32) (kl : FVec Ideal S4x4096x64 .f32) (kc : FVec Ideal S4x256x64 .f32) (g : FVec Ideal S512 .f32) (w : FVec Ideal S512x4096 .f32) (h : Fin 16) (r : Fin 17408) (j : Fin 256) :
    keys cl cc kl kc g w (ix3 h r j) = if hj : j.val < 128 then kv cl cc g w (ix3 h r ⟨j, by omega⟩)
      else if hj2 : j.val - 128 < 64 then ropes kl kc (ix2 r ⟨j - 128, hj2⟩) else 0 := by
  pointwise [keys]

theorem vals_at (cl : FVec Ideal S4x4096x512 .f32) (cc : FVec Ideal S4x256x512 .f32) (g : FVec Ideal S512 .f32) (w : FVec Ideal S512x4096 .f32) (h : Fin 16) (r : Fin 17408) (j : Fin 256) :
    vals cl cc g w (ix3 h r j) = if hj : j.val < 128 then kv cl cc g w (ix3 h r ⟨128 + j, by omega⟩)
      else if hj2 : j.val - 128 < 1 then 1 else 0 := by
  pointwise [vals]

end Cert.Keys.Ref
-- ==== Proof.Keys.Host.lean ====
/- The keys and values: the arrays the windows stage, and the blocks of a grid point. Point `t` is row block `t`. -/
module
public import proofs.«01_k».proof.Proof.Gen.Kernel6Ideal.Value
public import proofs.«01_k».proof.Proof.Keys.Ref
public import Idealize.ShloMosaic.Lib.Pipeline.ValueKit
public import Idealize.ShloMosaic.Lib.Pointwise
@[expose] public section
set_option maxRecDepth 16384
noncomputable section
namespace Cert.Keys
open Cert.Kernel6Ideal Cert.Kernel6Ideal.Gen Idealize.ShloMosaic Idealize.ShloMosaic.TcCoe Idealize.SL.Sem
open Idealize.ShloMosaic.Pipeline (Dat)

/-- The latent rows of all batches, then the context rows. -/
def rows (l : FVec Ideal S4x4096x512 .f32) (x : FVec Ideal S4x256x512 .f32) : FVec Ideal S17408x512 .f32 :=
  concatenate S17408x512 0 [⟨S16384x512, shapeCast S16384x512 l shapeCasts_S4x4096x512_S16384x512⟩,
    ⟨S1024x512, shapeCast S1024x512 x shapeCasts_S4x256x512_S1024x512⟩] concatenates_S16384x512_S1024x512_S17408x512_d0

/-- The same of the rotary columns. -/
def rope (l : FVec Ideal S4x4096x64 .f32) (x : FVec Ideal S4x256x64 .f32) : FVec Ideal S17408x64 .f32 :=
  concatenate S17408x64 0 [⟨S16384x64, shapeCast S16384x64 l shapeCasts_S4x4096x64_S16384x64⟩,
    ⟨S1024x64, shapeCast S1024x64 x shapeCasts_S4x256x64_S1024x64⟩] concatenates_S16384x64_S1024x64_S17408x64_d0

/-- The rotary columns, turned a quarter. -/
def turned (x : FVec Ideal S17408x64 .f32) : FVec Ideal S17408x64 .f32 :=
  concatenate S17408x64 1 [⟨S17408x16, Host.negf (extractStridedSlice S17408x16 ![0, 16] x slices_S17408x64_S17408x16_0_16)⟩,
    ⟨S17408x16, extractStridedSlice S17408x16 ![0, 0] x slices_S17408x64_S17408x16_0_0⟩,
    ⟨S17408x16, Host.negf (extractStridedSlice S17408x16 ![0, 48] x slices_S17408x64_S17408x16_0_48)⟩,
    ⟨S17408x16, extractStridedSlice S17408x16 ![0, 32] x slices_S17408x64_S17408x16_0_32⟩]
    concatenates_S17408x16_S17408x16_S17408x16_S17408x16_S17408x64_d1

/-- The columns at their places. -/
def packed (a : FVec Ideal S17408x512 .f32) (x y : FVec Ideal S17408x64 .f32) : FVec Ideal S17408x13824 .f32 :=
  concatenate S17408x13824 1 [⟨S17408x12800, broadcastInDim S17408x12800 ![] bcast_S_S17408x12800 (constant S_ .f32 0x00000000#32)⟩,
    ⟨S17408x512, a⟩, ⟨S17408x64, x⟩, ⟨S17408x64, y⟩,
    ⟨S17408x384, broadcastInDim S17408x384 ![] bcast_S_S17408x384 (constant S_ .f32 0x00000000#32)⟩]
    concatenates_S17408x12800_S17408x512_S17408x64_S17408x64_S17408x384_S17408x13824_d1

/-- One half of a position's row of the table: each axis's values twice. -/
def half (a b : FVec Ideal S4096x16 .f32) : FVec Ideal S4096x64 .f32 :=
  concatenate S4096x64 1 [⟨S4096x16, a⟩, ⟨S4096x16, a⟩, ⟨S4096x16, b⟩, ⟨S4096x16, b⟩] concatenates_S4096x16_S4096x16_S4096x16_S4096x16_S4096x64_d1

/-- A position's row of the table: cosines, then sines. -/
def table1 (a b : FVec Ideal S4096x16 .f32) : FVec Ideal S4096x128 .f32 :=
  concatenate S4096x128 1 [⟨S4096x64, half (Host.cos a) (Host.cos b)⟩, ⟨S4096x64, half (Host.sin a) (Host.sin b)⟩] concatenates_S4096x64_S4096x64_S4096x128_d1

/-- The table of every row: the positions for each batch, then ones and zeros for the context. -/
def table (a : FVec Ideal S4096x128 .f32) : FVec Ideal S17408x128 .f32 :=
  concatenate S17408x128 0 [⟨S16384x128, shapeCast S16384x128 (broadcastInDim S4x4096x1x128 ![0, 1, 2, 3] bcast_S1x4096x1x128_S4x4096x1x128_0_1_2_3
      (shapeCast S1x4096x1x128 a shapeCasts_S4096x128_S1x4096x1x128)) shapeCasts_S4x4096x1x128_S16384x128⟩,
    ⟨S1024x128, concatenate S1024x128 1 [⟨S1024x64, broadcastInDim S1024x64 ![] bcast_S_S1024x64 (constant S_ .f32 0x3F800000#32)⟩,
      ⟨S1024x64, broadcastInDim S1024x64 ![] bcast_S_S1024x64 (constant S_ .f32 0x00000000#32)⟩] concatenates_S1024x64_S1024x64_S1024x128_d1⟩]
    concatenates_S16384x128_S1024x128_S17408x128_d0

/-- The weight by head. -/
def weight (w : FVec Ideal S512x4096 .f32) : FVec Ideal S16x512x256 .f32 :=
  transpose S16x512x256 [1, 0, 2] (shapeCast S512x16x256 w shapeCasts_S512x4096_S512x16x256) transposes_S512x16x256_S16x512x256_1_0_2

theorem rows_at (l : FVec Ideal S4x4096x512 .f32) (x : FVec Ideal S4x256x512 .f32) (r : Fin 17408) (d : Fin 512) :
    rows l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rows]

theorem rope_at (l : FVec Ideal S4x4096x64 .f32) (x : FVec Ideal S4x256x64 .f32) (r : Fin 17408) (d : Fin 64) :
    rope l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rope]

theorem weight_at (w : FVec Ideal S512x4096 .f32) (h : Fin 16) (k : Fin 512) (j : Fin 256) :
    weight w (ix3 h k j) = w (ix2 k ⟨h * 256 + j, by omega⟩) := by
  pointwise [weight]

theorem turned_at (x : FVec Ideal S17408x64 .f32) (r : Fin 17408) (j : Fin 64) :
    turned x (ix2 r j) = if h : j.val / 16 % 2 = 0 then - x (ix2 r ⟨j + 16, by omega⟩) else x (ix2 r ⟨j - 16, by omega⟩) := by
  pointwise [turned]
  blk_point []
  all_goals omega

theorem packed_mid (a : FVec Ideal S17408x512 .f32) (x y : FVec Ideal S17408x64 .f32) (r : Fin 17408) (d : Fin 512) :
    packed a x y (ix2 r ⟨12800 + d, by omega⟩) = a (ix2 r d) := by
  pointwise [packed]

theorem packed_x (a : FVec Ideal S17408x512 .f32) (x y : FVec Ideal S17408x64 .f32) (r : Fin 17408) (d : Fin 64) :
    packed a x y (ix2 r ⟨13312 + d, by omega⟩) = x (ix2 r d) := by
  pointwise [packed]
  rw [dif_neg (by omega), dif_neg (by omega), dif_pos (by omega)]
  exact congrArg (fun q => x (ix2 r q)) (Fin.ext (by show 13312 + d.val - 12800 - 512 = d.val; omega))

theorem packed_y (a : FVec Ideal S17408x512 .f32) (x y : FVec Ideal S17408x64 .f32) (r : Fin 17408) (d : Fin 64) :
    packed a x y (ix2 r ⟨13376 + d, by omega⟩) = y (ix2 r d) := by
  pointwise [packed]
  rw [dif_neg (by omega), dif_neg (by omega), dif_neg (by omega), dif_pos (by omega)]
  exact congrArg (fun q => y (ix2 r q)) (Fin.ext (by show 13376 + d.val - 12800 - 512 - 64 = d.val; omega))

theorem half_at (a b : FVec Ideal S4096x16 .f32) (p : Fin 4096) (j : Fin 64) :
    half a b (ix2 p j) = if j.val / 32 = 0 then a (ix2 p ⟨j % 16, by omega⟩) else b (ix2 p ⟨j % 16, by omega⟩) := by
  pointwise [half]
  blk_point []
  all_goals omega

theorem table1_at (a b : FVec Ideal S4096x16 .f32) (p : Fin 4096) (j : Fin 128) :
    table1 a b (ix2 p j) = if h : j.val < 64 then half (Host.cos a) (Host.cos b) (ix2 p ⟨j, h⟩) else half (Host.sin a) (Host.sin b) (ix2 p ⟨j - 64, by omega⟩) := by
  pointwise [table1]

theorem table_at (a : FVec Ideal S4096x128 .f32) (r : Fin 17408) (j : Fin 128) :
    table a (ix2 r j) = if r.val < 16384 then a (ix2 ⟨r % 4096, by omega⟩ j) else if j.val < 64 then 1 else 0 := by
  pointwise [table]
  rfl

variable (m : (ℓ : Loc nD τ sig) → Buf (Elt Ideal) ℓ)

theorem V_p (c : Dev nD) : V m c main_v15 = packed (rows (m ((c : Thread nD τ).loc main_arg0)) (m ((c : Thread nD τ).loc main_arg1)))
    (rope (m ((c : Thread nD τ).loc main_arg2)) (m ((c : Thread nD τ).loc main_arg3)))
    (turned (rope (m ((c : Thread nD τ).loc main_arg2)) (m ((c : Thread nD τ).loc main_arg3)))) := by
  unfold V
  simp only [List.flatten_cons, List.flatten_nil, List.append_nil, List.cons_append, List.nil_append, hostOps0]
  after_results
  rfl
theorem V_g (c : Dev nD) : V m c main_v57 = shapeCast S1x512 (m ((c : Thread nD τ).loc main_arg4)) shapeCasts_S512_S1x512 := by
  unfold V
  simp only [List.flatten_cons, List.flatten_nil, List.append_nil, List.cons_append, List.nil_append, hostOps0]
  after_results
  rfl
theorem V_w (c : Dev nD) : V m c main_v18 = truncf (F := Ideal) .bf16 (weight (m ((c : Thread nD τ).loc main_arg5))) bitsLt_bf16_f32 := by
  unfold V
  simp only [List.flatten_cons, List.flatten_nil, List.append_nil, List.cons_append, List.nil_append, hostOps0]
  after_results
  rfl
theorem V_t (c : Dev nD) : V m c main_v56 = table (table1 Ref.angR Ref.angC) := by
  unfold V
  simp only [List.flatten_cons, List.flatten_nil, List.append_nil, List.cons_append, List.nil_append, hostOps0]
  after_results
  rfl

theorem gain_at (g : FVec Ideal S512 .f32) (k : Fin 512) : (shapeCast S1x512 g shapeCasts_S512_S1x512 : FVec Ideal S1x512 .f32) (ix2 0 k) = g (ix1 k) := by
  pointwise []

theorem idx : ∀ t : Fin cfg0.N, win0_0.index t = ![t.val, 25] ∧ win0_1.index t = ![t.val, 104] ∧ win0_2.index t = ![0, 0]
    ∧ win0_3.index t = ![t.val, 0] ∧ win0_4.index t = ![0, 0, 0] ∧ win0_5.index t = ![0, t.val, 0] ∧ win0_6.index t = ![0, t.val, 0] :=
  (by decide +kernel : ∀ t : Fin grid0.N, _)

theorem lt (t : Fin cfg0.N) : t.val < 34 := t.isLt

theorem blk_p (c : Dev nD) (t : Fin cfg0.N) (i k : Fin 512) (r : Fin 17408) (hr : r.val = 512 * t.val + i.val) :
    iblk m c 0 t (ix2 i k : S512x512.Idx) = V m c main_v15 (ix2 r ⟨12800 + k, by omega⟩) := by
  blk_ext [iblk, idx t]
theorem blk_r (c : Dev nD) (t : Fin cfg0.N) (i : Fin 512) (k : Fin 128) (r : Fin 17408) (hr : r.val = 512 * t.val + i.val) :
    iblk m c 1 t (ix2 i k : S512x128.Idx) = V m c main_v15 (ix2 r ⟨13312 + k, by omega⟩) := by
  blk_ext [iblk, idx t]
theorem blk_g (c : Dev nD) (t : Fin cfg0.N) (k : Fin 512) :
    iblk m c 2 t (ix2 0 k : S1x512.Idx) = V m c main_v57 (ix2 0 k) := by
  blk_ext [iblk, idx t]
theorem blk_t (c : Dev nD) (t : Fin cfg0.N) (i : Fin 512) (k : Fin 128) (r : Fin 17408) (hr : r.val = 512 * t.val + i.val) :
    iblk m c 3 t (ix2 i k : S512x128.Idx) = V m c main_v56 (ix2 r k) := by
  blk_ext [iblk, idx t]
theorem blk_w (c : Dev nD) (t : Fin cfg0.N) (h : Fin 16) (k : Fin 512) (j : Fin 256) :
    iblk m c 4 t (ix3 h k j : S16x512x256.Idx) = V m c main_v18 (ix3 h k j) := by
  blk_ext [iblk, idx t]

end Cert.Keys
end
-- ==== Proof.Keys.Body.lean ====
/- The keys and values: what the body leaves in its two output blocks, read at an index. -/
module
public import proofs.«01_k».proof.Proof.Gen.Kernel6Ideal.Value
public import proofs.«01_k».proof.Proof.Keys.Ref
public import Idealize.ShloMosaic.Lib.Pipeline.ValueKit
public import Idealize.ShloMosaic.Lib.Pointwise
@[expose] public section
set_option maxRecDepth 16384
noncomputable section
namespace Cert.Keys
open Cert.Kernel6Ideal Cert.Kernel6Ideal.Gen Idealize.ShloMosaic Idealize.ShloMosaic.TcCoe Idealize.SL.Sem

/-- The product of a block's normalised rows with one head's weight, before the block's second half is added. -/
def prod (n : FVec Ideal S512x512 .bf16) (w : Vec Ideal S1x512x256 .bf16) : FVec Ideal S512x256 .f32 :=
  matmul (φ₂ := .bf16) dot_S512x512_S512x256_S512x256_1_0_0_1_n_n none n (shapeCast S512x256 w shapeCasts_S1x512x256_S512x256 : FVec Ideal S512x256 .bf16) (constant S512x256 .f32 0x00000000#32)

/-- One head's keys in a block. -/
def headK (n : FVec Ideal S512x512 .bf16) (k : FVec Ideal S512x128 .f32) (w : Vec Ideal S1x512x256 .bf16) : FVec Ideal S1x512x256 .bf16 :=
  k0_pay6 k (prod n w)

/-- One head's values in a block. -/
def headV (n : FVec Ideal S512x512 .bf16) (k : FVec Ideal S512x128 .f32) (w : Vec Ideal S1x512x256 .bf16) : FVec Ideal S1x512x256 .bf16 :=
  k0_pay7 k (prod n w)

theorem norm_at (x : Vec Ideal S512x512 .f32) (g : Vec Ideal S1x512 .f32) (i d : Fin 512) :
    k0_pay2 (F := Ideal) x g (ix2 i d) = Ref.normRow (fun k => x (ix2 i k)) (fun k => g (ix2 0 k)) d := by
  pointwise [k0_pay2, Ref.normRow]

theorem prod_at (n : FVec Ideal S512x512 .bf16) (w : Vec Ideal S1x512x256 .bf16) (i : Fin 512) (j : Fin 256) :
    prod n w (ix2 i j) = ∑ k : Fin 512, n (ix2 i k) * w (ix3 0 k j) := by
  pointwise [prod]

theorem slt_lane : ∀ j : Fin 128, IntOp.cmpi .slt (BitVec.ofNat 32 j.val) 64#32 = if j.val < 64 then 1#1 else 0#1 := by
  decide +kernel

theorem eq_lane : ∀ j : Fin 128, IntOp.cmpi .eq (BitVec.ofNat 32 j.val) 0#32 = if j.val < 1 then 1#1 else 0#1 := by
  decide +kernel

theorem rot_at (x t : Vec Ideal S512x128 .f32) (i : Fin 512) (j : Fin 128) :
    k0_pay3 (F := Ideal) x t (ix2 i j) = if h : j.val < 64 then x (ix2 i j) * t (ix2 i j) + x (ix2 i ⟨64 + j, by omega⟩) * t (ix2 i ⟨64 + j, by omega⟩) else 0 := by
  pointwise [k0_pay3]
  rw [slt_lane]
  by_cases h : j.val < 64
  · rw [if_pos h, dif_pos h, show (⟨(j.val + 128 - 64) % 128, Nat.mod_lt _ (by decide)⟩ : Fin 128) = ⟨64 + j.val, by omega⟩ from
      Fin.ext (by show (j.val + 128 - 64) % 128 = 64 + j.val; omega)]
    rfl
  · rw [if_neg h, dif_neg h]
    rfl

theorem ones_at (i : Fin 512) (j : Fin 128) : k0_pay4 (F := Ideal) (ix2 i j) = if j.val < 1 then 1 else 0 := by
  pointwise [k0_pay4]
  rw [eq_lane]
  by_cases h : j.val < 1
  · rw [if_pos h, if_pos h]
    rfl
  · rw [if_neg h, if_neg h]
    rfl

theorem headK_at (n : FVec Ideal S512x512 .bf16) (k : FVec Ideal S512x128 .f32) (w : Vec Ideal S1x512x256 .bf16) (i : Fin 512) (j : Fin 256) :
    headK n k w (ix3 0 i j) = if h : j.val < 128 then ∑ q : Fin 512, n (ix2 i q) * w (ix3 0 q j) else k (ix2 i ⟨j - 128, by omega⟩) := by
  unfold headK
  pointwise [k0_pay6]
  simp only [prod_at]

theorem headV_at (n : FVec Ideal S512x512 .bf16) (k : FVec Ideal S512x128 .f32) (w : Vec Ideal S1x512x256 .bf16) (i : Fin 512) (j : Fin 256) :
    headV n k w (ix3 0 i j) = if h : j.val < 128 then ∑ q : Fin 512, n (ix2 i q) * w (ix3 0 q ⟨128 + j, by omega⟩) else k (ix2 i ⟨j - 128, by omega⟩) := by
  unfold headV
  pointwise [k0_pay7]
  simp only [prod_at]

/-- Head `h` of the weight. -/
def headW (x4 : Vec Ideal S16x512x256 .bf16) (h : Fin 16) : Vec Ideal S1x512x256 .bf16 := fun z => x4 (ix3 h (z 1) (z 2))

/-- The block of keys. -/
def blockK (x0 : Vec Ideal S512x512 .f32) (x1 : Vec Ideal S512x128 .f32) (x2 : Vec Ideal S1x512 .f32) (x3 : Vec Ideal S512x128 .f32)
    (x4 : Vec Ideal S16x512x256 .bf16) (y : S16x512x256.Idx) : EReal :=
  headK (k0_pay2 x0 x2) (k0_pay3 x1 x3) (headW x4 (y 0)) (ix3 0 (y 1) (y 2))

/-- The block of values. -/
def blockV (x0 : Vec Ideal S512x512 .f32) (x2 : Vec Ideal S1x512 .f32) (x4 : Vec Ideal S16x512x256 .bf16) (y : S16x512x256.Idx) : EReal :=
  headV (k0_pay2 x0 x2) k0_pay4 (headW x4 (y 0)) (ix3 0 (y 1) (y 2))

/-- A load of head `h`'s slice. -/
theorem ld_head (x4 : Vec Ideal S16x512x256 .bf16) (h : Fin 16) (o : Fin 3 → ℕ) (ho : o = ![h.val, 0, 0])
    (inb : ∀ a, o a + S1x512x256.size a ≤ S16x512x256.size a) :
    View.ld x4 (Rect.unit (s := S16x512x256) o S1x512x256.size inb) = headW x4 h := by
  subst ho
  funext z
  have hz : (z 0).val < 1 := (z 0).isLt
  refine View.ld_unit_apply_of x4 _ _ inb z (ix3 h (z 1) (z 2)) fun a => ?_
  fin_cases a
  · show h.val = h.val + (z 0).val
    omega
  · exact (Nat.zero_add _).symm
  · exact (Nat.zero_add _).symm

/-- One head's piece of the keys. -/
theorem pieceK (x0 : Vec Ideal S512x512 .f32) (x1 : Vec Ideal S512x128 .f32) (x2 : Vec Ideal S1x512 .f32) (x3 : Vec Ideal S512x128 .f32)
    (x4 : Vec Ideal S16x512x256 .bf16) (h : Fin 16) (x : S1x512x256.Idx) (y : S16x512x256.Idx) (h0 : (y 0).val = h.val + (x 0).val)
    (h1 : (y 1).val = (x 1).val) (h2 : (y 2).val = (x 2).val) (o : Fin 3 → ℕ) (ho : o = ![h.val, 0, 0])
    (inb : ∀ a, o a + S1x512x256.size a ≤ S16x512x256.size a) :
    headK (k0_pay2 (View.ld x0 r0_0) (View.ld x2 r0_1)) (k0_pay3 (View.ld x1 r0_2) (View.ld x3 r0_2))
      (View.ld x4 (Rect.unit (s := S16x512x256) o S1x512x256.size inb)) x = blockK x0 x1 x2 x3 x4 y := by
  have hx : (x 0).val < 1 := (x 0).isLt
  have e0 : y 0 = h := Fin.ext (by omega)
  have e1 : x = ix3 0 (y 1) (y 2) := by
    funext a
    fin_cases a
    · exact Fin.ext (by show (x 0).val = 0; omega)
    · exact Fin.ext h1.symm
    · exact Fin.ext h2.symm
  rw [ld_head x4 h o ho, View.ld_unit_lit' _ x0 (by decide), View.ld_unit_lit' _ x1 (by decide), View.ld_unit_lit' _ x2 (by decide), View.ld_unit_lit' _ x3 (by decide)]
  unfold blockK
  rw [e0]
  exact congrArg _ e1

/-- One head's piece of the values. -/
theorem pieceV (x0 : Vec Ideal S512x512 .f32) (x2 : Vec Ideal S1x512 .f32) (x4 : Vec Ideal S16x512x256 .bf16)
    (h : Fin 16) (x : S1x512x256.Idx) (y : S16x512x256.Idx) (h0 : (y 0).val = h.val + (x 0).val)
    (h1 : (y 1).val = (x 1).val) (h2 : (y 2).val = (x 2).val) (o : Fin 3 → ℕ) (ho : o = ![h.val, 0, 0])
    (inb : ∀ a, o a + S1x512x256.size a ≤ S16x512x256.size a) :
    headV (k0_pay2 (View.ld x0 r0_0) (View.ld x2 r0_1)) k0_pay4
      (View.ld x4 (Rect.unit (s := S16x512x256) o S1x512x256.size inb)) x = blockV x0 x2 x4 y := by
  have hx : (x 0).val < 1 := (x 0).isLt
  have e0 : y 0 = h := Fin.ext (by omega)
  have e1 : x = ix3 0 (y 1) (y 2) := by
    funext a
    fin_cases a
    · exact Fin.ext (by show (x 0).val = 0; omega)
    · exact Fin.ext h1.symm
    · exact Fin.ext h2.symm
  rw [ld_head x4 h o ho, View.ld_unit_lit' _ x0 (by decide), View.ld_unit_lit' _ x2 (by decide)]
  unfold blockV
  rw [e0]
  exact congrArg _ e1

theorem outK (x0 : Vec Ideal S512x512 .f32) (x1 : Vec Ideal S512x128 .f32) (x2 : Vec Ideal S1x512 .f32) (x3 : Vec Ideal S512x128 .f32)
    (x4 : Vec Ideal S16x512x256 .bf16) : out0_5 x0 x1 x2 x3 x4 = blockK x0 x1 x2 x3 x4 := by
  funext y
  unfold_out out0_5
  show View.canon _ _ = _
  canon_tiles x h
  case piece0 => exact pieceK x0 x1 x2 x3 x4 15 x y h0 h1 h2 _ rfl _
  case piece1 => exact pieceK x0 x1 x2 x3 x4 14 x y h0 h1 h2 _ rfl _
  case piece2 => exact pieceK x0 x1 x2 x3 x4 13 x y h0 h1 h2 _ rfl _
  case piece3 => exact pieceK x0 x1 x2 x3 x4 12 x y h0 h1 h2 _ rfl _
  case piece4 => exact pieceK x0 x1 x2 x3 x4 11 x y h0 h1 h2 _ rfl _
  case piece5 => exact pieceK x0 x1 x2 x3 x4 10 x y h0 h1 h2 _ rfl _
  case piece6 => exact pieceK x0 x1 x2 x3 x4 9 x y h0 h1 h2 _ rfl _
  case piece7 => exact pieceK x0 x1 x2 x3 x4 8 x y h0 h1 h2 _ rfl _
  case piece8 => exact pieceK x0 x1 x2 x3 x4 7 x y h0 h1 h2 _ rfl _
  case piece9 => exact pieceK x0 x1 x2 x3 x4 6 x y h0 h1 h2 _ rfl _
  case piece10 => exact pieceK x0 x1 x2 x3 x4 5 x y h0 h1 h2 _ rfl _
  case piece11 => exact pieceK x0 x1 x2 x3 x4 4 x y h0 h1 h2 _ rfl _
  case piece12 => exact pieceK x0 x1 x2 x3 x4 3 x y h0 h1 h2 _ rfl _
  case piece13 => exact pieceK x0 x1 x2 x3 x4 2 x y h0 h1 h2 _ rfl _
  case piece14 => exact pieceK x0 x1 x2 x3 x4 1 x y h0 h1 h2 _ rfl _
  case piece15 => exact pieceK x0 x1 x2 x3 x4 0 x y (by simpa using h0) h1 h2 _ rfl _

theorem outV (x0 : Vec Ideal S512x512 .f32) (x1 : Vec Ideal S512x128 .f32) (x2 : Vec Ideal S1x512 .f32) (x3 : Vec Ideal S512x128 .f32)
    (x4 : Vec Ideal S16x512x256 .bf16) : out0_6 x0 x1 x2 x3 x4 = blockV x0 x2 x4 := by
  funext y
  unfold_out out0_6
  show View.canon _ _ = _
  canon_tiles x h
  case piece0 => exact pieceV x0 x2 x4 15 x y h0 h1 h2 _ rfl _
  case piece1 => exact pieceV x0 x2 x4 14 x y h0 h1 h2 _ rfl _
  case piece2 => exact pieceV x0 x2 x4 13 x y h0 h1 h2 _ rfl _
  case piece3 => exact pieceV x0 x2 x4 12 x y h0 h1 h2 _ rfl _
  case piece4 => exact pieceV x0 x2 x4 11 x y h0 h1 h2 _ rfl _
  case piece5 => exact pieceV x0 x2 x4 10 x y h0 h1 h2 _ rfl _
  case piece6 => exact pieceV x0 x2 x4 9 x y h0 h1 h2 _ rfl _
  case piece7 => exact pieceV x0 x2 x4 8 x y h0 h1 h2 _ rfl _
  case piece8 => exact pieceV x0 x2 x4 7 x y h0 h1 h2 _ rfl _
  case piece9 => exact pieceV x0 x2 x4 6 x y h0 h1 h2 _ rfl _
  case piece10 => exact pieceV x0 x2 x4 5 x y h0 h1 h2 _ rfl _
  case piece11 => exact pieceV x0 x2 x4 4 x y h0 h1 h2 _ rfl _
  case piece12 => exact pieceV x0 x2 x4 3 x y h0 h1 h2 _ rfl _
  case piece13 => exact pieceV x0 x2 x4 2 x y h0 h1 h2 _ rfl _
  case piece14 => exact pieceV x0 x2 x4 1 x y h0 h1 h2 _ rfl _
  case piece15 => exact pieceV x0 x2 x4 0 x y (by simpa using h0) h1 h2 _ rfl _

end Cert.Keys
end
-- ==== Proof.Keys.Final.lean ====
/- The keys and values: what a grid point leaves in its two blocks, and both whole results as the reference's. -/
module
public import proofs.«01_k».proof.Proof.Keys.Host
public import proofs.«01_k».proof.Proof.Keys.Body
public import Idealize.ShloMosaic.Lib.Claim
@[expose] public section
set_option maxRecDepth 16384
noncomputable section
namespace Cert.Keys
open Cert.Kernel6Ideal Cert.Kernel6Ideal.Gen Idealize.ShloMosaic Idealize.ShloMosaic.TcCoe Idealize.SL.Sem
open Idealize.ShloMosaic.Pipeline (Dat)

/-- The projection of a row, over all rows' array. -/
theorem kv_rows (cl : FVec Ideal S4x4096x512 .f32) (cc : FVec Ideal S4x256x512 .f32) (g : FVec Ideal S512 .f32) (w : FVec Ideal S512x4096 .f32)
    (h : Fin 16) (r : Fin 17408) (j : Fin 256) :
    Ref.kv cl cc g w (ix3 h r j) = ∑ q, Ref.normRow (fun k => rows cl cc (ix2 r k)) (fun k => g (ix1 k)) q * w (ix2 q ⟨h * 256 + j, by omega⟩) := by
  rw [Ref.kv_at]
  by_cases hr : r.val < 16384
  · rw [dif_pos hr, Ref.headsL_at]
    simp only [Ref.nl_at, rows_at, dif_pos hr]
  · rw [dif_neg hr, Ref.headsC_at]
    simp only [Ref.nc_at, rows_at, dif_neg hr]

/-- The rotary columns with their positions. -/
theorem rope_rows (kl : FVec Ideal S4x4096x64 .f32) (kc : FVec Ideal S4x256x64 .f32) (r : Fin 17408) (j : Fin 64) :
    rope kl kc (ix2 r j) * table (table1 Ref.angR Ref.angC) (ix2 r ⟨j, by omega⟩)
      + turned (rope kl kc) (ix2 r j) * table (table1 Ref.angR Ref.angC) (ix2 r ⟨64 + j, by omega⟩) = Ref.ropes kl kc (ix2 r j) := by
  rw [Ref.ropes_at, turned_at, table_at, table_at]
  by_cases hr : r.val < 16384
  · have hj1 : ¬ 64 + j.val < 64 := by omega
    have e64 : ∀ hq, (⟨64 + j.val - 64, hq⟩ : Fin 64) = j := fun _ => Fin.ext (by show 64 + j.val - 64 = j.val; omega)
    simp only [if_pos hr, dif_pos hr, rope_at, Ref.turn_at, table1_at, j.isLt, dif_pos, dif_neg hj1, half_at, e64, Ref.cosT_at, Ref.sinT_at]
    by_cases h : j.val / 16 % 2 = 0
    · simp only [dif_pos h, neg_mul, sub_eq_add_neg]
      rfl
    · simp only [dif_neg h]
      rfl
  · have hj1 : ¬ 64 + j.val < 64 := by omega
    simp only [if_neg hr, dif_neg hr, rope_at, j.isLt, if_pos, if_neg hj1, mul_one, mul_zero, add_zero]

variable (m : (ℓ : Loc nD τ sig) → Buf (Elt Ideal) ℓ)

/-- The keys' reference at the kernel's arguments. -/
abbrev refK (c : Dev nD) : FVec Ideal S16x17408x256 .bf16 := Ref.keys (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The values' reference at the kernel's arguments. -/
abbrev refV (c : Dev nD) : FVec Ideal S16x17408x256 .bf16 := Ref.vals (m ((c : Thread nD τ).loc main_arg0)) (m ((c : Thread nD τ).loc main_arg1))
  (m ((c : Thread nD τ).loc main_arg4)) (m ((c : Thread nD τ).loc main_arg5))

/-- One column of a block's product with a head's weight. -/
theorem prod_rows (c : Dev nD) (t : Fin cfg0.N) (h : Fin 16) (i : Fin 512) (j : Fin 256) (r : Fin 17408) (hr : r.val = 512 * t.val + i.val) :
    ∑ q : Fin 512, k0_pay2 (F := Ideal) (iblk m c 0 t) (iblk m c 2 t) (ix2 i q) * headW (iblk m c 4 t) h (ix3 0 q j)
      = Ref.kv (m ((c : Thread nD τ).loc main_arg0)) (m ((c : Thread nD τ).loc main_arg1)) (m ((c : Thread nD τ).loc main_arg4)) (m ((c : Thread nD τ).loc main_arg5)) (ix3 h r j) := by
  rw [kv_rows]
  refine Finset.sum_congr rfl fun q _ => ?_
  rw [norm_at]
  have e1 : (fun k : Fin 512 => (iblk m c 0 t (ix2 i k : S512x512.Idx) : EReal)) = fun k => rows (m ((c : Thread nD τ).loc main_arg0)) (m ((c : Thread nD τ).loc main_arg1)) (ix2 r k) := by
    funext k
    rw [blk_p m c t i k r hr, V_p, packed_mid]
  have e2 : (fun k : Fin 512 => (iblk m c 2 t (ix2 0 k : S1x512.Idx) : EReal)) = fun k => (m ((c : Thread nD τ).loc main_arg4) : FVec Ideal S512 .f32) (ix1 k) := by
    funext k
    rw [blk_g m c t k, V_g]
    exact gain_at _ k
  have e3 : (headW (iblk m c 4 t) h (ix3 0 q j) : EReal) = (m ((c : Thread nD τ).loc main_arg5) : FVec Ideal S512x4096 .f32) (ix2 q ⟨h * 256 + j, by omega⟩) := by
    refine (blk_w m c t h q j).trans ?_
    rw [V_w]
    exact weight_at _ h q j
  exact congrArg₂ (fun a b : EReal => a * b) (congrArg₂ (fun a b => Ref.normRow a b q) e1 e2) e3

theorem pointK (c : Dev nD) (t : Fin cfg0.N) (y : S16x512x256.Idx) (r : Fin 17408) (hr : r.val = 512 * t.val + (y 1).val) :
    out0_5 (iblk m c 0 t) (iblk m c 1 t) (iblk m c 2 t) (iblk m c 3 t) (iblk m c 4 t) y = refK m c (ix3 (y 0) r (y 2)) := by
  have ht := lt t
  obtain ⟨h, i, j, rfl⟩ : ∃ (h : Fin 16) (i : Fin 512) (j : Fin 256), y = ix3 h i j := ⟨y 0, y 1, y 2, by funext a; fin_cases a <;> rfl⟩
  have hr : r.val = 512 * t.val + i.val := hr
  rw [outK]
  show headK (k0_pay2 (iblk m c 0 t) (iblk m c 2 t)) (k0_pay3 (iblk m c 1 t) (iblk m c 3 t)) (headW (iblk m c 4 t) h) (ix3 0 i j) = Ref.keys _ _ _ _ _ _ (ix3 h r j)
  rw [headK_at, Ref.keys_at]
  by_cases hj : j.val < 128
  · rw [dif_pos hj, dif_pos hj]
    exact prod_rows m c t h i j r hr
  · rw [dif_neg hj, dif_neg hj, rot_at]
    by_cases hj2 : j.val - 128 < 64
    · rw [dif_pos hj2, dif_pos hj2, ← rope_rows]
      have e1 := blk_r m c t i ⟨j - 128, by omega⟩ r hr
      have e2 := blk_r m c t i ⟨64 + (j - 128), by omega⟩ r hr
      have e3 := blk_t m c t i ⟨j - 128, by omega⟩ r hr
      have e4 := blk_t m c t i ⟨64 + (j - 128), by omega⟩ r hr
      rw [V_p] at e1 e2
      rw [V_t] at e3 e4
      have f1 := e1.trans (packed_x _ _ _ r ⟨j - 128, hj2⟩)
      have f2 := e2.trans ((congrArg (fun q => packed _ _ _ (ix2 r q)) (Fin.ext (by show 13312 + (64 + (j.val - 128)) = 13376 + (j.val - 128); omega))).trans (packed_y _ _ _ r ⟨j - 128, hj2⟩))
      exact congrArg₂ (fun a b : EReal => a + b) (congrArg₂ (fun a b : EReal => a * b) f1 e3) (congrArg₂ (fun a b : EReal => a * b) f2 e4)
    · rw [dif_neg hj2, dif_neg hj2]

theorem pointV (c : Dev nD) (t : Fin cfg0.N) (y : S16x512x256.Idx) (r : Fin 17408) (hr : r.val = 512 * t.val + (y 1).val) :
    out0_6 (iblk m c 0 t) (iblk m c 1 t) (iblk m c 2 t) (iblk m c 3 t) (iblk m c 4 t) y = refV m c (ix3 (y 0) r (y 2)) := by
  have ht := lt t
  obtain ⟨h, i, j, rfl⟩ : ∃ (h : Fin 16) (i : Fin 512) (j : Fin 256), y = ix3 h i j := ⟨y 0, y 1, y 2, by funext a; fin_cases a <;> rfl⟩
  have hr : r.val = 512 * t.val + i.val := hr
  rw [outV]
  show headV (k0_pay2 (iblk m c 0 t) (iblk m c 2 t)) k0_pay4 (headW (iblk m c 4 t) h) (ix3 0 i j) = Ref.vals _ _ _ _ (ix3 h r j)
  rw [headV_at, Ref.vals_at]
  by_cases hj : j.val < 128
  · rw [dif_pos hj, dif_pos hj]
    exact prod_rows m c t h i ⟨128 + j, by omega⟩ r hr
  · rw [dif_neg hj, dif_neg hj, ones_at]
    rfl

/-- All keys. -/
theorem finalK (c : Dev nD) : (dats m 0 c).arrAt 5 cfg0.N = refK m c := by
  refine (dats m 0 c).arrAt_eq_of_covers 5 _ (by decide +kernel) fun t _ y => ?_
  blk_simp
  rw [after0_5]
  have e := idx t
  rw [pointK m c t y ((win0_5.blk t).view.emb y 1) ?_]
  · refine congrArg _ (funext fun a => ?_)
    fin_cases a
    · refine Fin.ext ?_
      blk_simp
      rw [e.2.2.2.2.2.1]
      show (y 0).val = 0 * 16 + (y 0).val
      omega
    · rfl
    · refine Fin.ext ?_
      blk_simp
      rw [e.2.2.2.2.2.1]
      show (y 2).val = 0 * 256 + (y 2).val
      omega
  · blk_simp
    rw [e.2.2.2.2.2.1]
    show t.val * 512 + (y 1).val = 512 * t.val + (y 1).val
    omega

/-- All values. -/
theorem finalV (c : Dev nD) : (dats m 0 c).arrAt 6 cfg0.N = refV m c := by
  refine (dats m 0 c).arrAt_eq_of_covers 6 _ (by decide +kernel) fun t _ y => ?_
  blk_simp
  rw [after0_6]
  have e := idx t
  rw [pointV m c t y ((win0_6.blk t).view.emb y 1) ?_]
  · refine congrArg _ (funext fun a => ?_)
    fin_cases a
    · refine Fin.ext ?_
      blk_simp
      rw [e.2.2.2.2.2.2]
      show (y 0).val = 0 * 16 + (y 0).val
      omega
    · rfl
    · refine Fin.ext ?_
      blk_simp
      rw [e.2.2.2.2.2.2]
      show (y 2).val = 0 * 256 + (y 2).val
      omega
  · blk_simp
    rw [e.2.2.2.2.2.2]
    show t.val * 512 + (y 1).val = 512 * t.val + (y 1).val
    omega

end Cert.Keys
end
-- ==== Proof.Keys.Claims.lean ====
/- The claims on the keys and values: the frames of the three programs and the equality of the kernel's two results with the reference's. -/
module
public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Keys.Final
@[expose] public section
set_option maxRecDepth 16384
noncomputable section
namespace Cert.Keys.Claims
open Idealize.ShloMosaic Idealize.SL.Sem

theorem frame_kernel : Cert.quiescent_Kernel6 := fun m ρ _ => Cert.Kernel6.Gen.frame m ρ
theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- On any arguments the kernel leaves the reference's two arrays. -/
theorem equal : Cert.algebraic_Kernel6Ideal_Reference6Ideal := by
  intro m ρ m' ρ' _ hagree
  refine ⟨fun c => refK m c, fun c => refV m c, ?_, ?_⟩
  · exact (θ_run Cert.Kernel6Ideal.defs _ _).mono (fun r h c => ⟨(h c).1.trans (finalK m c), (h c).2.1.trans (finalV m c), (h c).2.2⟩)
      (Cert.Kernel6Ideal.Value.run_blocks m ρ)
  · refine (θ_run Cert.Reference6Ideal.defs _ _).mono (fun r h c => ⟨(h c).1.trans ?_, (h c).2.1.trans ?_, (h c).2.2⟩) (Cert.Reference6Ideal.Value.run m' ρ')
    · obtain ⟨e0, e1, e2, e3, e4, e5⟩ := hagree c
      unfold Cert.Reference6Ideal.Value.res_main_v96
      rw [e0, e1, e2, e3, e4, e5]
      rfl
    · obtain ⟨e0, e1, e2, e3, e4, e5⟩ := hagree c
      rw [e0, e1, e4, e5]
      rfl
end Cert.Keys.Claims
end
-- ==== Proof.Adaln.Ref.lean ====
/- The reference of the adaLN tables as a term of its arguments, and that term read at an index. -/
module
public import proofs.«01_k».proof.Proof.Gen.Reference7Ideal.Run
public import Idealize.ShloMosaic.Lib.Pointwise
@[expose] public section
set_option maxRecDepth 16384
noncomputable section
namespace Cert.Adaln.Ref
open Cert.Reference7Ideal Cert.Reference7Ideal.Gen Idealize.ShloMosaic Idealize.ShloMosaic.TcCoe Idealize.SL.Sem

/-- The activation of the conditioning vector. -/
def silu (x : EReal) : EReal := x * Ideal.div 1 (1 + Ideal.exp (-x))

/-- The modulation of the four batches. -/
def lat (c : FVec Ideal S4x2048 .f32) (w : FVec Ideal S2x2048x12288 .f32) (b : FVec Ideal S2x12288 .f32) : FVec Ideal S2x4x12288 .f32 :=
  addf (transpose S2x4x12288 [0, 2, 1] (Host.dotGeneral dot_S2x2048x12288_S4x2048_S2x12288x4_1_1_02_0_n_n none w (mulf c (Host.divf (broadcastInDim S4x2048 ![] bcast_S_S4x2048 (constant S_ .f32 0x3F800000#32)) (addf (broadcastInDim S4x2048 ![] bcast_S_S4x2048 (constant S_ .f32 0x3F800000#32)) (Host.exp (Host.negf c)))))) transposes_S2x12288x4_S2x4x12288_0_2_1) (broadcastInDim S2x4x12288 ![0, 1, 2] bcast_S2x1x12288_S2x4x12288_0_1_2 (broadcastInDim S2x1x12288 ![0, 2] bcast_S2x12288_S2x1x12288_0_2 b))

theorem lat_at (c : FVec Ideal S4x2048 .f32) (w : FVec Ideal S2x2048x12288 .f32) (b : FVec Ideal S2x12288 .f32) (l : Fin 2) (r : Fin 4) (d : Fin 12288) :
    lat c w b (ix3 l r d) = (∑ k : Fin 2048, w (ix3 l k d) * silu (c (ix2 r k))) + b (ix2 l d) := by
  pointwise [lat, silu]

/-- The modulation of the context. -/
def con (x : FVec Ideal S1x2048 .f32) (w : FVec Ideal S2x2048x12288 .f32) (b : FVec Ideal S2x12288 .f32) : FVec Ideal S2x1x12288 .f32 :=
  addf (transpose S2x1x12288 [0, 2, 1] (Host.dotGeneral dot_S2x2048x12288_S1x2048_S2x12288x1_1_1_02_0_n_n none w (mulf x (Host.divf (broadcastInDim S1x2048 ![] bcast_S_S1x2048 (constant S_ .f32 0x3F800000#32)) (addf (broadcastInDim S1x2048 ![] bcast_S_S1x2048 (constant S_ .f32 0x3F800000#32)) (Host.exp (Host.negf x)))))) transposes_S2x12288x1_S2x1x12288_0_2_1) (broadcastInDim S2x1x12288 ![0, 2] bcast_S2x12288_S2x1x12288_0_2 b)

theorem con_at (x : FVec Ideal S1x2048 .f32) (w : FVec Ideal S2x2048x12288 .f32) (b : FVec Ideal S2x12288 .f32) (l : Fin 2) (d : Fin 12288) :
    con x w b (ix3 l 0 d) = (∑ k : Fin 2048, w (ix3 l k d) * silu (x (ix2 0 k))) + b (ix2 l d) := by
  pointwise [con, silu]

/-- The three rows that no token has. -/
def pad (x : FVec Ideal S3x2048 .f32) (w : FVec Ideal S2x2048x12288 .f32) (b : FVec Ideal S2x12288 .f32) : FVec Ideal S2x3x12288 .f32 :=
  addf (transpose S2x3x12288 [0, 2, 1] (Host.dotGeneral dot_S2x2048x12288_S3x2048_S2x12288x3_1_1_02_0_n_n none w (mulf x (Host.divf (broadcastInDim S3x2048 ![] bcast_S_S3x2048 (constant S_ .f32 0x3F800000#32)) (addf (broadcastInDim S3x2048 ![] bcast_S_S3x2048 (constant S_ .f32 0x3F800000#32)) (Host.exp (Host.negf x)))))) transposes_S2x12288x3_S2x3x12288_0_2_1) (broadcastInDim S2x3x12288 ![0, 1, 2] bcast_S2x1x12288_S2x3x12288_0_1_2 (broadcastInDim S2x1x12288 ![0, 2] bcast_S2x12288_S2x1x12288_0_2 b))

theorem pad_at (x : FVec Ideal S3x2048 .f32) (w : FVec Ideal S2x2048x12288 .f32) (b : FVec Ideal S2x12288 .f32) (l : Fin 2) (r : Fin 3) (d : Fin 12288) :
    pad x w b (ix3 l r d) = (∑ k : Fin 2048, w (ix3 l k d) * silu (x (ix2 r k))) + b (ix2 l d) := by
  pointwise [pad, silu]

/-- The conditioning vectors: the batches', the context's, zeros. -/
def vecs (c : FVec Ideal S4x2048 .f32) (x : FVec Ideal S2048 .f32) (r : Fin 8) (k : Fin 2048) : EReal :=
  if h : r.val < 4 then c (ix2 ⟨r, h⟩ k) else if r.val < 5 then x (ix1 k) else 0

/-- The result. -/
def result (c : FVec Ideal S4x2048 .f32) (x : FVec Ideal S2048 .f32) (w : FVec Ideal S2x2048x12288 .f32) (b : FVec Ideal S2x12288 .f32) : FVec Ideal S2x8x12288 .f32 :=
  concatenate S2x8x12288 1 [⟨S2x4x12288, lat c w b⟩, ⟨S2x1x12288, con (broadcastInDim S1x2048 ![1] bcast_S2048_S1x2048_1 x) w b⟩, ⟨S2x3x12288, pad (broadcastInDim S3x2048 ![] bcast_S_S3x2048 (constant S_ .f32 0x00000000#32)) w b⟩] concatenates_S2x4x12288_S2x1x12288_S2x3x12288_S2x8x12288_d1

theorem result_at (c : FVec Ideal S4x2048 .f32) (x : FVec Ideal S2048 .f32) (w : FVec Ideal S2x2048x12288 .f32) (b : FVec Ideal S2x12288 .f32) (l : Fin 2) (r : Fin 8) (d : Fin 12288) :
    result c x w b (ix3 l r d) = (∑ k : Fin 2048, w (ix3 l k d) * silu (vecs c x r k)) + b (ix2 l d) := by
  have e : ∀ k, broadcastInDim S1x2048 ![1] bcast_S2048_S1x2048_1 x (ix2 0 k) = x (ix1 k) := fun k => by pointwise []
  have e' : ∀ (q : Fin 3) (k : Fin 2048), broadcastInDim S3x2048 ![] bcast_S_S3x2048 (constant (F := Ideal) S_ .f32 0x00000000#32) (ix2 q k) = 0 := fun q k => by pointwise []
  unfold vecs
  by_cases h : r.val < 4
  · simp only [dif_pos h]
    pointwise [result]
    rw [dif_pos h, lat_at]
  · by_cases h5 : r.val < 5
    · simp only [dif_neg h, if_pos h5]
      pointwise [result]
      rw [dif_neg h, dif_pos (by omega)]
      rw [show (⟨r.val - 4, by omega⟩ : Fin 1) = 0 from Fin.ext (by show r.val - 4 = 0; omega), con_at]
      simp only [e]
    · simp only [dif_neg h, if_neg h5]
      pointwise [result]
      rw [dif_neg h, dif_neg (by omega), pad_at]
      simp only [e']
end Cert.Adaln.Ref
end
-- ==== Proof.Adaln.Final.lean ====
/- The adaLN tables: the arrays the windows stage, the blocks of a grid point, and the kernel's result array as the reference's. Point `t`
   is layer `t / 8` and the columns from `256 * (t % 8)` of the conditioning vectors; the output block of a layer gathers eight points. -/
module
public import proofs.«01_k».proof.Proof.Gen.Kernel7Ideal.Value
public import proofs.«01_k».proof.Proof.Adaln.Ref
public import Idealize.ShloMosaic.Lib.Pipeline.ValueKit
public import Idealize.ShloMosaic.Lib.Pointwise
public import Idealize.ShloMosaic.Lib.Claim
@[expose] public section
set_option maxRecDepth 16384
noncomputable section
namespace Cert.Adaln
open Cert.Kernel7Ideal Cert.Kernel7Ideal.Gen Cert.Kernel7Ideal.Value Idealize.ShloMosaic Idealize.ShloMosaic.TcCoe Idealize.SL.Sem
open Idealize.ShloMosaic.Pipeline (Dat)

/-- The conditioning vectors of the batches, that of the context, and three rows of zeros. -/
def vecs (c : FVec Ideal S4x2048 .f32) (x : FVec Ideal S2048 .f32) : FVec Ideal S8x2048 .f32 :=
  concatenate S8x2048 0 [⟨S4x2048, c⟩, ⟨S1x2048, broadcastInDim S1x2048 ![1] bcast_S2048_S1x2048_1 x⟩,
    ⟨S3x2048, broadcastInDim S3x2048 ![] bcast_S_S3x2048 (constant S_ .f32 0x00000000#32)⟩] concatenates_S4x2048_S1x2048_S3x2048_S8x2048_d0

theorem vecs_at (c : FVec Ideal S4x2048 .f32) (x : FVec Ideal S2048 .f32) (r : Fin 8) (k : Fin 2048) : vecs c x (ix2 r k) = Ref.vecs c x r k := by
  unfold Ref.vecs
  pointwise [vecs]
  by_cases h : r.val < 4
  · simp only [dif_pos h]
  · by_cases h5 : r.val < 5
    · simp only [dif_neg h, if_pos h5]
      rw [dif_pos (by omega)]
    · simp only [dif_neg h, if_neg h5]
      rw [dif_neg (by omega)]

theorem bias_at (b : FVec Ideal S2x12288 .f32) (l : Fin 2) (d : Fin 12288) :
    shapeCast (α := EReal) S2x1x12288 b shapeCasts_S2x12288_S2x1x12288 (ix3 l 0 d) = b (ix2 l d) := by
  pointwise []

variable (m : (ℓ : Loc nD τ sig) → Buf (Elt Ideal) ℓ)

theorem V_c (c : Dev nD) : V m c main_v2 = vecs (m ((c : Thread nD τ).loc main_arg0)) (m ((c : Thread nD τ).loc main_arg1)) := by
  unfold V
  simp only [List.flatten_cons, List.flatten_nil, List.append_nil, List.cons_append, List.nil_append, hostOps0]
  after_results
  rfl
theorem V_b (c : Dev nD) : V m c main_v3 = shapeCast (α := EReal) S2x1x12288 (m ((c : Thread nD τ).loc main_arg3)) shapeCasts_S2x12288_S2x1x12288 := by
  unfold V
  simp only [List.flatten_cons, List.flatten_nil, List.append_nil, List.cons_append, List.nil_append, hostOps0]
  after_results
  rfl

theorem idx : ∀ t : Fin cfg0.N, win0_0.index t = ![0, t.val % 8] ∧ win0_1.index t = ![t.val / 8, t.val % 8, 0] ∧ win0_2.index t = ![t.val / 8, 0, 0]
    ∧ win0_3.index t = ![t.val / 8, 0, 0] :=
  (by decide +kernel : ∀ t : Fin grid0.N, _)

theorem lt (t : Fin cfg0.N) : t.val < 16 := t.isLt

theorem blk_c (c : Dev nD) (t : Fin cfg0.N) (r : Fin 8) (j : Fin 256) (k : Fin 2048) (hk : k.val = 256 * (t.val % 8) + j.val) :
    iblk m c 0 t (ix2 r j : S8x256.Idx) = Ref.vecs (m ((c : Thread nD τ).loc main_arg0)) (m ((c : Thread nD τ).loc main_arg1)) r k := by
  have e : iblk m c 0 t (ix2 r j : S8x256.Idx) = V m c main_v2 (ix2 r k) := by
    blk_ext [iblk, idx t]
  rw [e, V_c, vecs_at]
theorem blk_w (c : Dev nD) (t : Fin cfg0.N) (j : Fin 256) (d : Fin 12288) (l : Fin 2) (hl : l.val = t.val / 8) (k : Fin 2048) (hk : k.val = 256 * (t.val % 8) + j.val) :
    iblk m c 1 t (ix3 0 j d : S1x256x12288.Idx) = (m ((c : Thread nD τ).loc main_arg2) : FVec Ideal S2x2048x12288 .f32) (ix3 l k d) := by
  have e : iblk m c 1 t (ix3 0 j d : S1x256x12288.Idx) = V m c main_arg2 (ix3 l k d) := by
    blk_ext [iblk, idx t]
  rw [e, V_main_arg2]
theorem blk_b (c : Dev nD) (t : Fin cfg0.N) (d : Fin 12288) (l : Fin 2) (hl : l.val = t.val / 8) :
    iblk m c 2 t (ix3 0 0 d : S1x1x12288.Idx) = (m ((c : Thread nD τ).loc main_arg3) : FVec Ideal S2x12288 .f32) (ix2 l d) := by
  have e : iblk m c 2 t (ix3 0 0 d : S1x1x12288.Idx) = V m c main_v3 (ix3 l 0 d) := by
    blk_ext [iblk, idx t]
  rw [e, V_b, bias_at]

theorem pay1 (b : Vec Ideal S1x1x12288 .f32) (r : Fin 8) (d : Fin 12288) : k0_pay1 (F := Ideal) b (ix3 0 r d) = b (ix3 0 0 d) := by
  pointwise [k0_pay1]
theorem pay2 (x : Vec Ideal S8x256 .f32) (o : Vec Ideal S1x8x12288 .f32) (w : Vec Ideal S1x256x12288 .f32) (r : Fin 8) (d : Fin 12288) :
    k0_pay2 (F := Ideal) x o w (ix3 0 r d) = o (ix3 0 r d) + ∑ j : Fin 256, Ref.silu (x (ix2 r j)) * w (ix3 0 j d) := by
  pointwise [k0_pay2, Ref.silu]
  simp only [zero_sub]

/-- A point's share of the sum. -/
def term (c : Dev nD) (t : Fin cfg0.N) (y : S1x8x12288.Idx) : EReal :=
  ∑ j : Fin 256, (show FVec Ideal S1x256x12288 .f32 from iblk m c 1 t) (ix3 0 j (y 2)) * Ref.silu ((show FVec Ideal S8x256 .f32 from iblk m c 0 t) (ix2 (y 1) j))

theorem reset (c : Dev nD) (t : Fin cfg0.N) (h : t.val % 8 = 0) (r : Fin 8) (d : Fin 12288) :
    outsAt0 m c t.val t.isLt (ix3 0 r d) = (show FVec Ideal S1x1x12288 .f32 from iblk m c 2 t) (ix3 0 0 d) + term m c t (ix3 0 r d) := by
  rw [outsAt0_A m c t h, out_A_3_eq, pay2, pay1]
  exact congrArg _ (Finset.sum_congr rfl fun j _ => mul_comm _ _)
theorem step (c : Dev nD) (t : Fin cfg0.N) (h : ¬t.val % 8 = 0) (r : Fin 8) (d : Fin 12288) :
    outsAt0 m c t.val t.isLt (ix3 0 r d) = outsAt0 m c (t.val - 1) (Nat.lt_of_le_of_lt (Nat.sub_le _ _) t.isLt) (ix3 0 r d) + term m c t (ix3 0 r d) := by
  rw [outsAt0_B m c t h, out_B_3_eq, pay2]
  exact congrArg _ (Finset.sum_congr rfl fun j _ => mul_comm _ _)

/-- The bias, added at a layer's first point only. -/
def bias (c : Dev nD) (t : Fin cfg0.N) (y : S1x8x12288.Idx) : EReal :=
  if t.val % 8 = 0 then (show FVec Ideal S1x1x12288 .f32 from iblk m c 2 t) (ix3 0 0 (y 2)) else 0

/-- What a layer's last point writes. -/
theorem point (c : Dev nD) (t : Fin cfg0.N) (h : t.val % 8 = 7) (y : S1x8x12288.Idx) (l : Fin 2) (r : Fin 8) (d : Fin 12288)
    (hl : l.val = t.val / 8) (hr : r.val = (y 1).val) (hd : d.val = (y 2).val) :
    outsAt0 m c t.val t.isLt y = Ref.result (m ((c : Thread nD τ).loc main_arg0)) (m ((c : Thread nD τ).loc main_arg1)) (m ((c : Thread nD τ).loc main_arg2)) (m ((c : Thread nD τ).loc main_arg3)) (ix3 l r d) := by
  have ht := lt t
  obtain ⟨p, r', d', rfl⟩ : ∃ (p : Fin 1) (r' : Fin 8) (d' : Fin 12288), y = ix3 p r' d' := ⟨y 0, y 1, y 2, by funext a; fin_cases a <;> rfl⟩
  obtain rfl : p = 0 := Subsingleton.elim _ _
  obtain rfl : r = r' := Fin.ext hr
  obtain rfl : d = d' := Fin.ext hd
  have ey : ∀ y : S1x8x12288.Idx, y = ix3 0 (y 1) (y 2) := fun y => by
    funext a; fin_cases a
    · exact Subsingleton.elim (α := Fin 1) _ _
    · rfl
    · rfl
  have hf := Pipeline.eq_sum_fin_of_reset_step_apply_of_flush (M := EReal) (fun n h => outsAt0 m c n h) 8 (fun _ => 0) (fun t y => bias m c t y + term m c t y)
    (fun t h y => by rw [ey y]; refine (reset m c t h _ _).trans ?_; simp only [bias, if_pos h, zero_add]; rfl)
    (fun t h y => by rw [ey y]; refine (step m c t h _ _).trans ?_; simp only [bias, if_neg h, zero_add]; rfl)
    t h (ix3 0 r d)
  rw [zero_add, Finset.sum_add_distrib] at hf
  refine hf.trans ?_
  rw [Ref.result_at, add_comm]
  refine congrArg₂ (· + ·) ?_ ?_
  · refine Fin.sum_mul_add_congr fun s j hk => ?_
    refine congrArg₂ (· * ·) (blk_w m c _ j d l ?_ ⟨s.val * 256 + j.val, hk⟩ ?_) (congrArg Ref.silu (blk_c m c _ r j ⟨s.val * 256 + j.val, hk⟩ ?_))
    · show l.val = (8 * (t.val / 8) + s.val) / 8
      omega
    · show s.val * 256 + j.val = 256 * ((8 * (t.val / 8) + s.val) % 8) + j.val
      omega
    · show s.val * 256 + j.val = 256 * ((8 * (t.val / 8) + s.val) % 8) + j.val
      omega
  · rw [Finset.sum_eq_single (0 : Fin 8)]
    · refine (if_pos ?_).trans (blk_b m c _ d l ?_)
      · show (8 * (t.val / 8) + 0) % 8 = 0
        omega
      · show l.val = (8 * (t.val / 8) + 0) / 8
        omega
    · intro s _ hs
      refine if_neg ?_
      show ¬(8 * (t.val / 8) + s.val) % 8 = 0
      have : s.val ≠ 0 := fun h => hs (Fin.ext h)
      omega
    · exact fun h => absurd (Finset.mem_univ _) h

/-- The whole result. -/
theorem final (c : Dev nD) : (dats m 0 c).arrAt 3 cfg0.N = Ref.result (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  have e := (idx t).2.2.2
  rw [point m c t ((flush0_3 t).mp hf) y ((win0_3.blk t).view.emb y 0) ((win0_3.blk t).view.emb y 1) ((win0_3.blk t).view.emb y 2) ?_ ?_ ?_]
  · exact congrArg _ (by funext a; fin_cases a <;> rfl)
  · blk_simp
    rw [e]
    rfl
  · blk_simp
    rw [e]
    show 0 * 8 + (y 1).val = (y 1).val
    omega
  · blk_simp
    rw [e]
    show 0 * 12288 + (y 2).val = (y 2).val
    omega
end Cert.Adaln
end
-- ==== Proof.Adaln.Claims.lean ====
/- The claims on the adaLN tables: the frames of the three programs and the equality of the kernel's result with the reference's. -/
module
public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Adaln.Final
@[expose] public section
set_option maxRecDepth 16384
noncomputable section
namespace Cert.Adaln.Claims
open Idealize.ShloMosaic Idealize.SL.Sem

theorem frame_kernel : Cert.quiescent_Kernel7 := fun m ρ _ => Cert.Kernel7.Gen.frame m ρ
theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- On any arguments the kernel leaves the reference's array. -/
theorem equal : Cert.algebraic_Kernel7Ideal_Reference7Ideal := by
  intro m ρ m' ρ' _ hagree
  refine ⟨fun c => Cert.Adaln.Ref.result (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono (fun r h c => ⟨(h c).1.trans (final m c), (h c).2⟩) (Cert.Kernel7Ideal.Value.run_blocks m ρ)
  · refine (θ_run Cert.Reference7Ideal.defs _ _).mono (fun r h c => ⟨(h c).1.trans ?_, (h c).2⟩) (Cert.Reference7Ideal.Value.run m' ρ')
    obtain ⟨e0, e1, e2, e3⟩ := hagree c
    rw [e0, e1, e2, e3]
    rfl
end Cert.Adaln.Claims
end
-- ==== Proof.Pool.Host.lean ====
/- The pooling: the arrays the windows stage, and the blocks of a grid point. Point `t` is batch `t / 8`, tile `t % 8`, rows `512 t` to `512 t + 511`. -/
module
public import proofs.«01_k».proof.Proof.Gen.Kernel8Ideal.Value
public import Idealize.ShloMosaic.Lib.Pipeline.ValueKit
public import Idealize.ShloMosaic.Lib.Pointwise
@[expose] public section
set_option maxRecDepth 16384
noncomputable section
namespace Cert.Pool
open Cert.Kernel8Ideal Cert.Kernel8Ideal.Gen Idealize.ShloMosaic Idealize.ShloMosaic.TcCoe Idealize.SL.Sem
open Idealize.ShloMosaic.Pipeline (Dat)

/-- The latent rows of all batches, then the context rows, with zero columns on both sides. -/
def packed (l : FVec Ideal S4x4096x1024 .f32) (x : FVec Ideal S4x256x1024 .f32) : FVec Ideal S17408x13824 .f32 :=
  concatenate S17408x13824 1 [⟨S17408x11264, broadcastInDim S17408x11264 ![] bcast_S_S17408x11264 (constant S_ .f32 0x00000000#32)⟩,
    ⟨S17408x1024, concatenate S17408x1024 0 [⟨S16384x1024, shapeCast S16384x1024 l shapeCasts_S4x4096x1024_S16384x1024⟩,
      ⟨S1024x1024, shapeCast S1024x1024 x shapeCasts_S4x256x1024_S1024x1024⟩] concatenates_S16384x1024_S1024x1024_S17408x1024_d0⟩,
    ⟨S17408x1536, broadcastInDim S17408x1536 ![] bcast_S_S17408x1536 (constant S_ .f32 0x00000000#32)⟩]
    concatenates_S17408x11264_S17408x1024_S17408x1536_S17408x13824_d1

theorem packed_at (l : FVec Ideal S4x4096x1024 .f32) (x : FVec Ideal S4x256x1024 .f32) (r : Fin 17408) (n : Fin 4) (t : Fin 4096) (d : Fin 1024)
    (hr : r.val = 4096 * n.val + t.val) : packed l x (ix2 r ⟨11264 + d, by omega⟩) = l (ix3 n t d) := by
  have e3 : (⟨r.val / 4096, by omega⟩ : Fin 4) = n := Fin.ext (by show r.val / 4096 = n.val; omega)
  have e4 : (⟨r.val % 4096, by omega⟩ : Fin 4096) = t := Fin.ext (by show r.val % 4096 = t.val; omega)
  pointwise [packed]
  rw [dif_pos (by omega), e3, e4]

variable (m : (ℓ : Loc nD τ sig) → Buf (Elt Ideal) ℓ)

theorem V_p (c : Dev nD) : V m c main_v5 = packed (m ((c : Thread nD τ).loc main_arg0)) (m ((c : Thread nD τ).loc main_arg1)) := by
  unfold V
  simp only [List.flatten_cons, List.flatten_nil, List.append_nil, List.cons_append, List.nil_append, hostOps0]
  after_results
  rfl
theorem V_w (c : Dev nD) : V m c main_v6 = truncf (F := Ideal) .bf16 (m ((c : Thread nD τ).loc main_arg2)) bitsLt_bf16_f32 := by
  unfold V
  simp only [List.flatten_cons, List.flatten_nil, List.append_nil, List.cons_append, List.nil_append, hostOps0]
  after_results
theorem V_g (c : Dev nD) : V m c main_v7 = shapeCast S1x1024 (m ((c : Thread nD τ).loc main_arg3)) shapeCasts_S1024_S1x1024 := by
  unfold V
  simp only [List.flatten_cons, List.flatten_nil, List.append_nil, List.cons_append, List.nil_append, hostOps0]
  after_results
  rfl

theorem scale_at (g : FVec Ideal S1024 .f32) (k : Fin 1024) : (shapeCast S1x1024 g shapeCasts_S1024_S1x1024 : FVec Ideal S1x1024 .f32) (ix2 0 k) = g (ix1 k) := by
  pointwise []

theorem idx : ∀ t : Fin cfg0.N, win0_0.index t = ![t.val * 64 - 1, 11] ∧ win0_1.index t = ![t.val, 11] ∧ win0_2.index t = ![t.val * 64 + 64, 11]
    ∧ win0_3.index t = ![0, 0, 0] ∧ win0_4.index t = ![0, 0] ∧ win0_5.index t = ![t.val, 0] ∧ ((grid0.coords t) 1).val = t.val % 8 :=
  (by decide +kernel : ∀ t : Fin grid0.N, _)

theorem lt (t : Fin cfg0.N) : t.val < 32 := t.isLt

theorem blk_prev (c : Dev nD) (t : Fin cfg0.N) (i : Fin 8) (k : Fin 1024) (r : Fin 17408) (ht : 0 < t.val) (hr : r.val + 8 = 512 * t.val + i.val) :
    X0_0 m c t (ix2 i k : S8x1024.Idx) = V m c main_v5 (ix2 r ⟨11264 + k, by omega⟩) := by
  unfold X0_0 Pipeline.Window.fill
  rw [dif_pos (moved0_0 t _)]
  blk_ext [iblk, idx t]
theorem blk_cur (c : Dev nD) (t : Fin cfg0.N) (i : Fin 512) (k : Fin 1024) (r : Fin 17408) (hr : r.val = 512 * t.val + i.val) :
    X0_1 m c t (ix2 i k : S512x1024.Idx) = V m c main_v5 (ix2 r ⟨11264 + k, by omega⟩) := by
  unfold X0_1 Pipeline.Window.fill
  rw [dif_pos (moved0_1 t _)]
  blk_ext [iblk, idx t]
theorem blk_next (c : Dev nD) (t : Fin cfg0.N) (i : Fin 8) (k : Fin 1024) (r : Fin 17408) (hr : r.val = 512 * t.val + 512 + i.val) :
    X0_2 m c t (ix2 i k : S8x1024.Idx) = V m c main_v5 (ix2 r ⟨11264 + k, by omega⟩) := by
  unfold X0_2 Pipeline.Window.fill
  rw [dif_pos (moved0_2 t _)]
  blk_ext [iblk, idx t]
theorem blk_w (c : Dev nD) (t : Fin cfg0.N) (g : Fin 4) (k o : Fin 256) :
    iblk m c 3 t (ix3 g k o : S4x256x256.Idx) = V m c main_v6 (ix3 g k o) := by
  blk_ext [iblk, idx t]
theorem blk_g (c : Dev nD) (t : Fin cfg0.N) (k : Fin 1024) :
    iblk m c 4 t (ix2 0 k : S1x1024.Idx) = V m c main_v7 (ix2 0 k) := by
  blk_ext [iblk, idx t]
end Cert.Pool
end
-- ==== Proof.Pool.Math.lean ====
/- Sums over a window of positions: a sum over all positions with a factor one inside the window and zero outside is the sum of the window's values, zero standing at positions before the first and after the last. -/
module
public import Idealize.ShloMosaic.Lib.Pointwise
@[expose] public section
noncomputable section
namespace Cert.Pool
open Finset

/-- A sequence of 4096 values with zeros around it: the value of position `n - 8`. -/
def ext (u : Fin 4096 → EReal) (n : ℕ) : EReal := if h : 8 ≤ n ∧ n < 4104 then u ⟨n - 8, by omega⟩ else 0

/-- The sum of the window of half width `half` around position `t`. -/
def win (u : Fin 4096 → EReal) (half t : ℕ) : EReal := ∑ k ∈ range (2 * half), ext u (t + 8 - half + k)

theorem sum_ext (f : ℕ → EReal) : ∑ s : Fin 4096, f (s.val + 8) = ∑ n ∈ Ico 8 4104, f n := by
  rw [Finset.sum_Ico_eq_sum_range, Finset.sum_range]
  exact Finset.sum_congr rfl fun s _ => by rw [Nat.add_comm]

theorem band (u : Fin 4096 → EReal) (half t : ℕ) (hh : half ≤ 8) (ht : t < 4096) :
    ∑ s : Fin 4096, (if t ≤ s.val + half ∧ s.val < t + half then (1 : EReal) else 0) * u s = win u half t := by
  have e : ∀ s : Fin 4096, (if t ≤ s.val + half ∧ s.val < t + half then (1 : EReal) else 0) * u s
      = (fun n => if t + 8 ≤ n + half ∧ n < t + 8 + half then ext u n else 0) (s.val + 8) := by
    intro s
    have hs := s.isLt
    have hx : ext u (s.val + 8) = u s := by
      unfold ext
      rw [dif_pos ⟨by omega, by omega⟩]
      exact congrArg u (Fin.ext (Nat.add_sub_cancel _ _))
    show _ = if t + 8 ≤ s.val + 8 + half ∧ s.val + 8 < t + 8 + half then ext u (s.val + 8) else 0
    rw [hx]
    by_cases h : t ≤ s.val + half ∧ s.val < t + half
    · rw [if_pos h, if_pos (by omega), one_mul]
    · rw [if_neg h, if_neg (by omega), zero_mul]
  refine (Finset.sum_congr rfl fun s _ => e s).trans ((sum_ext fun n => if t + 8 ≤ n + half ∧ n < t + 8 + half then ext u n else 0).trans ?_)
  rw [← Finset.sum_filter]
  have w : win u half t = ∑ n ∈ Ico (t + 8 - half) (t + 8 + half), ext u n := by
    rw [Finset.sum_Ico_eq_sum_range, show t + 8 + half - (t + 8 - half) = 2 * half by omega]
    rfl
  rw [w]
  refine Finset.sum_subset ?_ ?_
  · intro n hn
    simp only [mem_filter, mem_Ico] at hn ⊢
    omega
  · intro n hn hn'
    simp only [mem_filter, mem_Ico] at hn hn'
    unfold ext
    rw [dif_neg (by omega)]
end Cert.Pool
end
-- ==== Proof.Pool.Ref.lean ====
/- The reference of the pooling as a term of its arguments, and that term read at an index. -/
module
public import proofs.«01_k».proof.Proof.Gen.Reference8Ideal.Run
public import proofs.«01_k».proof.Proof.Pool.Math
public import Idealize.ShloMosaic.Lib.Pointwise
@[expose] public section
set_option maxRecDepth 16384
noncomputable section
namespace Cert.Pool.Ref
open Cert.Reference8Ideal Cert.Reference8Ideal.Gen Idealize.ShloMosaic Idealize.ShloMosaic.TcCoe Idealize.SL.Sem

/-- The first position of each position's window. -/
def lo (h : BitVec 32) : IVec S4096 32 :=
  maxsi (subi (iotaInDim S4096 32 0) (broadcastInDim S4096 ![] bcast_S_S4096 (constantI S_ 32 h))) (broadcastInDim S4096 ![] bcast_S_S4096 (constantI S_ 32 0#32))

/-- The position after the last of each position's window. -/
def hi (h : BitVec 32) : IVec S4096 32 :=
  minsi (addi (iotaInDim S4096 32 0) (broadcastInDim S4096 ![] bcast_S_S4096 (constantI S_ 32 h))) (broadcastInDim S4096 ![] bcast_S_S4096 (constantI S_ 32 4096#32))

/-- One where the second position lies in the first one's window, zero elsewhere. -/
def inside (l r : IVec S4096 32) : FVec Ideal S4096x4096 .f32 :=
  uitofp .f32 (andi (cmpi .sge (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 l)))
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 r))))

/-- The window's mean less the token. -/
def mean (l r : IVec S4096 32) (x : FVec Ideal S4x4096x256 .f32) : FVec Ideal S4x4096x256 .f32 :=
  subf (Host.divf (transpose S4x4096x256 [0, 2, 1] (Host.dotGeneral dot_S4x4096x256_S4096x4096_S4x256x4096_1_1_02_0_n_n none x (inside l r)) transposes_S4x256x4096_S4x4096x256_0_2_1)
    (broadcastInDim S4x4096x256 ![0, 1, 2] bcast_S1x4096x1_S4x4096x256_0_1_2 (broadcastInDim S1x4096x1 ![1] bcast_S4096_S1x4096x1_1 (sitofp .f32 (subi r l))))) x

/-- The four groups side by side. -/
def stacked (a b c d : FVec Ideal S4x4096x256 .f32) : FVec Ideal S4x4096x4x256 .f32 :=
  concatenate S4x4096x4x256 2 [⟨S4x4096x1x256, broadcastInDim S4x4096x1x256 ![0, 1, 3] bcast_S4x4096x256_S4x4096x1x256_0_1_3 a⟩,
    ⟨S4x4096x1x256, broadcastInDim S4x4096x1x256 ![0, 1, 3] bcast_S4x4096x256_S4x4096x1x256_0_1_3 b⟩,
    ⟨S4x4096x1x256, broadcastInDim S4x4096x1x256 ![0, 1, 3] bcast_S4x4096x256_S4x4096x1x256_0_1_3 c⟩,
    ⟨S4x4096x1x256, broadcastInDim S4x4096x1x256 ![0, 1, 3] bcast_S4x4096x256_S4x4096x1x256_0_1_3 d⟩]
    concatenates_S4x4096x1x256_S4x4096x1x256_S4x4096x1x256_S4x4096x1x256_S4x4096x4x256_d2

/-- The four groups' pooled tokens. -/
def pooled (u : FVec Ideal S4x4096x1024 .f32) : FVec Ideal S4x4096x4x256 .f32 :=
  stacked (mean (lo 1#32) (hi 1#32) (extractStridedSlice S4x4096x256 ![0, 0, 0] u slices_S4x4096x1024_S4x4096x256_0_0_0))
    (mean (lo 2#32) (hi 2#32) (extractStridedSlice S4x4096x256 ![0, 0, 256] u slices_S4x4096x1024_S4x4096x256_0_0_256))
    (mean (lo 4#32) (hi 4#32) (extractStridedSlice S4x4096x256 ![0, 0, 512] u slices_S4x4096x1024_S4x4096x256_0_0_512))
    (mean (lo 8#32) (hi 8#32) (extractStridedSlice S4x4096x256 ![0, 0, 768] u slices_S4x4096x1024_S4x4096x256_0_0_768))

/-- The result from the pooled tokens. -/
def mixed (p : FVec Ideal S4x4096x4x256 .f32) (w : FVec Ideal S4x256x256 .f32) (g : FVec Ideal S1024 .f32) : FVec Ideal S16384x1024 .bf16 :=
  truncf .bf16 (mulf (shapeCast _ (transpose S4x4096x4x256 [2, 3, 0, 1] (Host.dotGeneral dot_S4x256x256_S4x4096x4x256_S4x256x4x4096_1_3_2_01_0_2 none w p) transposes_S4x256x4x4096_S4x4096x4x256_2_3_0_1) shapeCasts_S4x4096x4x256_S16384x1024)
    (broadcastInDim S16384x1024 ![0, 1] bcast_S1x1024_S16384x1024_0_1 (broadcastInDim S1x1024 ![1] bcast_S1024_S1x1024_1 g))) bitsLt_bf16_f32

/-- The result. -/
def result (u : FVec Ideal S4x4096x1024 .f32) (w : FVec Ideal S4x256x256 .f32) (g : FVec Ideal S1024 .f32) : FVec Ideal S16384x1024 .bf16 :=
  mixed (pooled u) w g

theorem toInt_small (a : ℕ) (ha : a ≤ 4096) : (BitVec.ofNat 32 a).toInt = (a : ℤ) := by
  rw [BitVec.toInt_eq_toNat_cond, BitVec.toNat_ofNat, Nat.mod_eq_of_lt (by omega), if_pos (by omega)]

theorem sge_at (a b : ℕ) (ha : a ≤ 4096) (hb : b ≤ 4096) : IntOp.cmpi .sge (BitVec.ofNat 32 a) (BitVec.ofNat 32 b) = if b ≤ a then 1#1 else 0#1 := by
  have e : (BitVec.ofNat 32 b).sle (BitVec.ofNat 32 a) = decide (b ≤ a) := by
    rw [BitVec.sle, toInt_small a ha, toInt_small b hb]
    exact decide_eq_decide.mpr (by omega)
  show BitVec.ofBool ((BitVec.ofNat 32 b).sle (BitVec.ofNat 32 a)) = _
  rw [e]
  by_cases h : b ≤ a <;> simp [h]

theorem slt_at (a b : ℕ) (ha : a ≤ 4096) (hb : b ≤ 4096) : IntOp.cmpi .slt (BitVec.ofNat 32 a) (BitVec.ofNat 32 b) = if a < b then 1#1 else 0#1 := by
  have e : (BitVec.ofNat 32 a).slt (BitVec.ofNat 32 b) = decide (a < b) := by
    rw [BitVec.slt, toInt_small a ha, toInt_small b hb]
    exact decide_eq_decide.mpr (by omega)
  show BitVec.ofBool ((BitVec.ofNat 32 a).slt (BitVec.ofNat 32 b)) = _
  rw [e]
  by_cases h : a < b <;> simp [h]

/-- The first position of the window of half width `h` around a position, and the position after its last. -/
def loV (h p : BitVec 32) : BitVec 32 := IntOp.maxsi (IntOp.subi p h) 0#32
def hiV (h p : BitVec 32) : BitVec 32 := IntOp.minsi (IntOp.addi p h) 4096#32

theorem lo_at (h : BitVec 32) (t : Fin 4096) : lo h (ix1 t) = loV h (BitVec.ofNat 32 t) := by
  pointwise [lo]
  rfl

theorem hi_at (h : BitVec 32) (t : Fin 4096) : hi h (ix1 t) = hiV h (BitVec.ofNat 32 t) := by
  pointwise [hi]
  rfl

theorem loV_at : ∀ (g : Fin 4) (t : Fin 4096), loV (BitVec.ofNat 32 (2 ^ g.val)) (BitVec.ofNat 32 t.val) = BitVec.ofNat 32 (t.val - 2 ^ g.val) := by
  decide +kernel

theorem hiV_at : ∀ (g : Fin 4) (t : Fin 4096), hiV (BitVec.ofNat 32 (2 ^ g.val)) (BitVec.ofNat 32 t.val) = BitVec.ofNat 32 (min (t.val + 2 ^ g.val) 4096) := by
  decide +kernel

theorem bit_one : FloatOps.uitofp (F := Ideal) .f32 (1#1) = (1 : EReal) := by
  show (((1#1).toNat : ℝ) : EReal) = 1
  simp
theorem bit_zero : FloatOps.uitofp (F := Ideal) .f32 (0#1) = (0 : EReal) := by
  show (((0#1).toNat : ℝ) : EReal) = 0
  simp

theorem inside_at (l r : IVec S4096 32) (t s : Fin 4096) (a b : ℕ) (ha : a ≤ 4096) (hb : b ≤ 4096) (hl : l (ix1 t) = BitVec.ofNat 32 a) (hr : r (ix1 t) = BitVec.ofNat 32 b) :
    inside l r (ix2 t s) = if a ≤ s.val ∧ s.val < b then 1 else 0 := by
  have hs := s.isLt
  pointwise [inside]
  rw [hl, hr, sge_at _ _ (by omega) ha, slt_at _ _ (by omega) hb]
  by_cases h1 : a ≤ s.val <;> by_cases h2 : s.val < b <;> simp [h1, h2]
  · exact bit_one
  · exact bit_zero
  · exact bit_zero
  · exact bit_zero

theorem mean_at (l r : IVec S4096 32) (x : FVec Ideal S4x4096x256 .f32) (b : Fin 4) (t : Fin 4096) (d : Fin 256) :
    mean l r x (ix3 b t d) = Ideal.div (∑ s : Fin 4096, x (ix3 b s d) * inside l r (ix2 t s)) (FloatOps.sitofp (F := Ideal) .f32 (IntOp.subi (r (ix1 t)) (l (ix1 t)))) - x (ix3 b t d) := by
  pointwise [mean]

/-- A token of one channel pooled: the window's sum over the number of its positions, less the token. -/
def pool (u : Fin 4096 → EReal) (g : Fin 4) (t : Fin 4096) : EReal :=
  Ideal.div (win u (2 ^ g.val) t.val)
    (FloatOps.sitofp (F := Ideal) .f32 (IntOp.subi (hiV (BitVec.ofNat 32 (2 ^ g.val)) (BitVec.ofNat 32 t.val)) (loV (BitVec.ofNat 32 (2 ^ g.val)) (BitVec.ofNat 32 t.val)))) - u t

theorem half_le : ∀ g : Fin 4, 2 ^ g.val ≤ 8 := by decide

theorem group_at (g : Fin 4) (x : FVec Ideal S4x4096x256 .f32) (b : Fin 4) (t : Fin 4096) (d : Fin 256) :
    mean (lo (BitVec.ofNat 32 (2 ^ g.val))) (hi (BitVec.ofNat 32 (2 ^ g.val))) x (ix3 b t d) = pool (fun s => x (ix3 b s d)) g t := by
  have ht := t.isLt
  have hg := half_le g
  rw [mean_at, hi_at, lo_at]
  unfold pool
  rw [← band _ _ _ hg ht]
  congr 2
  refine Finset.sum_congr rfl fun s _ => ?_
  have hs := s.isLt
  rw [inside_at _ _ t s (t.val - 2 ^ g.val) (min (t.val + 2 ^ g.val) 4096) ((Nat.sub_le _ _).trans (by omega)) (Nat.min_le_right _ _) ((lo_at _ t).trans (loV_at g t)) ((hi_at _ t).trans (hiV_at g t)), mul_comm]
  congr 1
  refine if_congr ?_ rfl rfl
  generalize 2 ^ g.val = h at hg
  omega

theorem stacked_at0 (a b c d : FVec Ideal S4x4096x256 .f32) (n : Fin 4) (t : Fin 4096) (g : Fin 4) (o : Fin 256) : stacked a b c d (ix4 n t g o) = ![a, b, c, d] g (ix3 n t o) := by
  fin_cases g <;> pointwise [stacked]

theorem pooled_at (u : FVec Ideal S4x4096x1024 .f32) (n : Fin 4) (t : Fin 4096) (g : Fin 4) (o : Fin 256) :
    pooled u (ix4 n t g o) = pool (fun s => u (ix3 n s ⟨256 * g.val + o.val, by omega⟩)) g t := by
  unfold pooled
  rw [stacked_at0]
  fin_cases g
  · refine (group_at 0 _ n t o).trans ?_
    congr 1
    funext s
    pointwise []
  · refine (group_at 1 _ n t o).trans ?_
    congr 1
    funext s
    pointwise []
  · refine (group_at 2 _ n t o).trans ?_
    congr 1
    funext s
    pointwise []
  · refine (group_at 3 _ n t o).trans ?_
    congr 1
    funext s
    pointwise []

theorem mixed_at (p : FVec Ideal S4x4096x4x256 .f32) (w : FVec Ideal S4x256x256 .f32) (q : FVec Ideal S1024 .f32) (n : Fin 4) (t : Fin 4096) (g : Fin 4) (o : Fin 256) (r : Fin 16384) (c : Fin 1024)
    (hr : r.val = 4096 * n.val + t.val) (hc : c.val = 256 * g.val + o.val) :
    mixed p w q (ix2 r c) = (∑ k : Fin 256, w (ix3 g k o) * p (ix4 n t g k)) * q (ix1 c) := by
  have e1 : (⟨c.val / 256, by omega⟩ : Fin 4) = g := Fin.ext (by show c.val / 256 = g.val; omega)
  have e2 : (⟨c.val % 256, by omega⟩ : Fin 256) = o := Fin.ext (by show c.val % 256 = o.val; omega)
  have e3 : (⟨r.val / 4096, by omega⟩ : Fin 4) = n := Fin.ext (by show r.val / 4096 = n.val; omega)
  have e4 : (⟨r.val % 4096, by omega⟩ : Fin 4096) = t := Fin.ext (by show r.val % 4096 = t.val; omega)
  pointwise [mixed]
  rw [e1, e2, e3, e4]

/-- The result at row `4096 n + t` and column `256 g + o`. -/
theorem result_at (u : FVec Ideal S4x4096x1024 .f32) (w : FVec Ideal S4x256x256 .f32) (q : FVec Ideal S1024 .f32) (n : Fin 4) (t : Fin 4096) (g : Fin 4) (o : Fin 256) (r : Fin 16384) (c : Fin 1024)
    (hr : r.val = 4096 * n.val + t.val) (hc : c.val = 256 * g.val + o.val) :
    result u w q (ix2 r c) = (∑ k : Fin 256, pool (fun s => u (ix3 n s ⟨256 * g.val + k.val, by omega⟩)) g t * w (ix3 g k o)) * q (ix1 c) := by
  unfold result
  rw [mixed_at _ w q n t g o r c hr hc]
  simp only [pooled_at, mul_comm (w _)]
end Cert.Pool.Ref
end
-- ==== Proof.Pool.Body.lean ====
/- The pooling at a grid point: the buffer of the tile's rows with eight rows on each side, and the four groups of the output block. -/
module
public import proofs.«01_k».proof.Proof.Gen.Kernel8Ideal.Value
public import proofs.«01_k».proof.Proof.Pool.Ref
public import Idealize.ShloMosaic.Lib.Pipeline.ValueKit
public import Idealize.ShloMosaic.Lib.Pipeline.ReadBack
@[expose] public section
set_option maxRecDepth 16384
noncomputable section
namespace Cert.Pool
open Cert.Kernel8Ideal Cert.Kernel8Ideal.Gen Idealize.ShloMosaic Idealize.ShloMosaic.TcCoe Idealize.SL.Sem
open Idealize.ShloMosaic.Pipeline (Dat)

/-- Row `r` of the buffer. -/
def bufAt (i : grid0.Coords) (P : Vec Ideal S8x1024 .f32) (X : Vec Ideal S512x1024 .f32) (N : Vec Ideal S8x1024 .f32) (r : ℕ) (hr : r < 528) (d : Fin 1024) : EReal :=
  if h : r < 8 then k0_pay3 (F := Ideal) i P (ix2 ⟨r, h⟩ d)
  else if h2 : r < 520 then k0_pay4 (F := Ideal) X (ix2 ⟨r - 8, by omega⟩ d) else k0_pay5 (F := Ideal) i N (ix2 ⟨r - 520, by omega⟩ d)

/-- The three stores into the buffer. -/
abbrev stores (i : grid0.Coords) (P : Vec Ideal S8x1024 .f32) (X : Vec Ideal S512x1024 .f32) (N : Vec Ideal S8x1024 .f32) : List (View.Piece (Elt Ideal) S528x1024 .f32) :=
  [⟨Rect.unit ![520, 0] ![8, 1024] inb_S528x1024_S8x1024_520_0, k0_pay5 (F := Ideal) i N⟩,
    ⟨Rect.unit ![8, 0] ![512, 1024] inb_S528x1024_S512x1024_8_0, k0_pay4 (F := Ideal) X⟩,
    ⟨Rect.unit ![0, 0] ![8, 1024] inb_S528x1024_S8x1024_0_0, k0_pay3 (F := Ideal) i P⟩]

theorem canon_at (i : grid0.Coords) (P : Vec Ideal S8x1024 .f32) (X : Vec Ideal S512x1024 .f32) (N : Vec Ideal S8x1024 .f32) (y : S528x1024.Idx) :
    View.canon (stores i P X N) y = bufAt i P X N (y 0).val (y 0).isLt (y 1) := by
  have cover : ∃ p ∈ stores i P X N, y ∈ p.1.set := by
    have h0 : (y 0).val < 528 := (y 0).isLt
    have h1 : (y 1).val < 1024 := (y 1).isLt
    by_cases a : (y 0).val < 8
    · exact ⟨⟨Rect.unit ![0, 0] ![8, 1024] inb_S528x1024_S8x1024_0_0, k0_pay3 (F := Ideal) i P⟩, List.mem_cons_of_mem _ (List.mem_cons_of_mem _ (List.mem_cons_self ..)),
        (Rect.mem_set_unit (s := S528x1024) (off := ![0, 0]) (size := ![8, 1024]) (inb := inb_S528x1024_S8x1024_0_0)).mpr (by intro b; fin_cases b <;> simp <;> omega)⟩
    · by_cases b : (y 0).val < 520
      · exact ⟨⟨Rect.unit ![8, 0] ![512, 1024] inb_S528x1024_S512x1024_8_0, k0_pay4 (F := Ideal) X⟩, List.mem_cons_of_mem _ (List.mem_cons_self ..),
        (Rect.mem_set_unit (s := S528x1024) (off := ![8, 0]) (size := ![512, 1024]) (inb := inb_S528x1024_S512x1024_8_0)).mpr (by intro b; fin_cases b <;> simp <;> omega)⟩
      · exact ⟨⟨Rect.unit ![520, 0] ![8, 1024] inb_S528x1024_S8x1024_520_0, k0_pay5 (F := Ideal) i N⟩, List.mem_cons_self ..,
        (Rect.mem_set_unit (s := S528x1024) (off := ![520, 0]) (size := ![8, 1024]) (inb := inb_S528x1024_S8x1024_520_0)).mpr (by intro b; fin_cases b <;> simp <;> omega)⟩
  unfold stores at cover ⊢
  canon_tiles x h using cover
  case piece0 =>
    have z := (x 0).isLt
    obtain ⟨s, d, rfl⟩ : ∃ (s : Fin 8) (d : Fin 1024), x = ix2 s d := ⟨x 0, x 1, by funext a; fin_cases a <;> rfl⟩
    have h0 : (y 0).val = 520 + s.val := h0
    have h1 : y 1 = d := Fin.ext h1
    unfold bufAt
    rw [dif_neg (by omega), dif_neg (by omega), h1]
    exact congrArg (fun q => k0_pay5 (F := Ideal) i N (ix2 q d)) (Fin.ext (by show s.val = (y 0).val - 520; omega))
  case piece1 =>
    have z := (x 0).isLt
    obtain ⟨s, d, rfl⟩ : ∃ (s : Fin 512) (d : Fin 1024), x = ix2 s d := ⟨x 0, x 1, by funext a; fin_cases a <;> rfl⟩
    have h0 : (y 0).val = 8 + s.val := h0
    have h1 : y 1 = d := Fin.ext h1
    unfold bufAt
    rw [dif_neg (by omega), dif_pos (by omega), h1]
    exact congrArg (fun q => k0_pay4 (F := Ideal) X (ix2 q d)) (Fin.ext (by show s.val = (y 0).val - 8; omega))
  case piece2 =>
    have z := (x 0).isLt
    obtain ⟨s, d, rfl⟩ : ∃ (s : Fin 8) (d : Fin 1024), x = ix2 s d := ⟨x 0, x 1, by funext a; fin_cases a <;> rfl⟩
    have h0 : (y 0).val = s.val := h0
    have h1 : y 1 = d := Fin.ext h1
    unfold bufAt
    rw [dif_pos (by omega), h1]
    exact congrArg (fun q => k0_pay3 (F := Ideal) i P (ix2 q d)) (Fin.ext h0.symm)

/-- A load of 512 rows and a group's columns from the buffer. -/
abbrev load (i : grid0.Coords) (P : Vec Ideal S8x1024 .f32) (X : Vec Ideal S512x1024 .f32) (N : Vec Ideal S8x1024 .f32) (r c : ℕ)
    (inb : ∀ a : Fin 2, (![r, c] : Fin 2 → ℕ) a + (![512, 256] : Fin 2 → ℕ) a ≤ S528x1024.size a) : Vec Ideal S512x256 .f32 :=
  (View.whole cc0_scratch0).readCov (Val := Elt Ideal) (stores i P X N) (Rect.unit (s := S528x1024) ![r, c] ![512, 256] inb).toLoadRect

theorem load_at (i : grid0.Coords) (P : Vec Ideal S8x1024 .f32) (X : Vec Ideal S512x1024 .f32) (N : Vec Ideal S8x1024 .f32) (r c : ℕ)
    (inb : ∀ a : Fin 2, (![r, c] : Fin 2 → ℕ) a + (![512, 256] : Fin 2 → ℕ) a ≤ S528x1024.size a) (s : Fin 512) (d : Fin 256) (hr : r ≤ 16) (hc : c ≤ 768)
    (u : Fin 1024 → Fin 4096 → EReal) (H : ∀ r hr d, bufAt i P X N r hr d = ext (u d) (512 * (i 1).val + r)) (n : ℕ) (hn : 512 * (i 1).val + (r + s.val) = n) :
    load i P X N r c inb (ix2 s d) = ext (u ⟨c + d.val, by omega⟩) n := by
  unfold load
  rw [View.readCov_eq_canon']
  refine (canon_at i P X N _).trans ?_
  refine (H _ _ _).trans ?_
  have e1 : ((Rect.unit (s := S528x1024) ![r, c] ![512, 256] inb).toLoadRect.idx (ix2 s d) 1 : Fin 1024) = ⟨c + d.val, (by omega : c + d.val < 1024)⟩ := Fin.ext (Rect.idx_unit_val _ _ _ _ _)
  have e0 : ((Rect.unit (s := S528x1024) ![r, c] ![512, 256] inb).toLoadRect.idx (ix2 s d) 0 : Fin 528).val = r + s.val := Rect.idx_unit_val _ _ _ _ _
  rw [← hn]
  exact congrArg₂ (fun a b => ext (u a) (512 * (i 1).val + b)) e1 e0

theorem mid_at (X : Vec Ideal S512x1024 .f32) (s : Fin 512) (d : Fin 1024) : k0_pay4 (F := Ideal) X (ix2 s d) = X (ix2 s d) := by
  pointwise [k0_pay4, k0_pay2]

theorem sgt_at : ∀ a : Fin 8, Scalar.cmpi .sgt (BitVec.ofNat 32 a.val) 0#32 = if 0 < a.val then 1#1 else 0#1 := by decide +kernel
theorem slt_at : ∀ a : Fin 8, Scalar.cmpi .slt (BitVec.ofNat 32 a.val) 7#32 = if a.val < 7 then 1#1 else 0#1 := by decide +kernel
theorem pos_all : ∀ (a : Fin 8) (s : Fin 512), IntOp.addi (Scalar.muli (BitVec.ofNat 32 a.val) 512#32) (BitVec.ofNat 32 s.val) = BitVec.ofNat 32 (512 * a.val + s.val) := by decide +kernel
theorem pos_at (i : grid0.Coords) (s : Fin 512) (T : ℕ) (hT : T = 512 * (i 1).val + s.val) :
    IntOp.addi (Scalar.muli (BitVec.ofNat 32 (i 1).val) 512#32) (BitVec.ofNat 32 s.val) = BitVec.ofNat 32 T := by
  rw [hT]
  exact pos_all (i 1) s

theorem prev_at (i : grid0.Coords) (P : Vec Ideal S8x1024 .f32) (s : Fin 8) (d : Fin 1024) : k0_pay3 (F := Ideal) i P (ix2 s d) = (if 0 < (i 1).val then P (ix2 s d) else 0 : EReal) := by
  pointwise [k0_pay3]
  refine (congrArg (fun q => Scalar.select q (P (ix2 s d) : EReal) 0) (sgt_at (i 1))).trans ?_
  by_cases h : 0 < (i 1).val
  · rw [if_pos h, if_pos h]
    rfl
  · rw [if_neg h, if_neg h]
    rfl

theorem next_at (i : grid0.Coords) (P : Vec Ideal S8x1024 .f32) (s : Fin 8) (d : Fin 1024) : k0_pay5 (F := Ideal) i P (ix2 s d) = (if (i 1).val < 7 then P (ix2 s d) else 0 : EReal) := by
  pointwise [k0_pay5]
  refine (congrArg (fun q => Scalar.select q (P (ix2 s d) : EReal) 0) (slt_at (i 1))).trans ?_
  by_cases h : (i 1).val < 7
  · rw [if_pos h, if_pos h]
    rfl
  · rw [if_neg h, if_neg h]
    rfl

theorem win0 (v : Fin 4096 → EReal) (T b : ℕ) (hb : T + 8 - 1 = b) : win v 1 T = ext v (b + 0) + ext v (b + 1) := by
  subst hb
  show ∑ k ∈ Finset.range 2, ext v (T + 8 - 1 + k) = _
  simp only [Finset.sum_range_succ, Finset.sum_range_zero, zero_add]

theorem pool0 (v : Fin 4096 → EReal) (T : Fin 4096) : Ref.pool v 0 T = Ideal.div (win v 1 T.val) (FloatOps.sitofp (F := Ideal) .f32
    (IntOp.subi (IntOp.minsi (IntOp.addi (BitVec.ofNat 32 T.val) 1#32) 4096#32) (IntOp.maxsi (IntOp.subi (BitVec.ofNat 32 T.val) 1#32) 0#32))) - v T := rfl

theorem win1 (v : Fin 4096 → EReal) (T b : ℕ) (hb : T + 8 - 2 = b) : win v 2 T = ext v (b + 0) + ext v (b + 1) + ext v (b + 2) + ext v (b + 3) := by
  subst hb
  show ∑ k ∈ Finset.range 4, ext v (T + 8 - 2 + k) = _
  simp only [Finset.sum_range_succ, Finset.sum_range_zero, zero_add]

theorem pool1 (v : Fin 4096 → EReal) (T : Fin 4096) : Ref.pool v 1 T = Ideal.div (win v 2 T.val) (FloatOps.sitofp (F := Ideal) .f32
    (IntOp.subi (IntOp.minsi (IntOp.addi (BitVec.ofNat 32 T.val) 2#32) 4096#32) (IntOp.maxsi (IntOp.subi (BitVec.ofNat 32 T.val) 2#32) 0#32))) - v T := rfl

theorem win2 (v : Fin 4096 → EReal) (T b : ℕ) (hb : T + 8 - 4 = b) : win v 4 T = ext v (b + 0) + ext v (b + 1) + ext v (b + 2) + ext v (b + 3) + ext v (b + 4) + ext v (b + 5) + ext v (b + 6) + ext v (b + 7) := by
  subst hb
  show ∑ k ∈ Finset.range 8, ext v (T + 8 - 4 + k) = _
  simp only [Finset.sum_range_succ, Finset.sum_range_zero, zero_add]

theorem pool2 (v : Fin 4096 → EReal) (T : Fin 4096) : Ref.pool v 2 T = Ideal.div (win v 4 T.val) (FloatOps.sitofp (F := Ideal) .f32
    (IntOp.subi (IntOp.minsi (IntOp.addi (BitVec.ofNat 32 T.val) 4#32) 4096#32) (IntOp.maxsi (IntOp.subi (BitVec.ofNat 32 T.val) 4#32) 0#32))) - v T := rfl

theorem win3 (v : Fin 4096 → EReal) (T b : ℕ) (hb : T + 8 - 8 = b) : win v 8 T = ext v (b + 0) + ext v (b + 1) + ext v (b + 2) + ext v (b + 3) + ext v (b + 4) + ext v (b + 5) + ext v (b + 6) + ext v (b + 7) + ext v (b + 8) + ext v (b + 9) + ext v (b + 10) + ext v (b + 11) + ext v (b + 12) + ext v (b + 13) + ext v (b + 14) + ext v (b + 15) := by
  subst hb
  show ∑ k ∈ Finset.range 16, ext v (T + 8 - 8 + k) = _
  simp only [Finset.sum_range_succ, Finset.sum_range_zero, zero_add]

theorem pool3 (v : Fin 4096 → EReal) (T : Fin 4096) : Ref.pool v 3 T = Ideal.div (win v 8 T.val) (FloatOps.sitofp (F := Ideal) .f32
    (IntOp.subi (IntOp.minsi (IntOp.addi (BitVec.ofNat 32 T.val) 8#32) 4096#32) (IntOp.maxsi (IntOp.subi (BitVec.ofNat 32 T.val) 8#32) 0#32))) - v T := rfl

theorem piece0_at (i : grid0.Coords) (X : Vec Ideal S512x1024 .f32) (a0 a1 : Vec Ideal S512x256 .f32) (w : Vec Ideal S1x256x256 .bf16) (q : Vec Ideal S1x256 .f32) (s : Fin 512) (o : Fin 256)
    (v : Fin 256 → Fin 4096 → EReal) (T : Fin 4096) (b : ℕ) (hT : T.val = 512 * (i 1).val + s.val) (hb : T.val + 8 - 1 = b) (hX : ∀ x : Fin 256, X (ix2 s ⟨x, by omega⟩) = v x T)
    (h0 : ∀ x : Fin 256, a0 (ix2 s x) = ext (v x) (b + 0)) (h1 : ∀ x : Fin 256, a1 (ix2 s x) = ext (v x) (b + 1)) :
    k0_pay9 (k0_pay2 X) (k0_pay6 i) (k0_pay7 a0 a1) (k0_pay8 i) w q (ix2 s o) = (∑ x : Fin 256, Ref.pool (v x) 0 T * w (ix3 0 x o)) * q (ix2 0 o) := by
  pointwise [k0_pay9, k0_pay2, k0_pay6, k0_pay7, k0_pay8]
  simp only [pos_at i s T.val hT, h0, h1, hX, pool0, win0 _ _ b hb]

theorem piece1_at (i : grid0.Coords) (X : Vec Ideal S512x1024 .f32) (a0 a1 a2 a3 : Vec Ideal S512x256 .f32) (w : Vec Ideal S1x256x256 .bf16) (q : Vec Ideal S1x256 .f32) (s : Fin 512) (o : Fin 256)
    (v : Fin 256 → Fin 4096 → EReal) (T : Fin 4096) (b : ℕ) (hT : T.val = 512 * (i 1).val + s.val) (hb : T.val + 8 - 2 = b) (hX : ∀ x : Fin 256, X (ix2 s ⟨256 + x, by omega⟩) = v x T)
    (h0 : ∀ x : Fin 256, a0 (ix2 s x) = ext (v x) (b + 0)) (h1 : ∀ x : Fin 256, a1 (ix2 s x) = ext (v x) (b + 1)) (h2 : ∀ x : Fin 256, a2 (ix2 s x) = ext (v x) (b + 2)) (h3 : ∀ x : Fin 256, a3 (ix2 s x) = ext (v x) (b + 3)) :
    k0_pay11 (k0_pay2 X) (k0_pay10 (k0_pay6 i) a0 a1 a2 a3) w q (ix2 s o) = (∑ x : Fin 256, Ref.pool (v x) 1 T * w (ix3 0 x o)) * q (ix2 0 o) := by
  pointwise [k0_pay11, k0_pay2, k0_pay6, k0_pay10]
  simp only [pos_at i s T.val hT, h0, h1, h2, h3, hX, pool1, win1 _ _ b hb]

theorem piece2_at (i : grid0.Coords) (X : Vec Ideal S512x1024 .f32) (a0 a1 a2 a3 a4 a5 a6 a7 : Vec Ideal S512x256 .f32) (w : Vec Ideal S1x256x256 .bf16) (q : Vec Ideal S1x256 .f32) (s : Fin 512) (o : Fin 256)
    (v : Fin 256 → Fin 4096 → EReal) (T : Fin 4096) (b : ℕ) (hT : T.val = 512 * (i 1).val + s.val) (hb : T.val + 8 - 4 = b) (hX : ∀ x : Fin 256, X (ix2 s ⟨512 + x, by omega⟩) = v x T)
    (h0 : ∀ x : Fin 256, a0 (ix2 s x) = ext (v x) (b + 0)) (h1 : ∀ x : Fin 256, a1 (ix2 s x) = ext (v x) (b + 1)) (h2 : ∀ x : Fin 256, a2 (ix2 s x) = ext (v x) (b + 2)) (h3 : ∀ x : Fin 256, a3 (ix2 s x) = ext (v x) (b + 3)) (h4 : ∀ x : Fin 256, a4 (ix2 s x) = ext (v x) (b + 4)) (h5 : ∀ x : Fin 256, a5 (ix2 s x) = ext (v x) (b + 5)) (h6 : ∀ x : Fin 256, a6 (ix2 s x) = ext (v x) (b + 6)) (h7 : ∀ x : Fin 256, a7 (ix2 s x) = ext (v x) (b + 7)) :
    k0_pay15 (k0_pay2 X) (k0_pay6 i) (k0_pay12 a0 a1 a2 a3 a4 a5 a6 a7) (k0_pay13 (k0_pay6 i)) k0_pay14 w q (ix2 s o) = (∑ x : Fin 256, Ref.pool (v x) 2 T * w (ix3 0 x o)) * q (ix2 0 o) := by
  pointwise [k0_pay15, k0_pay2, k0_pay6, k0_pay12, k0_pay13, k0_pay14]
  simp only [pos_at i s T.val hT, h0, h1, h2, h3, h4, h5, h6, h7, hX, pool2, win2 _ _ b hb]

theorem piece3_at (i : grid0.Coords) (X : Vec Ideal S512x1024 .f32) (a0 a1 a2 a3 a4 a5 a6 a7 a8 a9 a10 a11 a12 a13 a14 a15 : Vec Ideal S512x256 .f32) (w : Vec Ideal S1x256x256 .bf16) (q : Vec Ideal S1x256 .f32) (s : Fin 512) (o : Fin 256)
    (v : Fin 256 → Fin 4096 → EReal) (T : Fin 4096) (b : ℕ) (hT : T.val = 512 * (i 1).val + s.val) (hb : T.val + 8 - 8 = b) (hX : ∀ x : Fin 256, X (ix2 s ⟨768 + x, by omega⟩) = v x T)
    (h0 : ∀ x : Fin 256, a0 (ix2 s x) = ext (v x) (b + 0)) (h1 : ∀ x : Fin 256, a1 (ix2 s x) = ext (v x) (b + 1)) (h2 : ∀ x : Fin 256, a2 (ix2 s x) = ext (v x) (b + 2)) (h3 : ∀ x : Fin 256, a3 (ix2 s x) = ext (v x) (b + 3)) (h4 : ∀ x : Fin 256, a4 (ix2 s x) = ext (v x) (b + 4)) (h5 : ∀ x : Fin 256, a5 (ix2 s x) = ext (v x) (b + 5)) (h6 : ∀ x : Fin 256, a6 (ix2 s x) = ext (v x) (b + 6)) (h7 : ∀ x : Fin 256, a7 (ix2 s x) = ext (v x) (b + 7)) (h8 : ∀ x : Fin 256, a8 (ix2 s x) = ext (v x) (b + 8)) (h9 : ∀ x : Fin 256, a9 (ix2 s x) = ext (v x) (b + 9)) (h10 : ∀ x : Fin 256, a10 (ix2 s x) = ext (v x) (b + 10)) (h11 : ∀ x : Fin 256, a11 (ix2 s x) = ext (v x) (b + 11)) (h12 : ∀ x : Fin 256, a12 (ix2 s x) = ext (v x) (b + 12)) (h13 : ∀ x : Fin 256, a13 (ix2 s x) = ext (v x) (b + 13)) (h14 : ∀ x : Fin 256, a14 (ix2 s x) = ext (v x) (b + 14)) (h15 : ∀ x : Fin 256, a15 (ix2 s x) = ext (v x) (b + 15)) :
    k0_pay1 (k0_pay17 (k0_pay2 X) (k0_pay6 i) (k0_pay16 a0 a1 a2 a3 a4 a5 a6 a7) a8 a9 a10 a11 a12 a13 a14 a15 w) (k0_pay18 q) (ix2 s o) = (∑ x : Fin 256, Ref.pool (v x) 3 T * w (ix3 0 x o)) * q (ix2 0 o) := by
  pointwise [k0_pay1, k0_pay17, k0_pay2, k0_pay6, k0_pay16, k0_pay18]
  simp only [pos_at i s T.val hT, h0, h1, h2, h3, h4, h5, h6, h7, h8, h9, h10, h11, h12, h13, h14, h15, hX, pool3, win3 _ _ b hb]

theorem ldw0 (W : Vec Ideal S4x256x256 .bf16) (k o : Fin 256) : View.ld W (Rect.unit ![0, 0, 0] ![1, 256, 256] inb_S4x256x256_S1x256x256_0_0_0) (ix3 0 k o) = W (ix3 0 k o) := by
  pointwise []
theorem ldq0 (W : Vec Ideal S1x1024 .f32) (o : Fin 256) : View.ld W (Rect.unit ![0, 0] ![1, 256] inb_S1x1024_S1x256_0_0) (ix2 0 o) = W (ix2 0 ⟨256 * (0 : Fin 4).val + o, by show 256 * 0 + o.val < 1024; omega⟩) := by
  pointwise []
theorem ldw1 (W : Vec Ideal S4x256x256 .bf16) (k o : Fin 256) : View.ld W (Rect.unit ![1, 0, 0] ![1, 256, 256] inb_S4x256x256_S1x256x256_1_0_0) (ix3 0 k o) = W (ix3 1 k o) := by
  pointwise []
theorem ldq1 (W : Vec Ideal S1x1024 .f32) (o : Fin 256) : View.ld W (Rect.unit ![0, 256] ![1, 256] inb_S1x1024_S1x256_0_256) (ix2 0 o) = W (ix2 0 ⟨256 * (1 : Fin 4).val + o, by show 256 * 1 + o.val < 1024; omega⟩) := by
  pointwise []
theorem ldw2 (W : Vec Ideal S4x256x256 .bf16) (k o : Fin 256) : View.ld W (Rect.unit ![2, 0, 0] ![1, 256, 256] inb_S4x256x256_S1x256x256_2_0_0) (ix3 0 k o) = W (ix3 2 k o) := by
  pointwise []
theorem ldq2 (W : Vec Ideal S1x1024 .f32) (o : Fin 256) : View.ld W (Rect.unit ![0, 512] ![1, 256] inb_S1x1024_S1x256_0_512) (ix2 0 o) = W (ix2 0 ⟨256 * (2 : Fin 4).val + o, by show 256 * 2 + o.val < 1024; omega⟩) := by
  pointwise []
theorem ldw3 (W : Vec Ideal S4x256x256 .bf16) (k o : Fin 256) : View.ld W (Rect.unit ![3, 0, 0] ![1, 256, 256] inb_S4x256x256_S1x256x256_3_0_0) (ix3 0 k o) = W (ix3 3 k o) := by
  pointwise []
theorem ldq3 (W : Vec Ideal S1x1024 .f32) (o : Fin 256) : View.ld W (Rect.unit ![0, 768] ![1, 256] inb_S1x1024_S1x256_0_768) (ix2 0 o) = W (ix2 0 ⟨256 * (3 : Fin 4).val + o, by show 256 * 3 + o.val < 1024; omega⟩) := by
  pointwise []

variable (m : (ℓ : Loc nD τ sig) → Buf (Elt Ideal) ℓ)

/-- What a point leaves at row `s` and column `256 g + o` of its block, when its buffer holds the tile and its neighbours. -/
theorem out_at (c : Dev nD) (t : Fin cfg0.N) (u : Fin 1024 → Fin 4096 → EReal)
    (H : ∀ r hr d, bufAt (grid0.coords t) (X0_0 m c t) (X0_1 m c t) (X0_2 m c t) r hr d = ext (u d) (512 * ((grid0.coords t) 1).val + r))
    (y : S512x1024.Idx) (T : Fin 4096) (hT : T.val = 512 * ((grid0.coords t) 1).val + (y 0).val) (g : Fin 4) (o : Fin 256) (hy : (y 1).val = 256 * g.val + o.val) :
    outsAt0 m c t y = (∑ k : Fin 256, Ref.pool (u ⟨256 * g.val + k.val, by omega⟩) g T * (iblk m c 3 t : Vec Ideal S4x256x256 .bf16) (ix3 g k o))
      * (iblk m c 4 t : Vec Ideal S1x1024 .f32) (ix2 0 ⟨256 * g.val + o.val, by omega⟩) := by
  have hX : ∀ (s : Fin 512) (d : Fin 1024), s.val = (y 0).val → X0_1 m c t (ix2 s d : S512x1024.Idx) = u d T := fun s d hs => by
    have e := H (s.val + 8) (by omega) d
    have hT' := T.isLt
    unfold bufAt at e
    rw [dif_neg (by omega), dif_pos (by omega), mid_at] at e
    unfold ext at e
    rw [dif_pos ⟨by omega, by omega⟩] at e
    refine (congrArg (fun q => X0_1 m c t (ix2 q d : S512x1024.Idx)) (Fin.ext (by show s.val = s.val + 8 - 8; omega))).trans (e.trans ?_)
    exact congrArg (u d) (Fin.ext (by show 512 * ((grid0.coords t) 1).val + (s.val + 8) - 8 = T.val; omega))
  unfold outsAt0
  frame_open
  frame_out
  canon_tiles z h
  case piece0 =>
    obtain ⟨s, o', rfl⟩ : ∃ (s : Fin 512) (o' : Fin 256), z = ix2 s o' := ⟨z 0, z 1, by funext a; fin_cases a <;> rfl⟩
    have h0 : (y 0).val = s.val := h0
    have h1 : (y 1).val = 768 + o'.val := h1
    obtain rfl : g = 3 := Fin.ext (by show g.val = 3; omega)
    obtain rfl : o' = o := Fin.ext (by have hy : (y 1).val = 256 * 3 + o.val := hy; omega)
    refine (piece3_at (grid0.coords t) (X0_1 m c t) _ _ _ _ _ _ _ _ _ _ _ _ _ _ _ _ _ _ s o' (fun x => u ⟨256 * (3 : Fin 4).val + x.val, by show 256 * 3 + x.val < 1024; omega⟩) T (T.val + 8 - 8) (by omega) rfl
      (fun x => hX s _ h0.symm)

       (fun x => load_at _ _ _ _ 0 768 _ s x (by omega) (by omega) u H _ (by omega))
      (fun x => load_at _ _ _ _ 1 768 _ s x (by omega) (by omega) u H _ (by omega))
      (fun x => load_at _ _ _ _ 2 768 _ s x (by omega) (by omega) u H _ (by omega))
      (fun x => load_at _ _ _ _ 3 768 _ s x (by omega) (by omega) u H _ (by omega))
      (fun x => load_at _ _ _ _ 4 768 _ s x (by omega) (by omega) u H _ (by omega))
      (fun x => load_at _ _ _ _ 5 768 _ s x (by omega) (by omega) u H _ (by omega))
      (fun x => load_at _ _ _ _ 6 768 _ s x (by omega) (by omega) u H _ (by omega))
      (fun x => load_at _ _ _ _ 7 768 _ s x (by omega) (by omega) u H _ (by omega))
      (fun x => load_at _ _ _ _ 8 768 _ s x (by omega) (by omega) u H _ (by omega))
      (fun x => load_at _ _ _ _ 9 768 _ s x (by omega) (by omega) u H _ (by omega))
      (fun x => load_at _ _ _ _ 10 768 _ s x (by omega) (by omega) u H _ (by omega))
      (fun x => load_at _ _ _ _ 11 768 _ s x (by omega) (by omega) u H _ (by omega))
      (fun x => load_at _ _ _ _ 12 768 _ s x (by omega) (by omega) u H _ (by omega))
      (fun x => load_at _ _ _ _ 13 768 _ s x (by omega) (by omega) u H _ (by omega))
      (fun x => load_at _ _ _ _ 14 768 _ s x (by omega) (by omega) u H _ (by omega))
      (fun x => load_at _ _ _ _ 15 768 _ s x (by omega) (by omega) u H _ (by omega))).trans ?_
    exact congrArg₂ (fun a b : EReal => a * b) (Finset.sum_congr rfl fun x _ => congrArg (fun e : EReal => Ref.pool (u ⟨256 * (3 : Fin 4).val + x.val, by show 256 * 3 + x.val < 1024; omega⟩) 3 T * e) (ldw3 _ x o')) (ldq3 _ o')
  case piece1 =>
    obtain ⟨s, o', rfl⟩ : ∃ (s : Fin 512) (o' : Fin 256), z = ix2 s o' := ⟨z 0, z 1, by funext a; fin_cases a <;> rfl⟩
    have h0 : (y 0).val = s.val := h0
    have h1 : (y 1).val = 512 + o'.val := h1
    obtain rfl : g = 2 := Fin.ext (by show g.val = 2; omega)
    obtain rfl : o' = o := Fin.ext (by have hy : (y 1).val = 256 * 2 + o.val := hy; omega)
    refine (piece2_at (grid0.coords t) (X0_1 m c t) _ _ _ _ _ _ _ _ _ _ s o' (fun x => u ⟨256 * (2 : Fin 4).val + x.val, by show 256 * 2 + x.val < 1024; omega⟩) T (T.val + 8 - 4) (by omega) rfl
      (fun x => hX s _ h0.symm)

       (fun x => load_at _ _ _ _ 4 512 _ s x (by omega) (by omega) u H _ (by omega))
      (fun x => load_at _ _ _ _ 5 512 _ s x (by omega) (by omega) u H _ (by omega))
      (fun x => load_at _ _ _ _ 6 512 _ s x (by omega) (by omega) u H _ (by omega))
      (fun x => load_at _ _ _ _ 7 512 _ s x (by omega) (by omega) u H _ (by omega))
      (fun x => load_at _ _ _ _ 8 512 _ s x (by omega) (by omega) u H _ (by omega))
      (fun x => load_at _ _ _ _ 9 512 _ s x (by omega) (by omega) u H _ (by omega))
      (fun x => load_at _ _ _ _ 10 512 _ s x (by omega) (by omega) u H _ (by omega))
      (fun x => load_at _ _ _ _ 11 512 _ s x (by omega) (by omega) u H _ (by omega))).trans ?_
    exact congrArg₂ (fun a b : EReal => a * b) (Finset.sum_congr rfl fun x _ => congrArg (fun e : EReal => Ref.pool (u ⟨256 * (2 : Fin 4).val + x.val, by show 256 * 2 + x.val < 1024; omega⟩) 2 T * e) (ldw2 _ x o')) (ldq2 _ o')
  case piece2 =>
    obtain ⟨s, o', rfl⟩ : ∃ (s : Fin 512) (o' : Fin 256), z = ix2 s o' := ⟨z 0, z 1, by funext a; fin_cases a <;> rfl⟩
    have h0 : (y 0).val = s.val := h0
    have h1 : (y 1).val = 256 + o'.val := h1
    obtain rfl : g = 1 := Fin.ext (by show g.val = 1; omega)
    obtain rfl : o' = o := Fin.ext (by have hy : (y 1).val = 256 * 1 + o.val := hy; omega)
    refine (piece1_at (grid0.coords t) (X0_1 m c t) _ _ _ _ _ _ s o' (fun x => u ⟨256 * (1 : Fin 4).val + x.val, by show 256 * 1 + x.val < 1024; omega⟩) T (T.val + 8 - 2) (by omega) rfl
      (fun x => hX s _ h0.symm)

       (fun x => load_at _ _ _ _ 6 256 _ s x (by omega) (by omega) u H _ (by omega))
      (fun x => load_at _ _ _ _ 7 256 _ s x (by omega) (by omega) u H _ (by omega))
      (fun x => load_at _ _ _ _ 8 256 _ s x (by omega) (by omega) u H _ (by omega))
      (fun x => load_at _ _ _ _ 9 256 _ s x (by omega) (by omega) u H _ (by omega))).trans ?_
    exact congrArg₂ (fun a b : EReal => a * b) (Finset.sum_congr rfl fun x _ => congrArg (fun e : EReal => Ref.pool (u ⟨256 * (1 : Fin 4).val + x.val, by show 256 * 1 + x.val < 1024; omega⟩) 1 T * e) (ldw1 _ x o')) (ldq1 _ o')
  case piece3 =>
    obtain ⟨s, o', rfl⟩ : ∃ (s : Fin 512) (o' : Fin 256), z = ix2 s o' := ⟨z 0, z 1, by funext a; fin_cases a <;> rfl⟩
    have h0 : (y 0).val = s.val := h0
    have h1 : (y 1).val = 0 + o'.val := by have h1 : (y 1).val = o'.val := h1; omega
    obtain rfl : g = 0 := Fin.ext (by show g.val = 0; omega)
    obtain rfl : o' = o := Fin.ext (by have hy : (y 1).val = 256 * 0 + o.val := hy; omega)
    refine (piece0_at (grid0.coords t) (X0_1 m c t) _ _ _ _ s o' (fun x => u ⟨256 * (0 : Fin 4).val + x.val, by show 256 * 0 + x.val < 1024; omega⟩) T (T.val + 8 - 1) (by omega) rfl
      (fun x => (hX s _ h0.symm).trans (congrArg (fun q => u q T) (Fin.ext (by show x.val = 256 * 0 + x.val; omega))))

       (fun x => load_at _ _ _ _ 7 0 _ s x (by omega) (by omega) u H _ (by omega))
      (fun x => load_at _ _ _ _ 8 0 _ s x (by omega) (by omega) u H _ (by omega))).trans ?_
    exact congrArg₂ (fun a b : EReal => a * b) (Finset.sum_congr rfl fun x _ => congrArg (fun e : EReal => Ref.pool (u ⟨256 * (0 : Fin 4).val + x.val, by show 256 * 0 + x.val < 1024; omega⟩) 0 T * e) (ldw0 _ x o')) (ldq0 _ o')
end Cert.Pool
end
-- ==== Proof.Pool.Final.lean ====
/- The pooling: what a grid point leaves in its block, and the whole result as the reference's. -/
module
public import proofs.«01_k».proof.Proof.Pool.Host
public import proofs.«01_k».proof.Proof.Pool.Body
public import Idealize.ShloMosaic.Lib.Claim
@[expose] public section
set_option maxRecDepth 16384
noncomputable section
namespace Cert.Pool
open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The reference at the kernel's arguments. -/
abbrev ref (c : Dev nD) : FVec Ideal S16384x1024 .bf16 :=
  Ref.result (m ((c : Thread nD τ).loc main_arg0)) (m ((c : Thread nD τ).loc main_arg2)) (m ((c : Thread nD τ).loc main_arg3))

/-- A batch's values of one channel. -/
def chan (c : Dev nD) (n : Fin 4) (d : Fin 1024) (s : Fin 4096) : EReal := (m ((c : Thread nD τ).loc main_arg0) : FVec Ideal S4x4096x1024 .f32) (ix3 n s d)

/-- A row of the tile, of the rows before it or of the rows after it, where those are rows of the same batch. -/
theorem row_at (c : Dev nD) (n : Fin 4) (R : Fin 17408) (e : ℕ) (d : Fin 1024) (h8 : 8 ≤ e) (he : e < 4104) (hR : R.val + 8 = 4096 * n.val + e) :
    V m c main_v5 (ix2 R ⟨11264 + d, by omega⟩) = ext (chan m c n d) e := by
  rw [V_p]
  refine (packed_at _ _ R n ⟨e - 8, by omega⟩ d (by show R.val = 4096 * n.val + (e - 8); omega)).trans ?_
  unfold ext
  rw [dif_pos ⟨h8, he⟩]
  rfl

theorem buf_at (c : Dev nD) (t : Fin cfg0.N) (n : Fin 4) (hn : n.val = t.val / 8) (r : ℕ) (hr : r < 528) (d : Fin 1024) :
    bufAt (grid0.coords t) (X0_0 m c t) (X0_1 m c t) (X0_2 m c t) r hr d = ext (chan m c n d) (512 * ((grid0.coords t) 1).val + r) := by
  have ht := lt t
  have hi := (idx t).2.2.2.2.2.2
  unfold bufAt
  by_cases h : r < 8
  · rw [dif_pos h, prev_at]
    by_cases h0 : 0 < ((grid0.coords t) 1).val
    · rw [if_pos h0, blk_prev m c t ⟨r, h⟩ d ⟨512 * t.val + r - 8, by omega⟩ (by omega) (by show 512 * t.val + r - 8 + 8 = 512 * t.val + r; omega)]
      exact row_at m c n _ _ d (by omega) (by omega) (by show 512 * t.val + r - 8 + 8 = _; omega)
    · rw [if_neg h0]
      unfold ext
      rw [dif_neg (by omega)]
  · rw [dif_neg h]
    by_cases h2 : r < 520
    · rw [dif_pos h2, mid_at, blk_cur m c t ⟨r - 8, by omega⟩ d ⟨512 * t.val + (r - 8), by omega⟩ rfl]
      exact row_at m c n _ _ d (by omega) (by omega) (by show 512 * t.val + (r - 8) + 8 = _; omega)
    · rw [dif_neg h2, next_at]
      by_cases h7 : ((grid0.coords t) 1).val < 7
      · rw [if_pos h7, blk_next m c t ⟨r - 520, by omega⟩ d ⟨512 * t.val + 512 + (r - 520), by omega⟩ rfl]
        exact row_at m c n _ _ d (by omega) (by omega) (by show 512 * t.val + 512 + (r - 520) + 8 = _; omega)
      · rw [if_neg h7]
        unfold ext
        rw [dif_neg (by omega)]

theorem point_at (c : Dev nD) (t : Fin cfg0.N) (y : S512x1024.Idx) (r : Fin 16384) (hr : r.val = 512 * t.val + (y 0).val) :
    outsAt0 m c t y = ref m c (ix2 r (y 1)) := by
  have ht := lt t
  have hi := (idx t).2.2.2.2.2.2
  have h0 : (y 0).val < 512 := (y 0).isLt
  have h1 : (y 1).val < 1024 := (y 1).isLt
  have hg : (y 1).val = 256 * ((y 1).val / 256) + (y 1).val % 256 := by omega
  refine (out_at m c t (chan m c ⟨t.val / 8, by omega⟩) (buf_at m c t ⟨t.val / 8, by omega⟩ rfl) y ⟨512 * (t.val % 8) + (y 0).val, by omega⟩
    (by show 512 * (t.val % 8) + (y 0).val = _; omega) ⟨(y 1).val / 256, by omega⟩ ⟨(y 1).val % 256, by omega⟩ hg).trans ?_
  refine Eq.trans ?_ (Ref.result_at _ _ _ ⟨t.val / 8, by omega⟩ ⟨512 * (t.val % 8) + (y 0).val, by omega⟩ ⟨(y 1).val / 256, by omega⟩ ⟨(y 1).val % 256, by omega⟩ r (y 1)
    (by show r.val = 4096 * (t.val / 8) + (512 * (t.val % 8) + (y 0).val); omega) hg).symm
  refine congrArg₂ (fun a b : EReal => a * b) (Finset.sum_congr rfl fun k _ => congrArg₂ (fun a b : EReal => a * b) rfl ?_) ?_
  · rw [blk_w, V_w]
    rfl
  · rw [blk_g, V_g]
    refine (scale_at _ _).trans ?_
    exact congrArg (fun q => (m ((c : Thread nD τ).loc main_arg3) : FVec Ideal S1024 .f32) (ix1 q)) (Fin.ext hg.symm)

/-- The whole result. -/
theorem final (c : Dev nD) : (dats m 0 c).arrAt 5 cfg0.N = ref m c := by
  refine (dats m 0 c).arrAt_eq_of_covers 5 _ (by decide +kernel) fun t _ y => ?_
  blk_simp
  rw [after0_5]
  have e := idx t
  rw [point_at m c t y ((win0_5.blk t).view.emb y 0) ?_]
  · refine congrArg _ (funext fun a => ?_)
    fin_cases a
    · rfl
    · refine Fin.ext ?_
      blk_simp
      rw [e.2.2.2.2.2.1]
      show (y 1).val = 0 * 1024 + (y 1).val
      omega
  · blk_simp
    rw [e.2.2.2.2.2.1]
    show t.val * 512 + (y 0).val = 512 * t.val + (y 0).val
    omega

end Cert.Pool
end
-- ==== Proof.Pool.Claims.lean ====
/- The pooling's claims: the frames of the three programs and the equality of the kernel's result with the reference's. -/
module
public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Pool.Final
@[expose] public section
set_option maxRecDepth 16384
noncomputable section
namespace Cert.Pool.Claims
open Idealize.ShloMosaic Idealize.SL.Sem

theorem frame_kernel : Cert.quiescent_Kernel8 := fun m ρ _ => Cert.Kernel8.Gen.frame m ρ
theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- On any arguments the kernel leaves the reference's array. -/
theorem equal : Cert.algebraic_Kernel8Ideal_Reference8Ideal := by
  intro m ρ m' ρ' _ hagree
  refine ⟨fun c => ref m c, ?_, ?_⟩
  · exact (θ_run Cert.Kernel8Ideal.defs _ _).mono (fun r h c => ⟨(h c).1.trans (final m c), (h c).2⟩) (Cert.Kernel8Ideal.Value.run_blocks m ρ)
  · refine (θ_run Cert.Reference8Ideal.defs _ _).mono (fun r h c => ⟨(h c).1.trans ?_, (h c).2⟩) (Cert.Reference8Ideal.Value.run m' ρ')
    obtain ⟨e0, e1, e2, e3⟩ := hagree c
    unfold Cert.Reference8Ideal.Value.res_main_v128
    rw [e0, e2, e3]
    rfl
end Cert.Pool.Claims
end
-- ==== Proof.Ctx.Host.lean ====
/- The context's attention: the arrays the kernel's windows stage, as terms of the arguments and read at an index, and the blocks of a grid
   point. Point `t` is batch `t / 16` and head `t % 16`. -/
module
public import proofs.«01_k».proof.Proof.Gen.Kernel9Ideal.Value
public import proofs.«01_k».proof.Proof.Attn.Row
public import Idealize.ShloMosaic.Lib.Pipeline.ValueKit
public import Idealize.ShloMosaic.Lib.Pointwise
public import Idealize.ShloMosaic.Lib.Claim
@[expose] public section
set_option maxRecDepth 200000
noncomputable section
namespace Cert.Ctx
open Cert.Kernel9Ideal Cert.Kernel9Ideal.Gen Idealize.ShloMosaic Idealize.ShloMosaic.TcCoe Idealize.SL.Sem
open Idealize.ShloMosaic.Pipeline (Dat)

/-- Keys (or scaled queries) in the call's layout: the latent rows of all batches, then the context rows, 64 zero lanes appended. -/
def kPack (l : FVec Ideal S4x4096x16x192 .f32) (x : FVec Ideal S4x256x16x192 .f32) : FVec Ideal S16x17408x256 .bf16 :=
  truncf .bf16
      (concatenate S16x17408x256 2
        [⟨S16x17408x192,
            concatenate S16x17408x192 1
              [⟨S16x16384x192, shapeCast S16x16384x192 (transpose S16x4x4096x192 [2, 0, 1, 3] l transposes_S4x4096x16x192_S16x4x4096x192_2_0_1_3)
                      shapeCasts_S16x4x4096x192_S16x16384x192⟩,
                ⟨S16x1024x192, shapeCast S16x1024x192 (transpose S16x4x256x192 [2, 0, 1, 3] x transposes_S4x256x16x192_S16x4x256x192_2_0_1_3)
                      shapeCasts_S16x4x256x192_S16x1024x192⟩]
              concatenates_S16x16384x192_S16x1024x192_S16x17408x192_d1⟩,
          ⟨S16x17408x64, broadcastInDim S16x17408x64 ![] bcast_S_S16x17408x64 (constant S_ FTy.f32 0#32)⟩]
        concatenates_S16x17408x192_S16x17408x64_S16x17408x256_d2)
      bitsLt_bf16_f32

/-- The scaled queries. -/
def qScale (q : FVec Ideal S4x256x16x192 .f32) : FVec Ideal S4x256x16x192 .f32 :=
  mulf q (broadcastInDim S4x256x16x192 ![] bcast_S_S4x256x16x192
    (Host.divf (constant S_ FTy.f32 1065353216#32) (mulf (Host.sqrt (constant S_ FTy.f32 1128267776#32)) (Host.log (constant S_ FTy.f32 1073741824#32)))))

/-- Values in the call's layout, a column of ones and 127 zero lanes appended. -/
def vPack (l : FVec Ideal S4x4096x16x128 .f32) (x : FVec Ideal S4x256x16x128 .f32) : FVec Ideal S16x17408x256 .bf16 :=
  truncf .bf16
      (concatenate S16x17408x256 2
        [⟨S16x17408x128,
            concatenate S16x17408x128 1
              [⟨S16x16384x128, shapeCast S16x16384x128 (transpose S16x4x4096x128 [2, 0, 1, 3] l transposes_S4x4096x16x128_S16x4x4096x128_2_0_1_3)
                      shapeCasts_S16x4x4096x128_S16x16384x128⟩,
                ⟨S16x1024x128, shapeCast S16x1024x128 (transpose S16x4x256x128 [2, 0, 1, 3] x transposes_S4x256x16x128_S16x4x256x128_2_0_1_3)
                      shapeCasts_S16x4x256x128_S16x1024x128⟩]
              concatenates_S16x16384x128_S16x1024x128_S16x17408x128_d1⟩,
          ⟨S16x17408x128, select (cmpi .eq (iotaInDim S16x17408x128 32 2) (broadcastInDim S16x17408x128 ![] bcast_S_S16x17408x128 (constantI S_ 32 0#32)))
              (broadcastInDim S16x17408x128 ![] bcast_S_S16x17408x128 (constant (F := Ideal) S_ FTy.f32 1065353216#32))
              (broadcastInDim S16x17408x128 ![] bcast_S_S16x17408x128 (constant (F := Ideal) S_ FTy.f32 0#32))⟩]
        concatenates_S16x17408x128_S16x17408x128_S16x17408x256_d2)
      bitsLt_bf16_f32

theorem kPack_at (l : FVec Ideal S4x4096x16x192 .f32) (x : FVec Ideal S4x256x16x192 .f32) (h : Fin 16) (r : Fin 17408) (d : Fin 256) :
    kPack l x (ix3 h r d) = if hd : d.val < 192 then
      if hr : r.val < 16384 then l (ix4 ⟨r / 4096, by omega⟩ ⟨r % 4096, by omega⟩ h ⟨d, hd⟩)
      else x (ix4 ⟨(r - 16384) / 256, by omega⟩ ⟨(r - 16384) % 256, by omega⟩ h ⟨d, hd⟩) else 0 := by
  pointwise [kPack]

theorem kPack_ctx (l : FVec Ideal S4x4096x16x192 .f32) (x : FVec Ideal S4x256x16x192 .f32) (h : Fin 16) (b : Fin 4) (i : Fin 256) (d : Fin 256) :
    kPack l x (ix3 h ⟨16384 + (256 * b + i), by omega⟩ d) = if hd : d.val < 192 then x (ix4 b i h ⟨d, hd⟩) else 0 := by
  rw [kPack_at]
  have hr : ¬ 16384 + (256 * b.val + i.val) < 16384 := by omega
  have e1 : (⟨(16384 + (256 * b.val + i.val) - 16384) / 256, by omega⟩ : Fin 4) = b := Fin.ext (by simp <;> omega)
  have e2 : (⟨(16384 + (256 * b.val + i.val) - 16384) % 256, by omega⟩ : Fin 256) = i := Fin.ext (by simp <;> omega)
  simp only [hr, dif_neg, not_false_eq_true, e1, e2]

theorem qScale_at (q : FVec Ideal S4x256x16x192 .f32) (b : Fin 4) (i : Fin 256) (h : Fin 16) (d : Fin 192) :
    qScale q (ix4 b i h d) = q (ix4 b i h d) * Cert.Attn.fac := by
  pointwise [qScale, Cert.Attn.fac]
theorem vPack_at (l : FVec Ideal S4x4096x16x128 .f32) (x : FVec Ideal S4x256x16x128 .f32) (h : Fin 16) (r : Fin 17408) (d : Fin 256) :
    vPack l x (ix3 h r d) = if hd : d.val < 128 then
      if hr : r.val < 16384 then l (ix4 ⟨r / 4096, by omega⟩ ⟨r % 4096, by omega⟩ h ⟨d, hd⟩)
      else x (ix4 ⟨(r - 16384) / 256, by omega⟩ ⟨(r - 16384) % 256, by omega⟩ h ⟨d, hd⟩) else Scalar.select (IntOp.cmpi .eq (BitVec.ofNat 32 (d.val - 128)) 0#32) (1 : EReal) 0 := by
  pointwise [vPack]

theorem vPack_ctx (l : FVec Ideal S4x4096x16x128 .f32) (x : FVec Ideal S4x256x16x128 .f32) (h : Fin 16) (b : Fin 4) (i : Fin 256) (d : Fin 256) :
    vPack l x (ix3 h ⟨16384 + (256 * b + i), by omega⟩ d) = if hd : d.val < 128 then x (ix4 b i h ⟨d, hd⟩) else Scalar.select (IntOp.cmpi .eq (BitVec.ofNat 32 (d.val - 128)) 0#32) (1 : EReal) 0 := by
  rw [vPack_at]
  have hr : ¬ 16384 + (256 * b.val + i.val) < 16384 := by omega
  have e1 : (⟨(16384 + (256 * b.val + i.val) - 16384) / 256, by omega⟩ : Fin 4) = b := Fin.ext (by simp <;> omega)
  have e2 : (⟨(16384 + (256 * b.val + i.val) - 16384) % 256, by omega⟩ : Fin 256) = i := Fin.ext (by simp <;> omega)
  simp only [hr, dif_neg, not_false_eq_true, e1, e2]

/-- Zeros in place of the latent rows. -/
abbrev none192 : FVec Ideal S4x4096x16x192 .f32 := broadcastInDim S4x4096x16x192 ![] bcast_S_S4x4096x16x192 (constant S_ FTy.f32 0#32)
abbrev none128 : FVec Ideal S4x4096x16x128 .f32 := broadcastInDim S4x4096x16x128 ![] bcast_S_S4x4096x16x128 (constant S_ FTy.f32 0#32)

variable (m : (ℓ : Loc nD τ sig) → Buf (Elt Ideal) ℓ)

theorem V_q (c : Dev nD) : V m c main_v18 = kPack none192 (qScale (m ((c : Thread nD τ).loc main_arg0))) := by
  unfold V
  simp only [List.flatten_cons, List.flatten_nil, List.append_nil, List.cons_append, List.nil_append, hostOps0, hostOps0_1, hostOps0_2]
  after_results
  rfl
theorem V_k (c : Dev nD) : V m c main_v25 = kPack none192 (m ((c : Thread nD τ).loc main_arg1)) := by
  unfold V
  simp only [List.flatten_cons, List.flatten_nil, List.append_nil, List.cons_append, List.nil_append, hostOps0, hostOps0_1, hostOps0_2]
  after_results
  rfl
theorem V_v (c : Dev nD) : V m c main_v34 = vPack none128 (m ((c : Thread nD τ).loc main_arg2)) := by
  unfold V
  simp only [List.flatten_cons, List.flatten_nil, List.append_nil, List.cons_append, List.nil_append, hostOps0, hostOps0_1, hostOps0_2]
  after_results
  rfl

theorem idx : ∀ t : Fin cfg0.N, win0_0.index t = ![t.val % 16, 64 + t.val / 16, 0] ∧ win0_1.index t = ![t.val % 16, 64 + t.val / 16, 0]
    ∧ win0_2.index t = ![t.val % 16, 64 + t.val / 16, 0] ∧ win0_3.index t = ![t.val / 16, t.val % 16] :=
  (by decide +kernel : ∀ t : Fin grid0.N, _)

def pb (t : Fin cfg0.N) : Fin 4 := ⟨t.val / 16, by have : t.val < 64 := t.isLt; omega⟩
def ph (t : Fin cfg0.N) : Fin 16 := ⟨t.val % 16, by omega⟩

theorem blk_q (c : Dev nD) (t : Fin cfg0.N) (i d : Fin 256) :
    iblk m c 0 t (ix3 0 i d : S1x256x256.Idx) = V m c main_v18 (ix3 (ph t) ⟨16384 + (256 * (pb t).val + i.val), by omega⟩ d) := by
  blk_ext [iblk, idx t, pb, ph]
theorem blk_k (c : Dev nD) (t : Fin cfg0.N) (i d : Fin 256) :
    iblk m c 1 t (ix3 0 i d : S1x256x256.Idx) = V m c main_v25 (ix3 (ph t) ⟨16384 + (256 * (pb t).val + i.val), by omega⟩ d) := by
  blk_ext [iblk, idx t, pb, ph]
theorem blk_v (c : Dev nD) (t : Fin cfg0.N) (i d : Fin 256) :
    iblk m c 2 t (ix3 0 i d : S1x256x256.Idx) = V m c main_v34 (ix3 (ph t) ⟨16384 + (256 * (pb t).val + i.val), by omega⟩ d) := by
  blk_ext [iblk, idx t, pb, ph]
end Cert.Ctx
end
-- ==== Proof.Ctx.Ref.lean ====
/- The context's attention: the reference's result as a term of its arguments, read at an index, and the precondition read at an element. -/
module
public import proofs.«01_k».proof.Proof.Gen.Reference9Ideal.Run
public import proofs.«01_k».proof.Pre_finite_ctx
public import proofs.«01_k».proof.Proof.Attn.Pre
public import proofs.«01_k».proof.Proof.Attn.Ref
public import Idealize.ShloMosaic.Lib.Pointwise
@[expose] public section
set_option maxRecDepth 16384
noncomputable section
namespace Cert.Ctx.Ref
open Cert.Reference9Ideal Cert.Reference9Ideal.Gen Idealize.ShloMosaic Idealize.ShloMosaic.TcCoe Idealize.SL.Sem

/-- The scores: queries times keys, over the root of the key width. -/
def scores (q k : FVec Ideal S4x256x16x192 .f32) : FVec Ideal S4x16x256x256 .f32 :=
  Host.divf (Host.dotGeneral dot_S4x256x16x192_S4x256x16x192_S4x16x256x256_3_3_1_1_02_02 none q k) (broadcastInDim S4x16x256x256 ![] bcast_S_S4x16x256x256 (Host.sqrt (constant S_ .f32 0x43400000#32)))

/-- Each row's maximum. -/
def top (s : FVec Ideal S4x16x256x256 .f32) : FVec Ideal S4x16x256 .f32 :=
  Host.reduce FloatOps.maximumf s (constant S_ .f32 0xFF800000#32) reducesTo_S4x16x256x256_S4x16x256_d3 h_S_

/-- A number for each row, along the row. -/
def along (t : FVec Ideal S4x16x256 .f32) : FVec Ideal S4x16x256x256 .f32 :=
  broadcastInDim S4x16x256x256 ![0, 1, 2, 3] bcast_S4x16x256x1_S4x16x256x256_0_1_2_3 (broadcastInDim S4x16x256x1 ![0, 1, 2] bcast_S4x16x256_S4x16x256x1_0_1_2 t)

/-- The exponentials of scores relative to a number for each row. -/
def expAt (s : FVec Ideal S4x16x256x256 .f32) (t : FVec Ideal S4x16x256 .f32) : FVec Ideal S4x16x256x256 .f32 :=
  Host.exp (subf s (along (maximumf (broadcastInDim S4x16x256 ![] bcast_S_S4x16x256 (constant S_ .f32 0xFF800000#32)) t)))

/-- The weights before they are normalised. -/
def weights (s : FVec Ideal S4x16x256x256 .f32) : FVec Ideal S4x16x256x256 .f32 := expAt s (top s)

/-- The result. -/
def result (q k : FVec Ideal S4x256x16x192 .f32) (v : FVec Ideal S4x256x16x128 .f32) : FVec Ideal S1024x2048 .bf16 :=
  truncf .bf16 (shapeCast S1024x2048 (transpose S4x256x16x128 [0, 3, 1, 2] (Host.dotGeneral dot_S4x256x16x128_S4x16x256x256_S4x16x128x256_1_3_3_2_02_01 none v
    (Host.divf (weights (scores q k)) (along (Host.reduceAdd (weights (scores q k)) (constant S_ .f32 0x00000000#32) reducesTo_S4x16x256x256_S4x16x256_d3 h_S_))))
    transposes_S4x16x128x256_S4x256x16x128_0_3_1_2) shapeCasts_S4x256x16x128_S1024x2048) bitsLt_bf16_f32

theorem top_at (s : FVec Ideal S4x16x256x256 .f32) (b : Fin 4) (h : Fin 16) (i : Fin 256) :
    top s (ix3 b h i) = Finset.univ.sup fun k : Fin 256 => s (ix4 b h i k) := by
  unfold top
  rw [Host.reduce_eq_fold, Shape.ReducesTo.fold_fiber_r4_a3, Cert.Attn.Ref.fold_maximumf]
  show Finset.univ.fold max (Ideal.ofBits .f32 0xFF800000#32) _ = Finset.univ.fold max ⊥ _
  rw [Cert.Attn.Ref.ninf]
  rfl

theorem expAt_at (s : FVec Ideal S4x16x256x256 .f32) (t : FVec Ideal S4x16x256 .f32) (b : Fin 4) (h : Fin 16) (i k : Fin 256) :
    expAt s t (ix4 b h i k) = Ideal.exp (s (ix4 b h i k) - t (ix3 b h i)) := by
  pointwise [expAt, along]
  rw [Cert.Attn.Ref.ninf, max_eq_right bot_le]

/-- The scores of one query. -/
def sc (q k : FVec Ideal S4x256x16x192 .f32) (b : Fin 4) (h : Fin 16) (i n : Fin 256) : EReal :=
  Ideal.div (∑ x : Fin 192, q (ix4 b i h x) * k (ix4 b n h x)) (Ideal.sqrt (Ideal.ofBits FTy.f32 0x43400000#32))

theorem scores_at (q k : FVec Ideal S4x256x16x192 .f32) (b : Fin 4) (h : Fin 16) (i n : Fin 256) :
    scores q k (ix4 b h i n) = sc q k b h i n := by
  pointwise [scores, sc]

theorem w_at (q k : FVec Ideal S4x256x16x192 .f32) (b : Fin 4) (h : Fin 16) (i n : Fin 256) :
    weights (scores q k) (ix4 b h i n) = Ideal.exp (sc q k b h i n - Finset.univ.sup (sc q k b h i)) := by
  rw [weights, expAt_at, top_at]
  simp only [scores_at]

theorem result_at (q k : FVec Ideal S4x256x16x192 .f32) (v : FVec Ideal S4x256x16x128 .f32) (r : Fin 1024) (l : Fin 2048) :
    result q k v (ix2 r l) =
      ∑ n : Fin 256, v (ix4 ⟨r / 256, by omega⟩ n ⟨l / 128, by omega⟩ ⟨l % 128, by omega⟩) *
        Ideal.div (Ideal.exp (sc q k ⟨r / 256, by omega⟩ ⟨l / 128, by omega⟩ ⟨r % 256, by omega⟩ n - Finset.univ.sup (sc q k ⟨r / 256, by omega⟩ ⟨l / 128, by omega⟩ ⟨r % 256, by omega⟩)))
          (∑ j, Ideal.exp (sc q k ⟨r / 256, by omega⟩ ⟨l / 128, by omega⟩ ⟨r % 256, by omega⟩ j - Finset.univ.sup (sc q k ⟨r / 256, by omega⟩ ⟨l / 128, by omega⟩ ⟨r % 256, by omega⟩))) := by
  pointwise [result, along]
  simp only [w_at]

end Cert.Ctx.Ref

namespace Cert.Ctx
open Idealize.ShloMosaic Cert.Pre_finite_ctx
variable [Facts]
theorem reals (q k : FVec Ideal S4x256x16x192 .f32) (v : FVec Ideal S4x256x16x128 .f32) (h : Cert.Pre_finite_ctx.fn (F := Ideal) q k v = fun _ => 1#1) :
    (∀ i, ∃ a : ℝ, q i = a) ∧ ∀ i, ∃ a : ℝ, k i = a := by
  have h0 := congrFun h (fun a => a.elim0)
  obtain ⟨hq, hk⟩ := Cert.Attn.one_and _ _ h0
  exact ⟨fun i => Cert.Attn.real_of_one _ (Host.reduce_andi_all _ _ _ _ _ hq i), fun i => Cert.Attn.real_of_one _ (Host.reduce_andi_all _ _ _ _ _ hk i)⟩
end Cert.Ctx
end
-- ==== Proof.Ctx.Final.lean ====
/- The context's attention: what a grid point leaves in its block, and the whole result as the reference's, wherever the context's queries
   and keys are real. -/
module
public import proofs.«01_k».proof.Proof.Ctx.Host
public import proofs.«01_k».proof.Proof.Ctx.Ref
public import proofs.«01_k».proof.Proof.Attn.Sub
@[expose] public section
set_option maxRecDepth 16384
noncomputable section
namespace Cert.Ctx
open Cert.Kernel9Ideal Cert.Kernel9Ideal.Gen Idealize.ShloMosaic Idealize.ShloMosaic.TcCoe Idealize.SL.Sem
open Idealize.ShloMosaic.Pipeline (Dat)

/-- The scores of 256 query rows against 256 keys. -/
def scC (q k : Vec Ideal S1x256x256 .bf16) : FVec Ideal S256x256 .f32 :=
  matmul (F := Ideal) (φ₁ := .bf16) (φ₂ := .bf16) dot_S256x256_S256x256_S256x256_1_1_0_0_n_n none (shapeCast S256x256 q shapeCasts_S1x256x256_S256x256)
    (shapeCast S256x256 k shapeCasts_S1x256x256_S256x256) (constant S256x256 .f32 0x00000000#32)

/-- The maximum of each row. -/
def rowMax (s : FVec Ideal S256x256 .f32) : FVec Ideal S256x1 .f32 :=
  shapeCast S256x1 (multiReduction (F := Ideal) (φ := .f32) .maximumf [1] S256 s 0xFF800000#32 reduces_S256x256_S256 (.inl rfl) rfl) shapeCasts_S256_S256x1

/-- The weighted values, the weights taken relative to the maximum `mx`. -/
def part (mx : FVec Ideal S256x1 .f32) (s : FVec Ideal S256x256 .f32) (v : Vec Ideal S1x256x256 .bf16) : FVec Ideal S256x256 .f32 :=
  matmul (F := Ideal) (φ₁ := .bf16) (φ₂ := .bf16) dot_S256x256_S256x256_S256x256_1_0_0_1_n_n none
    (truncf .bf16 (exp2 (subf s (broadcastTo S256x256 mx broadcasts_S256x1_S256x256))) bitsLt_bf16_f32)
    (shapeCast S256x256 v shapeCasts_S1x256x256_S256x256) (constant S256x256 .f32 0x00000000#32)

/-- The first 128 columns divided by column 128. -/
def quot (o : FVec Ideal S256x256 .f32) : FVec Ideal S256x128 .bf16 :=
  truncf .bf16 (divf (extractStridedSlice S256x128 ![0, 0] o slices_S256x256_o0_0_S256x128)
    (broadcastTo S256x128 (extractStridedSlice S256x1 ![0, 128] o slices_S256x256_o0_128_S256x1) broadcasts_S256x1_S256x128)) bitsLt_bf16_f32

theorem pay_eq (q k v : Vec Ideal S1x256x256 .bf16) : k0_pay1 (F := Ideal) q k v = quot (part (rowMax (scC q k)) (scC q k) v) := rfl

theorem scC_at (q k : Vec Ideal S1x256x256 .bf16) (r l : Fin 256) :
    scC q k (ix2 r l) = ∑ d : Fin 256, q (ix3 0 r d) * k (ix3 0 l d) := by
  pointwise [scC]
theorem rowMax_at (s : FVec Ideal S256x256 .f32) (r : Fin 256) :
    rowMax s (ix2 r 0) = Finset.univ.sup fun l : Fin 256 => (s (ix2 r l) : EReal) := by
  pointwise [rowMax]
  rw [Cert.Attn.ofBits_ninf]
  rfl
theorem part_at (mx : FVec Ideal S256x1 .f32) (s : FVec Ideal S256x256 .f32) (v : Vec Ideal S1x256x256 .bf16) (r d : Fin 256) :
    part mx s v (ix2 r d) = ∑ l : Fin 256, Ideal.exp2 (s (ix2 r l) - mx (ix2 r 0)) * v (ix3 0 l d) := by
  pointwise [part]
  rfl
theorem quot_at (o : FVec Ideal S256x256 .f32) (r : Fin 256) (l : Fin 128) :
    quot o (ix2 r l) = Ideal.div (o (ix2 r ⟨l, by omega⟩)) (o (ix2 r 128)) := by
  pointwise [quot]

theorem out_eq (x0 x1 x2 : Vec Ideal S1x256x256 .bf16) : out0_3 x0 x1 x2 = k0_pay1 x0 x1 x2 := by
  funext y
  unfold out0_3
  show View.canon _ _ = _
  canon_tiles x h
  obtain rfl : x = y := by
    funext a; fin_cases a <;> apply Fin.ext <;> simp at * <;> omega
  rw [View.ld_unit_lit' _ x0 (by decide), View.ld_unit_lit' _ x1 (by decide), View.ld_unit_lit' _ x2 (by decide)]

/-- The softmax identity of one query row, for any number of keys. -/
theorem row {N : ℕ} [NeZero N] (q : Fin 192 → EReal) (k : Fin N → Fin 192 → EReal) (hq : ∀ d, ∃ a : ℝ, q d = a) (hk : ∀ n d, ∃ a : ℝ, k n d = a)
    (v : Fin N → EReal) (A B : Fin N → EReal) (hA : ∀ n, A n = ∑ d, (q d * Cert.Attn.fac) * k n d)
    (hB : ∀ n, B n = Ideal.div (∑ d, q d * k n d) (Ideal.sqrt (Ideal.ofBits .f32 0x43400000#32))) :
    Ideal.div (∑ n, Ideal.exp2 (A n - Finset.univ.sup A) * v n) (∑ n, Ideal.exp2 (A n - Finset.univ.sup A) * 1)
      = ∑ n, v n * Ideal.div (Ideal.exp (B n - Finset.univ.sup B)) (∑ j, Ideal.exp (B j - Finset.univ.sup B)) := by
  choose q' hq' using hq
  choose k' hk' using hk
  have l2 : 0 < Real.log 2 := Real.log_pos (by norm_num)
  have s : 0 < Real.sqrt 192 := Real.sqrt_pos.2 (by norm_num)
  obtain rfl : A = fun n => ((∑ d, (q' d * (1 / (Real.sqrt 192 * Real.log 2))) * k' n d : ℝ) : EReal) := by
    funext n
    rw [hA, Cert.Attn.sum_mul_coe _ _ (fun d => q' d * (1 / (Real.sqrt 192 * Real.log 2))) (k' n) (fun d => by rw [hq', Cert.Attn.fac_eq, EReal.coe_mul]) (hk' n)]
  obtain rfl : B = fun n => (((∑ d, q' d * k' n d) * (1 / Real.sqrt 192) : ℝ) : EReal) := by
    funext n
    rw [hB, Cert.Attn.sum_mul_coe _ _ q' (k' n) hq' (hk' n), Cert.Attn.root_eq, Ideal.div_coe s.ne', EReal.coe_mul]
  refine Cert.Attn.softmax _ _ v fun n => ?_
  rw [Finset.sum_mul, Finset.mul_sum]
  refine Finset.sum_congr rfl fun d _ => ?_
  field_simp

variable (m : (ℓ : Loc nD τ sig) → Buf (Elt Ideal) ℓ)

/-- Every element of an array is a real number. -/
def Reals {s : Shape} (f : FVec Ideal s .f32) : Prop := ∀ i, ∃ a : ℝ, (f i : EReal) = a

/-- The reference at the kernel's arguments. -/
abbrev ref (c : Dev nD) : FVec Ideal S1024x2048 .bf16 :=
  Ref.result (m ((c : Thread nD τ).loc main_arg0)) (m ((c : Thread nD τ).loc main_arg1)) (m ((c : Thread nD τ).loc main_arg2))

/-- A query's column, scaled. -/
def qCol (q : FVec Ideal S4x256x16x192 .f32) (b : Fin 4) (h : Fin 16) (i : Fin 256) (d : Fin 192) : EReal := q (ix4 b i h d) * Cert.Attn.fac

/-- A query's row of scores. -/
def att (q k : FVec Ideal S4x256x16x192 .f32) (b : Fin 4) (h : Fin 16) (i n : Fin 256) : EReal :=
  ∑ d, qCol q b h i d * k (ix4 b n h d)

theorem sc_at (c : Dev nD) (t : Fin cfg0.N) (i n : Fin 256) :
    scC (iblk m c 0 t) (iblk m c 1 t) (ix2 i n) = att (m ((c : Thread nD τ).loc main_arg0)) (m ((c : Thread nD τ).loc main_arg1)) (pb t) (ph t) i n := by
  rw [scC_at]
  refine Eq.trans (Finset.sum_congr rfl fun d _ => ?_) (Cert.Attn.padded
    (qCol (m ((c : Thread nD τ).loc main_arg0)) (pb t) (ph t) i)
    (fun d => (m ((c : Thread nD τ).loc main_arg1) : FVec Ideal S4x256x16x192 .f32) (ix4 (pb t) n (ph t) d)))
  rw [blk_q, V_q, kPack_ctx, blk_k, V_k, kPack_ctx]
  simp only [qScale_at]
  rfl

theorem val_at (c : Dev nD) (t : Fin cfg0.N) (n : Fin 256) (x : Fin 128) :
    (iblk m c 2 t (ix3 0 n ⟨x, by omega⟩ : S1x256x256.Idx) : EReal) = (m ((c : Thread nD τ).loc main_arg2) : FVec Ideal S4x256x16x128 .f32) (ix4 (pb t) n (ph t) x) := by
  rw [blk_v, V_v, vPack_ctx]
  exact dif_pos x.isLt

theorem one_at (c : Dev nD) (t : Fin cfg0.N) (n : Fin 256) : (iblk m c 2 t (ix3 0 n 128 : S1x256x256.Idx) : EReal) = (1 : EReal) := by
  rw [blk_v, V_v, vPack_ctx]
  exact dif_neg (by decide)

theorem point (c : Dev nD) (hq : Reals (s := S4x256x16x192) (m ((c : Thread nD τ).loc main_arg0))) (hk : Reals (s := S4x256x16x192) (m ((c : Thread nD τ).loc main_arg1)))
    (t : Fin cfg0.N) (y : S256x128.Idx) (r : Fin 1024) (l : Fin 2048) (hr : r.val = 256 * (pb t).val + (y 0).val) (hl : l.val = 128 * (ph t).val + (y 1).val) :
    out0_3 (iblk m c 0 t) (iblk m c 1 t) (iblk m c 2 t) y = ref m c (ix2 r l) := by
  obtain ⟨i, x, rfl⟩ : ∃ (i : Fin 256) (x : Fin 128), y = ix2 i x := ⟨y 0, y 1, by funext a; fin_cases a <;> rfl⟩
  have hr : r.val = 256 * (pb t).val + i.val := hr
  have hl : l.val = 128 * (ph t).val + x.val := hl
  rw [out_eq, pay_eq, quot_at, part_at, part_at, rowMax_at]
  simp only [sc_at, val_at, one_at]
  rw [ref, Ref.result_at]
  have e1 : (⟨r / 256, by omega⟩ : Fin 4) = pb t := Fin.ext (by show r.val / 256 = (pb t).val; omega)
  have e2 : (⟨l / 128, by omega⟩ : Fin 16) = ph t := Fin.ext (by show l.val / 128 = (ph t).val; omega)
  have e3 : (⟨r % 256, by omega⟩ : Fin 256) = i := Fin.ext (by show r.val % 256 = i.val; omega)
  have e4 : (⟨l % 128, by omega⟩ : Fin 128) = x := Fin.ext (by show l.val % 128 = x.val; omega)
  rw [e1, e2, e3, e4]
  exact row (fun d => (m ((c : Thread nD τ).loc main_arg0) : FVec Ideal S4x256x16x192 .f32) (ix4 (pb t) i (ph t) d))
    (fun n d => (m ((c : Thread nD τ).loc main_arg1) : FVec Ideal S4x256x16x192 .f32) (ix4 (pb t) n (ph t) d)) (fun d => hq _) (fun n d => hk _) _
    (att _ _ (pb t) (ph t) i) (Ref.sc _ _ (pb t) (ph t) i) (fun n => rfl) (fun n => rfl)

/-- The whole result. -/
theorem final (c : Dev nD) (hq : Reals (s := S4x256x16x192) (m ((c : Thread nD τ).loc main_arg0))) (hk : Reals (s := S4x256x16x192) (m ((c : Thread nD τ).loc main_arg1))) :
    (dats m 0 c).arrAt 3 cfg0.N = ref m c := by
  refine (dats m 0 c).arrAt_eq_of_covers 3 _ (by decide +kernel) fun t _ y => ?_
  blk_simp
  rw [after0_3]
  have e := idx t
  rw [point m c hq hk t y ((win0_3.blk t).view.emb y 0) ((win0_3.blk t).view.emb y 1) ?_ ?_]
  · exact congrArg _ (by funext a; fin_cases a <;> rfl)
  · blk_simp
    rw [e.2.2.2]
    show t.val / 16 * 256 + (y 0).val = 256 * (t.val / 16) + (y 0).val
    omega
  · blk_simp
    rw [e.2.2.2]
    show t.val % 16 * 128 + (y 1).val = 128 * (t.val % 16) + (y 1).val
    omega
end Cert.Ctx
end
-- ==== Proof.Ctx.Claims.lean ====
/- The claims on the context's attention: the frames of the three programs and the equality of the kernel's result with the reference's. -/
module
public import proofs.«01_k».proof.Defs
public import proofs.«01_k».proof.Proof.Gen.Kernel9.Frame
public import proofs.«01_k».proof.Proof.Gen.Kernel9Ideal.Frame
public import proofs.«01_k».proof.Proof.Ctx.Final
@[expose] public section
set_option maxRecDepth 16384
noncomputable section
namespace Cert.Ctx.Claims
open Idealize.ShloMosaic Idealize.SL.Sem

instance facts : Cert.Pre_finite_ctx.Facts := by
  constructor <;> decide

theorem frame_kernel : Cert.quiescent_Kernel9 := fun m ρ _ => Cert.Kernel9.Gen.frame m ρ
theorem frame_kernel_any : Cert.quiescent_Kernel9_pre_none := fun m ρ _ => Cert.Kernel9.Gen.frame m ρ
theorem frame_ideal : Cert.quiescent_Kernel9Ideal := fun m ρ _ => Cert.Kernel9Ideal.Gen.frame m ρ
theorem frame_ideal_any : Cert.quiescent_Kernel9Ideal_pre_none := fun m ρ _ => Cert.Kernel9Ideal.Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- Wherever the context's queries and keys are finite, the kernel leaves the reference's array. -/
theorem equal : Cert.algebraic_Kernel9Ideal_Reference9Ideal := by
  intro m ρ m' ρ' hpre hagree
  refine ⟨fun c => ref m c, ?_, ?_⟩
  · refine (θ_run Cert.Kernel9Ideal.defs _ _).mono (fun r h c => ⟨(h c).1.trans ?_, (h c).2⟩) (Cert.Kernel9Ideal.Value.run_blocks m ρ)
    obtain ⟨hq, hk⟩ := reals _ _ _ (hpre c)
    exact final m c hq hk
  · refine (θ_run Cert.Reference9Ideal.defs _ _).mono (fun r h c => ⟨(h c).1.trans ?_, (h c).2⟩) (Cert.Reference9Ideal.Value.run m' ρ')
    obtain ⟨e0, e1, e2⟩ := hagree c
    rw [e0, e1, e2]
    rfl
end Cert.Ctx.Claims
end
-- ==== Proof.Queries.Ref.lean ====
/- The reference of the queries as a term of its arguments, and that term read at an index. -/
module
public import proofs.«01_k».proof.Proof.Gen.Reference10Ideal.Run
public import proofs.«01_k».proof.Proof.Keys.Ref
@[expose] public section
set_option maxRecDepth 16384
noncomputable section
namespace Cert.Queries.Ref
open Cert.Reference10Ideal Cert.Reference10Ideal.Gen Idealize.ShloMosaic Idealize.ShloMosaic.TcCoe Idealize.SL.Sem

/-- The weight by head. -/
def heads (w : FVec Ideal S512x3072 .f32) : FVec Ideal S512x16x192 .f32 := shapeCast S512x16x192 w shapeCasts_S512x3072_S512x16x192

/-- The rotary columns of a weight, turned a quarter. -/
def quarter (w : FVec Ideal S512x16x192 .f32) : FVec Ideal S512x16x64 .f32 :=
  shapeCast _ (concatenate S512x16x2x2x16 3 [⟨S512x16x2x1x16, (broadcastInDim S512x16x2x1x16 ![0, 1, 2, 4] bcast_S512x16x2x16_S512x16x2x1x16_0_1_2_4 (Host.negf (shapeCast _ (extractStridedSlice S512x16x2x1x16 ![0, 0, 0, 1, 0] (shapeCast _ (extractStridedSlice S512x16x64 ![0, 0, 128] w slices_S512x16x192_S512x16x64_0_0_128) shapeCasts_S512x16x64_S512x16x2x2x16) slices_S512x16x2x2x16_S512x16x2x1x16_0_0_0_1_0) shapeCasts_S512x16x2x1x16_S512x16x2x16)))⟩,
    ⟨S512x16x2x1x16, (broadcastInDim S512x16x2x1x16 ![0, 1, 2, 4] bcast_S512x16x2x16_S512x16x2x1x16_0_1_2_4 (shapeCast _ (extractStridedSlice S512x16x2x1x16 ![0, 0, 0, 0, 0] (shapeCast _ (extractStridedSlice S512x16x64 ![0, 0, 128] w slices_S512x16x192_S512x16x64_0_0_128) shapeCasts_S512x16x64_S512x16x2x2x16) slices_S512x16x2x2x16_S512x16x2x1x16_0_0_0_0_0) shapeCasts_S512x16x2x1x16_S512x16x2x16))⟩]
    concatenates_S512x16x2x1x16_S512x16x2x1x16_S512x16x2x2x16_d3) shapeCasts_S512x16x2x2x16_S512x16x64

/-- A table with each axis's values twice. -/
def twice (t : FVec Ideal S4096x2x16 .f32) : FVec Ideal S4096x1x64 .f32 :=
  shapeCast _ (concatenate S4096x2x2x16 2 [⟨S4096x2x1x16, (broadcastInDim S4096x2x1x16 ![0, 1, 3] bcast_S4096x2x16_S4096x2x1x16_0_1_3 t)⟩, ⟨S4096x2x1x16, (broadcastInDim S4096x2x1x16 ![0, 1, 3] bcast_S4096x2x16_S4096x2x1x16_0_1_3 t)⟩] concatenates_S4096x2x1x16_S4096x2x1x16_S4096x2x2x16_d2) shapeCasts_S4096x2x2x16_S4096x1x64

/-- That table for every batch and head. -/
def spread (t : FVec Ideal S4096x2x16 .f32) : FVec Ideal S4x4096x16x64 .f32 :=
  broadcastInDim S4x4096x16x64 ![0, 1, 2, 3] bcast_S1x4096x1x64_S4x4096x16x64_0_1_2_3 (broadcastInDim S1x4096x1x64 ![1, 2, 3] bcast_S4096x1x64_S1x4096x1x64_1_2_3 (twice t))

/-- The latent rows' heads. -/
def full (n : FVec Ideal S4x4096x512 .f32) (w : FVec Ideal S512x16x192 .f32) : FVec Ideal S4x4096x16x192 .f32 :=
  Host.dotGeneral dot_S4x4096x512_S512x16x192_S4x4096x16x192_2_0_01_12_n_n none n w

/-- The rotary part of the latent rows' heads with its positions. -/
def rotary (n : FVec Ideal S4x4096x512 .f32) (w : FVec Ideal S512x16x192 .f32) (cs sn : FVec Ideal S4096x2x16 .f32) : FVec Ideal S4x4096x16x64 .f32 :=
  addf (mulf (extractStridedSlice S4x4096x16x64 ![0, 0, 0, 128] (full n w) slices_S4x4096x16x192_S4x4096x16x64_0_0_0_128) (spread cs))
    (mulf (Host.dotGeneral dot_S4x4096x512_S512x16x64_S4x4096x16x64_2_0_01_12_n_n none n (quarter w)) (spread sn))

/-- The latent rows' queries. -/
def latent (n : FVec Ideal S4x4096x512 .f32) (w : FVec Ideal S512x16x192 .f32) (cs sn : FVec Ideal S4096x2x16 .f32) : FVec Ideal S16384x16x192 .f32 :=
  shapeCast _ (concatenate S4x4096x16x192 3 [⟨S4x4096x16x128, (extractStridedSlice S4x4096x16x128 ![0, 0, 0, 0] (full n w) slices_S4x4096x16x192_S4x4096x16x128_0_0_0_0)⟩,
    ⟨S4x4096x16x64, rotary n w cs sn⟩] concatenates_S4x4096x16x128_S4x4096x16x64_S4x4096x16x192_d3) shapeCasts_S4x4096x16x192_S16384x16x192

/-- The context rows' queries. -/
def context (n : FVec Ideal S4x256x512 .f32) (w : FVec Ideal S512x16x192 .f32) : FVec Ideal S1024x16x192 .f32 :=
  shapeCast _ (Host.dotGeneral dot_S4x256x512_S512x16x192_S4x256x16x192_2_0_01_12_n_n none n w) shapeCasts_S4x256x16x192_S1024x16x192

/-- All rows' queries from the two parts. -/
def join (l : FVec Ideal S16384x16x192 .f32) (x : FVec Ideal S1024x16x192 .f32) : FVec Ideal S16x17408x256 .bf16 :=
  truncf .bf16 (concatenate S16x17408x256 2 [⟨S16x17408x192, (transpose S16x17408x192 [1, 0, 2] (concatenate S17408x16x192 0 [⟨S16384x16x192, l⟩, ⟨S1024x16x192, x⟩] concatenates_S16384x16x192_S1024x16x192_S17408x16x192_d0) transposes_S17408x16x192_S16x17408x192_1_0_2)⟩,
    ⟨S16x17408x64, (broadcastInDim S16x17408x64 ![] bcast_S_S16x17408x64 (constant S_ .f32 0x00000000#32))⟩] concatenates_S16x17408x192_S16x17408x64_S16x17408x256_d2) bitsLt_bf16_f32

/-- The queries. -/
def queries (cl : FVec Ideal S4x4096x512 .f32) (cc : FVec Ideal S4x256x512 .f32) (g : FVec Ideal S512 .f32) (w : FVec Ideal S512x3072 .f32) : FVec Ideal S16x17408x256 .bf16 :=
  join (latent (Cert.Keys.Ref.nl cl g) (heads w) Cert.Keys.Ref.cosT Cert.Keys.Ref.sinT) (context (Cert.Keys.Ref.nc cc g) (heads w))

theorem heads_at (w : FVec Ideal S512x3072 .f32) (k : Fin 512) (h : Fin 16) (d : Fin 192) :
    heads w (ix3 k h d) = w (ix2 k ⟨h * 192 + d, by omega⟩) := by
  pointwise [heads]

theorem quarter_at (w : FVec Ideal S512x16x192 .f32) (k : Fin 512) (h : Fin 16) (j : Fin 64) :
    quarter w (ix3 k h j) = if hj : j.val / 16 % 2 = 0 then - w (ix3 k h ⟨128 + (j + 16), by omega⟩) else w (ix3 k h ⟨128 + (j - 16), by omega⟩) := by
  pointwise [quarter]
  by_cases hj : j.val / 16 % 2 = 0
  · rw [dif_pos hj, dif_pos (by omega)]
    exact congrArg (fun d => - w (ix3 k h d)) (Fin.ext (by show 128 + (j.val / 32 * 32 + 16 + j.val % 16) = 128 + (j.val + 16); omega))
  · rw [dif_neg hj, dif_neg (by omega)]
    exact congrArg (fun d => w (ix3 k h d)) (Fin.ext (by show 128 + (j.val / 32 * 32 + j.val % 16) = 128 + (j.val - 16); omega))

theorem spread_at (t : FVec Ideal S4096x2x16 .f32) (b : Fin 4) (p : Fin 4096) (h : Fin 16) (j : Fin 64) :
    spread t (ix4 b p h j) = t (ix3 p ⟨j / 32, by omega⟩ ⟨j % 16, by omega⟩) := by
  pointwise [spread, twice]
  split_ifs <;> rfl

theorem full_at (n : FVec Ideal S4x4096x512 .f32) (w : FVec Ideal S512x16x192 .f32) (b : Fin 4) (p : Fin 4096) (h : Fin 16) (d : Fin 192) :
    full n w (ix4 b p h d) = ∑ k, n (ix3 b p k) * w (ix3 k h d) := by
  pointwise [full]

theorem rotary_at (n : FVec Ideal S4x4096x512 .f32) (w : FVec Ideal S512x16x192 .f32) (cs sn : FVec Ideal S4096x2x16 .f32) (b : Fin 4) (p : Fin 4096) (h : Fin 16) (j : Fin 64) :
    rotary n w cs sn (ix4 b p h j) = (∑ k, n (ix3 b p k) * w (ix3 k h ⟨128 + j, by omega⟩)) * cs (ix3 p ⟨j / 32, by omega⟩ ⟨j % 16, by omega⟩)
      + (∑ k, n (ix3 b p k) * quarter w (ix3 k h j)) * sn (ix3 p ⟨j / 32, by omega⟩ ⟨j % 16, by omega⟩) := by
  pointwise [rotary]
  rw [full_at, spread_at, spread_at]

theorem latent_at (n : FVec Ideal S4x4096x512 .f32) (w : FVec Ideal S512x16x192 .f32) (cs sn : FVec Ideal S4096x2x16 .f32) (r : Fin 16384) (h : Fin 16) (j : Fin 192) :
    latent n w cs sn (ix3 r h j) = if hj : j.val < 128 then ∑ k, n (ix3 ⟨r / 4096, by omega⟩ ⟨r % 4096, by omega⟩ k) * w (ix3 k h j)
      else rotary n w cs sn (ix4 ⟨r / 4096, by omega⟩ ⟨r % 4096, by omega⟩ h ⟨j - 128, by omega⟩) := by
  pointwise [latent]
  simp only [full_at]

theorem context_at (n : FVec Ideal S4x256x512 .f32) (w : FVec Ideal S512x16x192 .f32) (r : Fin 1024) (h : Fin 16) (j : Fin 192) :
    context n w (ix3 r h j) = ∑ k, n (ix3 ⟨r / 256, by omega⟩ ⟨r % 256, by omega⟩ k) * w (ix3 k h j) := by
  pointwise [context]

theorem join_at (l : FVec Ideal S16384x16x192 .f32) (x : FVec Ideal S1024x16x192 .f32) (h : Fin 16) (r : Fin 17408) (j : Fin 256) :
    join l x (ix3 h r j) = if hj : j.val < 192 then if hr : r.val < 16384 then l (ix3 ⟨r, hr⟩ h ⟨j, hj⟩) else x (ix3 ⟨r - 16384, by omega⟩ h ⟨j, hj⟩) else 0 := by
  pointwise [join]

end Cert.Queries.Ref
end
-- ==== Proof.Queries.Host.lean ====
/- The queries: the arrays the windows stage, and the blocks of a grid point. Point `t` is row block `t`. -/
module
public import proofs.«01_k».proof.Proof.Gen.Kernel10Ideal.Value
public import proofs.«01_k».proof.Proof.Queries.Ref
public import Idealize.ShloMosaic.Lib.Pipeline.ValueKit
public import Idealize.ShloMosaic.Lib.Pointwise
@[expose] public section
set_option maxRecDepth 16384
noncomputable section
namespace Cert.Queries
open Cert.Kernel10Ideal Cert.Kernel10Ideal.Gen Idealize.ShloMosaic Idealize.ShloMosaic.TcCoe Idealize.SL.Sem
open Idealize.ShloMosaic.Pipeline (Dat)

/-- The latent rows of all batches, then the context rows. -/
def rows (l : FVec Ideal S4x4096x512 .f32) (x : FVec Ideal S4x256x512 .f32) : FVec Ideal S17408x512 .f32 :=
  concatenate S17408x512 0 [⟨S16384x512, shapeCast S16384x512 l shapeCasts_S4x4096x512_S16384x512⟩,
    ⟨S1024x512, shapeCast S1024x512 x shapeCasts_S4x256x512_S1024x512⟩] concatenates_S16384x512_S1024x512_S17408x512_d0

/-- The columns at their places. -/
def packed (a : FVec Ideal S17408x512 .f32) : FVec Ideal S17408x13824 .f32 :=
  concatenate S17408x13824 1 [⟨S17408x12288, broadcastInDim S17408x12288 ![] bcast_S_S17408x12288 (constant S_ .f32 0x00000000#32)⟩,
    ⟨S17408x512, a⟩, ⟨S17408x1024, broadcastInDim S17408x1024 ![] bcast_S_S17408x1024 (constant S_ .f32 0x00000000#32)⟩]
    concatenates_S17408x12288_S17408x512_S17408x1024_S17408x13824_d1

/-- One half of a position's row of the table: each axis's values twice. -/
def half (a b : FVec Ideal S4096x16 .f32) : FVec Ideal S4096x64 .f32 :=
  concatenate S4096x64 1 [⟨S4096x16, a⟩, ⟨S4096x16, a⟩, ⟨S4096x16, b⟩, ⟨S4096x16, b⟩] concatenates_S4096x16_S4096x16_S4096x16_S4096x16_S4096x64_d1

/-- A position's row of the table: cosines, then sines. -/
def table1 (a b : FVec Ideal S4096x16 .f32) : FVec Ideal S4096x128 .f32 :=
  concatenate S4096x128 1 [⟨S4096x64, half (Host.cos a) (Host.cos b)⟩, ⟨S4096x64, half (Host.sin a) (Host.sin b)⟩] concatenates_S4096x64_S4096x64_S4096x128_d1

/-- The table of every row: the positions for each batch, then ones and zeros for the context. -/
def table (a : FVec Ideal S4096x128 .f32) : FVec Ideal S17408x128 .f32 :=
  concatenate S17408x128 0 [⟨S16384x128, shapeCast S16384x128 (broadcastInDim S4x4096x1x128 ![0, 1, 2, 3] bcast_S1x4096x1x128_S4x4096x1x128_0_1_2_3
      (shapeCast S1x4096x1x128 a shapeCasts_S4096x128_S1x4096x1x128)) shapeCasts_S4x4096x1x128_S16384x128⟩,
    ⟨S1024x128, concatenate S1024x128 1 [⟨S1024x64, broadcastInDim S1024x64 ![] bcast_S_S1024x64 (constant S_ .f32 0x3F800000#32)⟩,
      ⟨S1024x64, broadcastInDim S1024x64 ![] bcast_S_S1024x64 (constant S_ .f32 0x00000000#32)⟩] concatenates_S1024x64_S1024x64_S1024x128_d1⟩]
    concatenates_S16384x128_S1024x128_S17408x128_d0

/-- The weight by head. -/
def heads (w : FVec Ideal S512x3072 .f32) : FVec Ideal S512x16x192 .f32 := shapeCast S512x16x192 w shapeCasts_S512x3072_S512x16x192

/-- The rotary columns of a weight. -/
def rope (w : FVec Ideal S512x16x192 .f32) : FVec Ideal S512x16x64 .f32 := extractStridedSlice S512x16x64 ![0, 0, 128] w slices_S512x16x192_S512x16x64_0_0_128

/-- The rotary columns, turned a quarter. -/
def turned (x : FVec Ideal S512x16x64 .f32) : FVec Ideal S512x16x64 .f32 :=
  concatenate S512x16x64 2 [⟨S512x16x16, Host.negf (extractStridedSlice S512x16x16 ![0, 0, 16] x slices_S512x16x64_S512x16x16_0_0_16)⟩,
    ⟨S512x16x16, extractStridedSlice S512x16x16 ![0, 0, 0] x slices_S512x16x64_S512x16x16_0_0_0⟩,
    ⟨S512x16x16, Host.negf (extractStridedSlice S512x16x16 ![0, 0, 48] x slices_S512x16x64_S512x16x16_0_0_48)⟩,
    ⟨S512x16x16, extractStridedSlice S512x16x16 ![0, 0, 32] x slices_S512x16x64_S512x16x16_0_0_32⟩]
    concatenates_S512x16x16_S512x16x16_S512x16x16_S512x16x16_S512x16x64_d2

/-- Each head's columns, then its rotary columns turned. -/
def weight (w : FVec Ideal S512x16x192 .f32) : FVec Ideal S16x512x256 .f32 :=
  transpose S16x512x256 [1, 0, 2] (concatenate S512x16x256 2 [⟨S512x16x128, extractStridedSlice S512x16x128 ![0, 0, 0] w slices_S512x16x192_S512x16x128_0_0_0⟩,
    ⟨S512x16x64, rope w⟩, ⟨S512x16x64, turned (rope w)⟩] concatenates_S512x16x128_S512x16x64_S512x16x64_S512x16x256_d2) transposes_S512x16x256_S16x512x256_1_0_2

theorem rows_at (l : FVec Ideal S4x4096x512 .f32) (x : FVec Ideal S4x256x512 .f32) (r : Fin 17408) (d : Fin 512) :
    rows l x (ix2 r d) = if hr : r.val < 16384 then l (ix3 ⟨r / 4096, by omega⟩ ⟨r % 4096, by omega⟩ d)
      else x (ix3 ⟨(r - 16384) / 256, by omega⟩ ⟨(r - 16384) % 256, by omega⟩ d) := by
  pointwise [rows]

theorem turned_at (x : FVec Ideal S512x16x64 .f32) (k : Fin 512) (h : Fin 16) (j : Fin 64) :
    turned x (ix3 k h j) = if hj : j.val / 16 % 2 = 0 then - x (ix3 k h ⟨j + 16, by omega⟩) else x (ix3 k h ⟨j - 16, by omega⟩) := by
  pointwise [turned]
  blk_point []
  all_goals omega

theorem rope_at (w : FVec Ideal S512x16x192 .f32) (k : Fin 512) (h : Fin 16) (j : Fin 64) : rope w (ix3 k h j) = w (ix3 k h ⟨128 + j, by omega⟩) := by
  pointwise [rope]

theorem weight_at (w : FVec Ideal S512x16x192 .f32) (h : Fin 16) (k : Fin 512) (j : Fin 256) :
    weight w (ix3 h k j) = if hj : j.val < 192 then w (ix3 k h ⟨j, hj⟩) else turned (rope w) (ix3 k h ⟨j - 192, by omega⟩) := by
  pointwise [weight]
  by_cases h1 : j.val < 128
  · rw [dif_pos h1, dif_pos (show j.val < 192 by omega)]
  · rw [dif_neg h1]
    by_cases h2 : j.val < 192
    · rw [dif_pos h2, dif_pos (show j.val - 128 < 64 by omega), rope_at]
      exact congrArg (fun d => w (ix3 k h d)) (Fin.ext (by show 128 + (j.val - 128) = j.val; omega))
    · rw [dif_neg h2, dif_neg (show ¬ j.val - 128 < 64 by omega)]
      exact congrArg (fun d => turned (rope w) (ix3 k h d)) (Fin.ext (by show j.val - 128 - 64 = j.val - 192; omega))

theorem packed_mid (a : FVec Ideal S17408x512 .f32) (r : Fin 17408) (d : Fin 512) :
    packed a (ix2 r ⟨12288 + d, by omega⟩) = a (ix2 r d) := by
  pointwise [packed]

theorem half_at (a b : FVec Ideal S4096x16 .f32) (p : Fin 4096) (j : Fin 64) :
    half a b (ix2 p j) = if j.val / 32 = 0 then a (ix2 p ⟨j % 16, by omega⟩) else b (ix2 p ⟨j % 16, by omega⟩) := by
  pointwise [half]
  blk_point []
  all_goals omega

theorem table1_at (a b : FVec Ideal S4096x16 .f32) (p : Fin 4096) (j : Fin 128) :
    table1 a b (ix2 p j) = if h : j.val < 64 then half (Host.cos a) (Host.cos b) (ix2 p ⟨j, h⟩) else half (Host.sin a) (Host.sin b) (ix2 p ⟨j - 64, by omega⟩) := by
  pointwise [table1]

theorem table_at (a : FVec Ideal S4096x128 .f32) (r : Fin 17408) (j : Fin 128) :
    table a (ix2 r j) = if r.val < 16384 then a (ix2 ⟨r % 4096, by omega⟩ j) else if j.val < 64 then 1 else 0 := by
  pointwise [table]
  rfl

variable (m : (ℓ : Loc nD τ sig) → Buf (Elt Ideal) ℓ)

theorem V_p (c : Dev nD) : V m c main_v5 = packed (rows (m ((c : Thread nD τ).loc main_arg0)) (m ((c : Thread nD τ).loc main_arg1))) := by
  unfold V
  simp only [List.flatten_cons, List.flatten_nil, List.append_nil, List.cons_append, List.nil_append, hostOps0]
  after_results
  rfl
theorem V_g (c : Dev nD) : V m c main_v57 = shapeCast S1x512 (m ((c : Thread nD τ).loc main_arg2)) shapeCasts_S512_S1x512 := by
  unfold V
  simp only [List.flatten_cons, List.flatten_nil, List.append_nil, List.cons_append, List.nil_append, hostOps0]
  after_results
  rfl
theorem V_w (c : Dev nD) : V m c main_v18 = truncf (F := Ideal) .bf16 (weight (heads (m ((c : Thread nD τ).loc main_arg3)))) bitsLt_bf16_f32 := by
  unfold V
  simp only [List.flatten_cons, List.flatten_nil, List.append_nil, List.cons_append, List.nil_append, hostOps0]
  after_results
  rfl
theorem V_t (c : Dev nD) : V m c main_v56 = table (table1 Cert.Keys.Ref.angR Cert.Keys.Ref.angC) := by
  unfold V
  simp only [List.flatten_cons, List.flatten_nil, List.append_nil, List.cons_append, List.nil_append, hostOps0]
  after_results
  rfl

theorem gain_at (g : FVec Ideal S512 .f32) (k : Fin 512) : (shapeCast S1x512 g shapeCasts_S512_S1x512 : FVec Ideal S1x512 .f32) (ix2 0 k) = g (ix1 k) := by
  pointwise []

theorem idx : ∀ t : Fin cfg0.N, win0_0.index t = ![t.val, 24] ∧ win0_1.index t = ![0, 0] ∧ win0_2.index t = ![t.val, 0]
    ∧ win0_3.index t = ![0, 0, 0] ∧ win0_4.index t = ![0, t.val, 0] :=
  (by decide +kernel : ∀ t : Fin grid0.N, _)

theorem lt (t : Fin cfg0.N) : t.val < 34 := t.isLt

theorem blk_p (c : Dev nD) (t : Fin cfg0.N) (i k : Fin 512) (r : Fin 17408) (hr : r.val = 512 * t.val + i.val) :
    iblk m c 0 t (ix2 i k : S512x512.Idx) = V m c main_v5 (ix2 r ⟨12288 + k, by omega⟩) := by
  blk_ext [iblk, idx t]
theorem blk_g (c : Dev nD) (t : Fin cfg0.N) (k : Fin 512) :
    iblk m c 1 t (ix2 0 k : S1x512.Idx) = V m c main_v57 (ix2 0 k) := by
  blk_ext [iblk, idx t]
theorem blk_t (c : Dev nD) (t : Fin cfg0.N) (i : Fin 512) (k : Fin 128) (r : Fin 17408) (hr : r.val = 512 * t.val + i.val) :
    iblk m c 2 t (ix2 i k : S512x128.Idx) = V m c main_v56 (ix2 r k) := by
  blk_ext [iblk, idx t]
theorem blk_w (c : Dev nD) (t : Fin cfg0.N) (h : Fin 16) (k : Fin 512) (j : Fin 256) :
    iblk m c 3 t (ix3 h k j : S16x512x256.Idx) = V m c main_v18 (ix3 h k j) := by
  blk_ext [iblk, idx t]

end Cert.Queries
end
-- ==== Proof.Queries.Body.lean ====
/- The queries: what the body leaves in its output block, read at an index. -/
module
public import proofs.«01_k».proof.Proof.Gen.Kernel10Ideal.Value
public import proofs.«01_k».proof.Proof.Keys.Ref
public import Idealize.ShloMosaic.Lib.Pipeline.ValueKit
public import Idealize.ShloMosaic.Lib.Pointwise
@[expose] public section
set_option maxRecDepth 16384
noncomputable section
namespace Cert.Queries
open Cert.Kernel10Ideal Cert.Kernel10Ideal.Gen Idealize.ShloMosaic Idealize.ShloMosaic.TcCoe Idealize.SL.Sem

/-- One head's queries in a block. -/
def headQ (n : FVec Ideal S512x512 .bf16) (k : FVec Ideal S512x128 .f32) (w : Vec Ideal S1x512x256 .bf16) : FVec Ideal S1x512x256 .bf16 := k0_pay5 n k w

theorem norm_at (x : Vec Ideal S512x512 .f32) (g : Vec Ideal S1x512 .f32) (i d : Fin 512) :
    k0_pay2 (F := Ideal) x g (ix2 i d) = Cert.Keys.Ref.normRow (fun k => x (ix2 i k)) (fun k => g (ix2 0 k)) d := by
  pointwise [k0_pay2, Cert.Keys.Ref.normRow]

theorem pos_at (t : Vec Ideal S512x128 .f32) (i : Fin 512) (j : Fin 128) : k0_pay3 (F := Ideal) t (ix2 i j) = t (ix2 i j) := by
  pointwise [k0_pay3]

theorem slt_lane : ∀ j : Fin 128, IntOp.cmpi .slt (BitVec.ofNat 32 j.val) 64#32 = if j.val < 64 then 1#1 else 0#1 := by
  decide +kernel

theorem headQ_at (n : FVec Ideal S512x512 .bf16) (k : FVec Ideal S512x128 .f32) (w : Vec Ideal S1x512x256 .bf16) (i : Fin 512) (j : Fin 256) :
    headQ n k w (ix3 0 i j) = if h : j.val < 128 then ∑ q : Fin 512, n (ix2 i q) * w (ix3 0 q j)
      else if h2 : j.val - 128 < 64 then (∑ q : Fin 512, n (ix2 i q) * w (ix3 0 q j)) * k (ix2 i ⟨j - 128, by omega⟩)
          + (∑ q : Fin 512, n (ix2 i q) * w (ix3 0 q ⟨64 + j, by omega⟩)) * k (ix2 i ⟨j - 64, by omega⟩)
      else 0 := by
  unfold headQ
  pointwise [k0_pay5]
  by_cases h : j.val < 128
  · rw [dif_pos h, dif_pos h]
  · rw [dif_neg h, dif_neg h, slt_lane ⟨j - 128, by omega⟩]
    by_cases h2 : j.val - 128 < 64
    · have e1 : ∀ hq, (⟨128 + (j.val - 128), hq⟩ : Fin 256) = j := fun _ => Fin.ext (by show 128 + (j.val - 128) = j.val; omega)
      have e2 : ∀ hq, (⟨128 + (j.val - 128 + 128 - 64) % 128, hq⟩ : Fin 256) = ⟨64 + j, by omega⟩ := fun _ => Fin.ext (by show 128 + (j.val - 128 + 128 - 64) % 128 = 64 + j.val; omega)
      have e3 : ∀ hq, (⟨(j.val - 128 + 128 - 64) % 128, hq⟩ : Fin 128) = ⟨j - 64, by omega⟩ := fun _ => Fin.ext (by show (j.val - 128 + 128 - 64) % 128 = j.val - 64; omega)
      rw [if_pos h2, dif_pos h2]
      simp only [e1, e2, e3]
      rfl
    · rw [if_neg h2, dif_neg h2]
      rfl

/-- Head `h` of the weight. -/
def headW (x4 : Vec Ideal S16x512x256 .bf16) (h : Fin 16) : Vec Ideal S1x512x256 .bf16 := fun z => x4 (ix3 h (z 1) (z 2))

/-- The block of queries. -/
def blockQ (x0 : Vec Ideal S512x512 .f32) (x1 : Vec Ideal S1x512 .f32) (x2 : Vec Ideal S512x128 .f32) (x3 : Vec Ideal S16x512x256 .bf16) (y : S16x512x256.Idx) : EReal :=
  headQ (k0_pay2 x0 x1) (k0_pay3 x2) (headW x3 (y 0)) (ix3 0 (y 1) (y 2))

/-- A load of head `h`'s slice. -/
theorem ld_head (x4 : Vec Ideal S16x512x256 .bf16) (h : Fin 16) (o : Fin 3 → ℕ) (ho : o = ![h.val, 0, 0])
    (inb : ∀ a, o a + S1x512x256.size a ≤ S16x512x256.size a) :
    View.ld x4 (Rect.unit (s := S16x512x256) o S1x512x256.size inb) = headW x4 h := by
  subst ho
  funext z
  have hz : (z 0).val < 1 := (z 0).isLt
  refine View.ld_unit_apply_of x4 _ _ inb z (ix3 h (z 1) (z 2)) fun a => ?_
  fin_cases a
  · show h.val = h.val + (z 0).val
    omega
  · exact (Nat.zero_add _).symm
  · exact (Nat.zero_add _).symm

/-- One head's piece of the queries. -/
theorem pieceQ (x0 : Vec Ideal S512x512 .f32) (x1 : Vec Ideal S1x512 .f32) (x2 : Vec Ideal S512x128 .f32)
    (x3 : Vec Ideal S16x512x256 .bf16) (h : Fin 16) (x : S1x512x256.Idx) (y : S16x512x256.Idx) (h0 : (y 0).val = h.val + (x 0).val)
    (h1 : (y 1).val = (x 1).val) (h2 : (y 2).val = (x 2).val) (o : Fin 3 → ℕ) (ho : o = ![h.val, 0, 0])
    (inb : ∀ a, o a + S1x512x256.size a ≤ S16x512x256.size a) :
    headQ (k0_pay2 (View.ld x0 r0_0) (View.ld x1 r0_1)) (k0_pay3 (View.ld x2 r0_2))
      (View.ld x3 (Rect.unit (s := S16x512x256) o S1x512x256.size inb)) x = blockQ x0 x1 x2 x3 y := by
  have hx : (x 0).val < 1 := (x 0).isLt
  have e0 : y 0 = h := Fin.ext (by omega)
  have e1 : x = ix3 0 (y 1) (y 2) := by
    funext a
    fin_cases a
    · exact Fin.ext (by show (x 0).val = 0; omega)
    · exact Fin.ext h1.symm
    · exact Fin.ext h2.symm
  rw [ld_head x3 h o ho, View.ld_unit_lit' _ x0 (by decide), View.ld_unit_lit' _ x1 (by decide), View.ld_unit_lit' _ x2 (by decide)]
  unfold blockQ
  rw [e0]
  exact congrArg _ e1

theorem outQ (x0 : Vec Ideal S512x512 .f32) (x1 : Vec Ideal S1x512 .f32) (x2 : Vec Ideal S512x128 .f32) (x3 : Vec Ideal S16x512x256 .bf16) :
    out0_4 x0 x1 x2 x3 = blockQ x0 x1 x2 x3 := by
  funext y
  unfold_out out0_4
  show View.canon _ _ = _
  canon_tiles x h
  case piece0 => exact pieceQ x0 x1 x2 x3 15 x y h0 h1 h2 _ rfl _
  case piece1 => exact pieceQ x0 x1 x2 x3 14 x y h0 h1 h2 _ rfl _
  case piece2 => exact pieceQ x0 x1 x2 x3 13 x y h0 h1 h2 _ rfl _
  case piece3 => exact pieceQ x0 x1 x2 x3 12 x y h0 h1 h2 _ rfl _
  case piece4 => exact pieceQ x0 x1 x2 x3 11 x y h0 h1 h2 _ rfl _
  case piece5 => exact pieceQ x0 x1 x2 x3 10 x y h0 h1 h2 _ rfl _
  case piece6 => exact pieceQ x0 x1 x2 x3 9 x y h0 h1 h2 _ rfl _
  case piece7 => exact pieceQ x0 x1 x2 x3 8 x y h0 h1 h2 _ rfl _
  case piece8 => exact pieceQ x0 x1 x2 x3 7 x y h0 h1 h2 _ rfl _
  case piece9 => exact pieceQ x0 x1 x2 x3 6 x y h0 h1 h2 _ rfl _
  case piece10 => exact pieceQ x0 x1 x2 x3 5 x y h0 h1 h2 _ rfl _
  case piece11 => exact pieceQ x0 x1 x2 x3 4 x y h0 h1 h2 _ rfl _
  case piece12 => exact pieceQ x0 x1 x2 x3 3 x y h0 h1 h2 _ rfl _
  case piece13 => exact pieceQ x0 x1 x2 x3 2 x y h0 h1 h2 _ rfl _
  case piece14 => exact pieceQ x0 x1 x2 x3 1 x y h0 h1 h2 _ rfl _
  case piece15 => exact pieceQ x0 x1 x2 x3 0 x y (by simpa using h0) h1 h2 _ rfl _

end Cert.Queries
end
-- ==== Proof.Queries.Final.lean ====
/- The queries: what a grid point leaves in its block, and the whole result as the reference's. -/
module
public import proofs.«01_k».proof.Proof.Queries.Host
public import proofs.«01_k».proof.Proof.Queries.Body
public import Idealize.ShloMosaic.Lib.Claim
@[expose] public section
set_option maxRecDepth 16384
noncomputable section
namespace Cert.Queries
open Cert.Kernel10Ideal Cert.Kernel10Ideal.Gen Idealize.ShloMosaic Idealize.ShloMosaic.TcCoe Idealize.SL.Sem
open Idealize.ShloMosaic.Pipeline (Dat)

/-- A row of all rows, normalised. -/
def nrow (cl : FVec Ideal S4x4096x512 .f32) (cc : FVec Ideal S4x256x512 .f32) (g : FVec Ideal S512 .f32) (r : Fin 17408) (q : Fin 512) : EReal :=
  Cert.Keys.Ref.normRow (fun k => rows cl cc (ix2 r k)) (fun k => g (ix1 k)) q

theorem nl_rows (cl : FVec Ideal S4x4096x512 .f32) (cc : FVec Ideal S4x256x512 .f32) (g : FVec Ideal S512 .f32) (r : Fin 17408) (hr : r.val < 16384) (q : Fin 512) :
    (Cert.Keys.Ref.nl cl g (ix3 ⟨r / 4096, by omega⟩ ⟨r % 4096, by omega⟩ q) : EReal) = nrow cl cc g r q := by
  rw [Cert.Keys.Ref.nl_at, nrow]
  simp only [rows_at, dif_pos hr]

theorem nc_rows (cl : FVec Ideal S4x4096x512 .f32) (cc : FVec Ideal S4x256x512 .f32) (g : FVec Ideal S512 .f32) (r : Fin 17408) (hr : ¬ r.val < 16384) (q : Fin 512) :
    (Cert.Keys.Ref.nc cc g (ix3 ⟨(r - 16384) / 256, by omega⟩ ⟨(r - 16384) % 256, by omega⟩ q) : EReal) = nrow cl cc g r q := by
  rw [Cert.Keys.Ref.nc_at, nrow]
  simp only [rows_at, dif_neg hr]

/-- A row's product with a column of a head's weight. -/
def col (cl : FVec Ideal S4x4096x512 .f32) (cc : FVec Ideal S4x256x512 .f32) (g : FVec Ideal S512 .f32) (w : FVec Ideal S512x3072 .f32)
    (h : Fin 16) (r : Fin 17408) (j : Fin 256) : EReal :=
  ∑ q, nrow cl cc g r q * weight (heads w) (ix3 h q j)

/-- The table of positions. -/
abbrev pos : FVec Ideal S17408x128 .f32 := table (table1 Cert.Keys.Ref.angR Cert.Keys.Ref.angC)

theorem weight_lo (w : FVec Ideal S512x3072 .f32) (h : Fin 16) (q : Fin 512) (j : Fin 256) (hj : j.val < 192) :
    weight (heads w) (ix3 h q j) = Ref.heads w (ix3 q h ⟨j, hj⟩) := by
  rw [weight_at, dif_pos hj]
  rfl

theorem weight_hi (w : FVec Ideal S512x3072 .f32) (h : Fin 16) (q : Fin 512) (j : Fin 64) :
    weight (heads w) (ix3 h q ⟨192 + j, by omega⟩) = Ref.quarter (Ref.heads w) (ix3 q h j) := by
  have e : ∀ hq, (⟨192 + j.val - 192, hq⟩ : Fin 64) = j := fun _ => Fin.ext (by show 192 + j.val - 192 = j.val; omega)
  rw [weight_at, dif_neg (by show ¬ 192 + j.val < 192; omega), Ref.quarter_at]
  simp only [e, turned_at, rope_at]
  rfl

theorem lat_lo (cl : FVec Ideal S4x4096x512 .f32) (cc : FVec Ideal S4x256x512 .f32) (g : FVec Ideal S512 .f32) (w : FVec Ideal S512x3072 .f32)
    (h : Fin 16) (r : Fin 17408) (hr : r.val < 16384) (j : Fin 192) :
    ∑ k, (Cert.Keys.Ref.nl cl g (ix3 ⟨r / 4096, by omega⟩ ⟨r % 4096, by omega⟩ k) : EReal) * Ref.heads w (ix3 k h j) = col cl cc g w h r ⟨j, by omega⟩ := by
  refine Finset.sum_congr rfl fun q _ => ?_
  rw [nl_rows cl cc g r hr, weight_lo w h q ⟨j, by omega⟩ j.isLt]

theorem lat_hi (cl : FVec Ideal S4x4096x512 .f32) (cc : FVec Ideal S4x256x512 .f32) (g : FVec Ideal S512 .f32) (w : FVec Ideal S512x3072 .f32)
    (h : Fin 16) (r : Fin 17408) (hr : r.val < 16384) (j : Fin 64) :
    ∑ k, (Cert.Keys.Ref.nl cl g (ix3 ⟨r / 4096, by omega⟩ ⟨r % 4096, by omega⟩ k) : EReal) * Ref.quarter (Ref.heads w) (ix3 k h j) = col cl cc g w h r ⟨192 + j, by omega⟩ := by
  refine Finset.sum_congr rfl fun q _ => ?_
  rw [nl_rows cl cc g r hr, weight_hi w h q j]

theorem con_lo (cl : FVec Ideal S4x4096x512 .f32) (cc : FVec Ideal S4x256x512 .f32) (g : FVec Ideal S512 .f32) (w : FVec Ideal S512x3072 .f32)
    (h : Fin 16) (r : Fin 17408) (hr : ¬ r.val < 16384) (j : Fin 192) :
    ∑ k, (Cert.Keys.Ref.nc cc g (ix3 ⟨(r - 16384) / 256, by omega⟩ ⟨(r - 16384) % 256, by omega⟩ k) : EReal) * Ref.heads w (ix3 k h j) = col cl cc g w h r ⟨j, by omega⟩ := by
  refine Finset.sum_congr rfl fun q _ => ?_
  rw [nc_rows cl cc g r hr, weight_lo w h q ⟨j, by omega⟩ j.isLt]

/-- The positions' table against the reference's. -/
theorem pos_cos (r : Fin 17408) (hr : r.val < 16384) (j : Fin 64) :
    pos (ix2 r ⟨j, by omega⟩) = Cert.Keys.Ref.cosT (ix3 ⟨r % 4096, by omega⟩ ⟨j / 32, by omega⟩ ⟨j % 16, by omega⟩) := by
  rw [pos, table_at, if_pos hr, table1_at, dif_pos j.isLt, half_at, Cert.Keys.Ref.cosT_at]
  rfl

theorem pos_sin (r : Fin 17408) (hr : r.val < 16384) (j : Fin 64) :
    pos (ix2 r ⟨64 + j, by omega⟩) = Cert.Keys.Ref.sinT (ix3 ⟨r % 4096, by omega⟩ ⟨j / 32, by omega⟩ ⟨j % 16, by omega⟩) := by
  have e : ∀ hq, (⟨64 + j.val - 64, hq⟩ : Fin 64) = j := fun _ => Fin.ext (by show 64 + j.val - 64 = j.val; omega)
  rw [pos, table_at, if_pos hr, table1_at, dif_neg (by show ¬ 64 + j.val < 64; omega), e, half_at, Cert.Keys.Ref.sinT_at]
  rfl

/-- The reference over all rows' array. -/
theorem ref_rows (cl : FVec Ideal S4x4096x512 .f32) (cc : FVec Ideal S4x256x512 .f32) (g : FVec Ideal S512 .f32) (w : FVec Ideal S512x3072 .f32)
    (h : Fin 16) (r : Fin 17408) (j : Fin 256) :
    Ref.queries cl cc g w (ix3 h r j) = if hj : j.val < 128 then col cl cc g w h r j
      else if hj2 : j.val - 128 < 64 then col cl cc g w h r j * pos (ix2 r ⟨j - 128, by omega⟩) + col cl cc g w h r ⟨64 + j, by omega⟩ * pos (ix2 r ⟨j - 64, by omega⟩)
      else 0 := by
  unfold Ref.queries
  refine (Ref.join_at _ _ h r j).trans ?_
  by_cases hj : j.val < 128
  · rw [dif_pos hj, dif_pos (show j.val < 192 by omega)]
    by_cases hr : r.val < 16384
    · rw [dif_pos hr, Ref.latent_at, dif_pos hj]
      exact lat_lo cl cc g w h r hr ⟨j, by omega⟩
    · rw [dif_neg hr, Ref.context_at]
      exact con_lo cl cc g w h r hr ⟨j, by omega⟩
  · rw [dif_neg hj]
    by_cases hj2 : j.val - 128 < 64
    · obtain ⟨i, hi, rfl⟩ : ∃ i : Fin 64, ∃ hi : 128 + i.val < 256, j = ⟨128 + i, hi⟩ := ⟨⟨j - 128, hj2⟩, by show 128 + (j.val - 128) < 256; omega, Fin.ext (by show j.val = 128 + (j.val - 128); omega)⟩
      have f1 : ∀ hq, (⟨128 + i.val - 128, hq⟩ : Fin 64) = i := fun _ => Fin.ext (by show 128 + i.val - 128 = i.val; omega)
      have f2 : (⟨128 + i.val - 128, by omega⟩ : Fin 128) = ⟨i, by omega⟩ := Fin.ext (by show 128 + i.val - 128 = i.val; omega)
      have f3 : (⟨128 + i.val - 64, by omega⟩ : Fin 128) = ⟨64 + i, by omega⟩ := Fin.ext (by show 128 + i.val - 64 = 64 + i.val; omega)
      have f4 : (⟨64 + (128 + i.val), by omega⟩ : Fin 256) = ⟨192 + i, by omega⟩ := Fin.ext (by show 64 + (128 + i.val) = 192 + i.val; omega)
      rw [dif_pos hj2, dif_pos (show 128 + i.val < 192 by omega)]
      show _ = col cl cc g w h r ⟨128 + i.val, _⟩ * pos (ix2 r ⟨128 + i.val - 128, _⟩) + col cl cc g w h r ⟨64 + (128 + i.val), _⟩ * pos (ix2 r ⟨128 + i.val - 64, _⟩)
      rw [f2, f3, f4]
      by_cases hr : r.val < 16384
      · rw [dif_pos hr, Ref.latent_at, dif_neg hj, pos_cos r hr i, pos_sin r hr i, f1, Ref.rotary_at]
        exact congrArg₂ (fun a b : EReal => a * _ + b * _) (lat_lo cl cc g w h r hr ⟨128 + i, by omega⟩) (lat_hi cl cc g w h r hr i)
      · rw [dif_neg hr, Ref.context_at, pos, table_at, table_at, if_neg hr, if_neg hr, if_pos i.isLt, if_neg (by show ¬ 64 + i.val < 64; omega), mul_one, mul_zero, add_zero]
        exact con_lo cl cc g w h r hr ⟨128 + i, by omega⟩
    · rw [dif_neg hj2, dif_neg (show ¬ j.val < 192 by omega)]

variable (m : (ℓ : Loc nD τ sig) → Buf (Elt Ideal) ℓ)

/-- The reference at the kernel's arguments. -/
abbrev ref (c : Dev nD) : FVec Ideal S16x17408x256 .bf16 := Ref.queries (m ((c : Thread nD τ).loc main_arg0)) (m ((c : Thread nD τ).loc main_arg1))
  (m ((c : Thread nD τ).loc main_arg2)) (m ((c : Thread nD τ).loc main_arg3))

/-- One column of a block's product with a head's weight. -/
theorem prod_rows (c : Dev nD) (t : Fin cfg0.N) (h : Fin 16) (i : Fin 512) (j : Fin 256) (r : Fin 17408) (hr : r.val = 512 * t.val + i.val) :
    ∑ q : Fin 512, k0_pay2 (F := Ideal) (iblk m c 0 t) (iblk m c 1 t) (ix2 i q) * headW (iblk m c 3 t) h (ix3 0 q j)
      = col (m ((c : Thread nD τ).loc main_arg0)) (m ((c : Thread nD τ).loc main_arg1)) (m ((c : Thread nD τ).loc main_arg2)) (m ((c : Thread nD τ).loc main_arg3)) h r j := by
  refine Finset.sum_congr rfl fun q _ => ?_
  rw [norm_at]
  have e1 : (fun k : Fin 512 => (iblk m c 0 t (ix2 i k : S512x512.Idx) : EReal)) = fun k => rows (m ((c : Thread nD τ).loc main_arg0)) (m ((c : Thread nD τ).loc main_arg1)) (ix2 r k) := by
    funext k
    rw [blk_p m c t i k r hr, V_p, packed_mid]
  have e2 : (fun k : Fin 512 => (iblk m c 1 t (ix2 0 k : S1x512.Idx) : EReal)) = fun k => (m ((c : Thread nD τ).loc main_arg2) : FVec Ideal S512 .f32) (ix1 k) := by
    funext k
    rw [blk_g m c t k, V_g]
    exact gain_at _ k
  have e3 : (headW (iblk m c 3 t) h (ix3 0 q j) : EReal) = weight (heads (m ((c : Thread nD τ).loc main_arg3))) (ix3 h q j) := by
    refine (blk_w m c t h q j).trans ?_
    rw [V_w]
    rfl
  exact congrArg₂ (fun a b : EReal => a * b) (congrArg₂ (fun a b => Cert.Keys.Ref.normRow a b q) e1 e2) e3

theorem table_rows (c : Dev nD) (t : Fin cfg0.N) (i : Fin 512) (k : Fin 128) (r : Fin 17408) (hr : r.val = 512 * t.val + i.val) :
    k0_pay3 (F := Ideal) (iblk m c 2 t) (ix2 i k) = pos (ix2 r k) := by
  rw [pos_at, blk_t m c t i k r hr, V_t]

theorem point (c : Dev nD) (t : Fin cfg0.N) (y : S16x512x256.Idx) (r : Fin 17408) (hr : r.val = 512 * t.val + (y 1).val) :
    out0_4 (iblk m c 0 t) (iblk m c 1 t) (iblk m c 2 t) (iblk m c 3 t) y = ref m c (ix3 (y 0) r (y 2)) := by
  obtain ⟨h, i, j, rfl⟩ : ∃ (h : Fin 16) (i : Fin 512) (j : Fin 256), y = ix3 h i j := ⟨y 0, y 1, y 2, by funext a; fin_cases a <;> rfl⟩
  have hr : r.val = 512 * t.val + i.val := hr
  rw [outQ]
  show headQ (k0_pay2 (iblk m c 0 t) (iblk m c 1 t)) (k0_pay3 (iblk m c 2 t)) (headW (iblk m c 3 t) h) (ix3 0 i j) = Ref.queries _ _ _ _ (ix3 h r j)
  rw [headQ_at, ref_rows]
  by_cases hj : j.val < 128
  · rw [dif_pos hj, dif_pos hj]
    exact prod_rows m c t h i j r hr
  · rw [dif_neg hj, dif_neg hj]
    by_cases hj2 : j.val - 128 < 64
    · rw [dif_pos hj2, dif_pos hj2]
      exact congrArg₂ (fun a b : EReal => a + b)
        (congrArg₂ (fun a b : EReal => a * b) (prod_rows m c t h i j r hr) (table_rows m c t i ⟨j - 128, by omega⟩ r hr))
        (congrArg₂ (fun a b : EReal => a * b) (prod_rows m c t h i ⟨64 + j, by omega⟩ r hr) (table_rows m c t i ⟨j - 64, by omega⟩ r hr))
    · rw [dif_neg hj2, dif_neg hj2]

/-- All queries. -/
theorem final (c : Dev nD) : (dats m 0 c).arrAt 4 cfg0.N = ref m c := by
  refine (dats m 0 c).arrAt_eq_of_covers 4 _ (by decide +kernel) fun t _ y => ?_
  blk_simp
  rw [after0_4]
  have e := idx t
  rw [point m c t y ((win0_4.blk t).view.emb y 1) ?_]
  · refine congrArg _ (funext fun a => ?_)
    fin_cases a
    · refine Fin.ext ?_
      blk_simp
      rw [e.2.2.2.2]
      show (y 0).val = 0 * 16 + (y 0).val
      omega
    · rfl
    · refine Fin.ext ?_
      blk_simp
      rw [e.2.2.2.2]
      show (y 2).val = 0 * 256 + (y 2).val
      omega
  · blk_simp
    rw [e.2.2.2.2]
    show t.val * 512 + (y 1).val = 512 * t.val + (y 1).val
    omega

end Cert.Queries
end
-- ==== Proof.Queries.Claims.lean ====
/- The claims on the queries: the frames of the three programs and the equality of the kernel's result with the reference's. -/
module
public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Queries.Final
@[expose] public section
set_option maxRecDepth 16384
noncomputable section
namespace Cert.Queries.Claims
open Idealize.ShloMosaic Idealize.SL.Sem

theorem frame_kernel : Cert.quiescent_Kernel10 := fun m ρ _ => Cert.Kernel10.Gen.frame m ρ
theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- On any arguments the kernel leaves the reference's array. -/
theorem equal : Cert.algebraic_Kernel10Ideal_Reference10Ideal := by
  intro m ρ m' ρ' _ hagree
  refine ⟨fun c => ref m c, ?_, ?_⟩
  · exact (θ_run Cert.Kernel10Ideal.defs _ _).mono (fun r h c => ⟨(h c).1.trans (final m c), (h c).2⟩)
      (Cert.Kernel10Ideal.Value.run_blocks m ρ)
  · refine (θ_run Cert.Reference10Ideal.defs _ _).mono (fun r h c => ⟨(h c).1.trans ?_, (h c).2⟩) (Cert.Reference10Ideal.Value.run m' ρ')
    obtain ⟨e0, e1, e2, e3⟩ := hagree c
    unfold Cert.Reference10Ideal.Value.res_main_v94
    rw [e0, e1, e2, e3]
    rfl
end Cert.Queries.Claims
end
-- ==== Proof.PoolCtx.Host.lean ====
/- The context tokens' pooling: the arrays the windows stage, and the blocks of a grid point. Point `t` is batch `t`, rows `16384 + 256 t` to `16384 + 256 t + 255` of the projection. -/
module
public import proofs.«01_k».proof.Proof.Gen.Kernel11Ideal.Value
public import Idealize.ShloMosaic.Lib.Pipeline.ValueKit
public import Idealize.ShloMosaic.Lib.Pointwise
@[expose] public section
set_option maxRecDepth 16384
noncomputable section
namespace Cert.PoolCtx
open Cert.Kernel11Ideal Cert.Kernel11Ideal.Gen Idealize.ShloMosaic Idealize.ShloMosaic.TcCoe Idealize.SL.Sem
open Idealize.ShloMosaic.Pipeline (Dat)

/-- The latent rows of all batches, then the context rows, with zero columns on both sides. -/
def packed (l : FVec Ideal S4x4096x1024 .f32) (x : FVec Ideal S4x256x1024 .f32) : FVec Ideal S17408x13824 .f32 :=
  concatenate S17408x13824 1 [⟨S17408x11264, broadcastInDim S17408x11264 ![] bcast_S_S17408x11264 (constant S_ .f32 0x00000000#32)⟩,
    ⟨S17408x1024, concatenate S17408x1024 0 [⟨S16384x1024, shapeCast S16384x1024 l shapeCasts_S4x4096x1024_S16384x1024⟩,
      ⟨S1024x1024, shapeCast S1024x1024 x shapeCasts_S4x256x1024_S1024x1024⟩] concatenates_S16384x1024_S1024x1024_S17408x1024_d0⟩,
    ⟨S17408x1536, broadcastInDim S17408x1536 ![] bcast_S_S17408x1536 (constant S_ .f32 0x00000000#32)⟩]
    concatenates_S17408x11264_S17408x1024_S17408x1536_S17408x13824_d1

theorem packed_at (l : FVec Ideal S4x4096x1024 .f32) (x : FVec Ideal S4x256x1024 .f32) (r : Fin 17408) (n : Fin 4) (t : Fin 256) (d : Fin 1024)
    (hr : r.val = 16384 + 256 * n.val + t.val) : packed l x (ix2 r ⟨11264 + d, by omega⟩) = x (ix3 n t d) := by
  have e3 : (⟨(r.val - 16384) / 256, by omega⟩ : Fin 4) = n := Fin.ext (by show (r.val - 16384) / 256 = n.val; omega)
  have e4 : (⟨(r.val - 16384) % 256, by omega⟩ : Fin 256) = t := Fin.ext (by show (r.val - 16384) % 256 = t.val; omega)
  pointwise [packed]
  rw [dif_neg (by omega), e3, e4]

variable (m : (ℓ : Loc nD τ sig) → Buf (Elt Ideal) ℓ)

theorem V_p (c : Dev nD) : V m c main_v5 = packed (m ((c : Thread nD τ).loc main_arg0)) (m ((c : Thread nD τ).loc main_arg1)) := by
  unfold V
  simp only [List.flatten_cons, List.flatten_nil, List.append_nil, List.cons_append, List.nil_append, hostOps0]
  after_results
  rfl
theorem V_w (c : Dev nD) : V m c main_v6 = truncf (F := Ideal) .bf16 (m ((c : Thread nD τ).loc main_arg2)) bitsLt_bf16_f32 := by
  unfold V
  simp only [List.flatten_cons, List.flatten_nil, List.append_nil, List.cons_append, List.nil_append, hostOps0]
  after_results
theorem V_g (c : Dev nD) : V m c main_v7 = shapeCast S1x1024 (m ((c : Thread nD τ).loc main_arg3)) shapeCasts_S1024_S1x1024 := by
  unfold V
  simp only [List.flatten_cons, List.flatten_nil, List.append_nil, List.cons_append, List.nil_append, hostOps0]
  after_results
  rfl

theorem scale_at (g : FVec Ideal S1024 .f32) (k : Fin 1024) : (shapeCast S1x1024 g shapeCasts_S1024_S1x1024 : FVec Ideal S1x1024 .f32) (ix2 0 k) = g (ix1 k) := by
  pointwise []

theorem idx : ∀ t : Fin cfg0.N, win0_1.index t = ![t.val + 64, 11]
    ∧ win0_3.index t = ![0, 0, 0] ∧ win0_4.index t = ![0, 0] ∧ win0_5.index t = ![t.val, 0] ∧ ((grid0.coords t) 1).val = 0 :=
  (by decide +kernel : ∀ t : Fin grid0.N, _)

theorem lt (t : Fin cfg0.N) : t.val < 4 := t.isLt

theorem blk_cur (c : Dev nD) (t : Fin cfg0.N) (i : Fin 256) (k : Fin 1024) (r : Fin 17408) (hr : r.val = 16384 + 256 * t.val + i.val) :
    X0_1 m c t (ix2 i k : S256x1024.Idx) = V m c main_v5 (ix2 r ⟨11264 + k, by omega⟩) := by
  unfold X0_1 Pipeline.Window.fill
  rw [dif_pos (moved0_1 t _)]
  blk_ext [iblk, idx t]
theorem blk_w (c : Dev nD) (t : Fin cfg0.N) (g : Fin 4) (k o : Fin 256) :
    iblk m c 3 t (ix3 g k o : S4x256x256.Idx) = V m c main_v6 (ix3 g k o) := by
  blk_ext [iblk, idx t]
theorem blk_g (c : Dev nD) (t : Fin cfg0.N) (k : Fin 1024) :
    iblk m c 4 t (ix2 0 k : S1x1024.Idx) = V m c main_v7 (ix2 0 k) := by
  blk_ext [iblk, idx t]
end Cert.PoolCtx
end
-- ==== Proof.PoolCtx.Math.lean ====
/- Sums over a window of positions: a sum over all positions with a factor one inside the window and zero outside is the sum of the window's values, zero standing at positions before the first and after the last. -/
module
public import Idealize.ShloMosaic.Lib.Pointwise
@[expose] public section
noncomputable section
namespace Cert.PoolCtx
open Finset

/-- A sequence of 256 values with zeros around it: the value of position `n - 8`. -/
def ext (u : Fin 256 → EReal) (n : ℕ) : EReal := if h : 8 ≤ n ∧ n < 264 then u ⟨n - 8, by omega⟩ else 0

/-- The sum of the window of half width `half` around position `t`. -/
def win (u : Fin 256 → EReal) (half t : ℕ) : EReal := ∑ k ∈ range (2 * half), ext u (t + 8 - half + k)

theorem sum_ext (f : ℕ → EReal) : ∑ s : Fin 256, f (s.val + 8) = ∑ n ∈ Ico 8 264, f n := by
  rw [Finset.sum_Ico_eq_sum_range, Finset.sum_range]
  exact Finset.sum_congr rfl fun s _ => by rw [Nat.add_comm]

theorem band (u : Fin 256 → EReal) (half t : ℕ) (hh : half ≤ 8) (ht : t < 256) :
    ∑ s : Fin 256, (if t ≤ s.val + half ∧ s.val < t + half then (1 : EReal) else 0) * u s = win u half t := by
  have e : ∀ s : Fin 256, (if t ≤ s.val + half ∧ s.val < t + half then (1 : EReal) else 0) * u s
      = (fun n => if t + 8 ≤ n + half ∧ n < t + 8 + half then ext u n else 0) (s.val + 8) := by
    intro s
    have hs := s.isLt
    have hx : ext u (s.val + 8) = u s := by
      unfold ext
      rw [dif_pos ⟨by omega, by omega⟩]
      exact congrArg u (Fin.ext (Nat.add_sub_cancel _ _))
    show _ = if t + 8 ≤ s.val + 8 + half ∧ s.val + 8 < t + 8 + half then ext u (s.val + 8) else 0
    rw [hx]
    by_cases h : t ≤ s.val + half ∧ s.val < t + half
    · rw [if_pos h, if_pos (by omega), one_mul]
    · rw [if_neg h, if_neg (by omega), zero_mul]
  refine (Finset.sum_congr rfl fun s _ => e s).trans ((sum_ext fun n => if t + 8 ≤ n + half ∧ n < t + 8 + half then ext u n else 0).trans ?_)
  rw [← Finset.sum_filter]
  have w : win u half t = ∑ n ∈ Ico (t + 8 - half) (t + 8 + half), ext u n := by
    rw [Finset.sum_Ico_eq_sum_range, show t + 8 + half - (t + 8 - half) = 2 * half by omega]
    rfl
  rw [w]
  refine Finset.sum_subset ?_ ?_
  · intro n hn
    simp only [mem_filter, mem_Ico] at hn ⊢
    omega
  · intro n hn hn'
    simp only [mem_filter, mem_Ico] at hn hn'
    unfold ext
    rw [dif_neg (by omega)]
end Cert.PoolCtx
end
-- ==== Proof.PoolCtx.Ref.lean ====
/- The reference of the context tokens' pooling as a term of its arguments, and that term read at an index. -/
module
public import proofs.«01_k».proof.Proof.Gen.Reference11Ideal.Run
public import proofs.«01_k».proof.Proof.PoolCtx.Math
public import Idealize.ShloMosaic.Lib.Pointwise
@[expose] public section
set_option maxRecDepth 16384
noncomputable section
namespace Cert.PoolCtx.Ref
open Cert.Reference11Ideal Cert.Reference11Ideal.Gen Idealize.ShloMosaic Idealize.ShloMosaic.TcCoe Idealize.SL.Sem

/-- The first position of each position's window. -/
def lo (h : BitVec 32) : IVec S256 32 :=
  maxsi (subi (iotaInDim S256 32 0) (broadcastInDim S256 ![] bcast_S_S256 (constantI S_ 32 h))) (broadcastInDim S256 ![] bcast_S_S256 (constantI S_ 32 0#32))

/-- The position after the last of each position's window. -/
def hi (h : BitVec 32) : IVec S256 32 :=
  minsi (addi (iotaInDim S256 32 0) (broadcastInDim S256 ![] bcast_S_S256 (constantI S_ 32 h))) (broadcastInDim S256 ![] bcast_S_S256 (constantI S_ 32 256#32))

/-- One where the second position lies in the first one's window, zero elsewhere. -/
def inside (l r : IVec S256 32) : FVec Ideal S256x256 .f32 :=
  uitofp .f32 (andi (cmpi .sge (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 l)))
    (cmpi .slt (broadcastInDim S256x256 ![0, 1] bcast_S1x256_S256x256_0_1 (broadcastInDim S1x256 ![1] bcast_S256_S1x256_1 (iotaInDim S256 32 0)))
      (broadcastInDim S256x256 ![0, 1] bcast_S256x1_S256x256_0_1 (broadcastInDim S256x1 ![0] bcast_S256_S256x1_0 r))))

/-- The window's mean less the token. -/
def mean (l r : IVec S256 32) (x : FVec Ideal S4x256x256 .f32) : FVec Ideal S4x256x256 .f32 :=
  subf (Host.divf (transpose S4x256x256 [0, 2, 1] (Host.dotGeneral dot_S4x256x256_S256x256_S4x256x256_1_1_02_0_n_n none x (inside l r)) transposes_S4x256x256_S4x256x256_0_2_1)
    (broadcastInDim S4x256x256 ![0, 1, 2] bcast_S1x256x1_S4x256x256_0_1_2 (broadcastInDim S1x256x1 ![1] bcast_S256_S1x256x1_1 (sitofp .f32 (subi r l))))) x

/-- The four groups side by side. -/
def stacked (a b c d : FVec Ideal S4x256x256 .f32) : FVec Ideal S4x256x4x256 .f32 :=
  concatenate S4x256x4x256 2 [⟨S4x256x1x256, broadcastInDim S4x256x1x256 ![0, 1, 3] bcast_S4x256x256_S4x256x1x256_0_1_3 a⟩,
    ⟨S4x256x1x256, broadcastInDim S4x256x1x256 ![0, 1, 3] bcast_S4x256x256_S4x256x1x256_0_1_3 b⟩,
    ⟨S4x256x1x256, broadcastInDim S4x256x1x256 ![0, 1, 3] bcast_S4x256x256_S4x256x1x256_0_1_3 c⟩,
    ⟨S4x256x1x256, broadcastInDim S4x256x1x256 ![0, 1, 3] bcast_S4x256x256_S4x256x1x256_0_1_3 d⟩]
    concatenates_S4x256x1x256_S4x256x1x256_S4x256x1x256_S4x256x1x256_S4x256x4x256_d2

/-- The four groups' pooled tokens. -/
def pooled (u : FVec Ideal S4x256x1024 .f32) : FVec Ideal S4x256x4x256 .f32 :=
  stacked (mean (lo 1#32) (hi 1#32) (extractStridedSlice S4x256x256 ![0, 0, 0] u slices_S4x256x1024_S4x256x256_0_0_0))
    (mean (lo 2#32) (hi 2#32) (extractStridedSlice S4x256x256 ![0, 0, 256] u slices_S4x256x1024_S4x256x256_0_0_256))
    (mean (lo 4#32) (hi 4#32) (extractStridedSlice S4x256x256 ![0, 0, 512] u slices_S4x256x1024_S4x256x256_0_0_512))
    (mean (lo 8#32) (hi 8#32) (extractStridedSlice S4x256x256 ![0, 0, 768] u slices_S4x256x1024_S4x256x256_0_0_768))

/-- The result from the pooled tokens. -/
def mixed (p : FVec Ideal S4x256x4x256 .f32) (w : FVec Ideal S4x256x256 .f32) (g : FVec Ideal S1024 .f32) : FVec Ideal S1024x1024 .bf16 :=
  truncf .bf16 (mulf (shapeCast _ (transpose S4x256x4x256 [2, 3, 0, 1] (Host.dotGeneral dot_S4x256x256_S4x256x4x256_S4x256x4x256_1_3_2_01_0_2 none w p) transposes_S4x256x4x256_S4x256x4x256_2_3_0_1) shapeCasts_S4x256x4x256_S1024x1024)
    (broadcastInDim S1024x1024 ![0, 1] bcast_S1x1024_S1024x1024_0_1 (broadcastInDim S1x1024 ![1] bcast_S1024_S1x1024_1 g))) bitsLt_bf16_f32

/-- The result. -/
def result (u : FVec Ideal S4x256x1024 .f32) (w : FVec Ideal S4x256x256 .f32) (g : FVec Ideal S1024 .f32) : FVec Ideal S1024x1024 .bf16 :=
  mixed (pooled u) w g

theorem toInt_small (a : ℕ) (ha : a ≤ 256) : (BitVec.ofNat 32 a).toInt = (a : ℤ) := by
  rw [BitVec.toInt_eq_toNat_cond, BitVec.toNat_ofNat, Nat.mod_eq_of_lt (by omega), if_pos (by omega)]

theorem sge_at (a b : ℕ) (ha : a ≤ 256) (hb : b ≤ 256) : IntOp.cmpi .sge (BitVec.ofNat 32 a) (BitVec.ofNat 32 b) = if b ≤ a then 1#1 else 0#1 := by
  have e : (BitVec.ofNat 32 b).sle (BitVec.ofNat 32 a) = decide (b ≤ a) := by
    rw [BitVec.sle, toInt_small a ha, toInt_small b hb]
    exact decide_eq_decide.mpr (by omega)
  show BitVec.ofBool ((BitVec.ofNat 32 b).sle (BitVec.ofNat 32 a)) = _
  rw [e]
  by_cases h : b ≤ a <;> simp [h]

theorem slt_at (a b : ℕ) (ha : a ≤ 256) (hb : b ≤ 256) : IntOp.cmpi .slt (BitVec.ofNat 32 a) (BitVec.ofNat 32 b) = if a < b then 1#1 else 0#1 := by
  have e : (BitVec.ofNat 32 a).slt (BitVec.ofNat 32 b) = decide (a < b) := by
    rw [BitVec.slt, toInt_small a ha, toInt_small b hb]
    exact decide_eq_decide.mpr (by omega)
  show BitVec.ofBool ((BitVec.ofNat 32 a).slt (BitVec.ofNat 32 b)) = _
  rw [e]
  by_cases h : a < b <;> simp [h]

/-- The first position of the window of half width `h` around a position, and the position after its last. -/
def loV (h p : BitVec 32) : BitVec 32 := IntOp.maxsi (IntOp.subi p h) 0#32
def hiV (h p : BitVec 32) : BitVec 32 := IntOp.minsi (IntOp.addi p h) 256#32

theorem lo_at (h : BitVec 32) (t : Fin 256) : lo h (ix1 t) = loV h (BitVec.ofNat 32 t) := by
  pointwise [lo]
  rfl

theorem hi_at (h : BitVec 32) (t : Fin 256) : hi h (ix1 t) = hiV h (BitVec.ofNat 32 t) := by
  pointwise [hi]
  rfl

theorem loV_at : ∀ (g : Fin 4) (t : Fin 256), loV (BitVec.ofNat 32 (2 ^ g.val)) (BitVec.ofNat 32 t.val) = BitVec.ofNat 32 (t.val - 2 ^ g.val) := by
  decide +kernel

theorem hiV_at : ∀ (g : Fin 4) (t : Fin 256), hiV (BitVec.ofNat 32 (2 ^ g.val)) (BitVec.ofNat 32 t.val) = BitVec.ofNat 32 (min (t.val + 2 ^ g.val) 256) := by
  decide +kernel

theorem bit_one : FloatOps.uitofp (F := Ideal) .f32 (1#1) = (1 : EReal) := by
  show (((1#1).toNat : ℝ) : EReal) = 1
  simp
theorem bit_zero : FloatOps.uitofp (F := Ideal) .f32 (0#1) = (0 : EReal) := by
  show (((0#1).toNat : ℝ) : EReal) = 0
  simp

theorem inside_at (l r : IVec S256 32) (t s : Fin 256) (a b : ℕ) (ha : a ≤ 256) (hb : b ≤ 256) (hl : l (ix1 t) = BitVec.ofNat 32 a) (hr : r (ix1 t) = BitVec.ofNat 32 b) :
    inside l r (ix2 t s) = if a ≤ s.val ∧ s.val < b then 1 else 0 := by
  have hs := s.isLt
  pointwise [inside]
  rw [hl, hr, sge_at _ _ (by omega) ha, slt_at _ _ (by omega) hb]
  by_cases h1 : a ≤ s.val <;> by_cases h2 : s.val < b <;> simp [h1, h2]
  · exact bit_one
  · exact bit_zero
  · exact bit_zero
  · exact bit_zero

theorem mean_at (l r : IVec S256 32) (x : FVec Ideal S4x256x256 .f32) (b : Fin 4) (t : Fin 256) (d : Fin 256) :
    mean l r x (ix3 b t d) = Ideal.div (∑ s : Fin 256, x (ix3 b s d) * inside l r (ix2 t s)) (FloatOps.sitofp (F := Ideal) .f32 (IntOp.subi (r (ix1 t)) (l (ix1 t)))) - x (ix3 b t d) := by
  pointwise [mean]

/-- A token of one channel pooled: the window's sum over the number of its positions, less the token. -/
def pool (u : Fin 256 → EReal) (g : Fin 4) (t : Fin 256) : EReal :=
  Ideal.div (win u (2 ^ g.val) t.val)
    (FloatOps.sitofp (F := Ideal) .f32 (IntOp.subi (hiV (BitVec.ofNat 32 (2 ^ g.val)) (BitVec.ofNat 32 t.val)) (loV (BitVec.ofNat 32 (2 ^ g.val)) (BitVec.ofNat 32 t.val)))) - u t

theorem half_le : ∀ g : Fin 4, 2 ^ g.val ≤ 8 := by decide

theorem group_at (g : Fin 4) (x : FVec Ideal S4x256x256 .f32) (b : Fin 4) (t : Fin 256) (d : Fin 256) :
    mean (lo (BitVec.ofNat 32 (2 ^ g.val))) (hi (BitVec.ofNat 32 (2 ^ g.val))) x (ix3 b t d) = pool (fun s => x (ix3 b s d)) g t := by
  have ht := t.isLt
  have hg := half_le g
  rw [mean_at, hi_at, lo_at]
  unfold pool
  rw [← band _ _ _ hg ht]
  congr 2
  refine Finset.sum_congr rfl fun s _ => ?_
  have hs := s.isLt
  rw [inside_at _ _ t s (t.val - 2 ^ g.val) (min (t.val + 2 ^ g.val) 256) ((Nat.sub_le _ _).trans (by omega)) (Nat.min_le_right _ _) ((lo_at _ t).trans (loV_at g t)) ((hi_at _ t).trans (hiV_at g t)), mul_comm]
  congr 1
  refine if_congr ?_ rfl rfl
  generalize 2 ^ g.val = h at hg
  omega

theorem stacked_at0 (a b c d : FVec Ideal S4x256x256 .f32) (n : Fin 4) (t : Fin 256) (g : Fin 4) (o : Fin 256) : stacked a b c d (ix4 n t g o) = ![a, b, c, d] g (ix3 n t o) := by
  fin_cases g <;> pointwise [stacked]

theorem pooled_at (u : FVec Ideal S4x256x1024 .f32) (n : Fin 4) (t : Fin 256) (g : Fin 4) (o : Fin 256) :
    pooled u (ix4 n t g o) = pool (fun s => u (ix3 n s ⟨256 * g.val + o.val, by omega⟩)) g t := by
  unfold pooled
  rw [stacked_at0]
  fin_cases g
  · refine (group_at 0 _ n t o).trans ?_
    congr 1
    funext s
    pointwise []
  · refine (group_at 1 _ n t o).trans ?_
    congr 1
    funext s
    pointwise []
  · refine (group_at 2 _ n t o).trans ?_
    congr 1
    funext s
    pointwise []
  · refine (group_at 3 _ n t o).trans ?_
    congr 1
    funext s
    pointwise []

theorem mixed_at (p : FVec Ideal S4x256x4x256 .f32) (w : FVec Ideal S4x256x256 .f32) (q : FVec Ideal S1024 .f32) (n : Fin 4) (t : Fin 256) (g : Fin 4) (o : Fin 256) (r : Fin 1024) (c : Fin 1024)
    (hr : r.val = 256 * n.val + t.val) (hc : c.val = 256 * g.val + o.val) :
    mixed p w q (ix2 r c) = (∑ k : Fin 256, w (ix3 g k o) * p (ix4 n t g k)) * q (ix1 c) := by
  have e1 : (⟨c.val / 256, by omega⟩ : Fin 4) = g := Fin.ext (by show c.val / 256 = g.val; omega)
  have e2 : (⟨c.val % 256, by omega⟩ : Fin 256) = o := Fin.ext (by show c.val % 256 = o.val; omega)
  have e3 : (⟨r.val / 256, by omega⟩ : Fin 4) = n := Fin.ext (by show r.val / 256 = n.val; omega)
  have e4 : (⟨r.val % 256, by omega⟩ : Fin 256) = t := Fin.ext (by show r.val % 256 = t.val; omega)
  pointwise [mixed]
  rw [e1, e2, e3, e4]

/-- The result at row `256 n + t` and column `256 g + o`. -/
theorem result_at (u : FVec Ideal S4x256x1024 .f32) (w : FVec Ideal S4x256x256 .f32) (q : FVec Ideal S1024 .f32) (n : Fin 4) (t : Fin 256) (g : Fin 4) (o : Fin 256) (r : Fin 1024) (c : Fin 1024)
    (hr : r.val = 256 * n.val + t.val) (hc : c.val = 256 * g.val + o.val) :
    result u w q (ix2 r c) = (∑ k : Fin 256, pool (fun s => u (ix3 n s ⟨256 * g.val + k.val, by omega⟩)) g t * w (ix3 g k o)) * q (ix1 c) := by
  unfold result
  rw [mixed_at _ w q n t g o r c hr hc]
  simp only [pooled_at, mul_comm (w _)]
end Cert.PoolCtx.Ref
end
-- ==== Proof.PoolCtx.Body.lean ====
/- The context tokens' pooling at a grid point: the buffer of the tile's rows with eight rows on each side, and the four groups of the output block. -/
module
public import proofs.«01_k».proof.Proof.Gen.Kernel11Ideal.Value
public import proofs.«01_k».proof.Proof.PoolCtx.Ref
public import Idealize.ShloMosaic.Lib.Pipeline.ValueKit
public import Idealize.ShloMosaic.Lib.Pipeline.ReadBack
@[expose] public section
set_option maxRecDepth 16384
noncomputable section
namespace Cert.PoolCtx
open Cert.Kernel11Ideal Cert.Kernel11Ideal.Gen Idealize.ShloMosaic Idealize.ShloMosaic.TcCoe Idealize.SL.Sem
open Idealize.ShloMosaic.Pipeline (Dat)

/-- Row `r` of the buffer. -/
def bufAt (i : grid0.Coords) (P : Vec Ideal S8x1024 .f32) (X : Vec Ideal S256x1024 .f32) (N : Vec Ideal S8x1024 .f32) (r : ℕ) (hr : r < 272) (d : Fin 1024) : EReal :=
  if h : r < 8 then k0_pay3 (F := Ideal) i P (ix2 ⟨r, h⟩ d)
  else if h2 : r < 264 then k0_pay4 (F := Ideal) X (ix2 ⟨r - 8, by omega⟩ d) else k0_pay5 (F := Ideal) i N (ix2 ⟨r - 264, by omega⟩ d)

/-- The three stores into the buffer. -/
abbrev stores (i : grid0.Coords) (P : Vec Ideal S8x1024 .f32) (X : Vec Ideal S256x1024 .f32) (N : Vec Ideal S8x1024 .f32) : List (View.Piece (Elt Ideal) S272x1024 .f32) :=
  [⟨Rect.unit ![264, 0] ![8, 1024] inb_S272x1024_S8x1024_264_0, k0_pay5 (F := Ideal) i N⟩,
    ⟨Rect.unit ![8, 0] ![256, 1024] inb_S272x1024_S256x1024_8_0, k0_pay4 (F := Ideal) X⟩,
    ⟨Rect.unit ![0, 0] ![8, 1024] inb_S272x1024_S8x1024_0_0, k0_pay3 (F := Ideal) i P⟩]

theorem canon_at (i : grid0.Coords) (P : Vec Ideal S8x1024 .f32) (X : Vec Ideal S256x1024 .f32) (N : Vec Ideal S8x1024 .f32) (y : S272x1024.Idx) :
    View.canon (stores i P X N) y = bufAt i P X N (y 0).val (y 0).isLt (y 1) := by
  have cover : ∃ p ∈ stores i P X N, y ∈ p.1.set := by
    have h0 : (y 0).val < 272 := (y 0).isLt
    have h1 : (y 1).val < 1024 := (y 1).isLt
    by_cases a : (y 0).val < 8
    · exact ⟨⟨Rect.unit ![0, 0] ![8, 1024] inb_S272x1024_S8x1024_0_0, k0_pay3 (F := Ideal) i P⟩, List.mem_cons_of_mem _ (List.mem_cons_of_mem _ (List.mem_cons_self ..)),
        (Rect.mem_set_unit (s := S272x1024) (off := ![0, 0]) (size := ![8, 1024]) (inb := inb_S272x1024_S8x1024_0_0)).mpr (by intro b; fin_cases b <;> simp <;> omega)⟩
    · by_cases b : (y 0).val < 264
      · exact ⟨⟨Rect.unit ![8, 0] ![256, 1024] inb_S272x1024_S256x1024_8_0, k0_pay4 (F := Ideal) X⟩, List.mem_cons_of_mem _ (List.mem_cons_self ..),
        (Rect.mem_set_unit (s := S272x1024) (off := ![8, 0]) (size := ![256, 1024]) (inb := inb_S272x1024_S256x1024_8_0)).mpr (by intro b; fin_cases b <;> simp <;> omega)⟩
      · exact ⟨⟨Rect.unit ![264, 0] ![8, 1024] inb_S272x1024_S8x1024_264_0, k0_pay5 (F := Ideal) i N⟩, List.mem_cons_self ..,
        (Rect.mem_set_unit (s := S272x1024) (off := ![264, 0]) (size := ![8, 1024]) (inb := inb_S272x1024_S8x1024_264_0)).mpr (by intro b; fin_cases b <;> simp <;> omega)⟩
  unfold stores at cover ⊢
  canon_tiles x h using cover
  case piece0 =>
    have z := (x 0).isLt
    obtain ⟨s, d, rfl⟩ : ∃ (s : Fin 8) (d : Fin 1024), x = ix2 s d := ⟨x 0, x 1, by funext a; fin_cases a <;> rfl⟩
    have h0 : (y 0).val = 264 + s.val := h0
    have h1 : y 1 = d := Fin.ext h1
    unfold bufAt
    rw [dif_neg (by omega), dif_neg (by omega), h1]
    exact congrArg (fun q => k0_pay5 (F := Ideal) i N (ix2 q d)) (Fin.ext (by show s.val = (y 0).val - 264; omega))
  case piece1 =>
    have z := (x 0).isLt
    obtain ⟨s, d, rfl⟩ : ∃ (s : Fin 256) (d : Fin 1024), x = ix2 s d := ⟨x 0, x 1, by funext a; fin_cases a <;> rfl⟩
    have h0 : (y 0).val = 8 + s.val := h0
    have h1 : y 1 = d := Fin.ext h1
    unfold bufAt
    rw [dif_neg (by omega), dif_pos (by omega), h1]
    exact congrArg (fun q => k0_pay4 (F := Ideal) X (ix2 q d)) (Fin.ext (by show s.val = (y 0).val - 8; omega))
  case piece2 =>
    have z := (x 0).isLt
    obtain ⟨s, d, rfl⟩ : ∃ (s : Fin 8) (d : Fin 1024), x = ix2 s d := ⟨x 0, x 1, by funext a; fin_cases a <;> rfl⟩
    have h0 : (y 0).val = s.val := h0
    have h1 : y 1 = d := Fin.ext h1
    unfold bufAt
    rw [dif_pos (by omega), h1]
    exact congrArg (fun q => k0_pay3 (F := Ideal) i P (ix2 q d)) (Fin.ext h0.symm)

/-- A load of 256 rows and a group's columns from the buffer. -/
abbrev load (i : grid0.Coords) (P : Vec Ideal S8x1024 .f32) (X : Vec Ideal S256x1024 .f32) (N : Vec Ideal S8x1024 .f32) (r c : ℕ)
    (inb : ∀ a : Fin 2, (![r, c] : Fin 2 → ℕ) a + (![256, 256] : Fin 2 → ℕ) a ≤ S272x1024.size a) : Vec Ideal S256x256 .f32 :=
  (View.whole cc0_scratch0).readCov (Val := Elt Ideal) (stores i P X N) (Rect.unit (s := S272x1024) ![r, c] ![256, 256] inb).toLoadRect

theorem load_at (i : grid0.Coords) (P : Vec Ideal S8x1024 .f32) (X : Vec Ideal S256x1024 .f32) (N : Vec Ideal S8x1024 .f32) (r c : ℕ)
    (inb : ∀ a : Fin 2, (![r, c] : Fin 2 → ℕ) a + (![256, 256] : Fin 2 → ℕ) a ≤ S272x1024.size a) (s : Fin 256) (d : Fin 256) (hr : r ≤ 16) (hc : c ≤ 768)
    (u : Fin 1024 → Fin 256 → EReal) (H : ∀ r hr d, bufAt i P X N r hr d = ext (u d) (256 * (i 1).val + r)) (n : ℕ) (hn : 256 * (i 1).val + (r + s.val) = n) :
    load i P X N r c inb (ix2 s d) = ext (u ⟨c + d.val, by omega⟩) n := by
  unfold load
  rw [View.readCov_eq_canon']
  refine (canon_at i P X N _).trans ?_
  refine (H _ _ _).trans ?_
  have e1 : ((Rect.unit (s := S272x1024) ![r, c] ![256, 256] inb).toLoadRect.idx (ix2 s d) 1 : Fin 1024) = ⟨c + d.val, (by omega : c + d.val < 1024)⟩ := Fin.ext (Rect.idx_unit_val _ _ _ _ _)
  have e0 : ((Rect.unit (s := S272x1024) ![r, c] ![256, 256] inb).toLoadRect.idx (ix2 s d) 0 : Fin 272).val = r + s.val := Rect.idx_unit_val _ _ _ _ _
  rw [← hn]
  exact congrArg₂ (fun a b => ext (u a) (256 * (i 1).val + b)) e1 e0

theorem mid_at (X : Vec Ideal S256x1024 .f32) (s : Fin 256) (d : Fin 1024) : k0_pay4 (F := Ideal) X (ix2 s d) = X (ix2 s d) := by
  pointwise [k0_pay4, k0_pay2]

theorem pos_all : ∀ s : Fin 256, IntOp.addi (Scalar.muli 0#32 256#32) (BitVec.ofNat 32 s.val) = BitVec.ofNat 32 s.val := by decide +kernel
theorem pos_at (i : grid0.Coords) (s : Fin 256) (T : ℕ) (hT : T = 256 * (i 1).val + s.val) :
    IntOp.addi (Scalar.muli 0#32 256#32) (BitVec.ofNat 32 s.val) = BitVec.ofNat 32 T := by
  have h : (i 1).val < 1 := (i 1).isLt
  rw [hT, show 256 * (i 1).val + s.val = s.val by omega]
  exact pos_all s

theorem prev_at (i : grid0.Coords) (P : Vec Ideal S8x1024 .f32) (s : Fin 8) (d : Fin 1024) : k0_pay3 (F := Ideal) i P (ix2 s d) = (0 : EReal) := by
  pointwise [k0_pay3]
  rfl

theorem next_at (i : grid0.Coords) (P : Vec Ideal S8x1024 .f32) (s : Fin 8) (d : Fin 1024) : k0_pay5 (F := Ideal) i P (ix2 s d) = (0 : EReal) := by
  pointwise [k0_pay5]
  rfl

theorem win0 (v : Fin 256 → EReal) (T b : ℕ) (hb : T + 8 - 1 = b) : win v 1 T = ext v (b + 0) + ext v (b + 1) := by
  subst hb
  show ∑ k ∈ Finset.range 2, ext v (T + 8 - 1 + k) = _
  simp only [Finset.sum_range_succ, Finset.sum_range_zero, zero_add]

theorem pool0 (v : Fin 256 → EReal) (T : Fin 256) : Ref.pool v 0 T = Ideal.div (win v 1 T.val) (FloatOps.sitofp (F := Ideal) .f32
    (IntOp.subi (IntOp.minsi (IntOp.addi (BitVec.ofNat 32 T.val) 1#32) 256#32) (IntOp.maxsi (IntOp.subi (BitVec.ofNat 32 T.val) 1#32) 0#32))) - v T := rfl

theorem win1 (v : Fin 256 → EReal) (T b : ℕ) (hb : T + 8 - 2 = b) : win v 2 T = ext v (b + 0) + ext v (b + 1) + ext v (b + 2) + ext v (b + 3) := by
  subst hb
  show ∑ k ∈ Finset.range 4, ext v (T + 8 - 2 + k) = _
  simp only [Finset.sum_range_succ, Finset.sum_range_zero, zero_add]

theorem pool1 (v : Fin 256 → EReal) (T : Fin 256) : Ref.pool v 1 T = Ideal.div (win v 2 T.val) (FloatOps.sitofp (F := Ideal) .f32
    (IntOp.subi (IntOp.minsi (IntOp.addi (BitVec.ofNat 32 T.val) 2#32) 256#32) (IntOp.maxsi (IntOp.subi (BitVec.ofNat 32 T.val) 2#32) 0#32))) - v T := rfl

theorem win2 (v : Fin 256 → EReal) (T b : ℕ) (hb : T + 8 - 4 = b) : win v 4 T = ext v (b + 0) + ext v (b + 1) + ext v (b + 2) + ext v (b + 3) + ext v (b + 4) + ext v (b + 5) + ext v (b + 6) + ext v (b + 7) := by
  subst hb
  show ∑ k ∈ Finset.range 8, ext v (T + 8 - 4 + k) = _
  simp only [Finset.sum_range_succ, Finset.sum_range_zero, zero_add]

theorem pool2 (v : Fin 256 → EReal) (T : Fin 256) : Ref.pool v 2 T = Ideal.div (win v 4 T.val) (FloatOps.sitofp (F := Ideal) .f32
    (IntOp.subi (IntOp.minsi (IntOp.addi (BitVec.ofNat 32 T.val) 4#32) 256#32) (IntOp.maxsi (IntOp.subi (BitVec.ofNat 32 T.val) 4#32) 0#32))) - v T := rfl

theorem win3 (v : Fin 256 → EReal) (T b : ℕ) (hb : T + 8 - 8 = b) : win v 8 T = ext v (b + 0) + ext v (b + 1) + ext v (b + 2) + ext v (b + 3) + ext v (b + 4) + ext v (b + 5) + ext v (b + 6) + ext v (b + 7) + ext v (b + 8) + ext v (b + 9) + ext v (b + 10) + ext v (b + 11) + ext v (b + 12) + ext v (b + 13) + ext v (b + 14) + ext v (b + 15) := by
  subst hb
  show ∑ k ∈ Finset.range 16, ext v (T + 8 - 8 + k) = _
  simp only [Finset.sum_range_succ, Finset.sum_range_zero, zero_add]

theorem pool3 (v : Fin 256 → EReal) (T : Fin 256) : Ref.pool v 3 T = Ideal.div (win v 8 T.val) (FloatOps.sitofp (F := Ideal) .f32
    (IntOp.subi (IntOp.minsi (IntOp.addi (BitVec.ofNat 32 T.val) 8#32) 256#32) (IntOp.maxsi (IntOp.subi (BitVec.ofNat 32 T.val) 8#32) 0#32))) - v T := rfl

theorem piece0_at (i : grid0.Coords) (X : Vec Ideal S256x1024 .f32) (a0 a1 : Vec Ideal S256x256 .f32) (w : Vec Ideal S1x256x256 .bf16) (q : Vec Ideal S1x256 .f32) (s : Fin 256) (o : Fin 256)
    (v : Fin 256 → Fin 256 → EReal) (T : Fin 256) (b : ℕ) (hT : T.val = 256 * (i 1).val + s.val) (hb : T.val + 8 - 1 = b) (hX : ∀ x : Fin 256, X (ix2 s ⟨x, by omega⟩) = v x T)
    (h0 : ∀ x : Fin 256, a0 (ix2 s x) = ext (v x) (b + 0)) (h1 : ∀ x : Fin 256, a1 (ix2 s x) = ext (v x) (b + 1)) :
    k0_pay9 (k0_pay2 X) (k0_pay6 i) (k0_pay7 a0 a1) (k0_pay8 i) w q (ix2 s o) = (∑ x : Fin 256, Ref.pool (v x) 0 T * w (ix3 0 x o)) * q (ix2 0 o) := by
  pointwise [k0_pay9, k0_pay2, k0_pay6, k0_pay7, k0_pay8]
  simp only [pos_at i s T.val hT, h0, h1, hX, pool0, win0 _ _ b hb]

theorem piece1_at (i : grid0.Coords) (X : Vec Ideal S256x1024 .f32) (a0 a1 a2 a3 : Vec Ideal S256x256 .f32) (w : Vec Ideal S1x256x256 .bf16) (q : Vec Ideal S1x256 .f32) (s : Fin 256) (o : Fin 256)
    (v : Fin 256 → Fin 256 → EReal) (T : Fin 256) (b : ℕ) (hT : T.val = 256 * (i 1).val + s.val) (hb : T.val + 8 - 2 = b) (hX : ∀ x : Fin 256, X (ix2 s ⟨256 + x, by omega⟩) = v x T)
    (h0 : ∀ x : Fin 256, a0 (ix2 s x) = ext (v x) (b + 0)) (h1 : ∀ x : Fin 256, a1 (ix2 s x) = ext (v x) (b + 1)) (h2 : ∀ x : Fin 256, a2 (ix2 s x) = ext (v x) (b + 2)) (h3 : ∀ x : Fin 256, a3 (ix2 s x) = ext (v x) (b + 3)) :
    k0_pay11 (k0_pay2 X) (k0_pay10 (k0_pay6 i) a0 a1 a2 a3) w q (ix2 s o) = (∑ x : Fin 256, Ref.pool (v x) 1 T * w (ix3 0 x o)) * q (ix2 0 o) := by
  pointwise [k0_pay11, k0_pay2, k0_pay6, k0_pay10]
  simp only [pos_at i s T.val hT, h0, h1, h2, h3, hX, pool1, win1 _ _ b hb]

theorem piece2_at (i : grid0.Coords) (X : Vec Ideal S256x1024 .f32) (a0 a1 a2 a3 a4 a5 a6 a7 : Vec Ideal S256x256 .f32) (w : Vec Ideal S1x256x256 .bf16) (q : Vec Ideal S1x256 .f32) (s : Fin 256) (o : Fin 256)
    (v : Fin 256 → Fin 256 → EReal) (T : Fin 256) (b : ℕ) (hT : T.val = 256 * (i 1).val + s.val) (hb : T.val + 8 - 4 = b) (hX : ∀ x : Fin 256, X (ix2 s ⟨512 + x, by omega⟩) = v x T)
    (h0 : ∀ x : Fin 256, a0 (ix2 s x) = ext (v x) (b + 0)) (h1 : ∀ x : Fin 256, a1 (ix2 s x) = ext (v x) (b + 1)) (h2 : ∀ x : Fin 256, a2 (ix2 s x) = ext (v x) (b + 2)) (h3 : ∀ x : Fin 256, a3 (ix2 s x) = ext (v x) (b + 3)) (h4 : ∀ x : Fin 256, a4 (ix2 s x) = ext (v x) (b + 4)) (h5 : ∀ x : Fin 256, a5 (ix2 s x) = ext (v x) (b + 5)) (h6 : ∀ x : Fin 256, a6 (ix2 s x) = ext (v x) (b + 6)) (h7 : ∀ x : Fin 256, a7 (ix2 s x) = ext (v x) (b + 7)) :
    k0_pay15 (k0_pay2 X) (k0_pay6 i) (k0_pay12 a0 a1 a2 a3 a4 a5 a6 a7) (k0_pay13 (k0_pay6 i)) k0_pay14 w q (ix2 s o) = (∑ x : Fin 256, Ref.pool (v x) 2 T * w (ix3 0 x o)) * q (ix2 0 o) := by
  pointwise [k0_pay15, k0_pay2, k0_pay6, k0_pay12, k0_pay13, k0_pay14]
  simp only [pos_at i s T.val hT, h0, h1, h2, h3, h4, h5, h6, h7, hX, pool2, win2 _ _ b hb]

theorem piece3_at (i : grid0.Coords) (X : Vec Ideal S256x1024 .f32) (a0 a1 a2 a3 a4 a5 a6 a7 a8 a9 a10 a11 a12 a13 a14 a15 : Vec Ideal S256x256 .f32) (w : Vec Ideal S1x256x256 .bf16) (q : Vec Ideal S1x256 .f32) (s : Fin 256) (o : Fin 256)
    (v : Fin 256 → Fin 256 → EReal) (T : Fin 256) (b : ℕ) (hT : T.val = 256 * (i 1).val + s.val) (hb : T.val + 8 - 8 = b) (hX : ∀ x : Fin 256, X (ix2 s ⟨768 + x, by omega⟩) = v x T)
    (h0 : ∀ x : Fin 256, a0 (ix2 s x) = ext (v x) (b + 0)) (h1 : ∀ x : Fin 256, a1 (ix2 s x) = ext (v x) (b + 1)) (h2 : ∀ x : Fin 256, a2 (ix2 s x) = ext (v x) (b + 2)) (h3 : ∀ x : Fin 256, a3 (ix2 s x) = ext (v x) (b + 3)) (h4 : ∀ x : Fin 256, a4 (ix2 s x) = ext (v x) (b + 4)) (h5 : ∀ x : Fin 256, a5 (ix2 s x) = ext (v x) (b + 5)) (h6 : ∀ x : Fin 256, a6 (ix2 s x) = ext (v x) (b + 6)) (h7 : ∀ x : Fin 256, a7 (ix2 s x) = ext (v x) (b + 7)) (h8 : ∀ x : Fin 256, a8 (ix2 s x) = ext (v x) (b + 8)) (h9 : ∀ x : Fin 256, a9 (ix2 s x) = ext (v x) (b + 9)) (h10 : ∀ x : Fin 256, a10 (ix2 s x) = ext (v x) (b + 10)) (h11 : ∀ x : Fin 256, a11 (ix2 s x) = ext (v x) (b + 11)) (h12 : ∀ x : Fin 256, a12 (ix2 s x) = ext (v x) (b + 12)) (h13 : ∀ x : Fin 256, a13 (ix2 s x) = ext (v x) (b + 13)) (h14 : ∀ x : Fin 256, a14 (ix2 s x) = ext (v x) (b + 14)) (h15 : ∀ x : Fin 256, a15 (ix2 s x) = ext (v x) (b + 15)) :
    k0_pay1 (k0_pay17 (k0_pay2 X) (k0_pay6 i) (k0_pay16 a0 a1 a2 a3 a4 a5 a6 a7) a8 a9 a10 a11 a12 a13 a14 a15 w) (k0_pay18 q) (ix2 s o) = (∑ x : Fin 256, Ref.pool (v x) 3 T * w (ix3 0 x o)) * q (ix2 0 o) := by
  pointwise [k0_pay1, k0_pay17, k0_pay2, k0_pay6, k0_pay16, k0_pay18]
  simp only [pos_at i s T.val hT, h0, h1, h2, h3, h4, h5, h6, h7, h8, h9, h10, h11, h12, h13, h14, h15, hX, pool3, win3 _ _ b hb]

theorem ldw0 (W : Vec Ideal S4x256x256 .bf16) (k o : Fin 256) : View.ld W (Rect.unit ![0, 0, 0] ![1, 256, 256] inb_S4x256x256_S1x256x256_0_0_0) (ix3 0 k o) = W (ix3 0 k o) := by
  pointwise []
theorem ldq0 (W : Vec Ideal S1x1024 .f32) (o : Fin 256) : View.ld W (Rect.unit ![0, 0] ![1, 256] inb_S1x1024_S1x256_0_0) (ix2 0 o) = W (ix2 0 ⟨256 * (0 : Fin 4).val + o, by show 256 * 0 + o.val < 1024; omega⟩) := by
  pointwise []
theorem ldw1 (W : Vec Ideal S4x256x256 .bf16) (k o : Fin 256) : View.ld W (Rect.unit ![1, 0, 0] ![1, 256, 256] inb_S4x256x256_S1x256x256_1_0_0) (ix3 0 k o) = W (ix3 1 k o) := by
  pointwise []
theorem ldq1 (W : Vec Ideal S1x1024 .f32) (o : Fin 256) : View.ld W (Rect.unit ![0, 256] ![1, 256] inb_S1x1024_S1x256_0_256) (ix2 0 o) = W (ix2 0 ⟨256 * (1 : Fin 4).val + o, by show 256 * 1 + o.val < 1024; omega⟩) := by
  pointwise []
theorem ldw2 (W : Vec Ideal S4x256x256 .bf16) (k o : Fin 256) : View.ld W (Rect.unit ![2, 0, 0] ![1, 256, 256] inb_S4x256x256_S1x256x256_2_0_0) (ix3 0 k o) = W (ix3 2 k o) := by
  pointwise []
theorem ldq2 (W : Vec Ideal S1x1024 .f32) (o : Fin 256) : View.ld W (Rect.unit ![0, 512] ![1, 256] inb_S1x1024_S1x256_0_512) (ix2 0 o) = W (ix2 0 ⟨256 * (2 : Fin 4).val + o, by show 256 * 2 + o.val < 1024; omega⟩) := by
  pointwise []
theorem ldw3 (W : Vec Ideal S4x256x256 .bf16) (k o : Fin 256) : View.ld W (Rect.unit ![3, 0, 0] ![1, 256, 256] inb_S4x256x256_S1x256x256_3_0_0) (ix3 0 k o) = W (ix3 3 k o) := by
  pointwise []
theorem ldq3 (W : Vec Ideal S1x1024 .f32) (o : Fin 256) : View.ld W (Rect.unit ![0, 768] ![1, 256] inb_S1x1024_S1x256_0_768) (ix2 0 o) = W (ix2 0 ⟨256 * (3 : Fin 4).val + o, by show 256 * 3 + o.val < 1024; omega⟩) := by
  pointwise []

variable (m : (ℓ : Loc nD τ sig) → Buf (Elt Ideal) ℓ)

/-- What a point leaves at row `s` and column `256 g + o` of its block, when its buffer holds the tile and its neighbours. -/
theorem out_at (c : Dev nD) (t : Fin cfg0.N) (u : Fin 1024 → Fin 256 → EReal)
    (H : ∀ r hr d, bufAt (grid0.coords t) (X0_0 m c t) (X0_1 m c t) (X0_2 m c t) r hr d = ext (u d) (256 * ((grid0.coords t) 1).val + r))
    (y : S256x1024.Idx) (T : Fin 256) (hT : T.val = 256 * ((grid0.coords t) 1).val + (y 0).val) (g : Fin 4) (o : Fin 256) (hy : (y 1).val = 256 * g.val + o.val) :
    outsAt0 m c t y = (∑ k : Fin 256, Ref.pool (u ⟨256 * g.val + k.val, by omega⟩) g T * (iblk m c 3 t : Vec Ideal S4x256x256 .bf16) (ix3 g k o))
      * (iblk m c 4 t : Vec Ideal S1x1024 .f32) (ix2 0 ⟨256 * g.val + o.val, by omega⟩) := by
  have hX : ∀ (s : Fin 256) (d : Fin 1024), s.val = (y 0).val → X0_1 m c t (ix2 s d : S256x1024.Idx) = u d T := fun s d hs => by
    have e := H (s.val + 8) (by omega) d
    have hT' := T.isLt
    unfold bufAt at e
    rw [dif_neg (by omega), dif_pos (by omega), mid_at] at e
    unfold ext at e
    rw [dif_pos ⟨by omega, by omega⟩] at e
    refine (congrArg (fun q => X0_1 m c t (ix2 q d : S256x1024.Idx)) (Fin.ext (by show s.val = s.val + 8 - 8; omega))).trans (e.trans ?_)
    exact congrArg (u d) (Fin.ext (by show 256 * ((grid0.coords t) 1).val + (s.val + 8) - 8 = T.val; omega))
  unfold outsAt0
  frame_open
  frame_out
  canon_tiles z h
  case piece0 =>
    obtain ⟨s, o', rfl⟩ : ∃ (s : Fin 256) (o' : Fin 256), z = ix2 s o' := ⟨z 0, z 1, by funext a; fin_cases a <;> rfl⟩
    have h0 : (y 0).val = s.val := h0
    have h1 : (y 1).val = 768 + o'.val := h1
    obtain rfl : g = 3 := Fin.ext (by show g.val = 3; omega)
    obtain rfl : o' = o := Fin.ext (by have hy : (y 1).val = 256 * 3 + o.val := hy; omega)
    refine (piece3_at (grid0.coords t) (X0_1 m c t) _ _ _ _ _ _ _ _ _ _ _ _ _ _ _ _ _ _ s o' (fun x => u ⟨256 * (3 : Fin 4).val + x.val, by show 256 * 3 + x.val < 1024; omega⟩) T (T.val + 8 - 8) (by omega) rfl
      (fun x => hX s _ h0.symm)

       (fun x => load_at _ _ _ _ 0 768 _ s x (by omega) (by omega) u H _ (by omega))
      (fun x => load_at _ _ _ _ 1 768 _ s x (by omega) (by omega) u H _ (by omega))
      (fun x => load_at _ _ _ _ 2 768 _ s x (by omega) (by omega) u H _ (by omega))
      (fun x => load_at _ _ _ _ 3 768 _ s x (by omega) (by omega) u H _ (by omega))
      (fun x => load_at _ _ _ _ 4 768 _ s x (by omega) (by omega) u H _ (by omega))
      (fun x => load_at _ _ _ _ 5 768 _ s x (by omega) (by omega) u H _ (by omega))
      (fun x => load_at _ _ _ _ 6 768 _ s x (by omega) (by omega) u H _ (by omega))
      (fun x => load_at _ _ _ _ 7 768 _ s x (by omega) (by omega) u H _ (by omega))
      (fun x => load_at _ _ _ _ 8 768 _ s x (by omega) (by omega) u H _ (by omega))
      (fun x => load_at _ _ _ _ 9 768 _ s x (by omega) (by omega) u H _ (by omega))
      (fun x => load_at _ _ _ _ 10 768 _ s x (by omega) (by omega) u H _ (by omega))
      (fun x => load_at _ _ _ _ 11 768 _ s x (by omega) (by omega) u H _ (by omega))
      (fun x => load_at _ _ _ _ 12 768 _ s x (by omega) (by omega) u H _ (by omega))
      (fun x => load_at _ _ _ _ 13 768 _ s x (by omega) (by omega) u H _ (by omega))
      (fun x => load_at _ _ _ _ 14 768 _ s x (by omega) (by omega) u H _ (by omega))
      (fun x => load_at _ _ _ _ 15 768 _ s x (by omega) (by omega) u H _ (by omega))).trans ?_
    exact congrArg₂ (fun a b : EReal => a * b) (Finset.sum_congr rfl fun x _ => congrArg (fun e : EReal => Ref.pool (u ⟨256 * (3 : Fin 4).val + x.val, by show 256 * 3 + x.val < 1024; omega⟩) 3 T * e) (ldw3 _ x o')) (ldq3 _ o')
  case piece1 =>
    obtain ⟨s, o', rfl⟩ : ∃ (s : Fin 256) (o' : Fin 256), z = ix2 s o' := ⟨z 0, z 1, by funext a; fin_cases a <;> rfl⟩
    have h0 : (y 0).val = s.val := h0
    have h1 : (y 1).val = 512 + o'.val := h1
    obtain rfl : g = 2 := Fin.ext (by show g.val = 2; omega)
    obtain rfl : o' = o := Fin.ext (by have hy : (y 1).val = 256 * 2 + o.val := hy; omega)
    refine (piece2_at (grid0.coords t) (X0_1 m c t) _ _ _ _ _ _ _ _ _ _ s o' (fun x => u ⟨256 * (2 : Fin 4).val + x.val, by show 256 * 2 + x.val < 1024; omega⟩) T (T.val + 8 - 4) (by omega) rfl
      (fun x => hX s _ h0.symm)

       (fun x => load_at _ _ _ _ 4 512 _ s x (by omega) (by omega) u H _ (by omega))
      (fun x => load_at _ _ _ _ 5 512 _ s x (by omega) (by omega) u H _ (by omega))
      (fun x => load_at _ _ _ _ 6 512 _ s x (by omega) (by omega) u H _ (by omega))
      (fun x => load_at _ _ _ _ 7 512 _ s x (by omega) (by omega) u H _ (by omega))
      (fun x => load_at _ _ _ _ 8 512 _ s x (by omega) (by omega) u H _ (by omega))
      (fun x => load_at _ _ _ _ 9 512 _ s x (by omega) (by omega) u H _ (by omega))
      (fun x => load_at _ _ _ _ 10 512 _ s x (by omega) (by omega) u H _ (by omega))
      (fun x => load_at _ _ _ _ 11 512 _ s x (by omega) (by omega) u H _ (by omega))).trans ?_
    exact congrArg₂ (fun a b : EReal => a * b) (Finset.sum_congr rfl fun x _ => congrArg (fun e : EReal => Ref.pool (u ⟨256 * (2 : Fin 4).val + x.val, by show 256 * 2 + x.val < 1024; omega⟩) 2 T * e) (ldw2 _ x o')) (ldq2 _ o')
  case piece2 =>
    obtain ⟨s, o', rfl⟩ : ∃ (s : Fin 256) (o' : Fin 256), z = ix2 s o' := ⟨z 0, z 1, by funext a; fin_cases a <;> rfl⟩
    have h0 : (y 0).val = s.val := h0
    have h1 : (y 1).val = 256 + o'.val := h1
    obtain rfl : g = 1 := Fin.ext (by show g.val = 1; omega)
    obtain rfl : o' = o := Fin.ext (by have hy : (y 1).val = 256 * 1 + o.val := hy; omega)
    refine (piece1_at (grid0.coords t) (X0_1 m c t) _ _ _ _ _ _ s o' (fun x => u ⟨256 * (1 : Fin 4).val + x.val, by show 256 * 1 + x.val < 1024; omega⟩) T (T.val + 8 - 2) (by omega) rfl
      (fun x => hX s _ h0.symm)

       (fun x => load_at _ _ _ _ 6 256 _ s x (by omega) (by omega) u H _ (by omega))
      (fun x => load_at _ _ _ _ 7 256 _ s x (by omega) (by omega) u H _ (by omega))
      (fun x => load_at _ _ _ _ 8 256 _ s x (by omega) (by omega) u H _ (by omega))
      (fun x => load_at _ _ _ _ 9 256 _ s x (by omega) (by omega) u H _ (by omega))).trans ?_
    exact congrArg₂ (fun a b : EReal => a * b) (Finset.sum_congr rfl fun x _ => congrArg (fun e : EReal => Ref.pool (u ⟨256 * (1 : Fin 4).val + x.val, by show 256 * 1 + x.val < 1024; omega⟩) 1 T * e) (ldw1 _ x o')) (ldq1 _ o')
  case piece3 =>
    obtain ⟨s, o', rfl⟩ : ∃ (s : Fin 256) (o' : Fin 256), z = ix2 s o' := ⟨z 0, z 1, by funext a; fin_cases a <;> rfl⟩
    have h0 : (y 0).val = s.val := h0
    have h1 : (y 1).val = 0 + o'.val := by have h1 : (y 1).val = o'.val := h1; omega
    obtain rfl : g = 0 := Fin.ext (by show g.val = 0; omega)
    obtain rfl : o' = o := Fin.ext (by have hy : (y 1).val = 256 * 0 + o.val := hy; omega)
    refine (piece0_at (grid0.coords t) (X0_1 m c t) _ _ _ _ s o' (fun x => u ⟨256 * (0 : Fin 4).val + x.val, by show 256 * 0 + x.val < 1024; omega⟩) T (T.val + 8 - 1) (by omega) rfl
      (fun x => (hX s _ h0.symm).trans (congrArg (fun q => u q T) (Fin.ext (by show x.val = 256 * 0 + x.val; omega))))

       (fun x => load_at _ _ _ _ 7 0 _ s x (by omega) (by omega) u H _ (by omega))
      (fun x => load_at _ _ _ _ 8 0 _ s x (by omega) (by omega) u H _ (by omega))).trans ?_
    exact congrArg₂ (fun a b : EReal => a * b) (Finset.sum_congr rfl fun x _ => congrArg (fun e : EReal => Ref.pool (u ⟨256 * (0 : Fin 4).val + x.val, by show 256 * 0 + x.val < 1024; omega⟩) 0 T * e) (ldw0 _ x o')) (ldq0 _ o')
end Cert.PoolCtx
end
-- ==== Proof.PoolCtx.Final.lean ====
/- The context tokens' pooling: what a grid point leaves in its block, and the whole result as the reference's. -/
module
public import proofs.«01_k».proof.Proof.PoolCtx.Host
public import proofs.«01_k».proof.Proof.PoolCtx.Body
public import Idealize.ShloMosaic.Lib.Claim
@[expose] public section
set_option maxRecDepth 16384
noncomputable section
namespace Cert.PoolCtx
open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The reference at the kernel's arguments. -/
abbrev ref (c : Dev nD) : FVec Ideal S1024x1024 .bf16 :=
  Ref.result (m ((c : Thread nD τ).loc main_arg1)) (m ((c : Thread nD τ).loc main_arg2)) (m ((c : Thread nD τ).loc main_arg3))

/-- A batch's values of one channel. -/
def chan (c : Dev nD) (n : Fin 4) (d : Fin 1024) (s : Fin 256) : EReal := (m ((c : Thread nD τ).loc main_arg1) : FVec Ideal S4x256x1024 .f32) (ix3 n s d)

/-- A row of the tile, which holds the whole batch. -/
theorem row_at (c : Dev nD) (n : Fin 4) (R : Fin 17408) (e : ℕ) (d : Fin 1024) (h8 : 8 ≤ e) (he : e < 264) (hR : R.val + 8 = 16384 + 256 * n.val + e) :
    V m c main_v5 (ix2 R ⟨11264 + d, by omega⟩) = ext (chan m c n d) e := by
  rw [V_p]
  refine (packed_at _ _ R n ⟨e - 8, by omega⟩ d (by show R.val = 16384 + 256 * n.val + (e - 8); omega)).trans ?_
  unfold ext
  rw [dif_pos ⟨h8, he⟩]
  rfl

theorem buf_at (c : Dev nD) (t : Fin cfg0.N) (n : Fin 4) (hn : n.val = t.val) (r : ℕ) (hr : r < 272) (d : Fin 1024) :
    bufAt (grid0.coords t) (X0_0 m c t) (X0_1 m c t) (X0_2 m c t) r hr d = ext (chan m c n d) (256 * ((grid0.coords t) 1).val + r) := by
  have ht := lt t
  have hi := (idx t).2.2.2.2
  unfold bufAt
  by_cases h : r < 8
  · rw [dif_pos h, prev_at]
    unfold ext
    rw [dif_neg (by omega)]
  · rw [dif_neg h]
    by_cases h2 : r < 264
    · rw [dif_pos h2, mid_at, blk_cur m c t ⟨r - 8, by omega⟩ d ⟨16384 + 256 * t.val + (r - 8), by omega⟩ rfl]
      exact row_at m c n _ _ d (by omega) (by omega) (by show 16384 + 256 * t.val + (r - 8) + 8 = _; omega)
    · rw [dif_neg h2, next_at]
      unfold ext
      rw [dif_neg (by omega)]

theorem point_at (c : Dev nD) (t : Fin cfg0.N) (y : S256x1024.Idx) (r : Fin 1024) (hr : r.val = 256 * t.val + (y 0).val) :
    outsAt0 m c t y = ref m c (ix2 r (y 1)) := by
  have ht := lt t
  have hi := (idx t).2.2.2.2
  have h0 : (y 0).val < 256 := (y 0).isLt
  have h1 : (y 1).val < 1024 := (y 1).isLt
  have hg : (y 1).val = 256 * ((y 1).val / 256) + (y 1).val % 256 := by omega
  refine (out_at m c t (chan m c ⟨t.val, by omega⟩) (buf_at m c t ⟨t.val, by omega⟩ rfl) y ⟨(y 0).val, by omega⟩
    (by show (y 0).val = _; omega) ⟨(y 1).val / 256, by omega⟩ ⟨(y 1).val % 256, by omega⟩ hg).trans ?_
  refine Eq.trans ?_ (Ref.result_at _ _ _ ⟨t.val, by omega⟩ ⟨(y 0).val, by omega⟩ ⟨(y 1).val / 256, by omega⟩ ⟨(y 1).val % 256, by omega⟩ r (y 1)
    (by show r.val = 256 * t.val + (y 0).val; omega) hg).symm
  refine congrArg₂ (fun a b : EReal => a * b) (Finset.sum_congr rfl fun k _ => congrArg₂ (fun a b : EReal => a * b) rfl ?_) ?_
  · rw [blk_w, V_w]
    rfl
  · rw [blk_g, V_g]
    refine (scale_at _ _).trans ?_
    exact congrArg (fun q => (m ((c : Thread nD τ).loc main_arg3) : FVec Ideal S1024 .f32) (ix1 q)) (Fin.ext hg.symm)

/-- The whole result. -/
theorem final (c : Dev nD) : (dats m 0 c).arrAt 5 cfg0.N = ref m c := by
  refine (dats m 0 c).arrAt_eq_of_covers 5 _ (by decide +kernel) fun t _ y => ?_
  blk_simp
  rw [after0_5]
  have e := idx t
  rw [point_at m c t y ((win0_5.blk t).view.emb y 0) ?_]
  · refine congrArg _ (funext fun a => ?_)
    fin_cases a
    · rfl
    · refine Fin.ext ?_
      blk_simp
      rw [e.2.2.2.1]
      show (y 1).val = 0 * 1024 + (y 1).val
      omega
  · blk_simp
    rw [e.2.2.2.1]
    show t.val * 256 + (y 0).val = 256 * t.val + (y 0).val
    omega

end Cert.PoolCtx
end
-- ==== Proof.PoolCtx.Claims.lean ====
/- The context tokens' pooling's claims: the frames of the three programs and the equality of the kernel's result with the reference's. -/
module
public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.PoolCtx.Final
@[expose] public section
set_option maxRecDepth 16384
noncomputable section
namespace Cert.PoolCtx.Claims
open Idealize.ShloMosaic Idealize.SL.Sem

theorem frame_kernel : Cert.quiescent_Kernel11 := fun m ρ _ => Cert.Kernel11.Gen.frame m ρ
theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- On any arguments the kernel leaves the reference's array. -/
theorem equal : Cert.algebraic_Kernel11Ideal_Reference11Ideal := by
  intro m ρ m' ρ' _ hagree
  refine ⟨fun c => ref m c, ?_, ?_⟩
  · exact (θ_run Cert.Kernel11Ideal.defs _ _).mono (fun r h c => ⟨(h c).1.trans (final m c), (h c).2⟩) (Cert.Kernel11Ideal.Value.run_blocks m ρ)
  · refine (θ_run Cert.Reference11Ideal.defs _ _).mono (fun r h c => ⟨(h c).1.trans ?_, (h c).2⟩) (Cert.Reference11Ideal.Value.run m' ρ')
    obtain ⟨e0, e1, e2, e3⟩ := hagree c
    unfold Cert.Reference11Ideal.Value.res_main_v128
    rw [e1, e2, e3]
    rfl
end Cert.PoolCtx.Claims
end
-- ==== Proof.lean ====
/- The certificate: each claim is proved in a module of its own, and here they are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.ReferenceIdeal.Run
public import proofs.«01_k».proof.Proof.Attn.Claims
public import proofs.«01_k».proof.Proof.Proj.Claims
public import proofs.«01_k».proof.Proof.Merge.Claims
public import proofs.«01_k».proof.Proof.Out.Claims
public import proofs.«01_k».proof.Proof.Experts.Claims
public import proofs.«01_k».proof.Proof.Keys.Claims
public import proofs.«01_k».proof.Proof.Adaln.Claims
public import proofs.«01_k».proof.Proof.Pool.Claims
public import proofs.«01_k».proof.Proof.Ctx.Claims
public import proofs.«01_k».proof.Proof.Queries.Claims
public import proofs.«01_k».proof.Proof.PoolCtx.Claims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Attn.Claims.facts, Cert.Ctx.Claims.facts,
  Attn.Claims.frame_kernel, Attn.Claims.frame_kernel_any, Attn.Claims.frame_ideal, Attn.Claims.frame_ideal_any, Attn.Claims.frame_reference,
  Proj.Claims.frame_kernel, Proj.Claims.frame_ideal, Proj.Claims.frame_reference,
  Merge.Claims.frame_kernel, Merge.Claims.frame_ideal, Merge.Claims.frame_reference,
  Out.Claims.frame_kernel, Out.Claims.frame_ideal, Out.Claims.frame_reference,
  Experts.Claims.frame_kernel, Experts.Claims.frame_ideal, Experts.Claims.frame_reference,
  Keys.Claims.frame_kernel, Keys.Claims.frame_ideal, Keys.Claims.frame_reference,
  Adaln.Claims.frame_kernel, Adaln.Claims.frame_ideal, Adaln.Claims.frame_reference,
  Pool.Claims.frame_kernel, Pool.Claims.frame_ideal, Pool.Claims.frame_reference,
  Ctx.Claims.frame_kernel, Ctx.Claims.frame_kernel_any, Ctx.Claims.frame_ideal, Ctx.Claims.frame_ideal_any, Ctx.Claims.frame_reference,
  Queries.Claims.frame_kernel, Queries.Claims.frame_ideal, Queries.Claims.frame_reference,
  PoolCtx.Claims.frame_kernel, PoolCtx.Claims.frame_ideal, PoolCtx.Claims.frame_reference,
  trivial, Attn.Claims.equal, trivial, Proj.Claims.equal, trivial, Merge.Claims.equal, trivial, Out.Claims.equal, trivial, Experts.Claims.equal,
  trivial, Keys.Claims.equal, trivial, Adaln.Claims.equal, trivial, Pool.Claims.equal, trivial, Ctx.Claims.equal, trivial, Queries.Claims.equal,
  trivial, PoolCtx.Claims.equal⟩

end Cert.Proof

end
